-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelPrompt (m : (ℓ : Loc Cert.KernelPrompt.nD Cert.KernelPrompt.τ Cert.KernelPrompt.sig) → Buf (Elt Bits) ℓ) : Prop :=
  True

def Pre_KernelPromptIdeal (m : (ℓ : Loc Cert.KernelPromptIdeal.nD Cert.KernelPromptIdeal.τ Cert.KernelPromptIdeal.sig) → Buf (Elt Ideal) ℓ) : Prop :=
  True

def Pre_ReferencePromptIdeal (m : (ℓ : Loc Cert.ReferencePromptIdeal.nD Cert.ReferencePromptIdeal.τ Cert.ReferencePromptIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9)
      ∧ r.2.mem ((c.tc : Thread Cert.KernelFfn.nD Cert.KernelFfn.τ).loc Cert.KernelFfn.main_arg10) = m ((c.tc : Thread Cert.KernelFfn.nD Cert.KernelFfn.τ).loc Cert.KernelFfn.main_arg10)
      ∧ r.2.mem ((c.tc : Thread Cert.KernelFfn.nD Cert.KernelFfn.τ).loc Cert.KernelFfn.main_arg11) = m ((c.tc : Thread Cert.KernelFfn.nD Cert.KernelFfn.τ).loc Cert.KernelFfn.main_arg11)
      ∧ r.2.mem ((c.tc : Thread Cert.KernelFfn.nD Cert.KernelFfn.τ).loc Cert.KernelFfn.main_arg12) = m ((c.tc : Thread Cert.KernelFfn.nD Cert.KernelFfn.τ).loc Cert.KernelFfn.main_arg12))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
      ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
      ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11)
      ∧ r.2.mem ((c.tc : Thread Cert.KernelFfnIdeal.nD Cert.KernelFfnIdeal.τ).loc Cert.KernelFfnIdeal.main_arg12) = m ((c.tc : Thread Cert.KernelFfnIdeal.nD Cert.KernelFfnIdeal.τ).loc Cert.KernelFfnIdeal.main_arg12))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9)
      ∧ r.2.mem ((c.tc : Thread Cert.ReferenceFfnIdeal.nD Cert.ReferenceFfnIdeal.τ).loc Cert.ReferenceFfnIdeal.main_arg10) = m ((c.tc : Thread Cert.ReferenceFfnIdeal.nD Cert.ReferenceFfnIdeal.τ).loc Cert.ReferenceFfnIdeal.main_arg10)
      ∧ r.2.mem ((c.tc : Thread Cert.ReferenceFfnIdeal.nD Cert.ReferenceFfnIdeal.τ).loc Cert.ReferenceFfnIdeal.main_arg11) = m ((c.tc : Thread Cert.ReferenceFfnIdeal.nD Cert.ReferenceFfnIdeal.τ).loc Cert.ReferenceFfnIdeal.main_arg11)
      ∧ r.2.mem ((c.tc : Thread Cert.ReferenceFfnIdeal.nD Cert.ReferenceFfnIdeal.τ).loc Cert.ReferenceFfnIdeal.main_arg12) = m ((c.tc : Thread Cert.ReferenceFfnIdeal.nD Cert.ReferenceFfnIdeal.τ).loc Cert.ReferenceFfnIdeal.main_arg12))
      ∧ r.2.sem = fun _ => 0)

def quiescent_KernelPrompt [hKernelPrompt : Cert.KernelPrompt.Facts] : Prop :=
  ∀ (m : (ℓ : Loc Cert.KernelPrompt.nD Cert.KernelPrompt.τ Cert.KernelPrompt.sig) → Buf (Elt Bits) ℓ) (g : Dev Cert.KernelPrompt.nD → PrngReg), Pre_KernelPrompt m →
    θ_run (Cert.KernelPrompt.defs (F := Bits)) (onTc (τ := Cert.KernelPrompt.τ) (Cert.KernelPrompt.main (F := Bits))) ⟨m, fun _ => 0, g⟩ (fun r => (∀ c : Dev Cert.KernelPrompt.nD,
      r.2.mem ((c.tc : Thread Cert.KernelPrompt.nD Cert.KernelPrompt.τ).loc Cert.KernelPrompt.main_arg0) = m ((c.tc : Thread Cert.KernelPrompt.nD Cert.KernelPrompt.τ).loc Cert.KernelPrompt.main_arg0)
      ∧ r.2.mem ((c.tc : Thread Cert.KernelPrompt.nD Cert.KernelPrompt.τ).loc Cert.KernelPrompt.main_arg1) = m ((c.tc : Thread Cert.KernelPrompt.nD Cert.KernelPrompt.τ).loc Cert.KernelPrompt.main_arg1)
      ∧ r.2.mem ((c.tc : Thread Cert.KernelPrompt.nD Cert.KernelPrompt.τ).loc Cert.KernelPrompt.main_arg2) = m ((c.tc : Thread Cert.KernelPrompt.nD Cert.KernelPrompt.τ).loc Cert.KernelPrompt.main_arg2)
      ∧ r.2.mem ((c.tc : Thread Cert.KernelPrompt.nD Cert.KernelPrompt.τ).loc Cert.KernelPrompt.main_arg3) = m ((c.tc : Thread Cert.KernelPrompt.nD Cert.KernelPrompt.τ).loc Cert.KernelPrompt.main_arg3)
      ∧ r.2.mem ((c.tc : Thread Cert.KernelPrompt.nD Cert.KernelPrompt.τ).loc Cert.KernelPrompt.main_arg4) = m ((c.tc : Thread Cert.KernelPrompt.nD Cert.KernelPrompt.τ).loc Cert.KernelPrompt.main_arg4)
      ∧ r.2.mem ((c.tc : Thread Cert.KernelPrompt.nD Cert.KernelPrompt.τ).loc Cert.KernelPrompt.main_arg5) = m ((c.tc : Thread Cert.KernelPrompt.nD Cert.KernelPrompt.τ).loc Cert.KernelPrompt.main_arg5))
      ∧ r.2.sem = fun _ => 0)

def quiescent_KernelPromptIdeal [hKernelPromptIdeal : Cert.KernelPromptIdeal.Facts] : Prop :=
  ∀ (m : (ℓ : Loc Cert.KernelPromptIdeal.nD Cert.KernelPromptIdeal.τ Cert.KernelPromptIdeal.sig) → Buf (Elt Ideal) ℓ) (g : Dev Cert.KernelPromptIdeal.nD → PrngReg), Pre_KernelPromptIdeal m →
    θ_run (Cert.KernelPromptIdeal.defs (F := Ideal)) (onTc (τ := Cert.KernelPromptIdeal.τ) (Cert.KernelPromptIdeal.main (F := Ideal))) ⟨m, fun _ => 0, g⟩ (fun r => (∀ c : Dev Cert.KernelPromptIdeal.nD,
      r.2.mem ((c.tc : Thread Cert.KernelPromptIdeal.nD Cert.KernelPromptIdeal.τ).loc Cert.KernelPromptIdeal.main_arg0) = m ((c.tc : Thread Cert.KernelPromptIdeal.nD Cert.KernelPromptIdeal.τ).loc Cert.KernelPromptIdeal.main_arg0)
      ∧ r.2.mem ((c.tc : Thread Cert.KernelPromptIdeal.nD Cert.KernelPromptIdeal.τ).loc Cert.KernelPromptIdeal.main_arg1) = m ((c.tc : Thread Cert.KernelPromptIdeal.nD Cert.KernelPromptIdeal.τ).loc Cert.KernelPromptIdeal.main_arg1)
      ∧ r.2.mem ((c.tc : Thread Cert.KernelPromptIdeal.nD Cert.KernelPromptIdeal.τ).loc Cert.KernelPromptIdeal.main_arg2) = m ((c.tc : Thread Cert.KernelPromptIdeal.nD Cert.KernelPromptIdeal.τ).loc Cert.KernelPromptIdeal.main_arg2)
      ∧ r.2.mem ((c.tc : Thread Cert.KernelPromptIdeal.nD Cert.KernelPromptIdeal.τ).loc Cert.KernelPromptIdeal.main_arg3) = m ((c.tc : Thread Cert.KernelPromptIdeal.nD Cert.KernelPromptIdeal.τ).loc Cert.KernelPromptIdeal.main_arg3)
      ∧ r.2.mem ((c.tc : Thread Cert.KernelPromptIdeal.nD Cert.KernelPromptIdeal.τ).loc Cert.KernelPromptIdeal.main_arg4) = m ((c.tc : Thread Cert.KernelPromptIdeal.nD Cert.KernelPromptIdeal.τ).loc Cert.KernelPromptIdeal.main_arg4)
      ∧ r.2.mem ((c.tc : Thread Cert.KernelPromptIdeal.nD Cert.KernelPromptIdeal.τ).loc Cert.KernelPromptIdeal.main_arg5) = m ((c.tc : Thread Cert.KernelPromptIdeal.nD Cert.KernelPromptIdeal.τ).loc Cert.KernelPromptIdeal.main_arg5))
      ∧ r.2.sem = fun _ => 0)

def quiescent_ReferencePromptIdeal [hReferencePromptIdeal : Cert.ReferencePromptIdeal.Facts] : Prop :=
  ∀ (m : (ℓ : Loc Cert.ReferencePromptIdeal.nD Cert.ReferencePromptIdeal.τ Cert.ReferencePromptIdeal.sig) → Buf (Elt Ideal) ℓ) (g : Dev Cert.ReferencePromptIdeal.nD → PrngReg), Pre_ReferencePromptIdeal m →
    θ_run (Cert.ReferencePromptIdeal.defs (F := Ideal)) (onTc (τ := Cert.ReferencePromptIdeal.τ) (Cert.ReferencePromptIdeal.main (F := Ideal))) ⟨m, fun _ => 0, g⟩ (fun r => (∀ c : Dev Cert.ReferencePromptIdeal.nD,
      r.2.mem ((c.tc : Thread Cert.ReferencePromptIdeal.nD Cert.ReferencePromptIdeal.τ).loc Cert.ReferencePromptIdeal.main_arg0) = m ((c.tc : Thread Cert.ReferencePromptIdeal.nD Cert.ReferencePromptIdeal.τ).loc Cert.ReferencePromptIdeal.main_arg0)
      ∧ r.2.mem ((c.tc : Thread Cert.ReferencePromptIdeal.nD Cert.ReferencePromptIdeal.τ).loc Cert.ReferencePromptIdeal.main_arg1) = m ((c.tc : Thread Cert.ReferencePromptIdeal.nD Cert.ReferencePromptIdeal.τ).loc Cert.ReferencePromptIdeal.main_arg1)
      ∧ r.2.mem ((c.tc : Thread Cert.ReferencePromptIdeal.nD Cert.ReferencePromptIdeal.τ).loc Cert.ReferencePromptIdeal.main_arg2) = m ((c.tc : Thread Cert.ReferencePromptIdeal.nD Cert.ReferencePromptIdeal.τ).loc Cert.ReferencePromptIdeal.main_arg2)
      ∧ r.2.mem ((c.tc : Thread Cert.ReferencePromptIdeal.nD Cert.ReferencePromptIdeal.τ).loc Cert.ReferencePromptIdeal.main_arg3) = m ((c.tc : Thread Cert.ReferencePromptIdeal.nD Cert.ReferencePromptIdeal.τ).loc Cert.ReferencePromptIdeal.main_arg3)
      ∧ r.2.mem ((c.tc : Thread Cert.ReferencePromptIdeal.nD Cert.ReferencePromptIdeal.τ).loc Cert.ReferencePromptIdeal.main_arg4) = m ((c.tc : Thread Cert.ReferencePromptIdeal.nD Cert.ReferencePromptIdeal.τ).loc Cert.ReferencePromptIdeal.main_arg4)
      ∧ r.2.mem ((c.tc : Thread Cert.ReferencePromptIdeal.nD Cert.ReferencePromptIdeal.τ).loc Cert.ReferencePromptIdeal.main_arg5) = m ((c.tc : Thread Cert.ReferencePromptIdeal.nD Cert.ReferencePromptIdeal.τ).loc Cert.ReferencePromptIdeal.main_arg5))
      ∧ r.2.sem = fun _ => 0)

def preserves_Kernel_KernelIdeal : Prop :=
  IdealRules.named_const.Statement Cert.KernelIdeal.κ "big" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)) →
    ∃ (v0 : (c : Dev Cert.KernelInIdeal.nD) → Buf (Elt Ideal) ((c.tc : Thread Cert.KernelInIdeal.nD Cert.KernelInIdeal.τ).loc Cert.KernelInIdeal.main_v38_0)) (v1 : (c : Dev Cert.KernelInIdeal.nD) → Buf (Elt Ideal) ((c.tc : Thread Cert.KernelInIdeal.nD Cert.KernelInIdeal.τ).loc Cert.KernelInIdeal.main_v38_1)) (v2 : (c : Dev Cert.KernelInIdeal.nD) → Buf (Elt Ideal) ((c.tc : Thread Cert.KernelInIdeal.nD Cert.KernelInIdeal.τ).loc Cert.KernelInIdeal.main_v38_2)) (v3 : (c : Dev Cert.KernelInIdeal.nD) → Buf (Elt Ideal) ((c.tc : Thread Cert.KernelInIdeal.nD Cert.KernelInIdeal.τ).loc Cert.KernelInIdeal.main_v38_3)) (v4 : (c : Dev Cert.KernelInIdeal.nD) → Buf (Elt Ideal) ((c.tc : Thread Cert.KernelInIdeal.nD Cert.KernelInIdeal.τ).loc Cert.KernelInIdeal.main_v38_4)) (v5 : (c : Dev Cert.KernelInIdeal.nD) → Buf (Elt Ideal) ((c.tc : Thread Cert.KernelInIdeal.nD Cert.KernelInIdeal.τ).loc Cert.KernelInIdeal.main_v38_5)) (v6 : (c : Dev Cert.KernelInIdeal.nD) → Buf (Elt Ideal) ((c.tc : Thread Cert.KernelInIdeal.nD Cert.KernelInIdeal.τ).loc Cert.KernelInIdeal.main_v38_6)) (v7 : (c : Dev Cert.KernelInIdeal.nD) → Buf (Elt Ideal) ((c.tc : Thread Cert.KernelInIdeal.nD Cert.KernelInIdeal.τ).loc Cert.KernelInIdeal.main_v38_7)) (v8 : (c : Dev Cert.KernelInIdeal.nD) → Buf (Elt Ideal) ((c.tc : Thread Cert.KernelInIdeal.nD Cert.KernelInIdeal.τ).loc Cert.KernelInIdeal.main_v38_8)) (v9 : (c : Dev Cert.KernelInIdeal.nD) → Buf (Elt Ideal) ((c.tc : Thread Cert.KernelInIdeal.nD Cert.KernelInIdeal.τ).loc Cert.KernelInIdeal.main_v38_9)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v38_0) = v0 c
          ∧ r.2.mem ((c.tc : Thread Cert.KernelInIdeal.nD Cert.KernelInIdeal.τ).loc Cert.KernelInIdeal.main_v38_1) = v1 c
          ∧ r.2.mem ((c.tc : Thread Cert.KernelInIdeal.nD Cert.KernelInIdeal.τ).loc Cert.KernelInIdeal.main_v38_2) = v2 c
          ∧ r.2.mem ((c.tc : Thread Cert.KernelInIdeal.nD Cert.KernelInIdeal.τ).loc Cert.KernelInIdeal.main_v38_3) = v3 c
          ∧ r.2.mem ((c.tc : Thread Cert.KernelInIdeal.nD Cert.KernelInIdeal.τ).loc Cert.KernelInIdeal.main_v38_4) = v4 c
          ∧ r.2.mem ((c.tc : Thread Cert.KernelInIdeal.nD Cert.KernelInIdeal.τ).loc Cert.KernelInIdeal.main_v38_5) = v5 c
          ∧ r.2.mem ((c.tc : Thread Cert.KernelInIdeal.nD Cert.KernelInIdeal.τ).loc Cert.KernelInIdeal.main_v38_6) = v6 c
          ∧ r.2.mem ((c.tc : Thread Cert.KernelInIdeal.nD Cert.KernelInIdeal.τ).loc Cert.KernelInIdeal.main_v38_7) = v7 c
          ∧ r.2.mem ((c.tc : Thread Cert.KernelInIdeal.nD Cert.KernelInIdeal.τ).loc Cert.KernelInIdeal.main_v38_8) = v8 c
          ∧ r.2.mem ((c.tc : Thread Cert.KernelInIdeal.nD Cert.KernelInIdeal.τ).loc Cert.KernelInIdeal.main_v38_9) = v9 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v78) = v0 c
          ∧ r.2.mem ((c.tc : Thread Cert.ReferenceInIdeal.nD Cert.ReferenceInIdeal.τ).loc Cert.ReferenceInIdeal.main_v60) = v1 c
          ∧ r.2.mem ((c.tc : Thread Cert.ReferenceInIdeal.nD Cert.ReferenceInIdeal.τ).loc Cert.ReferenceInIdeal.main_v79) = v2 c
          ∧ r.2.mem ((c.tc : Thread Cert.ReferenceInIdeal.nD Cert.ReferenceInIdeal.τ).loc Cert.ReferenceInIdeal.main_v80) = v3 c
          ∧ r.2.mem ((c.tc : Thread Cert.ReferenceInIdeal.nD Cert.ReferenceInIdeal.τ).loc Cert.ReferenceInIdeal.main_v82) = v4 c
          ∧ r.2.mem ((c.tc : Thread Cert.ReferenceInIdeal.nD Cert.ReferenceInIdeal.τ).loc Cert.ReferenceInIdeal.main_v156) = v5 c
          ∧ r.2.mem ((c.tc : Thread Cert.ReferenceInIdeal.nD Cert.ReferenceInIdeal.τ).loc Cert.ReferenceInIdeal.main_v229) = v6 c
          ∧ r.2.mem ((c.tc : Thread Cert.ReferenceInIdeal.nD Cert.ReferenceInIdeal.τ).loc Cert.ReferenceInIdeal.main_v41) = v7 c
          ∧ r.2.mem ((c.tc : Thread Cert.ReferenceInIdeal.nD Cert.ReferenceInIdeal.τ).loc Cert.ReferenceInIdeal.main_v236) = v8 c
          ∧ r.2.mem ((c.tc : Thread Cert.ReferenceInIdeal.nD Cert.ReferenceInIdeal.τ).loc Cert.ReferenceInIdeal.main_v243) = v9 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)
      ∧ m' ((c.tc : Thread Cert.ReferenceFfnIdeal.nD Cert.ReferenceFfnIdeal.τ).loc Cert.ReferenceFfnIdeal.main_arg9) = m ((c.tc : Thread Cert.KernelFfnIdeal.nD Cert.KernelFfnIdeal.τ).loc Cert.KernelFfnIdeal.main_arg9)
      ∧ m' ((c.tc : Thread Cert.ReferenceFfnIdeal.nD Cert.ReferenceFfnIdeal.τ).loc Cert.ReferenceFfnIdeal.main_arg10) = m ((c.tc : Thread Cert.KernelFfnIdeal.nD Cert.KernelFfnIdeal.τ).loc Cert.KernelFfnIdeal.main_arg10)
      ∧ m' ((c.tc : Thread Cert.ReferenceFfnIdeal.nD Cert.ReferenceFfnIdeal.τ).loc Cert.ReferenceFfnIdeal.main_arg11) = m ((c.tc : Thread Cert.KernelFfnIdeal.nD Cert.KernelFfnIdeal.τ).loc Cert.KernelFfnIdeal.main_arg11)
      ∧ m' ((c.tc : Thread Cert.ReferenceFfnIdeal.nD Cert.ReferenceFfnIdeal.τ).loc Cert.ReferenceFfnIdeal.main_arg12) = m ((c.tc : Thread Cert.KernelFfnIdeal.nD Cert.KernelFfnIdeal.τ).loc Cert.KernelFfnIdeal.main_arg12)) →
    ∃ (v0 : (c : Dev Cert.KernelFfnIdeal.nD) → Buf (Elt Ideal) ((c.tc : Thread Cert.KernelFfnIdeal.nD Cert.KernelFfnIdeal.τ).loc Cert.KernelFfnIdeal.main_v24)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v24) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
          ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
          ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11)
          ∧ r.2.mem ((c.tc : Thread Cert.KernelFfnIdeal.nD Cert.KernelFfnIdeal.τ).loc Cert.KernelFfnIdeal.main_arg12) = m ((c.tc : Thread Cert.KernelFfnIdeal.nD Cert.KernelFfnIdeal.τ).loc Cert.KernelFfnIdeal.main_arg12))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v70) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8)
          ∧ r.2.mem ((c.tc : Thread Cert.ReferenceFfnIdeal.nD Cert.ReferenceFfnIdeal.τ).loc Cert.ReferenceFfnIdeal.main_arg9) = m' ((c.tc : Thread Cert.ReferenceFfnIdeal.nD Cert.ReferenceFfnIdeal.τ).loc Cert.ReferenceFfnIdeal.main_arg9)
          ∧ r.2.mem ((c.tc : Thread Cert.ReferenceFfnIdeal.nD Cert.ReferenceFfnIdeal.τ).loc Cert.ReferenceFfnIdeal.main_arg10) = m' ((c.tc : Thread Cert.ReferenceFfnIdeal.nD Cert.ReferenceFfnIdeal.τ).loc Cert.ReferenceFfnIdeal.main_arg10)
          ∧ r.2.mem ((c.tc : Thread Cert.ReferenceFfnIdeal.nD Cert.ReferenceFfnIdeal.τ).loc Cert.ReferenceFfnIdeal.main_arg11) = m' ((c.tc : Thread Cert.ReferenceFfnIdeal.nD Cert.ReferenceFfnIdeal.τ).loc Cert.ReferenceFfnIdeal.main_arg11)
          ∧ r.2.mem ((c.tc : Thread Cert.ReferenceFfnIdeal.nD Cert.ReferenceFfnIdeal.τ).loc Cert.ReferenceFfnIdeal.main_arg12) = m' ((c.tc : Thread Cert.ReferenceFfnIdeal.nD Cert.ReferenceFfnIdeal.τ).loc Cert.ReferenceFfnIdeal.main_arg12))

def preserves_KernelPrompt_KernelPromptIdeal : Prop :=
  True

def algebraic_KernelPromptIdeal_ReferencePromptIdeal [hKernelPromptIdeal : Cert.KernelPromptIdeal.Facts] [hReferencePromptIdeal : Cert.ReferencePromptIdeal.Facts] : Prop :=
  ∀ (m : (ℓ : Loc Cert.KernelPromptIdeal.nD Cert.KernelPromptIdeal.τ Cert.KernelPromptIdeal.sig) → Buf (Elt Ideal) ℓ) (g : Dev Cert.KernelPromptIdeal.nD → PrngReg)
    (m' : (ℓ : Loc Cert.ReferencePromptIdeal.nD Cert.ReferencePromptIdeal.τ Cert.ReferencePromptIdeal.sig) → Buf (Elt Ideal) ℓ) (g' : Dev Cert.ReferencePromptIdeal.nD → PrngReg), Pre_KernelPromptIdeal m →
    (∀ c : Dev Cert.KernelPromptIdeal.nD,
      m' ((c.tc : Thread Cert.ReferencePromptIdeal.nD Cert.ReferencePromptIdeal.τ).loc Cert.ReferencePromptIdeal.main_arg0) = m ((c.tc : Thread Cert.KernelPromptIdeal.nD Cert.KernelPromptIdeal.τ).loc Cert.KernelPromptIdeal.main_arg0)
      ∧ m' ((c.tc : Thread Cert.ReferencePromptIdeal.nD Cert.ReferencePromptIdeal.τ).loc Cert.ReferencePromptIdeal.main_arg1) = m ((c.tc : Thread Cert.KernelPromptIdeal.nD Cert.KernelPromptIdeal.τ).loc Cert.KernelPromptIdeal.main_arg1)
      ∧ m' ((c.tc : Thread Cert.ReferencePromptIdeal.nD Cert.ReferencePromptIdeal.τ).loc Cert.ReferencePromptIdeal.main_arg2) = m ((c.tc : Thread Cert.KernelPromptIdeal.nD Cert.KernelPromptIdeal.τ).loc Cert.KernelPromptIdeal.main_arg2)
      ∧ m' ((c.tc : Thread Cert.ReferencePromptIdeal.nD Cert.ReferencePromptIdeal.τ).loc Cert.ReferencePromptIdeal.main_arg3) = m ((c.tc : Thread Cert.KernelPromptIdeal.nD Cert.KernelPromptIdeal.τ).loc Cert.KernelPromptIdeal.main_arg3)
      ∧ m' ((c.tc : Thread Cert.ReferencePromptIdeal.nD Cert.ReferencePromptIdeal.τ).loc Cert.ReferencePromptIdeal.main_arg4) = m ((c.tc : Thread Cert.KernelPromptIdeal.nD Cert.KernelPromptIdeal.τ).loc Cert.KernelPromptIdeal.main_arg4)
      ∧ m' ((c.tc : Thread Cert.ReferencePromptIdeal.nD Cert.ReferencePromptIdeal.τ).loc Cert.ReferencePromptIdeal.main_arg5) = m ((c.tc : Thread Cert.KernelPromptIdeal.nD Cert.KernelPromptIdeal.τ).loc Cert.KernelPromptIdeal.main_arg5)) →
    ∃ (v0 : (c : Dev Cert.KernelPromptIdeal.nD) → Buf (Elt Ideal) ((c.tc : Thread Cert.KernelPromptIdeal.nD Cert.KernelPromptIdeal.τ).loc Cert.KernelPromptIdeal.main_v3_1)),
      θ_run (Cert.KernelPromptIdeal.defs (F := Ideal)) (onTc (τ := Cert.KernelPromptIdeal.τ) (Cert.KernelPromptIdeal.main (F := Ideal))) ⟨m, fun _ => 0, g⟩ (fun r => ∀ c : Dev Cert.KernelPromptIdeal.nD,
          r.2.mem ((c.tc : Thread Cert.KernelPromptIdeal.nD Cert.KernelPromptIdeal.τ).loc Cert.KernelPromptIdeal.main_v3_1) = v0 c
          ∧ r.2.mem ((c.tc : Thread Cert.KernelPromptIdeal.nD Cert.KernelPromptIdeal.τ).loc Cert.KernelPromptIdeal.main_arg0) = m ((c.tc : Thread Cert.KernelPromptIdeal.nD Cert.KernelPromptIdeal.τ).loc Cert.KernelPromptIdeal.main_arg0)
          ∧ r.2.mem ((c.tc : Thread Cert.KernelPromptIdeal.nD Cert.KernelPromptIdeal.τ).loc Cert.KernelPromptIdeal.main_arg1) = m ((c.tc : Thread Cert.KernelPromptIdeal.nD Cert.KernelPromptIdeal.τ).loc Cert.KernelPromptIdeal.main_arg1)
          ∧ r.2.mem ((c.tc : Thread Cert.KernelPromptIdeal.nD Cert.KernelPromptIdeal.τ).loc Cert.KernelPromptIdeal.main_arg2) = m ((c.tc : Thread Cert.KernelPromptIdeal.nD Cert.KernelPromptIdeal.τ).loc Cert.KernelPromptIdeal.main_arg2)
          ∧ r.2.mem ((c.tc : Thread Cert.KernelPromptIdeal.nD Cert.KernelPromptIdeal.τ).loc Cert.KernelPromptIdeal.main_arg3) = m ((c.tc : Thread Cert.KernelPromptIdeal.nD Cert.KernelPromptIdeal.τ).loc Cert.KernelPromptIdeal.main_arg3)
          ∧ r.2.mem ((c.tc : Thread Cert.KernelPromptIdeal.nD Cert.KernelPromptIdeal.τ).loc Cert.KernelPromptIdeal.main_arg4) = m ((c.tc : Thread Cert.KernelPromptIdeal.nD Cert.KernelPromptIdeal.τ).loc Cert.KernelPromptIdeal.main_arg4)
          ∧ r.2.mem ((c.tc : Thread Cert.KernelPromptIdeal.nD Cert.KernelPromptIdeal.τ).loc Cert.KernelPromptIdeal.main_arg5) = m ((c.tc : Thread Cert.KernelPromptIdeal.nD Cert.KernelPromptIdeal.τ).loc Cert.KernelPromptIdeal.main_arg5))
      ∧ θ_run (Cert.ReferencePromptIdeal.defs (F := Ideal)) (onTc (τ := Cert.ReferencePromptIdeal.τ) (Cert.ReferencePromptIdeal.main (F := Ideal))) ⟨m', fun _ => 0, g'⟩ (fun r => ∀ c : Dev Cert.ReferencePromptIdeal.nD,
          r.2.mem ((c.tc : Thread Cert.ReferencePromptIdeal.nD Cert.ReferencePromptIdeal.τ).loc Cert.ReferencePromptIdeal.main_v12_4) = v0 c
          ∧ r.2.mem ((c.tc : Thread Cert.ReferencePromptIdeal.nD Cert.ReferencePromptIdeal.τ).loc Cert.ReferencePromptIdeal.main_arg0) = m' ((c.tc : Thread Cert.ReferencePromptIdeal.nD Cert.ReferencePromptIdeal.τ).loc Cert.ReferencePromptIdeal.main_arg0)
          ∧ r.2.mem ((c.tc : Thread Cert.ReferencePromptIdeal.nD Cert.ReferencePromptIdeal.τ).loc Cert.ReferencePromptIdeal.main_arg1) = m' ((c.tc : Thread Cert.ReferencePromptIdeal.nD Cert.ReferencePromptIdeal.τ).loc Cert.ReferencePromptIdeal.main_arg1)
          ∧ r.2.mem ((c.tc : Thread Cert.ReferencePromptIdeal.nD Cert.ReferencePromptIdeal.τ).loc Cert.ReferencePromptIdeal.main_arg2) = m' ((c.tc : Thread Cert.ReferencePromptIdeal.nD Cert.ReferencePromptIdeal.τ).loc Cert.ReferencePromptIdeal.main_arg2)
          ∧ r.2.mem ((c.tc : Thread Cert.ReferencePromptIdeal.nD Cert.ReferencePromptIdeal.τ).loc Cert.ReferencePromptIdeal.main_arg3) = m' ((c.tc : Thread Cert.ReferencePromptIdeal.nD Cert.ReferencePromptIdeal.τ).loc Cert.ReferencePromptIdeal.main_arg3)
          ∧ r.2.mem ((c.tc : Thread Cert.ReferencePromptIdeal.nD Cert.ReferencePromptIdeal.τ).loc Cert.ReferencePromptIdeal.main_arg4) = m' ((c.tc : Thread Cert.ReferencePromptIdeal.nD Cert.ReferencePromptIdeal.τ).loc Cert.ReferencePromptIdeal.main_arg4)
          ∧ r.2.mem ((c.tc : Thread Cert.ReferencePromptIdeal.nD Cert.ReferencePromptIdeal.τ).loc Cert.ReferencePromptIdeal.main_arg5) = m' ((c.tc : Thread Cert.ReferencePromptIdeal.nD Cert.ReferencePromptIdeal.τ).loc Cert.ReferencePromptIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelFfn : Cert.KernelFfn.Facts) (hKernelFfnIdeal : Cert.KernelFfnIdeal.Facts) (hReferenceFfnIdeal : Cert.ReferenceFfnIdeal.Facts) (hKernelPrompt : Cert.KernelPrompt.Facts) (hKernelPromptIdeal : Cert.KernelPromptIdeal.Facts) (hReferencePromptIdeal : Cert.ReferencePromptIdeal.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelPrompt (hKernelPrompt := hKernelPrompt)
    ∧ quiescent_KernelPromptIdeal (hKernelPromptIdeal := hKernelPromptIdeal)
    ∧ quiescent_ReferencePromptIdeal (hReferencePromptIdeal := hReferencePromptIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelPrompt_KernelPromptIdeal
    ∧ algebraic_KernelPromptIdeal_ReferencePromptIdeal (hKernelPromptIdeal := hKernelPromptIdeal) (hReferencePromptIdeal := hReferencePromptIdeal)
-- ==== Kernel.lean ====
abbrev S16896x512 : Shape := ⟨2, ![16896, 512]⟩
abbrev S4x128 : Shape := ⟨2, ![4, 128]⟩
abbrev S4x128x4x128x128 : Shape := ⟨5, ![4, 128, 4, 128, 128]⟩
abbrev S1x128 : Shape := ⟨2, ![1, 128]⟩
abbrev S128 : Shape := ⟨1, ![128]⟩
abbrev S512x512 : Shape := ⟨2, ![512, 512]⟩
abbrev S128x4x128x128 : Shape := ⟨4, ![128, 4, 128, 128]⟩
abbrev S64x512 : Shape := ⟨2, ![64, 512]⟩
abbrev S1x16x4x128x128 : Shape := ⟨5, ![1, 16, 4, 128, 128]⟩
abbrev S16x4x128x128 : Shape := ⟨4, ![16, 4, 128, 128]⟩
abbrev S64x64 : Shape := ⟨2, ![64, 64]⟩
abbrev S64x128 : Shape := ⟨2, ![64, 128]⟩
abbrev S128x64 : Shape := ⟨2, ![128, 64]⟩
abbrev S16x128 : Shape := ⟨2, ![16, 128]⟩
abbrev S64 : Shape := ⟨1, ![64]⟩
abbrev S64x1 : Shape := ⟨2, ![64, 1]⟩
abbrev S1x1x1x128x128 : Shape := ⟨5, ![1, 1, 1, 128, 128]⟩
abbrev S128x128 : Shape := ⟨2, ![128, 128]⟩
abbrev S128x1 : Shape := ⟨2, ![128, 1]⟩
abbrev S1x1x128x128 : Shape := ⟨4, ![1, 1, 128, 128]⟩

abbrev nBuf : Space → Nat
  | .hbm => 12
  | .vmem => 17
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .f32⟩
  | .hbm, ⟨4, _⟩ => ⟨S16896x512, .bf16⟩
  | .hbm, ⟨5, _⟩ => ⟨S4x128, .f32⟩
  | .hbm, ⟨6, _⟩ => ⟨S4x128x4x128x128, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S512x512, .bf16⟩
  | .hbm, ⟨11, _⟩ => ⟨S128x4x128x128, .f32⟩
  | .local _ .vmem, ⟨0, _⟩ => ⟨S64x512, .bf16⟩
  | .local _ .vmem, ⟨1, _⟩ => ⟨S64x512, .bf16⟩
  | .local _ .vmem, ⟨2, _⟩ => ⟨S64x512, .bf16⟩
  | .local _ .vmem, ⟨3, _⟩ => ⟨S64x512, .bf16⟩
  | .local _ .vmem, ⟨4, _⟩ => ⟨S64x512, .bf16⟩
  | .local _ .vmem, ⟨5, _⟩ => ⟨S64x512, .bf16⟩
  | .local _ .vmem, ⟨6, _⟩ => ⟨S64x512, .f32⟩
  | .local _ .vmem, ⟨7, _⟩ => ⟨S64x512, .f32⟩
  | .local _ .vmem, ⟨8, _⟩ => ⟨S64x512, .bf16⟩
  | .local _ .vmem, ⟨9, _⟩ => ⟨S64x512, .bf16⟩
  | .local _ .vmem, ⟨10, _⟩ => ⟨S1x128, .f32⟩
  | .local _ .vmem, ⟨11, _⟩ => ⟨S1x16x4x128x128, .f32⟩
  | .local _ .vmem, ⟨12, _⟩ => ⟨S1x16x4x128x128, .f32⟩
  | .local _ .vmem, ⟨13, _⟩ => ⟨S64x512, .bf16⟩
  | .local _ .vmem, ⟨14, _⟩ => ⟨S64x512, .bf16⟩
  | .local _ .vmem, ⟨15, _⟩ => ⟨S16x4x128x128, .f32⟩
  | .local _ .vmem, ⟨16, _⟩ => ⟨S16x4x128x128, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "big" => some ⊥
  | _ => none
-- ==== ReferenceIdeal.lean ====
abbrev S16896x512 : Shape := ⟨2, ![16896, 512]⟩
abbrev S4x128 : Shape := ⟨2, ![4, 128]⟩
abbrev S4x128x4x128x128 : Shape := ⟨5, ![4, 128, 4, 128, 128]⟩
abbrev S512x512 : Shape := ⟨2, ![512, 512]⟩
abbrev S128x4x4x128 : Shape := ⟨4, ![128, 4, 4, 128]⟩
abbrev S1x128x4x128x128 : Shape := ⟨5, ![1, 128, 4, 128, 128]⟩
abbrev S128x4x128x128 : Shape := ⟨4, ![128, 4, 128, 128]⟩
abbrev S_ : Shape := ⟨0, ![]⟩
abbrev S4x4 : Shape := ⟨2, ![4, 4]⟩
abbrev S1x4x4x1x1 : Shape := ⟨5, ![1, 4, 4, 1, 1]⟩
abbrev S128x4x128x4 : Shape := ⟨4, ![128, 4, 128, 4]⟩
abbrev S128x4x1x4x128 : Shape := ⟨5, ![128, 4, 1, 4, 128]⟩
abbrev S128x1x4x4x128 : Shape := ⟨5, ![128, 1, 4, 4, 128]⟩
abbrev S128x4x4x4x128 : Shape := ⟨5, ![128, 4, 4, 4, 128]⟩
abbrev S128x4x4x4 : Shape := ⟨4, ![128, 4, 4, 4]⟩
abbrev S128x1x4x128 : Shape := ⟨4, ![128, 1, 4, 128]⟩
abbrev S128x4x128 : Shape := ⟨3, ![128, 4, 128]⟩
abbrev S128x4x128x1 : Shape := ⟨4, ![128, 4, 128, 1]⟩
abbrev S1x128 : Shape := ⟨2, ![1, 128]⟩
abbrev S128 : Shape := ⟨1, ![128]⟩
abbrev S128x4x4 : Shape := ⟨3, ![128, 4, 4]⟩
abbrev S128x4x4x1 : Shape := ⟨4, ![128, 4, 4, 1]⟩
abbrev S1x1x1x128 : Shape := ⟨4, ![1, 1, 1, 128]⟩

abbrev nBuf : Space → Nat
  | .hbm => 103
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .f32⟩
  | .hbm, ⟨4, _⟩ => ⟨S16896x512, .bf16⟩
  | .hbm, ⟨5, _⟩ => ⟨S4x128, .f32⟩
  | .hbm, ⟨6, _⟩ => ⟨S4x128x4x128x128, .f32⟩
  | .hbm, ⟨7, _⟩ => ⟨S512x512, .bf16⟩
  | .hbm, ⟨8, _⟩ => ⟨S512x512, .f32⟩
  | .hbm, ⟨9, _⟩ => ⟨S128x4x4x128, .f32⟩
  | .hbm, ⟨10, _⟩ => ⟨S512x512, .bf16⟩
  | .hbm, ⟨11, _⟩ => ⟨S512x512, .f32⟩
  | .hbm, ⟨12, _⟩ => ⟨S128x4x4x128, .f32⟩
  | .hbm, ⟨13, _⟩ => ⟨S512x512, .bf16⟩
  | .hbm, ⟨14, _⟩ => ⟨S512x512, .f32⟩
  | .hbm, ⟨15, _⟩ => ⟨S128x4x4x128, .f32⟩
  | .hbm, ⟨16, _⟩ => ⟨S512x512, .f32⟩
  | .hbm, ⟨17, _⟩ => ⟨S128x4x4x128, .f32⟩
  | .hbm, ⟨18, _⟩ => ⟨S512x512, .bf16⟩
  | .hbm, ⟨19, _⟩ => ⟨S512x512, .f32⟩
  | .hbm, ⟨20, _⟩ => ⟨S128x4x4x128, .f32⟩
  | .hbm, ⟨21, _⟩ => ⟨S1x128x4x128x128, .f32⟩
  | .hbm, ⟨22, _⟩ => ⟨S128x4x128x128, .f32⟩
  | .hbm, ⟨23, _⟩ => ⟨S_, .f32⟩
  | .hbm, ⟨24, _⟩ => ⟨S_, .f32⟩
  | .hbm, ⟨25, _⟩ => ⟨S128x4x4x128, .f32⟩
  | .hbm, ⟨26, _⟩ => ⟨S_, .i1⟩
  | .hbm, ⟨27, _⟩ => ⟨S4x4, .i1⟩
  | .hbm, ⟨28, _⟩ => ⟨S4x4, .i32⟩
  | .hbm, ⟨29, _⟩ => ⟨S_, .i32⟩
  | .hbm, ⟨30, _⟩ => ⟨S4x4, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S_, .i1⟩
  | .hbm, ⟨35, _⟩ => ⟨S4x4, .i1⟩
  | .hbm, ⟨36, _⟩ => ⟨S4x4, .i1⟩
  | .hbm, ⟨37, _⟩ => ⟨S1x4x4x1x1, .i1⟩
  | .hbm, ⟨38, _⟩ => ⟨S128x4x4x128, .f32⟩
  | .hbm, ⟨39, _⟩ => ⟨S128x4x4x128, .f32⟩
  | .hbm, ⟨40, _⟩ => ⟨S128x4x128x4, .f32⟩
  | .hbm, ⟨41, _⟩ => ⟨S128x4x4x128, .f32⟩
  | .hbm, ⟨42, _⟩ => ⟨S128x4x1x4x128, .f32⟩
  | .hbm, ⟨43, _⟩ => ⟨S128x1x4x4x128, .f32⟩
  | .hbm, ⟨44, _⟩ => ⟨S128x4x4x4x128, .f32⟩
  | .hbm, ⟨45, _⟩ => ⟨S128x4x4x4x128, .f32⟩
  | .hbm, ⟨46, _⟩ => ⟨S128x4x4x4x128, .f32⟩
  | .hbm, ⟨47, _⟩ => ⟨S_, .f32⟩
  | .hbm, ⟨48, _⟩ => ⟨S_, .f32⟩
  | .hbm, ⟨49, _⟩ => ⟨S128x4x4x4x128, .i1⟩
  | .hbm, ⟨50, _⟩ => ⟨S128x4x4x4x128, .f32⟩
  | .hbm, ⟨51, _⟩ => ⟨S128x4x4x4x128, .f32⟩
  | .hbm, ⟨52, _⟩ => ⟨S128x4x4x4x128, .f32⟩
  | .hbm, ⟨53, _⟩ => ⟨S_, .f32⟩
  | .hbm, ⟨54, _⟩ => ⟨S_, .f32⟩
  | .hbm, ⟨55, _⟩ => ⟨S128x4x4x4x128, .i1⟩
  | .hbm, ⟨56, _⟩ => ⟨S128x4x4x4x128, .f32⟩
  | .hbm, ⟨57, _⟩ => ⟨S128x4x4x4x128, .f32⟩
  | .hbm, ⟨58, _⟩ => ⟨S128x4x1x4x128, .f32⟩
  | .hbm, ⟨59, _⟩ => ⟨S128x1x4x4x128, .f32⟩
  | .hbm, ⟨60, _⟩ => ⟨S128x4x4x4x128, .f32⟩
  | .hbm, ⟨61, _⟩ => ⟨S128x4x4x4x128, .f32⟩
  | .hbm, ⟨62, _⟩ => ⟨S128x4x4x4x128, .f32⟩
  | .hbm, ⟨63, _⟩ => ⟨S128x4x4x4x128, .f32⟩
  | .hbm, ⟨64, _⟩ => ⟨S_, .f32⟩
  | .hbm, ⟨65, _⟩ => ⟨S128x4x4x4, .f32⟩
  | .hbm, ⟨66, _⟩ => ⟨S128x4x128x4, .f32⟩
  | .hbm, ⟨67, _⟩ => ⟨S128x4x4x128, .f32⟩
  | .hbm, ⟨68, _⟩ => ⟨S128x4x4x128, .f32⟩
  | .hbm, ⟨69, _⟩ => ⟨S128x1x4x128, .f32⟩
  | .hbm, ⟨70, _⟩ => ⟨S128x4x128, .f32⟩
  | .hbm, ⟨71, _⟩ => ⟨S128x4x128, .f32⟩
  | .hbm, ⟨72, _⟩ => ⟨S128x4x128x1, .f32⟩
  | .hbm, ⟨73, _⟩ => ⟨S128x4x128x128, .f32⟩
  | .hbm, ⟨74, _⟩ => ⟨S128x4x128x128, .f32⟩
  | .hbm, ⟨75, _⟩ => ⟨S128x1x4x128, .f32⟩
  | .hbm, ⟨76, _⟩ => ⟨S128x4x4x128, .f32⟩
  | .hbm, ⟨77, _⟩ => ⟨S128x4x4x128, .f32⟩
  | .hbm, ⟨78, _⟩ => ⟨S128x4x4x128, .f32⟩
  | .hbm, ⟨79, _⟩ => ⟨S128x4x4x128, .f32⟩
  | .hbm, ⟨80, _⟩ => ⟨S128x4x128x128, .f32⟩
  | .hbm, ⟨81, _⟩ => ⟨S128x4x128x128, .f32⟩
  | .hbm, ⟨82, _⟩ => ⟨S1x128, .f32⟩
  | .hbm, ⟨83, _⟩ => ⟨S128, .f32⟩
  | .hbm, ⟨84, _⟩ => ⟨S128x4x4x128, .f32⟩
  | .hbm, ⟨85, _⟩ => ⟨S_, .f32⟩
  | .hbm, ⟨86, _⟩ => ⟨S128x4x4, .f32⟩
  | .hbm, ⟨87, _⟩ => ⟨S128x4x4x1, .f32⟩
  | .hbm, ⟨88, _⟩ => ⟨S_, .f32⟩
  | .hbm, ⟨89, _⟩ => ⟨S128x4x4x1, .f32⟩
  | .hbm, ⟨90, _⟩ => ⟨S128x4x4x1, .f32⟩
  | .hbm, ⟨91, _⟩ => ⟨S_, .f32⟩
  | .hbm, ⟨92, _⟩ => ⟨S128x4x4x1, .f32⟩
  | .hbm, ⟨93, _⟩ => ⟨S128x4x4x1, .f32⟩
  | .hbm, ⟨94, _⟩ => ⟨S128x4x4x1, .f32⟩
  | .hbm, ⟨95, _⟩ => ⟨S128x4x4x128, .f32⟩
  | .hbm, ⟨96, _⟩ => ⟨S128x4x4x128, .f32⟩
  | .hbm, ⟨97, _⟩ => ⟨S1x1x1x128, .f32⟩
  | .hbm, ⟨98, _⟩ => ⟨S128x4x4x128, .f32⟩
  | .hbm, ⟨99, _⟩ => ⟨S128x4x4x128, .f32⟩
  | .hbm, ⟨100, _⟩ => ⟨S128x4x4x128, .f32⟩
  | .hbm, ⟨101, _⟩ => ⟨S512x512, .f32⟩
  | .hbm, ⟨102, _⟩ => ⟨S512x512, .bf16⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_call0_cst : Ref sig .tc := ⟨.hbm, 23, rfl⟩
abbrev main_call0_call0_v0 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_0 : Ref sig .tc := ⟨.hbm, 34, rfl⟩
abbrev main_call1_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v29 : Ref sig .tc := ⟨.hbm, 51, rfl⟩
abbrev main_v30 : Ref sig .tc := ⟨.hbm, 52, rfl⟩
abbrev main_cst_0 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_1 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_2 : Ref sig .tc := ⟨.hbm, 85, rfl⟩
abbrev main_v58 : Ref sig .tc := ⟨.hbm, 86, rfl⟩
abbrev main_v59 : Ref sig .tc := ⟨.hbm, 87, rfl⟩
abbrev main_cst_3 : Ref sig .tc := ⟨.hbm, 88, rfl⟩
abbrev main_v60 : Ref sig .tc := ⟨.hbm, 89, rfl⟩
abbrev main_v61 : Ref sig .tc := ⟨.hbm, 90, rfl⟩
abbrev main_cst_4 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩

abbrev nD : Nat := 1
abbrev τ : Topo := Topo.v7x

variable {F : FTy → Type} [FloatOps F]
-- ==== KernelIn.lean ====
abbrev S16896x1024 : Shape := ⟨2, ![16896, 1024]⟩
abbrev S4x1024 : Shape := ⟨2, ![4, 1024]⟩
abbrev S4x1024x5632 : Shape := ⟨3, ![4, 1024, 5632]⟩
abbrev S4x512 : Shape := ⟨2, ![4, 512]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S16896 : Shape := ⟨1, ![16896]⟩
abbrev S64 : Shape := ⟨1, ![64]⟩
abbrev S16896x1 : Shape := ⟨2, ![16896, 1]⟩
abbrev S1x64 : Shape := ⟨2, ![1, 64]⟩
abbrev S16896x64 : Shape := ⟨2, ![16896, 64]⟩
abbrev S16896x128 : Shape := ⟨2, ![16896, 128]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S16896x512 : Shape := ⟨2, ![16896, 512]⟩
abbrev S512x1024 : Shape := ⟨2, ![512, 1024]⟩
abbrev S512x128 : Shape := ⟨2, ![512, 128]⟩
abbrev S512x512 : Shape := ⟨2, ![512, 512]⟩
abbrev S512x1 : Shape := ⟨2, ![512, 1]⟩
abbrev S1x512 : Shape := ⟨2, ![1, 512]⟩
abbrev S3x512 : Shape := ⟨2, ![3, 512]⟩
abbrev S1024x512 : Shape := ⟨2, ![1024, 512]⟩
abbrev S1024x1024 : Shape := ⟨2, ![1024, 1024]⟩

abbrev nBuf : Space → Nat
  | .hbm => 57
  | .vmem => 29
  | .smem => 0
  | _ => 0

abbrev bufTy : (tb : Table) → Fin (tcTables nBuf tb) → BufTy
  | .hbm, ⟨0, _⟩ => ⟨S16896x1024, .f32⟩
  | .hbm, ⟨1, _⟩ => ⟨S4x1024, .f32⟩
  | .hbm, ⟨2, _⟩ => ⟨S4x1024x5632, .f32⟩
  | .hbm, ⟨3, _⟩ => ⟨S4x512, .f32⟩
  | .hbm, ⟨4, _⟩ => ⟨S4096, .i32⟩
  | .hbm, ⟨5, _⟩ => ⟨S1x4096, .i32⟩
  | .hbm, ⟨6, _⟩ => ⟨S4x4096, .i32⟩
  | .hbm, ⟨7, _⟩ => ⟨S16384, .i32⟩
  | .hbm, ⟨8, _⟩ => ⟨S4, .i32⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S1x4, .i32⟩
  | .hbm, ⟨13, _⟩ => ⟨S128x4, .i32⟩
  | .hbm, ⟨14, _⟩ => ⟨S512, .i32⟩
  | .hbm, ⟨15, _⟩ => ⟨S16896, .i32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S16896, .f32⟩
  | .hbm, ⟨31, _⟩ => ⟨S16896x1, .f32⟩
  | .hbm, ⟨32, _⟩ => ⟨S1x64, .f32⟩
  | .hbm, ⟨33, _⟩ => ⟨S16896x64, .f32⟩
  | .hbm, ⟨34, _⟩ => ⟨S16896x64, .f32⟩
  | .hbm, ⟨35, _⟩ => ⟨S16896x64, .f32⟩
  | .hbm, ⟨36, _⟩ => ⟨S16896x64, .f32⟩
  | .hbm, ⟨37, _⟩ => ⟨S16896x64, .f32⟩
  | .hbm, ⟨38, _⟩ => ⟨S16896x128, .f32⟩
  | .hbm, ⟨39, _⟩ => ⟨S16896x64, .f32⟩
  | .hbm, ⟨40, _⟩ => ⟨S16896x128, .f32⟩
  | .hbm, ⟨41, _⟩ => ⟨S4x1024x5632, .bf16⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1x1024x5632, .bf16⟩
  | .hbm, ⟨46, _⟩ => ⟨S1024x5632, .bf16⟩
  | .hbm, ⟨47, _⟩ => ⟨S16896x512, .bf16⟩
  | .hbm, ⟨48, _⟩ => ⟨S16896x512, .f32⟩
  | .hbm, ⟨49, _⟩ => ⟨S16896x512, .bf16⟩
  | .hbm, ⟨50, _⟩ => ⟨S16896x512, .bf16⟩
  | .hbm, ⟨51, _⟩ => ⟨S16896x512, .bf16⟩
  | .hbm, ⟨52, _⟩ => ⟨S16896x512, .bf16⟩
  | .hbm, ⟨53, _⟩ => ⟨S16896x512, .f32⟩
  | .hbm, ⟨54, _⟩ => ⟨S16896x512, .f32⟩
  | .hbm, ⟨55, _⟩ => ⟨S16896x1024, .bf16⟩
  | .hbm, ⟨56, _⟩ => ⟨S16896x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S4x512, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38_0 : Ref sig .tc := ⟨.hbm, 47, rfl⟩
abbrev main_v38_1 : Ref sig .tc := ⟨.hbm, 48, rfl⟩
abbrev main_v38_2 : Ref sig .tc := ⟨.hbm, 49, rfl⟩
abbrev main_v38_3 : Ref sig .tc := ⟨.hbm, 50, rfl⟩
abbrev main_v38_4 : Ref sig .tc := ⟨.hbm, 51, rfl⟩
abbrev main_v38_5 : Ref sig .tc := ⟨.hbm, 52, rfl⟩
abbrev main_v38_6 : Ref sig .tc := ⟨.hbm, 53, rfl⟩
abbrev main_v38_7 : Ref sig .tc := ⟨.hbm, 54, rfl⟩
abbrev main_v38_8 : Ref sig .tc := ⟨.hbm, 55, rfl⟩
abbrev main_v38_9 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceInIdeal.lean ====
abbrev S16896x1024 : Shape := ⟨2, ![16896, 1024]⟩
abbrev S4x1024 : Shape := ⟨2, ![4, 1024]⟩
abbrev S4x1024x5632 : Shape := ⟨3, ![4, 1024, 5632]⟩
abbrev S4x512 : Shape := ⟨2, ![4, 512]⟩
abbrev S_ : Shape := ⟨0, ![]⟩
abbrev S512 : Shape := ⟨1, ![512]⟩
abbrev S1x512 : Shape := ⟨2, ![1, 512]⟩
abbrev S1x1024 : Shape := ⟨2, ![1, 1024]⟩
abbrev S1024 : Shape := ⟨1, ![1024]⟩
abbrev S16896 : Shape := ⟨1, ![16896]⟩
abbrev S16896x1 : Shape := ⟨2, ![16896, 1]⟩
abbrev S1x1024x5632 : Shape := ⟨3, ![1, 1024, 5632]⟩
abbrev S1024x5632 : Shape := ⟨2, ![1024, 5632]⟩
abbrev S16896x5632 : Shape := ⟨2, ![16896, 5632]⟩
abbrev S16896x512 : Shape := ⟨2, ![16896, 512]⟩
abbrev S4096 : Shape := ⟨1, ![4096]⟩
abbrev S4 : Shape := ⟨1, ![4]⟩
abbrev S16384x512 : Shape := ⟨2, ![16384, 512]⟩
abbrev S4x4096x4x128 : Shape := ⟨4, ![4, 4096, 4, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x4x64 : Shape := ⟨4, ![4, 4096, 4, 64]⟩
abbrev S512x512 : Shape := ⟨2, ![512, 512]⟩
abbrev S128x4x4x128 : Shape := ⟨4, ![128, 4, 4, 128]⟩
abbrev S4x1 : Shape := ⟨2, ![4, 1]⟩
abbrev S4x64 : Shape := ⟨2, ![4, 64]⟩
abbrev S1x4x1x64 : Shape := ⟨4, ![1, 4, 1, 64]⟩
abbrev S128x4x4x64 : Shape := ⟨4, ![128, 4, 4, 64]⟩

abbrev nBuf : Space → Nat
  | .hbm => 300
  | .vmem => 0
  | .smem => 0
  | _ => 0

abbrev hbmTy0_0 (i : Nat) : BufTy := match i % 128 with
  | 0 => ⟨S16896x1024, .f32⟩
  | 1 => ⟨S4x1024, .f32⟩
  | 2 => ⟨S4x1024x5632, .f32⟩
  | 3 => ⟨S4x512, .f32⟩
  | 4 => ⟨S_, .f32⟩
  | 5 => ⟨S512, .f32⟩
  | 6 => ⟨S_, .f32⟩
  | 7 => ⟨S512, .f32⟩
  | 8 => ⟨S512, .f32⟩
  | 9 => ⟨S1x512, .f32⟩
  | 10 => ⟨S4x512, .f32⟩
  | 11 => ⟨S4x512, .f32⟩
  | 12 => ⟨S4x512, .f32⟩
  | 13 => ⟨S_, .f32⟩
  | 14 => ⟨S512, .f32⟩
  | 15 => ⟨S1x512, .f32⟩
  | 16 => ⟨S4x512, .f32⟩
  | 17 => ⟨S4x512, .f32⟩
  | 18 => ⟨S_, .f32⟩
  | 19 => ⟨S_, .f32⟩
  | 20 => ⟨S4x512, .f32⟩
  | 21 => ⟨S1x512, .f32⟩
  | 22 => ⟨S4x512, .f32⟩
  | 23 => ⟨S4x512, .f32⟩
  | 24 => ⟨S1x512, .f32⟩
  | 25 => ⟨S512, .f32⟩
  | 26 => ⟨S1x1024, .f32⟩
  | 27 => ⟨S1024, .f32⟩
  | 28 => ⟨S16896x1024, .f32⟩
  | 29 => ⟨S_, .f32⟩
  | 30 => ⟨S16896, .f32⟩
  | 31 => ⟨S16896x1, .f32⟩
  | 32 => ⟨S_, .f32⟩
  | 33 => ⟨S16896x1, .f32⟩
  | 34 => ⟨S16896x1, .f32⟩
  | 35 => ⟨S_, .f32⟩
  | 36 => ⟨S16896x1, .f32⟩
  | 37 => ⟨S16896x1, .f32⟩
  | 38 => ⟨S16896x1, .f32⟩
  | 39 => ⟨S16896x1024, .f32⟩
  | 40 => ⟨S16896x1024, .f32⟩
  | 41 => ⟨S1x1024, .f32⟩
  | 42 => ⟨S16896x1024, .f32⟩
  | 43 => ⟨S16896x1024, .f32⟩
  | 44 => ⟨S1x1024x5632, .f32⟩
  | 45 => ⟨S1024x5632, .f32⟩
  | 46 => ⟨S16896x5632, .f32⟩
  | 47 => ⟨S16896x512, .f32⟩
  | 48 => ⟨S16896x512, .f32⟩
  | 49 => ⟨S16896x512, .f32⟩
  | 50 => ⟨S16896x512, .f32⟩
  | 51 => ⟨S16896x512, .f32⟩
  | 52 => ⟨S16896x512, .f32⟩
  | 53 => ⟨S16896x512, .f32⟩
  | 54 => ⟨S16896x1024, .f32⟩
  | 55 => ⟨S16896x1024, .f32⟩
  | 56 => ⟨S_, .f32⟩
  | 57 => ⟨S512, .f32⟩
  | 58 => ⟨S512, .f32⟩
  | 59 => ⟨S16896x512, .f32⟩
  | 60 => ⟨S16896x512, .f32⟩
  | 61 => ⟨S_, .f32⟩
  | 62 => ⟨S16896x512, .f32⟩
  | 63 => ⟨S16896x512, .f32⟩
  | 64 => ⟨S_, .f32⟩
  | 65 => ⟨S16896x512, .f32⟩
  | 66 => ⟨S16896x512, .f32⟩
  | 67 => ⟨S1x512, .f32⟩
  | 68 => ⟨S16896x512, .f32⟩
  | 69 => ⟨S16896x512, .f32⟩
  | 70 => ⟨S1x512, .f32⟩
  | 71 => ⟨S16896x512, .f32⟩
  | 72 => ⟨S16896x512, .f32⟩
  | 73 => ⟨S_, .f32⟩
  | 74 => ⟨S16896x512, .f32⟩
  | 75 => ⟨S16896x512, .f32⟩
  | 76 => ⟨S16896x512, .f32⟩
  | 77 => ⟨S_, .f32⟩
  | 78 => ⟨S512, .f32⟩
  | 79 => ⟨S512, .f32⟩
  | 80 => ⟨S16896x512, .f32⟩
  | 81 => ⟨S16896x512, .f32⟩
  | 82 => ⟨S16896x512, .f32⟩
  | 83 => ⟨S_, .f32⟩
  | 84 => ⟨S16896x512, .f32⟩
  | 85 => ⟨S16896x512, .f32⟩
  | 86 => ⟨S_, .f32⟩
  | 87 => ⟨S16896x512, .f32⟩
  | 88 => ⟨S16896x512, .f32⟩
  | 89 => ⟨S1x512, .f32⟩
  | 90 => ⟨S16896x512, .f32⟩
  | 91 => ⟨S16896x512, .f32⟩
  | 92 => ⟨S4096, .i32⟩
  | 93 => ⟨S4, .i32⟩
  | 94 => ⟨S_, .i32⟩
  | 95 => ⟨S4, .i32⟩
  | 96 => ⟨S4, .i32⟩
  | 97 => ⟨S16896x512, .f32⟩
  | 98 => ⟨S16896x512, .f32⟩
  | 99 => ⟨S_, .f32⟩
  | 100 => ⟨S16896x512, .f32⟩
  | 101 => ⟨S16896x512, .f32⟩
  | 102 => ⟨S_, .f32⟩
  | 103 => ⟨S16896x512, .f32⟩
  | 104 => ⟨S16896x512, .f32⟩
  | 105 => ⟨S16896x512, .f32⟩
  | 106 => ⟨S16896x512, .bf16⟩
  | 107 => ⟨S16896x512, .bf16⟩
  | 108 => ⟨S16896x512, .bf16⟩
  | 109 => ⟨S16896x512, .f32⟩
  | 110 => ⟨S16896x512, .f32⟩
  | 111 => ⟨S_, .f32⟩
  | 112 => ⟨S16896x512, .f32⟩
  | 113 => ⟨S16896x512, .f32⟩
  | 114 => ⟨S_, .f32⟩
  | 115 => ⟨S16896x512, .f32⟩
  | 116 => ⟨S16896x512, .f32⟩
  | 117 => ⟨S16896x512, .f32⟩
  | 118 => ⟨S16896x512, .bf16⟩
  | 119 => ⟨S16384x512, .f32⟩
  | 120 => ⟨S4x4096x4x128, .f32⟩
  | 121 => ⟨S64, .f32⟩
  | 122 => ⟨S_, .f32⟩
  | 123 => ⟨S64, .f32⟩
  | 124 => ⟨S64, .f32⟩
  | 125 => ⟨S_, .f32⟩
  | 126 => ⟨S64, .f32⟩
  | 127 => ⟨S64, .f32⟩
  | _ => ⟨S16896x1024, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S_, .f32⟩
  | 5 => ⟨S64, .f32⟩
  | 6 => ⟨S64, .f32⟩
  | 7 => ⟨S4096, .f32⟩
  | 8 => ⟨S4096x1, .f32⟩
  | 9 => ⟨S1x64, .f32⟩
  | 10 => ⟨S4096x64, .f32⟩
  | 11 => ⟨S4096x64, .f32⟩
  | 12 => ⟨S4096x64, .f32⟩
  | 13 => ⟨S4096x64, .f32⟩
  | 14 => ⟨S1x4096x1x64, .f32⟩
  | 15 => ⟨S4096x64, .f32⟩
  | 16 => ⟨S1x4096x1x64, .f32⟩
  | 17 => ⟨S4x4096x4x64, .f32⟩
  | 18 => ⟨S4x4096x4x64, .f32⟩
  | 19 => ⟨S4x4096x4x64, .f32⟩
  | 20 => ⟨S4x4096x4x64, .f32⟩
  | 21 => ⟨S4x4096x4x64, .f32⟩
  | 22 => ⟨S4x4096x4x64, .f32⟩
  | 23 => ⟨S4x4096x4x64, .f32⟩
  | 24 => ⟨S4x4096x4x64, .f32⟩
  | 25 => ⟨S4x4096x4x64, .f32⟩
  | 26 => ⟨S4x4096x4x64, .f32⟩
  | 27 => ⟨S4x4096x4x64, .f32⟩
  | 28 => ⟨S4x4096x4x64, .f32⟩
  | 29 => ⟨S4x4096x4x128, .f32⟩
  | 30 => ⟨S16384x512, .f32⟩
  | 31 => ⟨S512x512, .f32⟩
  | 32 => ⟨S128x4x4x128, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S4, .f32⟩
  | 48 => ⟨S4x1, .f32⟩
  | 49 => ⟨S1x64, .f32⟩
  | 50 => ⟨S4x64, .f32⟩
  | 51 => ⟨S4x64, .f32⟩
  | 52 => ⟨S4x64, .f32⟩
  | 53 => ⟨S4x64, .f32⟩
  | 54 => ⟨S1x4x1x64, .f32⟩
  | 55 => ⟨S4x64, .f32⟩
  | 56 => ⟨S1x4x1x64, .f32⟩
  | 57 => ⟨S128x4x4x64, .f32⟩
  | 58 => ⟨S128x4x4x64, .f32⟩
  | 59 => ⟨S128x4x4x64, .f32⟩
  | 60 => ⟨S128x4x4x64, .f32⟩
  | 61 => ⟨S128x4x4x64, .f32⟩
  | 62 => ⟨S128x4x4x64, .f32⟩
  | 63 => ⟨S128x4x4x64, .f32⟩
  | 64 => ⟨S128x4x4x64, .f32⟩
  | 65 => ⟨S128x4x4x64, .f32⟩
  | 66 => ⟨S128x4x4x64, .f32⟩
  | 67 => ⟨S128x4x4x64, .f32⟩
  | 68 => ⟨S128x4x4x64, .f32⟩
  | 69 => ⟨S128x4x4x128, .f32⟩
  | 70 => ⟨S512x512, .f32⟩
  | 71 => ⟨S16896x512, .f32⟩
  | 72 => ⟨S16896x512, .bf16⟩
  | 73 => ⟨S16384x512, .f32⟩
  | 74 => ⟨S4x4096x4x128, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S64, .f32⟩
  | 83 => ⟨S_, .f32⟩
  | 84 => ⟨S64, .f32⟩
  | 85 => ⟨S64, .f32⟩
  | 86 => ⟨S_, .f32⟩
  | 87 => ⟨S64, .f32⟩
  | 88 => ⟨S64, .f32⟩
  | 89 => ⟨S4096, .f32⟩
  | 90 => ⟨S4096x1, .f32⟩
  | 91 => ⟨S1x64, .f32⟩
  | 92 => ⟨S4096x64, .f32⟩
  | 93 => ⟨S4096x64, .f32⟩
  | 94 => ⟨S4096x64, .f32⟩
  | 95 => ⟨S4096x64, .f32⟩
  | 96 => ⟨S1x4096x1x64, .f32⟩
  | 97 => ⟨S4096x64, .f32⟩
  | 98 => ⟨S1x4096x1x64, .f32⟩
  | 99 => ⟨S4x4096x4x64, .f32⟩
  | 100 => ⟨S4x4096x4x64, .f32⟩
  | 101 => ⟨S4x4096x4x64, .f32⟩
  | 102 => ⟨S4x4096x4x64, .f32⟩
  | 103 => ⟨S4x4096x4x64, .f32⟩
  | 104 => ⟨S4x4096x4x64, .f32⟩
  | 105 => ⟨S4x4096x4x64, .f32⟩
  | 106 => ⟨S4x4096x4x64, .f32⟩
  | 107 => ⟨S4x4096x4x64, .f32⟩
  | 108 => ⟨S4x4096x4x64, .f32⟩
  | 109 => ⟨S4x4096x4x64, .f32⟩
  | 110 => ⟨S4x4096x4x64, .f32⟩
  | 111 => ⟨S4x4096x4x128, .f32⟩
  | 112 => ⟨S16384x512, .f32⟩
  | 113 => ⟨S512x512, .f32⟩
  | 114 => ⟨S128x4x4x128, .f32⟩
  | 115 => ⟨S64, .f32⟩
  | 116 => ⟨S_, .f32⟩
  | 117 => ⟨S64, .f32⟩
  | 118 => ⟨S64, .f32⟩
  | 119 => ⟨S_, .f32⟩
  | 120 => ⟨S64, .f32⟩
  | 121 => ⟨S64, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S16896x1024, .f32⟩

abbrev hbmTy0_2 (i : Nat) : BufTy := match i % 128 with
  | 0 => ⟨S64, .f32⟩
  | 1 => ⟨S4, .f32⟩
  | 2 => ⟨S4x1, .f32⟩
  | 3 => ⟨S1x64, .f32⟩
  | 4 => ⟨S4x64, .f32⟩
  | 5 => ⟨S4x64, .f32⟩
  | 6 => ⟨S4x64, .f32⟩
  | 7 => ⟨S4x64, .f32⟩
  | 8 => ⟨S1x4x1x64, .f32⟩
  | 9 => ⟨S4x64, .f32⟩
  | 10 => ⟨S1x4x1x64, .f32⟩
  | 11 => ⟨S128x4x4x64, .f32⟩
  | 12 => ⟨S128x4x4x64, .f32⟩
  | 13 => ⟨S128x4x4x64, .f32⟩
  | 14 => ⟨S128x4x4x64, .f32⟩
  | 15 => ⟨S128x4x4x64, .f32⟩
  | 16 => ⟨S128x4x4x64, .f32⟩
  | 17 => ⟨S128x4x4x64, .f32⟩
  | 18 => ⟨S128x4x4x64, .f32⟩
  | 19 => ⟨S128x4x4x64, .f32⟩
  | 20 => ⟨S128x4x4x64, .f32⟩
  | 21 => ⟨S128x4x4x64, .f32⟩
  | 22 => ⟨S128x4x4x64, .f32⟩
  | 23 => ⟨S128x4x4x128, .f32⟩
  | 24 => ⟨S512x512, .f32⟩
  | 25 => ⟨S16896x512, .f32⟩
  | 26 => ⟨S16896x1024, .f32⟩
  | 27 => ⟨S16896x1024, .f32⟩
  | 28 => ⟨S_, .f32⟩
  | 29 => ⟨S16896x1024, .f32⟩
  | 30 => ⟨S16896x1024, .f32⟩
  | 31 => ⟨S_, .f32⟩
  | 32 => ⟨S16896x1024, .f32⟩
  | 33 => ⟨S16896x1024, .f32⟩
  | 34 => ⟨S16896x1024, .bf16⟩
  | 35 => ⟨S16896x1024, .f32⟩
  | 36 => ⟨S16896x1024, .f32⟩
  | 37 => ⟨S_, .f32⟩
  | 38 => ⟨S16896x1024, .f32⟩
  | 39 => ⟨S16896x1024, .f32⟩
  | 40 => ⟨S_, .f32⟩
  | 41 => ⟨S16896x1024, .f32⟩
  | 42 => ⟨S16896x1024, .f32⟩
  | 43 => ⟨S16896x1024, .bf16⟩
  | _ => ⟨S16896x1024, .f32⟩

abbrev hbmTy (i : Nat) : BufTy := match i / 128 with
  | 0 => hbmTy0_0 i
  | 1 => hbmTy0_1 i
  | 2 => hbmTy0_2 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_c : Ref sig .tc := ⟨.hbm, 94, rfl⟩
abbrev main_v75 : Ref sig .tc := ⟨.hbm, 95, rfl⟩
abbrev main_v76 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_12 : Ref sig .tc := ⟨.hbm, 122, rfl⟩
abbrev main_v86 : Ref sig .tc := ⟨.hbm, 123, rfl⟩
abbrev main_v87 : Ref sig .tc := ⟨.hbm, 124, rfl⟩
abbrev main_cst_13 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_14 : Ref sig .tc := ⟨.hbm, 129, rfl⟩
abbrev main_v91 : Ref sig .tc := ⟨.hbm, 130, rfl⟩
abbrev main_v92 : Ref sig .tc := ⟨.hbm, 131, rfl⟩
abbrev main_cst_15 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_16 : Ref sig .tc := ⟨.hbm, 162, rfl⟩
abbrev main_v122 : Ref sig .tc := ⟨.hbm, 163, rfl⟩
abbrev main_v123 : Ref sig .tc := ⟨.hbm, 164, rfl⟩
abbrev main_cst_17 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_18 : Ref sig .tc := ⟨.hbm, 169, rfl⟩
abbrev main_v127 : Ref sig .tc := ⟨.hbm, 170, rfl⟩
abbrev main_v128 : Ref sig .tc := ⟨.hbm, 171, rfl⟩
abbrev main_cst_19 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_20 : Ref sig .tc := ⟨.hbm, 204, rfl⟩
abbrev main_v160 : Ref sig .tc := ⟨.hbm, 205, rfl⟩
abbrev main_v161 : Ref sig .tc := ⟨.hbm, 206, rfl⟩
abbrev main_cst_21 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_22 : Ref sig .tc := ⟨.hbm, 211, rfl⟩
abbrev main_v165 : Ref sig .tc := ⟨.hbm, 212, rfl⟩
abbrev main_v166 : Ref sig .tc := ⟨.hbm, 213, rfl⟩
abbrev main_cst_23 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_cst_24 : Ref sig .tc := ⟨.hbm, 244, rfl⟩
abbrev main_v196 : Ref sig .tc := ⟨.hbm, 245, rfl⟩
abbrev main_v197 : Ref sig .tc := ⟨.hbm, 246, rfl⟩
abbrev main_cst_25 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_26 : Ref sig .tc := ⟨.hbm, 251, rfl⟩
abbrev main_v201 : Ref sig .tc := ⟨.hbm, 252, rfl⟩
abbrev main_v202 : Ref sig .tc := ⟨.hbm, 253, rfl⟩
abbrev main_cst_27 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_v215 : Ref sig .tc := ⟨.hbm, 267, rfl⟩
abbrev main_v216 : Ref sig .tc := ⟨.hbm, 268, rfl⟩
abbrev main_v217 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_cst_28 : Ref sig .tc := ⟨.hbm, 284, rfl⟩
abbrev main_v232 : Ref sig .tc := ⟨.hbm, 285, rfl⟩
abbrev main_v233 : Ref sig .tc := ⟨.hbm, 286, rfl⟩
abbrev main_cst_29 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_cst_30 : Ref sig .tc := ⟨.hbm, 293, rfl⟩
abbrev main_v239 : Ref sig .tc := ⟨.hbm, 294, rfl⟩
abbrev main_v240 : Ref sig .tc := ⟨.hbm, 295, rfl⟩
abbrev main_cst_31 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩

abbrev nD : Nat := 1
abbrev τ : Topo := Topo.v7x

variable {F : FTy → Type} [FloatOps F]
-- ==== KernelFfn.lean ====
abbrev S16896x1024 : Shape := ⟨2, ![16896, 1024]⟩
abbrev S16896x512 : Shape := ⟨2, ![16896, 512]⟩
abbrev S4x1024 : Shape := ⟨2, ![4, 1024]⟩
abbrev S4x512x1024 : Shape := ⟨3, ![4, 512, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1024 : Shape := ⟨2, ![1, 1024]⟩
abbrev S1024 : Shape := ⟨1, ![1024]⟩
abbrev S512x512 : Shape := ⟨2, ![512, 512]⟩
abbrev S512 : Shape := ⟨1, ![512]⟩
abbrev S512x1 : Shape := ⟨2, ![512, 1]⟩

abbrev nBuf : Space → Nat
  | .hbm => 38
  | .vmem => 20
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x1024, .bf16⟩
  | .hbm, ⟨4, _⟩ => ⟨S16896x1024, .bf16⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | .hbm, ⟨11, _⟩ => ⟨S4x1024x4096, .f32⟩
  | .hbm, ⟨12, _⟩ => ⟨S4x4096x1024, .f32⟩
  | .hbm, ⟨13, _⟩ => ⟨S4x512x1024, .bf16⟩
  | .hbm, ⟨14, _⟩ => ⟨S4x512x1024, .bf16⟩
  | .hbm, ⟨15, _⟩ => ⟨S4x1024x1024, .bf16⟩
  | .hbm, ⟨16, _⟩ => ⟨S4x1024x4096, .bf16⟩
  | .hbm, ⟨17, _⟩ => ⟨S4x4096x1024, .bf16⟩
  | .hbm, ⟨18, _⟩ => ⟨S1x512x1024, .bf16⟩
  | .hbm, ⟨19, _⟩ => ⟨S512x1024, .bf16⟩
  | .hbm, ⟨20, _⟩ => ⟨S1x512x1024, .bf16⟩
  | .hbm, ⟨21, _⟩ => ⟨S512x1024, .bf16⟩
  | .hbm, ⟨22, _⟩ => ⟨S1x1024x1024, .bf16⟩
  | .hbm, ⟨23, _⟩ => ⟨S1024x1024, .bf16⟩
  | .hbm, ⟨24, _⟩ => ⟨S1x1024x4096, .bf16⟩
  | .hbm, ⟨25, _⟩ => ⟨S1024x4096, .bf16⟩
  | .hbm, ⟨26, _⟩ => ⟨S1x4096x1024, .bf16⟩
  | .hbm, ⟨27, _⟩ => ⟨S4096x1024, .bf16⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceFfnIdeal.lean ====
abbrev S16896x1024 : Shape := ⟨2, ![16896, 1024]⟩
abbrev S16896x512 : Shape := ⟨2, ![16896, 512]⟩
abbrev S4x1024 : Shape := ⟨2, ![4, 1024]⟩
abbrev S4x512x1024 : Shape := ⟨3, ![4, 512, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024x4096 : Shape := ⟨3, ![1, 1024, 4096]⟩
abbrev S1024x4096 : Shape := ⟨2, ![1024, 4096]⟩
abbrev S16896x4096 : Shape := ⟨2, ![16896, 4096]⟩
abbrev S1x4096x1024 : Shape := ⟨3, ![1, 4096, 1024]⟩
abbrev S4096x1024 : Shape := ⟨2, ![4096, 1024]⟩

abbrev nBuf : Space → Nat
  | .hbm => 95
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x1024, .bf16⟩
  | .hbm, ⟨4, _⟩ => ⟨S16896x1024, .bf16⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x512x1024, .f32⟩
  | .hbm, ⟨9, _⟩ => ⟨S4x512x1024, .f32⟩
  | .hbm, ⟨10, _⟩ => ⟨S4x1024x1024, .f32⟩
  | .hbm, ⟨11, _⟩ => ⟨S4x1024x4096, .f32⟩
  | .hbm, ⟨12, _⟩ => ⟨S4x4096x1024, .f32⟩
  | .hbm, ⟨13, _⟩ => ⟨S16896x512, .f32⟩
  | .hbm, ⟨14, _⟩ => ⟨S16896x512, .f32⟩
  | .hbm, ⟨15, _⟩ => ⟨S16896x1024, .f32⟩
  | .hbm, ⟨16, _⟩ => ⟨S16896x1024, .f32⟩
  | .hbm, ⟨17, _⟩ => ⟨S1x512x1024, .f32⟩
  | .hbm, ⟨18, _⟩ => ⟨S512x1024, .f32⟩
  | .hbm, ⟨19, _⟩ => ⟨S16896x1024, .f32⟩
  | .hbm, ⟨20, _⟩ => ⟨S16896x1024, .f32⟩
  | .hbm, ⟨21, _⟩ => ⟨S1x512x1024, .f32⟩
  | .hbm, ⟨22, _⟩ => ⟨S512x1024, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S1x1024x1024, .f32⟩
  | .hbm, ⟨27, _⟩ => ⟨S1024x1024, .f32⟩
  | .hbm, ⟨28, _⟩ => ⟨S16896x1024, .f32⟩
  | .hbm, ⟨29, _⟩ => ⟨S1x1024, .f32⟩
  | .hbm, ⟨30, _⟩ => ⟨S1024, .f32⟩
  | .hbm, ⟨31, _⟩ => ⟨S16896x1024, .f32⟩
  | .hbm, ⟨32, _⟩ => ⟨S_, .f32⟩
  | .hbm, ⟨33, _⟩ => ⟨S16896, .f32⟩
  | .hbm, ⟨34, _⟩ => ⟨S16896x1, .f32⟩
  | .hbm, ⟨35, _⟩ => ⟨S_, .f32⟩
  | .hbm, ⟨36, _⟩ => ⟨S16896x1, .f32⟩
  | .hbm, ⟨37, _⟩ => ⟨S16896x1, .f32⟩
  | .hbm, ⟨38, _⟩ => ⟨S_, .f32⟩
  | .hbm, ⟨39, _⟩ => ⟨S16896x1, .f32⟩
  | .hbm, ⟨40, _⟩ => ⟨S16896x1, .f32⟩
  | .hbm, ⟨41, _⟩ => ⟨S16896x1, .f32⟩
  | .hbm, ⟨42, _⟩ => ⟨S16896x1024, .f32⟩
  | .hbm, ⟨43, _⟩ => ⟨S16896x1024, .f32⟩
  | .hbm, ⟨44, _⟩ => ⟨S1x1024, .f32⟩
  | .hbm, ⟨45, _⟩ => ⟨S16896x1024, .f32⟩
  | .hbm, ⟨46, _⟩ => ⟨S16896x1024, .f32⟩
  | .hbm, ⟨47, _⟩ => ⟨S16896x1024, .f32⟩
  | .hbm, ⟨48, _⟩ => ⟨S1x1024, .f32⟩
  | .hbm, ⟨49, _⟩ => ⟨S1024, .f32⟩
  | .hbm, ⟨50, _⟩ => ⟨S16896x1024, .f32⟩
  | .hbm, ⟨51, _⟩ => ⟨S_, .f32⟩
  | .hbm, ⟨52, _⟩ => ⟨S16896, .f32⟩
  | .hbm, ⟨53, _⟩ => ⟨S16896x1, .f32⟩
  | .hbm, ⟨54, _⟩ => ⟨S_, .f32⟩
  | .hbm, ⟨55, _⟩ => ⟨S16896x1, .f32⟩
  | .hbm, ⟨56, _⟩ => ⟨S16896x1, .f32⟩
  | .hbm, ⟨57, _⟩ => ⟨S_, .f32⟩
  | .hbm, ⟨58, _⟩ => ⟨S16896x1, .f32⟩
  | .hbm, ⟨59, _⟩ => ⟨S16896x1, .f32⟩
  | .hbm, ⟨60, _⟩ => ⟨S16896x1, .f32⟩
  | .hbm, ⟨61, _⟩ => ⟨S16896x1024, .f32⟩
  | .hbm, ⟨62, _⟩ => ⟨S16896x1024, .f32⟩
  | .hbm, ⟨63, _⟩ => ⟨S1x1024, .f32⟩
  | .hbm, ⟨64, _⟩ => ⟨S16896x1024, .f32⟩
  | .hbm, ⟨65, _⟩ => ⟨S16896x1024, .f32⟩
  | .hbm, ⟨66, _⟩ => ⟨S1x1024x4096, .f32⟩
  | .hbm, ⟨67, _⟩ => ⟨S1024x4096, .f32⟩
  | .hbm, ⟨68, _⟩ => ⟨S16896x4096, .f32⟩
  | .hbm, ⟨69, _⟩ => ⟨S_, .f32⟩
  | .hbm, ⟨70, _⟩ => ⟨S16896x4096, .f32⟩
  | .hbm, ⟨71, _⟩ => ⟨S16896x4096, .f32⟩
  | .hbm, ⟨72, _⟩ => ⟨S16896x4096, .f32⟩
  | .hbm, ⟨73, _⟩ => ⟨S1x4096x1024, .f32⟩
  | .hbm, ⟨74, _⟩ => ⟨S4096x1024, .f32⟩
  | .hbm, ⟨75, _⟩ => ⟨S16896x1024, .f32⟩
  | .hbm, ⟨76, _⟩ => ⟨S1x1024, .f32⟩
  | .hbm, ⟨77, _⟩ => ⟨S1024, .f32⟩
  | .hbm, ⟨78, _⟩ => ⟨S16896x1024, .f32⟩
  | .hbm, ⟨79, _⟩ => ⟨S_, .f32⟩
  | .hbm, ⟨80, _⟩ => ⟨S16896, .f32⟩
  | .hbm, ⟨81, _⟩ => ⟨S16896x1, .f32⟩
  | .hbm, ⟨82, _⟩ => ⟨S_, .f32⟩
  | .hbm, ⟨83, _⟩ => ⟨S16896x1, .f32⟩
  | .hbm, ⟨84, _⟩ => ⟨S16896x1, .f32⟩
  | .hbm, ⟨85, _⟩ => ⟨S_, .f32⟩
  | .hbm, ⟨86, _⟩ => ⟨S16896x1, .f32⟩
  | .hbm, ⟨87, _⟩ => ⟨S16896x1, .f32⟩
  | .hbm, ⟨88, _⟩ => ⟨S16896x1, .f32⟩
  | .hbm, ⟨89, _⟩ => ⟨S16896x1024, .f32⟩
  | .hbm, ⟨90, _⟩ => ⟨S16896x1024, .f32⟩
  | .hbm, ⟨91, _⟩ => ⟨S1x1024, .f32⟩
  | .hbm, ⟨92, _⟩ => ⟨S16896x1024, .f32⟩
  | .hbm, ⟨93, _⟩ => ⟨S16896x1024, .f32⟩
  | .hbm, ⟨94, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_cst_6 : Ref sig .tc := ⟨.hbm, 82, rfl⟩
abbrev main_v60 : Ref sig .tc := ⟨.hbm, 83, rfl⟩
abbrev main_v61 : Ref sig .tc := ⟨.hbm, 84, rfl⟩
abbrev main_cst_7 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== KernelPrompt.lean ====
abbrev S16896x512 : Shape := ⟨2, ![16896, 512]⟩
abbrev S4x128 : Shape := ⟨2, ![4, 128]⟩
abbrev S1x128 : Shape := ⟨2, ![1, 128]⟩
abbrev S128 : Shape := ⟨1, ![128]⟩
abbrev S16384x512 : Shape := ⟨2, ![16384, 512]⟩
abbrev S4x4x128x128 : Shape := ⟨4, ![4, 4, 128, 128]⟩
abbrev S512x128 : Shape := ⟨2, ![512, 128]⟩
abbrev S1x1x128x128 : Shape := ⟨4, ![1, 1, 128, 128]⟩
abbrev S128x128 : Shape := ⟨2, ![128, 128]⟩
abbrev S64x64 : Shape := ⟨2, ![64, 64]⟩
abbrev S64x128 : Shape := ⟨2, ![64, 128]⟩
abbrev S16x128 : Shape := ⟨2, ![16, 128]⟩
abbrev S256x128 : Shape := ⟨2, ![256, 128]⟩
abbrev S16x16 : Shape := ⟨2, ![16, 16]⟩
abbrev S32x128 : Shape := ⟨2, ![32, 128]⟩
abbrev S16x32 : Shape := ⟨2, ![16, 32]⟩
abbrev S48x128 : Shape := ⟨2, ![48, 128]⟩
abbrev S16x48 : Shape := ⟨2, ![16, 48]⟩
abbrev S128x64 : Shape := ⟨2, ![128, 64]⟩
abbrev S64 : Shape := ⟨1, ![64]⟩
abbrev S64x1 : Shape := ⟨2, ![64, 1]⟩

abbrev nBuf : Space → Nat
  | .hbm => 11
  | .vmem => 16
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .f32⟩
  | .hbm, ⟨4, _⟩ => ⟨S16896x512, .bf16⟩
  | .hbm, ⟨5, _⟩ => ⟨S4x128, .f32⟩
  | .hbm, ⟨6, _⟩ => ⟨S1x128, .f32⟩
  | .hbm, ⟨7, _⟩ => ⟨S128, .f32⟩
  | .hbm, ⟨8, _⟩ => ⟨S1x128, .f32⟩
  | .hbm, ⟨9, _⟩ => ⟨S16384x512, .bf16⟩
  | .hbm, ⟨10, _⟩ => ⟨S4x4x128x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S1x1x128x128, .f32⟩
  | .local _ .vmem, ⟨14, _⟩ => ⟨S1x1x128x128, .f32⟩
  | .local _ .vmem, ⟨15, _⟩ => ⟨S128x128, .f32⟩
  | _, _ => ⟨S16896x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 4, 8], ![false, false, false]⟩

@[reducible] def k0_t1_loop : Scf.Loop 32 :=
  let c0_i32_4 : BitVec 32 := 0#32
  let c8_i32 : BitVec 32 := 8#32
  let v12 : BitVec 32 := Scalar.addi c0_i32_4 c8_i32
  let c1_i32 : BitVec 32 := 1#32
  ⟨c0_i32_4, v12, c1_i32⟩
def k0_mult1 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c64_i32 : BitVec 32 := 64#32
  let v20 : BitVec 32 := Scalar.muli arg12 c64_i32
  v20
def k0_off1 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c64_i32 : BitVec 32 := 64#32
  let v20 : BitVec 32 := Scalar.muli arg12 c64_i32
  let v21 : BitVec 32 := v20
  let v22 : Index := Scalar.indexCast v21
  let c0_9 : Index := 0#32
  ![v22.toNat, 0]
def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferencePromptIdeal.lean ====
abbrev S16896x512 : Shape := ⟨2, ![16896, 512]⟩
abbrev S4x128 : Shape := ⟨2, ![4, 128]⟩
abbrev S16384x512 : Shape := ⟨2, ![16384, 512]⟩
abbrev S4x64x64x4x128 : Shape := ⟨5, ![4, 64, 64, 4, 128]⟩
abbrev S64x4x64x4x128 : Shape := ⟨5, ![64, 4, 64, 4, 128]⟩
abbrev S_ : Shape := ⟨0, ![]⟩
abbrev S4x4x128x128 : Shape := ⟨4, ![4, 4, 128, 128]⟩
abbrev S1x4x64x4x128 : Shape := ⟨5, ![1, 4, 64, 4, 128]⟩
abbrev S4x64x4x128 : Shape := ⟨4, ![4, 64, 4, 128]⟩
abbrev S4x1x4x128 : Shape := ⟨4, ![4, 1, 4, 128]⟩
abbrev S4x4x128 : Shape := ⟨3, ![4, 4, 128]⟩
abbrev S4x4x128x1 : Shape := ⟨4, ![4, 4, 128, 1]⟩

abbrev nBuf : Space → Nat
  | .hbm => 63
  | .vmem => 0
  | .smem => 0
  | _ => 0

abbrev bufTy : (tb : Table) → Fin (tcTables nBuf tb) → BufTy
  | .hbm, ⟨0, _⟩ => ⟨S16896x512, .bf16⟩
  | .hbm, ⟨1, _⟩ => ⟨S16896x512, .bf16⟩
  | .hbm, ⟨2, _⟩ => ⟨S16896x512, .bf16⟩
  | .hbm, ⟨3, _⟩ => ⟨S16896x512, .f32⟩
  | .hbm, ⟨4, _⟩ => ⟨S16896x512, .bf16⟩
  | .hbm, ⟨5, _⟩ => ⟨S4x128, .f32⟩
  | .hbm, ⟨6, _⟩ => ⟨S16384x512, .bf16⟩
  | .hbm, ⟨7, _⟩ => ⟨S16384x512, .f32⟩
  | .hbm, ⟨8, _⟩ => ⟨S4x64x64x4x128, .f32⟩
  | .hbm, ⟨9, _⟩ => ⟨S64x4x64x4x128, .f32⟩
  | .hbm, ⟨10, _⟩ => ⟨S16384x512, .bf16⟩
  | .hbm, ⟨11, _⟩ => ⟨S16384x512, .f32⟩
  | .hbm, ⟨12, _⟩ => ⟨S4x64x64x4x128, .f32⟩
  | .hbm, ⟨13, _⟩ => ⟨S64x4x64x4x128, .f32⟩
  | .hbm, ⟨14, _⟩ => ⟨S16384x512, .f32⟩
  | .hbm, ⟨15, _⟩ => ⟨S4x64x64x4x128, .f32⟩
  | .hbm, ⟨16, _⟩ => ⟨S64x4x64x4x128, .f32⟩
  | .hbm, ⟨17, _⟩ => ⟨S_, .f32⟩
  | .hbm, ⟨18, _⟩ => ⟨S4x4x128x128, .f32⟩
  | .hbm, ⟨19, _⟩ => ⟨S_, .i32⟩
  | .hbm, ⟨20, _⟩ => ⟨S64x4x64x4x128, .f32⟩
  | .hbm, ⟨21, _⟩ => ⟨S64x4x64x4x128, .f32⟩
  | .hbm, ⟨22, _⟩ => ⟨S64x4x64x4x128, .f32⟩
  | .hbm, ⟨23, _⟩ => ⟨S_, .i32⟩
  | .hbm, ⟨24, _⟩ => ⟨S4x4x128x128, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x4x64x4x128, .f32⟩
  | .hbm, ⟨32, _⟩ => ⟨S4x64x4x128, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x64x4x128, .f32⟩
  | .hbm, ⟨38, _⟩ => ⟨S4x64x4x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x64x4x128, .f32⟩
  | .hbm, ⟨44, _⟩ => ⟨S4x64x4x128, .f32⟩
  | .hbm, ⟨45, _⟩ => ⟨S_, .f32⟩
  | .hbm, ⟨46, _⟩ => ⟨S_, .f32⟩
  | .hbm, ⟨47, _⟩ => ⟨S4x64x4x128, .f32⟩
  | .hbm, ⟨48, _⟩ => ⟨S4x1x4x128, .f32⟩
  | .hbm, ⟨49, _⟩ => ⟨S4x4x128, .f32⟩
  | .hbm, ⟨50, _⟩ => ⟨S4x4x128, .f32⟩
  | .hbm, ⟨51, _⟩ => ⟨S4x4x128x1, .f32⟩
  | .hbm, ⟨52, _⟩ => ⟨S4x4x128x128, .f32⟩
  | .hbm, ⟨53, _⟩ => ⟨S4x4x128x128, .f32⟩
  | .hbm, ⟨54, _⟩ => ⟨S4x1x4x128, .f32⟩
  | .hbm, ⟨55, _⟩ => ⟨S4x64x4x128, .f32⟩
  | .hbm, ⟨56, _⟩ => ⟨S4x64x4x128, .f32⟩
  | .hbm, ⟨57, _⟩ => ⟨S4x64x4x128, .f32⟩
  | .hbm, ⟨58, _⟩ => ⟨S4x64x4x128, .f32⟩
  | .hbm, ⟨59, _⟩ => ⟨S4x4x128x128, .f32⟩
  | .hbm, ⟨60, _⟩ => ⟨S4x4x128x128, .f32⟩
  | .hbm, ⟨61, _⟩ => ⟨S_, .i32⟩
  | .hbm, ⟨62, _⟩ => ⟨S_, .i32⟩
  | _, _ => ⟨S16896x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_while0c_c_4 : Ref sig .tc := ⟨.hbm, 25, rfl⟩
abbrev main_while0c_v13 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_c_2 : Ref sig .tc := ⟨.hbm, 30, rfl⟩
abbrev main_while0b_call0_v0 : Ref sig .tc := ⟨.hbm, 31, rfl⟩
abbrev main_while0b_v13 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_c_2 : Ref sig .tc := ⟨.hbm, 36, rfl⟩
abbrev main_while0b_call1_v0 : Ref sig .tc := ⟨.hbm, 37, rfl⟩
abbrev main_while0b_v14 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_c_2 : Ref sig .tc := ⟨.hbm, 42, rfl⟩
abbrev main_while0b_call2_v0 : Ref sig .tc := ⟨.hbm, 43, rfl⟩
abbrev main_while0b_v15 : Ref sig .tc := ⟨.hbm, 44, rfl⟩
abbrev main_while0b_call3_call0_cst : Ref sig .tc := ⟨.hbm, 45, rfl⟩
abbrev main_while0b_call3_call0_v0 : Ref sig .tc := ⟨.hbm, 46, rfl⟩
abbrev main_while0b_v16 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_v28 : Ref sig .tc := ⟨.hbm, 59, rfl⟩
abbrev main_while0b_v29 : Ref sig .tc := ⟨.hbm, 60, rfl⟩
abbrev main_while0b_c_4 : Ref sig .tc := ⟨.hbm, 61, rfl⟩
abbrev main_while0b_v30 : Ref sig .tc := ⟨.hbm, 62, rfl⟩

abbrev nD : Nat := 1
abbrev τ : Topo := Topo.v7x

variable {F : FTy → Type} [FloatOps F]

abbrev main_while0_count : Scf.Loop 32 := ⟨0#32, 64#32, 1#32⟩
-- ==== Proof.HgrnFrame.lean ====
/-
  The recurrence reference: its arguments end unchanged.
-/
module

public import proofs.«01_k».proof.Defs
public import proofs.«01_k».proof.Proof.Gen.ReferenceIdeal.Run
public import Idealize.ShloMosaic.Lib.Claim

@[expose] public section

noncomputable section

namespace Cert.Proof

open Idealize.ShloMosaic Idealize.ShloMosaic.TcCoe Idealize.SL.Sem

/-- The reference's arguments end unchanged; it has no semaphore. -/
theorem frame_reference_hgrn : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

end Cert.Proof
-- ==== Proof.HgrnMath.lean ====
/-
  The gated linear recurrence of one head over the four tokens of one sequence, as plain functions of extended reals: the
  running sum of the log decays, the outputs of the four tokens and the state after them.
-/
module

public import Idealize.ShloMosaic.Lib.Pointwise
public import Idealize.ShloMosaic.PureOps.Ideal.Laws

@[expose] public section

noncomputable section

namespace Cert.HgrnMath

open Idealize.ShloMosaic Idealize.ShloMosaic.TcCoe
open scoped BigOperators

/-- One entry of a state block as the kernel stores it: `d` is the decay over the sequence, `s` the old entry, `C` the
    sequence each of the 64 tokens belongs to, `n` the sequence stored. -/
def stored (C : Fin 64 → BitVec 32) (K : Fin 64 → EReal) (d : EReal) (W : Fin 64 → EReal) (s : EReal) (n : BitVec 32) : EReal :=
  d * s + ∑ x : Fin 64, Scalar.select (IntOp.cmpi .eq (C x) n) (K x) 0 * W x

/-- The row `n` before row `c`, counted round the 64 rows of a block. -/
def back (c : Fin 64) (n : Nat) : Fin 64 := ⟨(c.val + 64 - n) % 64, Nat.mod_lt _ (by decide)⟩

/-- What row `c` takes from the row `n` before it: weight times value, the weight's exponent replaced by `big` where the
    token number `T` is below `w`. -/
def lag (big : EReal) (T : Fin 64 → Fin 128 → BitVec 32) (q k v b : Fin 64 → Fin 128 → EReal) (n : Nat) (w : BitVec 32)
    (c : Fin 64) (j : Fin 128) : EReal :=
  (∑ x : Fin 128, q c x * k (back c n) x
      * Ideal.exp (Scalar.select (IntOp.cmpi .sge (T c x) w) (b c x - b (back c n) x) big)) * v (back c n) j

/-- What row `c` takes from itself and the three rows before it. -/
def among (big : EReal) (T : Fin 64 → Fin 128 → BitVec 32) (q k v b : Fin 64 → Fin 128 → EReal) (c : Fin 64) (j : Fin 128) :
    EReal :=
  (∑ x : Fin 128, q c x * k c x * Ideal.exp (b c x - b c x)) * v c j
    + lag big T q k v b 1 1#32 c j + lag big T q k v b 2 2#32 c j + lag big T q k v b 3 3#32 c j

/-- One of four values, by a number; zero for other numbers. -/
def pick (w : BitVec 32) (a0 a1 a2 a3 : EReal) : EReal :=
  Scalar.select (IntOp.cmpi .eq w 3#32) a3 (Scalar.select (IntOp.cmpi .eq w 2#32) a2
    (Scalar.select (IntOp.cmpi .eq w 1#32) a1 (Scalar.select (IntOp.cmpi .eq w 0#32) a0 0)))

/-- Four groups of 16 rows, one below the other. -/
def four (f0 f1 f2 f3 : Fin 16 → EReal) (c : Fin 64) : EReal :=
  if h : c.val < 16 then f0 ⟨c.val, h⟩
  else if h : c.val - 16 < 16 then f1 ⟨c.val - 16, h⟩
  else if h : c.val - 16 - 16 < 16 then f2 ⟨c.val - 16 - 16, h⟩
  else f3 ⟨c.val - 16 - 16 - 16, by omega⟩

/-- What row `r` of a group of 16 rows, beginning at row `o`, reads of the old states of its four sequences. -/
def inter (G : Fin 16 → Fin 128 → BitVec 32) (E : Fin 64 → Fin 128 → EReal) (S0 S1 S2 S3 : Fin 128 → Fin 128 → EReal)
    (o : Fin 49) (j : Fin 128) (r : Fin 16) : EReal :=
  pick (G r j) (∑ x : Fin 128, E ⟨o.val + r.val, by omega⟩ x * S0 x j) (∑ x : Fin 128, E ⟨o.val + r.val, by omega⟩ x * S1 x j)
    (∑ x : Fin 128, E ⟨o.val + r.val, by omega⟩ x * S2 x j) (∑ x : Fin 128, E ⟨o.val + r.val, by omega⟩ x * S3 x j)

/-- The gated norm of a row of 128 entries: over the root of the mean of squares, times the weights, times the gate. -/
def gated (o n g : Fin 128 → EReal) (j : Fin 128) : EReal :=
  o j * Ideal.rsqrt (Ideal.div (∑ x : Fin 128, o x * o x) (Ideal.ofBits .f32 0x43000000#32) + Ideal.ofBits .f32 0x358637BD#32)
    * n j * g j

/-- One head's rows of a block, as the kernel computes them. -/
def rows (big : EReal) (T : Fin 64 → Fin 128 → BitVec 32) (G : Fin 16 → Fin 128 → BitVec 32)
    (q k v b : Fin 64 → Fin 128 → EReal) (S : Fin 16 → Fin 128 → Fin 128 → EReal) (n : Fin 128 → EReal)
    (g : Fin 64 → Fin 128 → EReal) (c : Fin 64) (j : Fin 128) : EReal :=
  gated (fun j => among big T q k v b c j
      + four (inter G (fun c x => q c x * Ideal.exp (b c x)) (S 0) (S 1) (S 2) (S 3) 0 j)
          (inter G (fun c x => q c x * Ideal.exp (b c x)) (S 4) (S 5) (S 6) (S 7) 16 j)
          (inter G (fun c x => q c x * Ideal.exp (b c x)) (S 8) (S 9) (S 10) (S 11) 32 j)
          (inter G (fun c x => q c x * Ideal.exp (b c x)) (S 12) (S 13) (S 14) (S 15) 48 j) c)
    n (g c) j

end Cert.HgrnMath
-- ==== Proof.HgrnSeq.lean ====
/-
  The four tokens of one sequence: the recurrence's outputs and its last state, and the proof that what the kernel forms
  over a block of 64 rows is that, sequence by sequence.
-/
module

public import proofs.«01_k».proof.Proof.HgrnMath

@[expose] public section

noncomputable section

namespace Cert.HgrnMath

open Idealize.ShloMosaic Idealize.ShloMosaic.TcCoe
open scoped BigOperators

/-- The log decays summed up to token `t`. -/
def cum (lf : Fin 4 → Fin 128 → EReal) (t : Fin 4) (i : Fin 128) : EReal := ∑ s : Fin 4, if s ≤ t then lf s i else 0

/-- The state after the four tokens: the old state decayed, plus each token's outer product, decayed from that token on. -/
def after (k v lf : Fin 4 → Fin 128 → EReal) (S : Fin 128 → Fin 128 → EReal) (i j : Fin 128) : EReal :=
  Ideal.exp (cum lf 3 i) * S i j + ∑ s : Fin 4, k s i * Ideal.exp (cum lf 3 i - cum lf s i) * v s j

/-- What token `t` reads: the old state through its decayed query, and the values of the tokens up to itself. -/
def reads (q k v lf : Fin 4 → Fin 128 → EReal) (S : Fin 128 → Fin 128 → EReal) (t : Fin 4) (j : Fin 128) : EReal :=
  (∑ i : Fin 128, q t i * Ideal.exp (cum lf t i) * S i j)
    + ∑ s : Fin 4, (if s ≤ t then ∑ i : Fin 128, q t i * k s i * Ideal.exp (cum lf t i - cum lf s i) else 0) * v s j

/-- Token `t` of sequence `n` as a row of the block. -/
def row (n : Fin 16) (t : Fin 4) : Fin 64 := ⟨4 * n.val + t.val, by omega⟩

/-- A sum over the rows of a block is the sum over its sequences of the sums over their tokens. -/
theorem sum_rows (f : Fin 64 → EReal) : ∑ x : Fin 64, f x = ∑ n : Fin 16, ∑ t : Fin 4, f (row n t) := by
  have e : ∑ x : Fin 64, f x = ∑ p : Fin 16 × Fin 4, f (row p.1 p.2) := by
    refine (Fintype.sum_equiv (finProdFinEquiv (m := 16) (n := 4)) (fun p => f (row p.1 p.2)) f (fun p => ?_)).symm
    refine congrArg f (Fin.ext ?_)
    show 4 * p.1.val + p.2.val = p.2.val + 4 * p.1.val
    omega
  rw [e, Fintype.sum_prod_type]

/-- Row `4 n + t` is of sequence `n`, token `t`. -/
theorem row_div (n : Fin 16) (t : Fin 4) : (row n t).val / 4 = n.val := by
  show (4 * n.val + t.val) / 4 = n.val
  omega

/-- A sum over the rows that keeps one sequence's is the sum over that sequence's tokens. -/
theorem sum_one (n : Fin 16) (f : Fin 16 → Fin 4 → EReal) :
    (∑ m : Fin 16, ∑ s : Fin 4, if n = m then f m s else 0) = ∑ s : Fin 4, f n s := by
  rw [Finset.sum_comm]
  exact Finset.sum_congr rfl fun s _ => by rw [Finset.sum_ite_eq]; simp

/-- A 0/1 matrix of running sums within the sequences, applied to the rows. -/
theorem tril_sum (lf : Fin 64 → Fin 128 → EReal) (n : Fin 16) (t : Fin 4) (i : Fin 128) :
    (∑ e : Fin 64, (if (row n t).val / 4 = e.val / 4 ∧ e.val ≤ (row n t).val then (1 : EReal) else 0) * lf e i)
      = cum (fun s => lf (row n s)) t i := by
  rw [sum_rows]
  refine Eq.trans ?_ (sum_one n fun m s => if s ≤ t then lf (row m s) i else 0)
  refine Finset.sum_congr rfl fun m _ => Finset.sum_congr rfl fun s _ => ?_
  rw [row_div, row_div]
  by_cases h : n = m
  · subst h
    have e : ((row n s).val ≤ (row n t).val) = (s ≤ t) := by
      show (4 * n.val + s.val ≤ 4 * n.val + t.val) = (s.val ≤ t.val)
      exact propext ⟨fun h => by omega, fun h => by omega⟩
    simp only [true_and, if_true, e]
    by_cases g : s ≤ t <;> simp [g]
  · have h' : ¬ n.val = m.val := fun e => h (Fin.ext e)
    simp [h, h']

/-- A 0/1 matrix of whole sums within the sequences, applied to the rows. -/
theorem all_sum (lf : Fin 64 → Fin 128 → EReal) (n : Fin 16) (t : Fin 4) (i : Fin 128) :
    (∑ e : Fin 64, (if (row n t).val / 4 = e.val / 4 then (1 : EReal) else 0) * lf e i)
      = cum (fun s => lf (row n s)) 3 i := by
  rw [sum_rows]
  refine Eq.trans ?_ (sum_one n fun m s => if s ≤ 3 then lf (row m s) i else 0)
  refine Finset.sum_congr rfl fun m _ => Finset.sum_congr rfl fun s _ => ?_
  rw [row_div, row_div]
  have g : s ≤ 3 := Fin.le_last s
  by_cases h : n = m
  · subst h
    simp [g]
  · have h' : ¬ n.val = m.val := fun e => h (Fin.ext e)
    simp [h, h']

/-- A select on the equality of two words is an `if`. -/
theorem select_word (a b : BitVec 32) (p q : EReal) :
    Scalar.select (IntOp.cmpi .eq a b) p q = if a = b then p else q := by
  show Scalar.select (BitVec.ofBool (a == b)) p q = _
  by_cases h : a = b
  · rw [if_pos h, h, beq_self_eq_true]; rfl
  · rw [if_neg h, beq_false_of_ne h]; rfl

/-- What the kernel stores for a sequence is the state after its four tokens. -/
theorem stored_eq (k v lf : Fin 64 → Fin 128 → EReal) (S : Fin 128 → Fin 128 → EReal) (i j : Fin 128) (n : Fin 16)
    (C : Fin 64 → BitVec 32) (K W : Fin 64 → EReal) (d s : EReal)
    (hC : ∀ x, C x = BitVec.ofNat 32 (x.val / 4))
    (hK : ∀ m t, K (row m t) = k (row m t) i
      * Ideal.exp (cum (fun s => lf (row m s)) 3 i - cum (fun s => lf (row m s)) t i))
    (hW : ∀ x, W x = v x j) (hd : d = Ideal.exp (cum (fun s => lf (row n s)) 3 i)) (hs : s = S i j) :
    stored C K d W s (BitVec.ofNat 32 n.val)
      = after (fun t => k (row n t)) (fun t => v (row n t)) (fun t => lf (row n t)) S i j := by
  unfold stored after
  rw [hd, hs, sum_rows]
  refine congrArg (fun z : EReal => Ideal.exp (cum (fun s => lf (row n s)) 3 i) * S i j + z) ?_
  refine Eq.trans ?_ (sum_one n fun m t => K (row m t) * v (row m t) j) |>.trans ?_
  · refine Finset.sum_congr rfl fun m _ => Finset.sum_congr rfl fun t _ => ?_
    rw [select_word, hC, hW, row_div]
    by_cases h : n = m
    · subst h; simp
    · have h' : ¬ (BitVec.ofNat 32 m.val = BitVec.ofNat 32 n.val) := by
        have g : ∀ n m : Fin 16, ¬ n = m → ¬ (BitVec.ofNat 32 m.val = BitVec.ofNat 32 n.val) := by decide
        exact g n m h
      rw [if_neg h', if_neg h, zero_mul]
  · refine Finset.sum_congr rfl fun t _ => ?_
    rw [hK]

/-- A row's value at a distance within its sequence. -/
theorem lag_in (T : Fin 64 → Fin 128 → BitVec 32) (hT : ∀ c x, T c x = BitVec.ofNat 32 (c.val % 4))
    (big : EReal) (q k v b : Fin 64 → Fin 128 → EReal) (n : Fin 16) (s t d : Fin 4) (h : t.val = s.val + d.val) (j : Fin 128) :
    lag big T q k v b d.val (BitVec.ofNat 32 d.val) (row n t) j
      = (∑ i : Fin 128, q (row n t) i * k (row n s) i * Ideal.exp (b (row n t) i - b (row n s) i)) * v (row n s) j := by
  have e : back (row n t) d.val = row n s := Fin.ext (by
    show (4 * n.val + t.val + 64 - d.val) % 64 = 4 * n.val + s.val
    omega)
  have c : ∀ x, IntOp.cmpi .sge (T (row n t) x) (BitVec.ofNat 32 d.val) = 1#1 := by
    intro x
    rw [hT, show (row n t).val % 4 = t.val from by show (4 * n.val + t.val) % 4 = t.val; omega]
    have g : ∀ t d : Fin 4, d ≤ t → IntOp.cmpi .sge (BitVec.ofNat 32 t.val) (BitVec.ofNat 32 d.val) = 1#1 := by decide
    exact g t d (show d.val ≤ t.val by omega)
  unfold lag
  rw [e]
  refine congrArg (fun z : EReal => z * v (row n s) j) (Finset.sum_congr rfl fun i _ => ?_)
  rw [c]
  rfl

/-- A row's value at a distance that leaves its sequence is zero: the exponent is minus infinity. -/
theorem lag_out (T : Fin 64 → Fin 128 → BitVec 32) (hT : ∀ c x, T c x = BitVec.ofNat 32 (c.val % 4))
    (q k v b : Fin 64 → Fin 128 → EReal) (n : Fin 16) (t d : Fin 4) (h : t.val < d.val) (j : Fin 128) :
    lag ⊥ T q k v b d.val (BitVec.ofNat 32 d.val) (row n t) j = 0 := by
  have c : ∀ x, IntOp.cmpi .sge (T (row n t) x) (BitVec.ofNat 32 d.val) = 0#1 := by
    intro x
    rw [hT, show (row n t).val % 4 = t.val from by show (4 * n.val + t.val) % 4 = t.val; omega]
    have g : ∀ t d : Fin 4, t < d → IntOp.cmpi .sge (BitVec.ofNat 32 t.val) (BitVec.ofNat 32 d.val) = 0#1 := by decide
    exact g t d h
  unfold lag
  refine (congrArg (fun z : EReal => z * v (back (row n t) d.val) j) (Finset.sum_eq_zero fun i _ => ?_)).trans (zero_mul _)
  rw [c]
  show q (row n t) i * k (back (row n t) d.val) i * Ideal.exp ⊥ = 0
  rw [Ideal.exp_bot, mul_zero]

/-- What a row takes from itself and the rows before it in its block is the sum over the tokens up to it in its sequence. -/
theorem among_eq (T : Fin 64 → Fin 128 → BitVec 32) (hT : ∀ c x, T c x = BitVec.ofNat 32 (c.val % 4))
    (q k v b : Fin 64 → Fin 128 → EReal) (n : Fin 16) (t : Fin 4) (j : Fin 128) :
    among ⊥ T q k v b (row n t) j
      = ∑ s : Fin 4, (if s ≤ t then ∑ i : Fin 128, q (row n t) i * k (row n s) i * Ideal.exp (b (row n t) i - b (row n s) i)
          else 0) * v (row n s) j := by
  unfold among
  rw [Fin.sum_univ_four]
  have e1 := lag_in T hT ⊥ q k v b n
  have o := lag_out T hT q k v b n t
  match t with
  | 0 =>
    rw [show lag ⊥ T q k v b 1 1#32 (row n 0) j = 0 from o 1 (by decide) j,
      show lag ⊥ T q k v b 2 2#32 (row n 0) j = 0 from o 2 (by decide) j,
      show lag ⊥ T q k v b 3 3#32 (row n 0) j = 0 from o 3 (by decide) j]
    rw [if_pos (by decide), if_neg (by decide), if_neg (by decide), if_neg (by decide)]
    simp only [zero_mul, add_zero]
  | 1 =>
    rw [show lag ⊥ T q k v b 1 1#32 (row n 1) j = _ from e1 0 1 1 (by decide) j,
      show lag ⊥ T q k v b 2 2#32 (row n 1) j = 0 from o 2 (by decide) j,
      show lag ⊥ T q k v b 3 3#32 (row n 1) j = 0 from o 3 (by decide) j]
    rw [if_pos (by decide), if_pos (by decide), if_neg (by decide), if_neg (by decide)]
    simp only [zero_mul, add_zero]
    ac_rfl
  | 2 =>
    rw [show lag ⊥ T q k v b 1 1#32 (row n 2) j = _ from e1 1 2 1 (by decide) j,
      show lag ⊥ T q k v b 2 2#32 (row n 2) j = _ from e1 0 2 2 (by decide) j,
      show lag ⊥ T q k v b 3 3#32 (row n 2) j = 0 from o 3 (by decide) j]
    rw [if_pos (by decide), if_pos (by decide), if_pos (by decide), if_neg (by decide)]
    simp only [zero_mul, add_zero]
    ac_rfl
  | 3 =>
    rw [show lag ⊥ T q k v b 1 1#32 (row n 3) j = _ from e1 2 3 1 (by decide) j,
      show lag ⊥ T q k v b 2 2#32 (row n 3) j = _ from e1 1 3 2 (by decide) j,
      show lag ⊥ T q k v b 3 3#32 (row n 3) j = _ from e1 0 3 3 (by decide) j]
    rw [if_pos (by decide), if_pos (by decide), if_pos (by decide), if_pos (by decide)]
    ac_rfl

/-- Row `4 n + t` of the four groups reads the old state of sequence `n`. -/
theorem four_inter (E : Fin 64 → Fin 128 → EReal) (S : Fin 16 → Fin 128 → Fin 128 → EReal) (j : Fin 128) (n : Fin 16) (t : Fin 4) :
    four (inter (fun r _ => BitVec.ofNat 32 (r.val / 4)) E (S 0) (S 1) (S 2) (S 3) 0 j)
        (inter (fun r _ => BitVec.ofNat 32 (r.val / 4)) E (S 4) (S 5) (S 6) (S 7) 16 j)
        (inter (fun r _ => BitVec.ofNat 32 (r.val / 4)) E (S 8) (S 9) (S 10) (S 11) 32 j)
        (inter (fun r _ => BitVec.ofNat 32 (r.val / 4)) E (S 12) (S 13) (S 14) (S 15) 48 j) (row n t)
      = ∑ i : Fin 128, E (row n t) i * S n i j := by
  fin_cases n <;> fin_cases t <;> rfl

/-- The kernel's row of a sequence's token is the gated norm of what that token reads. -/
theorem rows_eq (T : Fin 64 → Fin 128 → BitVec 32) (hT : ∀ c x, T c x = BitVec.ofNat 32 (c.val % 4))
    (G : Fin 16 → Fin 128 → BitVec 32) (hG : ∀ r x, G r x = BitVec.ofNat 32 (r.val / 4))
    (q k v lf b : Fin 64 → Fin 128 → EReal) (hb : ∀ n t i, b (row n t) i = cum (fun s => lf (row n s)) t i)
    (S : Fin 16 → Fin 128 → Fin 128 → EReal) (w : Fin 128 → EReal) (g : Fin 64 → Fin 128 → EReal) (n : Fin 16) (t : Fin 4)
    (j : Fin 128) :
    rows ⊥ T G q k v b S w g (row n t) j
      = gated (reads (fun t => q (row n t)) (fun t => k (row n t)) (fun t => v (row n t)) (fun t => lf (row n t)) (S n) t)
          w (g (row n t)) j := by
  have e : G = fun r _ => BitVec.ofNat 32 (r.val / 4) := funext fun r => funext fun x => hG r x
  unfold rows
  refine congrArg (fun o => gated o w (g (row n t)) j) (funext fun j => ?_)
  rw [e, four_inter, among_eq T hT]
  unfold reads
  simp only [hb]
  exact add_comm _ _

end Cert.HgrnMath
-- ==== Proof.HgrnAt.lean ====
/-
  The recurrence's two results as functions of the whole argument arrays: what token `t` of sequence `b` yields in head `h`,
  and the state of sequence `b` and head `h` after its four tokens.
-/
module

public import proofs.«01_k».proof.Proof.HgrnSeq

@[expose] public section

noncomputable section

namespace Cert.HgrnMath

open Idealize.ShloMosaic Idealize.ShloMosaic.TcCoe

/-- Token `t` of sample sequence `b` as a row of the argument arrays: the sample rows follow the 16384 prompt rows. -/
def token (b : Fin 128) (t : Fin 4) : Fin 16896 := ⟨16384 + (b.val * 4 + t.val), by omega⟩

/-- Entry `i` of head `h` as a column of the argument arrays. -/
def lane (h : Fin 4) (i : Fin 128) : Fin 512 := ⟨h.val * 128 + i.val, by omega⟩

/-- The rows of one sequence and head. -/
def seq (a : (⟨2, ![16896, 512]⟩ : Shape).Idx → EReal) (b : Fin 128) (h : Fin 4) (t : Fin 4) (i : Fin 128) : EReal :=
  a (ix2 (token b t) (lane h i))

/-- The state of layer 3, sequence `b` and head `h` before the four tokens. -/
def old (s : FVec Ideal ⟨5, ![4, 128, 4, 128, 128]⟩ .f32) (b : Fin 128) (h : Fin 4) (i j : Fin 128) : EReal := s (ix5 3 b h i j)

/-- The result row of token `t` of sequence `b`, at entry `j` of head `h`. -/
def yAt (q k v : FVec Ideal ⟨2, ![16896, 512]⟩ .bf16) (lf : FVec Ideal ⟨2, ![16896, 512]⟩ .f32)
    (g : FVec Ideal ⟨2, ![16896, 512]⟩ .bf16) (gn : FVec Ideal ⟨2, ![4, 128]⟩ .f32)
    (s : FVec Ideal ⟨5, ![4, 128, 4, 128, 128]⟩ .f32) (b : Fin 128) (t h : Fin 4) (j : Fin 128) : EReal :=
  gated (reads (seq q b h) (seq k b h) (seq v b h) (seq lf b h) (old s b h) t) (fun i => gn (ix2 3 i)) (seq g b h t) j

/-- The new state of sequence `b` and head `h`. -/
def sAt (k v : FVec Ideal ⟨2, ![16896, 512]⟩ .bf16) (lf : FVec Ideal ⟨2, ![16896, 512]⟩ .f32)
    (s : FVec Ideal ⟨5, ![4, 128, 4, 128, 128]⟩ .f32) (b : Fin 128) (h : Fin 4) (i j : Fin 128) : EReal :=
  after (seq k b h) (seq v b h) (seq lf b h) (old s b h) i j

/-- Equal argument arrays give equal result rows. -/
theorem yAt_congr {q q' k k' v v' : FVec Ideal ⟨2, ![16896, 512]⟩ .bf16} {lf lf' : FVec Ideal ⟨2, ![16896, 512]⟩ .f32}
    {g g' : FVec Ideal ⟨2, ![16896, 512]⟩ .bf16} {gn gn' : FVec Ideal ⟨2, ![4, 128]⟩ .f32}
    {s s' : FVec Ideal ⟨5, ![4, 128, 4, 128, 128]⟩ .f32} (h0 : q = q') (h1 : k = k') (h2 : v = v') (h3 : lf = lf')
    (h4 : g = g') (h5 : gn = gn') (h6 : s = s') (b : Fin 128) (t h : Fin 4) (j : Fin 128) :
    yAt q k v lf g gn s b t h j = yAt q' k' v' lf' g' gn' s' b t h j := by
  subst h0 h1 h2 h3 h4 h5 h6; rfl

/-- Equal argument arrays give equal states. -/
theorem sAt_congr {k k' v v' : FVec Ideal ⟨2, ![16896, 512]⟩ .bf16} {lf lf' : FVec Ideal ⟨2, ![16896, 512]⟩ .f32}
    {s s' : FVec Ideal ⟨5, ![4, 128, 4, 128, 128]⟩ .f32} (h1 : k = k') (h2 : v = v') (h3 : lf = lf') (h6 : s = s')
    (b : Fin 128) (h : Fin 4) (i j : Fin 128) : sAt k v lf s b h i j = sAt k' v' lf' s' b h i j := by
  subst h1 h2 h3 h6; rfl

end Cert.HgrnMath
-- ==== Proof.HgrnMasks.lean ====
/-
  The whole-number vectors of the sample recurrence's body, read at an index: which sequence and which token of it a row of
  the block is, and the two 0/1 matrices that sum the log decays within a sequence.
-/
module
public import Idealize.ShloMosaic.Lib.Pointwise
public import Idealize.ShloMosaic.PureOps.Ideal.Laws
public import proofs.«01_k».proof.Proof.Gen.KernelIdeal.Frame
@[expose] public section

namespace Cert.KernelIdeal.Block
open Idealize.ShloMosaic Idealize.ShloMosaic.TcCoe
open Cert.KernelIdeal Cert.KernelIdeal.Gen
open scoped BigOperators

/-- Row `x` of a block belongs to sequence `x / 4`. -/
theorem colseq_apply (i : Fin 128) (x : Fin 64) :
    k0_pay14 k0_pay11 k0_pay12 k0_pay13 0#32 (ix2 i x) = BitVec.ofNat 32 (x.val / 4) := by
  pointwise [k0_pay14, k0_pay11, k0_pay12, k0_pay13]
  clear i
  revert x
  decide +kernel

/-- Row `c` of a block is token `c % 4` of its sequence. -/
theorem tok_apply (c : Fin 64) (x : Fin 128) : k0_pay10 (ix2 c x) = BitVec.ofNat 32 (c.val % 4) := by
  pointwise [k0_pay10]
  clear x
  revert c
  decide +kernel

/-- Row `r` of a group of 16 rows belongs to the group's sequence `r / 4`. -/
theorem grpseq_apply (r : Fin 16) (x : Fin 128) : k0_pay15 (ix2 r x) = BitVec.ofNat 32 (r.val / 4) := by
  pointwise [k0_pay15]
  clear x
  revert r
  decide +kernel

/-- Whether two rows belong to one sequence. -/
theorem same_apply (c e : Fin 64) :
    k0_pay7 k0_pay3 k0_pay4 k0_pay5 k0_pay6 (ix2 c e) = BitVec.ofBool (decide (c.val / 4 = e.val / 4)) := by
  pointwise [k0_pay7, k0_pay3, k0_pay4, k0_pay5, k0_pay6]
  revert c e
  decide +kernel

/-- The words 1 and 0 as numbers. -/
theorem word_one : (FloatOps.sitofp .f32 (1#32) : Ideal .f32) = (1 : EReal) := by
  show ((((1#32).toInt : ℝ)) : EReal) = 1
  simp
theorem word_zero : (FloatOps.sitofp .f32 (0#32) : Ideal .f32) = (0 : EReal) := by
  show ((((0#32).toInt : ℝ)) : EReal) = 0
  simp

/-- The matrix of the running sums: 1 where row `e` is of row `c`'s sequence and not after it. -/
theorem tril_apply (c e : Fin 64) :
    k0_pay8 (F := Ideal) (iota .tc S64x64 32 [0] iota_S64x64_d0_w32) (iota .tc S64x64 32 [1] iota_S64x64_d1_w32)
        k0_pay3 k0_pay4 k0_pay5 k0_pay6 (ix2 c e)
      = if c.val / 4 = e.val / 4 ∧ e.val ≤ c.val then (1 : EReal) else 0 := by
  unfold k0_pay8
  pointwise
  rw [same_apply]
  have h : ∀ c e : Fin 64, BitVec.setWidth 32 (IntOp.andi (BitVec.ofBool (decide (c.val / 4 = e.val / 4)))
      (IntOp.cmpi .sge (BitVec.ofNat 32 c.val) (BitVec.ofNat 32 e.val)))
        = if c.val / 4 = e.val / 4 ∧ e.val ≤ c.val then 1#32 else 0#32 := by decide +kernel
  rw [h c e]
  split_ifs
  · exact word_one
  · exact word_zero

/-- The matrix of the whole sums: 1 where row `e` is of row `c`'s sequence. -/
theorem all_apply (c e : Fin 64) :
    k0_pay9 (F := Ideal) k0_pay3 k0_pay4 k0_pay5 k0_pay6 (ix2 c e) = if c.val / 4 = e.val / 4 then (1 : EReal) else 0 := by
  unfold k0_pay9
  pointwise
  rw [same_apply]
  have h : ∀ c e : Fin 64, BitVec.setWidth 32 (BitVec.ofBool (decide (c.val / 4 = e.val / 4)))
        = if c.val / 4 = e.val / 4 then 1#32 else 0#32 := by decide +kernel
  rw [h c e]
  split_ifs
  · exact word_one
  · exact word_zero

end Cert.KernelIdeal.Block
-- ==== Proof.HgrnState0.lean ====
/-
  The state blocks head 0 of the sample recurrence stores, one per sequence of the block of 16, read at an index: each is
  the decayed old state plus the outer products of that sequence's four tokens (`stored`).
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

/-- What head 0 stores for sequence 0. -/
theorem state0_0 (C : IVec S128x64 32) (k v b l : FVec Ideal S64x128 .f32)
    (S : Vec Ideal S1x1x1x128x128 .f32) (i j : Fin 128) :
    ((k0_pay33 (k0_pay32 C k v b l S) : FVec Ideal S1x1x128x128 .f32)) (ix4 0 0 i j)
      = stored (fun x => C (ix2 i x)) (fun x => (k0_pay26 k b l) (ix2 i x)) ((k0_pay27 l) (ix2 i 0)) (fun x => (k0_pay28 v) (ix2 x j))
          (S (ix5 0 0 0 i j)) 0#32 := by
  pointwise [k0_pay33, k0_pay32, k0_pay26, k0_pay27, k0_pay28, k0_pay30, stored]

/-- What head 0 stores for sequence 1. -/
theorem state0_1 (C : IVec S128x64 32) (K D : FVec Ideal S128x64 .f32) (W : FVec Ideal S64x128 .bf16)
    (S : Vec Ideal S1x1x1x128x128 .f32) (i j : Fin 128) :
    ((k0_pay35 C K D W S : FVec Ideal S1x1x128x128 .f32)) (ix4 0 0 i j)
      = stored (fun x => C (ix2 i x)) (fun x => K (ix2 i x)) (D (ix2 i 4)) (fun x => W (ix2 x j))
          (S (ix5 0 0 0 i j)) 1#32 := by
  pointwise [k0_pay35, k0_pay34, stored]

/-- What head 0 stores for sequence 2. -/
theorem state0_2 (C : IVec S128x64 32) (K D : FVec Ideal S128x64 .f32) (W : FVec Ideal S64x128 .bf16)
    (S : Vec Ideal S1x1x1x128x128 .f32) (i j : Fin 128) :
    ((k0_pay39 K D W (k0_pay36 S) (k0_pay38 C) : FVec Ideal S1x1x128x128 .f32)) (ix4 0 0 i j)
      = stored (fun x => C (ix2 i x)) (fun x => K (ix2 i x)) (D (ix2 i 8)) (fun x => W (ix2 x j))
          (S (ix5 0 0 0 i j)) 2#32 := by
  pointwise [k0_pay39, k0_pay36, k0_pay38, stored]

/-- What head 0 stores for sequence 3. -/
theorem state0_3 (C : IVec S128x64 32) (K D : FVec Ideal S128x64 .f32) (W : FVec Ideal S64x128 .bf16)
    (S : Vec Ideal S1x1x1x128x128 .f32) (i j : Fin 128) :
    ((k0_pay42 C K D W S : FVec Ideal S1x1x128x128 .f32)) (ix4 0 0 i j)
      = stored (fun x => C (ix2 i x)) (fun x => K (ix2 i x)) (D (ix2 i 12)) (fun x => W (ix2 x j))
          (S (ix5 0 0 0 i j)) 3#32 := by
  pointwise [k0_pay42, k0_pay40, stored]

/-- What head 0 stores for sequence 4. -/
theorem state0_4 (C : IVec S128x64 32) (K D : FVec Ideal S128x64 .f32) (W : FVec Ideal S64x128 .bf16)
    (S : Vec Ideal S1x1x1x128x128 .f32) (i j : Fin 128) :
    ((k0_pay46 C K D W S : FVec Ideal S1x1x128x128 .f32)) (ix4 0 0 i j)
      = stored (fun x => C (ix2 i x)) (fun x => K (ix2 i x)) (D (ix2 i 16)) (fun x => W (ix2 x j))
          (S (ix5 0 0 0 i j)) 4#32 := by
  pointwise [k0_pay46, k0_pay45, stored]

/-- What head 0 stores for sequence 5. -/
theorem state0_5 (C : IVec S128x64 32) (K D : FVec Ideal S128x64 .f32) (W : FVec Ideal S64x128 .bf16)
    (S : Vec Ideal S1x1x1x128x128 .f32) (i j : Fin 128) :
    ((k0_pay50 (k0_pay49 C K D W S) : FVec Ideal S1x1x128x128 .f32)) (ix4 0 0 i j)
      = stored (fun x => C (ix2 i x)) (fun x => K (ix2 i x)) (D (ix2 i 20)) (fun x => W (ix2 x j))
          (S (ix5 0 0 0 i j)) 5#32 := by
  pointwise [k0_pay50, k0_pay49, k0_pay47, stored]

/-- What head 0 stores for sequence 6. -/
theorem state0_6 (C : IVec S128x64 32) (K D : FVec Ideal S128x64 .f32) (W : FVec Ideal S64x128 .bf16)
    (S : Vec Ideal S1x1x1x128x128 .f32) (i j : Fin 128) :
    ((k0_pay52 C K D W S : FVec Ideal S1x1x128x128 .f32)) (ix4 0 0 i j)
      = stored (fun x => C (ix2 i x)) (fun x => K (ix2 i x)) (D (ix2 i 24)) (fun x => W (ix2 x j))
          (S (ix5 0 0 0 i j)) 6#32 := by
  pointwise [k0_pay52, k0_pay51, stored]

/-- What head 0 stores for sequence 7. -/
theorem state0_7 (C : IVec S128x64 32) (K D : FVec Ideal S128x64 .f32) (W : FVec Ideal S64x128 .bf16)
    (S : Vec Ideal S1x1x1x128x128 .f32) (i j : Fin 128) :
    ((k0_pay57 K D W (k0_pay53 S) (k0_pay55 C) (k0_pay56 (F := Ideal)) : FVec Ideal S1x1x128x128 .f32)) (ix4 0 0 i j)
      = stored (fun x => C (ix2 i x)) (fun x => K (ix2 i x)) (D (ix2 i 28)) (fun x => W (ix2 x j))
          (S (ix5 0 0 0 i j)) 7#32 := by
  pointwise [k0_pay57, k0_pay53, k0_pay55, k0_pay56, stored]

/-- What head 0 stores for sequence 8. -/
theorem state0_8 (C : IVec S128x64 32) (K D : FVec Ideal S128x64 .f32) (W : FVec Ideal S64x128 .bf16)
    (S : Vec Ideal S1x1x1x128x128 .f32) (i j : Fin 128) :
    ((k0_pay61 C K D W S : FVec Ideal S1x1x128x128 .f32)) (ix4 0 0 i j)
      = stored (fun x => C (ix2 i x)) (fun x => K (ix2 i x)) (D (ix2 i 32)) (fun x => W (ix2 x j))
          (S (ix5 0 0 0 i j)) 8#32 := by
  pointwise [k0_pay61, k0_pay59, stored]

/-- What head 0 stores for sequence 9. -/
theorem state0_9 (C : IVec S128x64 32) (K D : FVec Ideal S128x64 .f32) (W : FVec Ideal S64x128 .bf16)
    (S : Vec Ideal S1x1x1x128x128 .f32) (i j : Fin 128) :
    ((k0_pay63 C K D W S : FVec Ideal S1x1x128x128 .f32)) (ix4 0 0 i j)
      = stored (fun x => C (ix2 i x)) (fun x => K (ix2 i x)) (D (ix2 i 36)) (fun x => W (ix2 x j))
          (S (ix5 0 0 0 i j)) 9#32 := by
  pointwise [k0_pay63, k0_pay62, stored]

/-- What head 0 stores for sequence 10. -/
theorem state0_10 (C : IVec S128x64 32) (K D : FVec Ideal S128x64 .f32) (W : FVec Ideal S64x128 .bf16)
    (S : Vec Ideal S1x1x1x128x128 .f32) (i j : Fin 128) :
    ((k0_pay67 (k0_pay66 C K D W S) : FVec Ideal S1x1x128x128 .f32)) (ix4 0 0 i j)
      = stored (fun x => C (ix2 i x)) (fun x => K (ix2 i x)) (D (ix2 i 40)) (fun x => W (ix2 x j))
          (S (ix5 0 0 0 i j)) 10#32 := by
  pointwise [k0_pay67, k0_pay66, k0_pay64, stored]

/-- What head 0 stores for sequence 11. -/
theorem state0_11 (C : IVec S128x64 32) (K D : FVec Ideal S128x64 .f32) (W : FVec Ideal S64x128 .bf16)
    (S : Vec Ideal S1x1x1x128x128 .f32) (i j : Fin 128) :
    ((k0_pay70 C K D W S : FVec Ideal S1x1x128x128 .f32)) (ix4 0 0 i j)
      = stored (fun x => C (ix2 i x)) (fun x => K (ix2 i x)) (D (ix2 i 44)) (fun x => W (ix2 x j))
          (S (ix5 0 0 0 i j)) 11#32 := by
  pointwise [k0_pay70, k0_pay68, stored]

/-- What head 0 stores for sequence 12. -/
theorem state0_12 (C : IVec S128x64 32) (K D : FVec Ideal S128x64 .f32) (W : FVec Ideal S64x128 .bf16)
    (S : Vec Ideal S1x1x1x128x128 .f32) (i j : Fin 128) :
    ((k0_pay75 K D W (k0_pay72 S) (k0_pay74 C) (Scalar.ofBits .f32 0x00000000#32) : FVec Ideal S1x1x128x128 .f32)) (ix4 0 0 i j)
      = stored (fun x => C (ix2 i x)) (fun x => K (ix2 i x)) (D (ix2 i 48)) (fun x => W (ix2 x j))
          (S (ix5 0 0 0 i j)) 12#32 := by
  pointwise [k0_pay75, k0_pay72, k0_pay74, stored]

/-- What head 0 stores for sequence 13. -/
theorem state0_13 (C : IVec S128x64 32) (K D : FVec Ideal S128x64 .f32) (W : FVec Ideal S64x128 .bf16)
    (S : Vec Ideal S1x1x1x128x128 .f32) (i j : Fin 128) :
    ((k0_pay78 C K D W S : FVec Ideal S1x1x128x128 .f32)) (ix4 0 0 i j)
      = stored (fun x => C (ix2 i x)) (fun x => K (ix2 i x)) (D (ix2 i 52)) (fun x => W (ix2 x j))
          (S (ix5 0 0 0 i j)) 13#32 := by
  pointwise [k0_pay78, k0_pay76, stored]

/-- What head 0 stores for sequence 14. -/
theorem state0_14 (C : IVec S128x64 32) (K D : FVec Ideal S128x64 .f32) (W : FVec Ideal S64x128 .bf16)
    (S : Vec Ideal S1x1x1x128x128 .f32) (i j : Fin 128) :
    ((k0_pay80 C K D W (k0_pay79 S) : FVec Ideal S1x1x128x128 .f32)) (ix4 0 0 i j)
      = stored (fun x => C (ix2 i x)) (fun x => K (ix2 i x)) (D (ix2 i 56)) (fun x => W (ix2 x j))
          (S (ix5 0 0 0 i j)) 14#32 := by
  pointwise [k0_pay80, k0_pay79, stored]

/-- What head 0 stores for sequence 15. -/
theorem state0_15 (C : IVec S128x64 32) (K D : FVec Ideal S128x64 .f32) (W : FVec Ideal S64x128 .bf16)
    (S : Vec Ideal S1x1x1x128x128 .f32) (i j : Fin 128) :
    ((k0_pay84 (k0_pay83 C K D W S) : FVec Ideal S1x1x128x128 .f32)) (ix4 0 0 i j)
      = stored (fun x => C (ix2 i x)) (fun x => K (ix2 i x)) (D (ix2 i 60)) (fun x => W (ix2 x j))
          (S (ix5 0 0 0 i j)) 15#32 := by
  pointwise [k0_pay84, k0_pay83, k0_pay81, stored]

end Cert.KernelIdeal.Block
-- ==== Proof.HgrnState1.lean ====
/-
  The state blocks head 1 of the sample recurrence stores, one per sequence of the block of 16, read at an index: each is
  the decayed old state plus the outer products of that sequence's four tokens (`stored`).
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

/-- What head 1 stores for sequence 0. -/
theorem state1_0 (C : IVec S128x64 32) (k v b l : FVec Ideal S64x128 .f32)
    (S : Vec Ideal S1x1x1x128x128 .f32) (i j : Fin 128) :
    ((k0_pay105 C k v b l S : FVec Ideal S1x1x128x128 .f32)) (ix4 0 0 i j)
      = stored (fun x => C (ix2 i x)) (fun x => (k0_pay99 k b l) (ix2 i x)) ((k0_pay100 l) (ix2 i 0)) (fun x => (k0_pay101 v) (ix2 x j))
          (S (ix5 0 0 0 i j)) 0#32 := by
  pointwise [k0_pay105, k0_pay99, k0_pay100, k0_pay101, k0_pay103, stored]

/-- What head 1 stores for sequence 1. -/
theorem state1_1 (C : IVec S128x64 32) (K D : FVec Ideal S128x64 .f32) (W : FVec Ideal S64x128 .bf16)
    (S : Vec Ideal S1x1x1x128x128 .f32) (i j : Fin 128) :
    ((k0_pay107 C K D W S : FVec Ideal S1x1x128x128 .f32)) (ix4 0 0 i j)
      = stored (fun x => C (ix2 i x)) (fun x => K (ix2 i x)) (D (ix2 i 4)) (fun x => W (ix2 x j))
          (S (ix5 0 0 0 i j)) 1#32 := by
  pointwise [k0_pay107, k0_pay106, stored]

/-- What head 1 stores for sequence 2. -/
theorem state1_2 (C : IVec S128x64 32) (K D : FVec Ideal S128x64 .f32) (W : FVec Ideal S64x128 .bf16)
    (S : Vec Ideal S1x1x1x128x128 .f32) (i j : Fin 128) :
    ((k0_pay111 (k0_pay110 C K D W S) : FVec Ideal S1x1x128x128 .f32)) (ix4 0 0 i j)
      = stored (fun x => C (ix2 i x)) (fun x => K (ix2 i x)) (D (ix2 i 8)) (fun x => W (ix2 x j))
          (S (ix5 0 0 0 i j)) 2#32 := by
  pointwise [k0_pay111, k0_pay110, k0_pay108, stored]

/-- What head 1 stores for sequence 3. -/
theorem state1_3 (C : IVec S128x64 32) (K D : FVec Ideal S128x64 .f32) (W : FVec Ideal S64x128 .bf16)
    (S : Vec Ideal S1x1x1x128x128 .f32) (i j : Fin 128) :
    ((k0_pay114 C K D W S : FVec Ideal S1x1x128x128 .f32)) (ix4 0 0 i j)
      = stored (fun x => C (ix2 i x)) (fun x => K (ix2 i x)) (D (ix2 i 12)) (fun x => W (ix2 x j))
          (S (ix5 0 0 0 i j)) 3#32 := by
  pointwise [k0_pay114, k0_pay112, stored]

/-- What head 1 stores for sequence 4. -/
theorem state1_4 (C : IVec S128x64 32) (K D : FVec Ideal S128x64 .f32) (W : FVec Ideal S64x128 .bf16)
    (S : Vec Ideal S1x1x1x128x128 .f32) (i j : Fin 128) :
    ((k0_pay119 K D W (k0_pay116 S) (k0_pay118 C) (Scalar.ofBits .f32 0x00000000#32) : FVec Ideal S1x1x128x128 .f32)) (ix4 0 0 i j)
      = stored (fun x => C (ix2 i x)) (fun x => K (ix2 i x)) (D (ix2 i 16)) (fun x => W (ix2 x j))
          (S (ix5 0 0 0 i j)) 4#32 := by
  pointwise [k0_pay119, k0_pay116, k0_pay118, stored]

/-- What head 1 stores for sequence 5. -/
theorem state1_5 (C : IVec S128x64 32) (K D : FVec Ideal S128x64 .f32) (W : FVec Ideal S64x128 .bf16)
    (S : Vec Ideal S1x1x1x128x128 .f32) (i j : Fin 128) :
    ((k0_pay122 C K D W S : FVec Ideal S1x1x128x128 .f32)) (ix4 0 0 i j)
      = stored (fun x => C (ix2 i x)) (fun x => K (ix2 i x)) (D (ix2 i 20)) (fun x => W (ix2 x j))
          (S (ix5 0 0 0 i j)) 5#32 := by
  pointwise [k0_pay122, k0_pay120, stored]

/-- What head 1 stores for sequence 6. -/
theorem state1_6 (C : IVec S128x64 32) (K D : FVec Ideal S128x64 .f32) (W : FVec Ideal S64x128 .bf16)
    (S : Vec Ideal S1x1x1x128x128 .f32) (i j : Fin 128) :
    ((k0_pay124 C K D W (k0_pay123 S) : FVec Ideal S1x1x128x128 .f32)) (ix4 0 0 i j)
      = stored (fun x => C (ix2 i x)) (fun x => K (ix2 i x)) (D (ix2 i 24)) (fun x => W (ix2 x j))
          (S (ix5 0 0 0 i j)) 6#32 := by
  pointwise [k0_pay124, k0_pay123, stored]

/-- What head 1 stores for sequence 7. -/
theorem state1_7 (C : IVec S128x64 32) (K D : FVec Ideal S128x64 .f32) (W : FVec Ideal S64x128 .bf16)
    (S : Vec Ideal S1x1x1x128x128 .f32) (i j : Fin 128) :
    ((k0_pay128 (k0_pay127 C K D W S) : FVec Ideal S1x1x128x128 .f32)) (ix4 0 0 i j)
      = stored (fun x => C (ix2 i x)) (fun x => K (ix2 i x)) (D (ix2 i 28)) (fun x => W (ix2 x j))
          (S (ix5 0 0 0 i j)) 7#32 := by
  pointwise [k0_pay128, k0_pay127, k0_pay125, stored]

/-- What head 1 stores for sequence 8. -/
theorem state1_8 (C : IVec S128x64 32) (K D : FVec Ideal S128x64 .f32) (W : FVec Ideal S64x128 .bf16)
    (S : Vec Ideal S1x1x1x128x128 .f32) (i j : Fin 128) :
    ((k0_pay131 C K D W S : FVec Ideal S1x1x128x128 .f32)) (ix4 0 0 i j)
      = stored (fun x => C (ix2 i x)) (fun x => K (ix2 i x)) (D (ix2 i 32)) (fun x => W (ix2 x j))
          (S (ix5 0 0 0 i j)) 8#32 := by
  pointwise [k0_pay131, k0_pay130, stored]

/-- What head 1 stores for sequence 9. -/
theorem state1_9 (C : IVec S128x64 32) (K D : FVec Ideal S128x64 .f32) (W : FVec Ideal S64x128 .bf16)
    (S : Vec Ideal S1x1x1x128x128 .f32) (i j : Fin 128) :
    ((k0_pay135 D W (k0_pay132 S) (k0_pay134 C K) : FVec Ideal S1x1x128x128 .f32)) (ix4 0 0 i j)
      = stored (fun x => C (ix2 i x)) (fun x => K (ix2 i x)) (D (ix2 i 36)) (fun x => W (ix2 x j))
          (S (ix5 0 0 0 i j)) 9#32 := by
  pointwise [k0_pay135, k0_pay132, k0_pay134, stored]

/-- What head 1 stores for sequence 10. -/
theorem state1_10 (C : IVec S128x64 32) (K D : FVec Ideal S128x64 .f32) (W : FVec Ideal S64x128 .bf16)
    (S : Vec Ideal S1x1x1x128x128 .f32) (i j : Fin 128) :
    ((k0_pay138 C K D W S : FVec Ideal S1x1x128x128 .f32)) (ix4 0 0 i j)
      = stored (fun x => C (ix2 i x)) (fun x => K (ix2 i x)) (D (ix2 i 40)) (fun x => W (ix2 x j))
          (S (ix5 0 0 0 i j)) 10#32 := by
  pointwise [k0_pay138, k0_pay136, stored]

/-- What head 1 stores for sequence 11. -/
theorem state1_11 (C : IVec S128x64 32) (K D : FVec Ideal S128x64 .f32) (W : FVec Ideal S64x128 .bf16)
    (S : Vec Ideal S1x1x1x128x128 .f32) (i j : Fin 128) :
    ((k0_pay142 C K D W (k0_pay139 S) : FVec Ideal S1x1x128x128 .f32)) (ix4 0 0 i j)
      = stored (fun x => C (ix2 i x)) (fun x => K (ix2 i x)) (D (ix2 i 44)) (fun x => W (ix2 x j))
          (S (ix5 0 0 0 i j)) 11#32 := by
  pointwise [k0_pay142, k0_pay139, stored]

/-- What head 1 stores for sequence 12. -/
theorem state1_12 (C : IVec S128x64 32) (K D : FVec Ideal S128x64 .f32) (W : FVec Ideal S64x128 .bf16)
    (S : Vec Ideal S1x1x1x128x128 .f32) (i j : Fin 128) :
    ((k0_pay147 (k0_pay146 C K D W S) : FVec Ideal S1x1x128x128 .f32)) (ix4 0 0 i j)
      = stored (fun x => C (ix2 i x)) (fun x => K (ix2 i x)) (D (ix2 i 48)) (fun x => W (ix2 x j))
          (S (ix5 0 0 0 i j)) 12#32 := by
  pointwise [k0_pay147, k0_pay146, k0_pay144, stored]

/-- What head 1 stores for sequence 13. -/
theorem state1_13 (C : IVec S128x64 32) (K D : FVec Ideal S128x64 .f32) (W : FVec Ideal S64x128 .bf16)
    (S : Vec Ideal S1x1x1x128x128 .f32) (i j : Fin 128) :
    ((k0_pay149 C K D W S : FVec Ideal S1x1x128x128 .f32)) (ix4 0 0 i j)
      = stored (fun x => C (ix2 i x)) (fun x => K (ix2 i x)) (D (ix2 i 52)) (fun x => W (ix2 x j))
          (S (ix5 0 0 0 i j)) 13#32 := by
  pointwise [k0_pay149, k0_pay148, stored]

/-- What head 1 stores for sequence 14. -/
theorem state1_14 (C : IVec S128x64 32) (K D : FVec Ideal S128x64 .f32) (W : FVec Ideal S64x128 .bf16)
    (S : Vec Ideal S1x1x1x128x128 .f32) (i j : Fin 128) :
    ((k0_pay154 W (k0_pay150 S) (k0_pay152 C K) (k0_pay153 D) : FVec Ideal S1x1x128x128 .f32)) (ix4 0 0 i j)
      = stored (fun x => C (ix2 i x)) (fun x => K (ix2 i x)) (D (ix2 i 56)) (fun x => W (ix2 x j))
          (S (ix5 0 0 0 i j)) 14#32 := by
  pointwise [k0_pay154, k0_pay150, k0_pay152, k0_pay153, stored]

/-- What head 1 stores for sequence 15. -/
theorem state1_15 (C : IVec S128x64 32) (K D : FVec Ideal S128x64 .f32) (W : FVec Ideal S64x128 .bf16)
    (S : Vec Ideal S1x1x1x128x128 .f32) (i j : Fin 128) :
    ((k0_pay156 C K D W S : FVec Ideal S1x1x128x128 .f32)) (ix4 0 0 i j)
      = stored (fun x => C (ix2 i x)) (fun x => K (ix2 i x)) (D (ix2 i 60)) (fun x => W (ix2 x j))
          (S (ix5 0 0 0 i j)) 15#32 := by
  pointwise [k0_pay156, k0_pay155, stored]

end Cert.KernelIdeal.Block
-- ==== Proof.HgrnState2.lean ====
/-
  The state blocks head 2 of the sample recurrence stores, one per sequence of the block of 16, read at an index: each is
  the decayed old state plus the outer products of that sequence's four tokens (`stored`).
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

/-- What head 2 stores for sequence 0. -/
theorem state2_0 (C : IVec S128x64 32) (K : FVec Ideal S128x64 .f32) (v e : FVec Ideal S64x128 .f32)
    (S : Vec Ideal S1x1x1x128x128 .f32) (i j : Fin 128) :
    ((k0_pay178 C v K e S : FVec Ideal S1x1x128x128 .f32)) (ix4 0 0 i j)
      = stored (fun x => C (ix2 i x)) (fun x => K (ix2 i x)) ((k0_pay174 e) (ix2 i 0)) (fun x => (k0_pay175 v) (ix2 x j))
          (S (ix5 0 0 0 i j)) 0#32 := by
  pointwise [k0_pay178, k0_pay174, k0_pay175, k0_pay177, stored]

/-- What head 2 stores for sequence 1. -/
theorem state2_1 (C : IVec S128x64 32) (K D : FVec Ideal S128x64 .f32) (W : FVec Ideal S64x128 .bf16)
    (S : Vec Ideal S1x1x1x128x128 .f32) (i j : Fin 128) :
    ((k0_pay182 D W (k0_pay179 S) (k0_pay181 C K) : FVec Ideal S1x1x128x128 .f32)) (ix4 0 0 i j)
      = stored (fun x => C (ix2 i x)) (fun x => K (ix2 i x)) (D (ix2 i 4)) (fun x => W (ix2 x j))
          (S (ix5 0 0 0 i j)) 1#32 := by
  pointwise [k0_pay182, k0_pay179, k0_pay181, stored]

/-- What head 2 stores for sequence 2. -/
theorem state2_2 (C : IVec S128x64 32) (K D : FVec Ideal S128x64 .f32) (W : FVec Ideal S64x128 .bf16)
    (S : Vec Ideal S1x1x1x128x128 .f32) (i j : Fin 128) :
    ((k0_pay185 C K D W S : FVec Ideal S1x1x128x128 .f32)) (ix4 0 0 i j)
      = stored (fun x => C (ix2 i x)) (fun x => K (ix2 i x)) (D (ix2 i 8)) (fun x => W (ix2 x j))
          (S (ix5 0 0 0 i j)) 2#32 := by
  pointwise [k0_pay185, k0_pay183, stored]

/-- What head 2 stores for sequence 3. -/
theorem state2_3 (C : IVec S128x64 32) (K D : FVec Ideal S128x64 .f32) (W : FVec Ideal S64x128 .bf16)
    (S : Vec Ideal S1x1x1x128x128 .f32) (i j : Fin 128) :
    ((k0_pay189 C K D W (k0_pay186 S) : FVec Ideal S1x1x128x128 .f32)) (ix4 0 0 i j)
      = stored (fun x => C (ix2 i x)) (fun x => K (ix2 i x)) (D (ix2 i 12)) (fun x => W (ix2 x j))
          (S (ix5 0 0 0 i j)) 3#32 := by
  pointwise [k0_pay189, k0_pay186, stored]

/-- What head 2 stores for sequence 4. -/
theorem state2_4 (C : IVec S128x64 32) (K D : FVec Ideal S128x64 .f32) (W : FVec Ideal S64x128 .bf16)
    (S : Vec Ideal S1x1x1x128x128 .f32) (i j : Fin 128) :
    ((k0_pay194 (k0_pay193 C K D W S) : FVec Ideal S1x1x128x128 .f32)) (ix4 0 0 i j)
      = stored (fun x => C (ix2 i x)) (fun x => K (ix2 i x)) (D (ix2 i 16)) (fun x => W (ix2 x j))
          (S (ix5 0 0 0 i j)) 4#32 := by
  pointwise [k0_pay194, k0_pay193, k0_pay191, stored]

/-- What head 2 stores for sequence 5. -/
theorem state2_5 (C : IVec S128x64 32) (K D : FVec Ideal S128x64 .f32) (W : FVec Ideal S64x128 .bf16)
    (S : Vec Ideal S1x1x1x128x128 .f32) (i j : Fin 128) :
    ((k0_pay196 C K D W S : FVec Ideal S1x1x128x128 .f32)) (ix4 0 0 i j)
      = stored (fun x => C (ix2 i x)) (fun x => K (ix2 i x)) (D (ix2 i 20)) (fun x => W (ix2 x j))
          (S (ix5 0 0 0 i j)) 5#32 := by
  pointwise [k0_pay196, k0_pay195, stored]

/-- What head 2 stores for sequence 6. -/
theorem state2_6 (C : IVec S128x64 32) (K D : FVec Ideal S128x64 .f32) (W : FVec Ideal S64x128 .bf16)
    (S : Vec Ideal S1x1x1x128x128 .f32) (i j : Fin 128) :
    ((k0_pay201 W (k0_pay197 S) (k0_pay199 C K) (k0_pay200 D) : FVec Ideal S1x1x128x128 .f32)) (ix4 0 0 i j)
      = stored (fun x => C (ix2 i x)) (fun x => K (ix2 i x)) (D (ix2 i 24)) (fun x => W (ix2 x j))
          (S (ix5 0 0 0 i j)) 6#32 := by
  pointwise [k0_pay201, k0_pay197, k0_pay199, k0_pay200, stored]

/-- What head 2 stores for sequence 7. -/
theorem state2_7 (C : IVec S128x64 32) (K D : FVec Ideal S128x64 .f32) (W : FVec Ideal S64x128 .bf16)
    (S : Vec Ideal S1x1x1x128x128 .f32) (i j : Fin 128) :
    ((k0_pay204 C K D W S : FVec Ideal S1x1x128x128 .f32)) (ix4 0 0 i j)
      = stored (fun x => C (ix2 i x)) (fun x => K (ix2 i x)) (D (ix2 i 28)) (fun x => W (ix2 x j))
          (S (ix5 0 0 0 i j)) 7#32 := by
  pointwise [k0_pay204, k0_pay202, stored]

/-- What head 2 stores for sequence 8. -/
theorem state2_8 (C : IVec S128x64 32) (K D : FVec Ideal S128x64 .f32) (W : FVec Ideal S64x128 .bf16)
    (S : Vec Ideal S1x1x1x128x128 .f32) (i j : Fin 128) :
    ((k0_pay209 C K D W (k0_pay207 S) : FVec Ideal S1x1x128x128 .f32)) (ix4 0 0 i j)
      = stored (fun x => C (ix2 i x)) (fun x => K (ix2 i x)) (D (ix2 i 32)) (fun x => W (ix2 x j))
          (S (ix5 0 0 0 i j)) 8#32 := by
  pointwise [k0_pay209, k0_pay207, stored]

/-- What head 2 stores for sequence 9. -/
theorem state2_9 (C : IVec S128x64 32) (K D : FVec Ideal S128x64 .f32) (W : FVec Ideal S64x128 .bf16)
    (S : Vec Ideal S1x1x1x128x128 .f32) (i j : Fin 128) :
    ((k0_pay212 C K D W S : FVec Ideal S1x1x128x128 .f32)) (ix4 0 0 i j)
      = stored (fun x => C (ix2 i x)) (fun x => K (ix2 i x)) (D (ix2 i 36)) (fun x => W (ix2 x j))
          (S (ix5 0 0 0 i j)) 9#32 := by
  pointwise [k0_pay212, k0_pay210, stored]

/-- What head 2 stores for sequence 10. -/
theorem state2_10 (C : IVec S128x64 32) (K D : FVec Ideal S128x64 .f32) (W : FVec Ideal S64x128 .bf16)
    (S : Vec Ideal S1x1x1x128x128 .f32) (i j : Fin 128) :
    ((k0_pay214 C K D W S : FVec Ideal S1x1x128x128 .f32)) (ix4 0 0 i j)
      = stored (fun x => C (ix2 i x)) (fun x => K (ix2 i x)) (D (ix2 i 40)) (fun x => W (ix2 x j))
          (S (ix5 0 0 0 i j)) 10#32 := by
  pointwise [k0_pay214, k0_pay213, stored]

/-- What head 2 stores for sequence 11. -/
theorem state2_11 (C : IVec S128x64 32) (K D : FVec Ideal S128x64 .f32) (W : FVec Ideal S64x128 .bf16)
    (S : Vec Ideal S1x1x1x128x128 .f32) (i j : Fin 128) :
    ((k0_pay219 W (k0_pay217 C K) (k0_pay218 D S) : FVec Ideal S1x1x128x128 .f32)) (ix4 0 0 i j)
      = stored (fun x => C (ix2 i x)) (fun x => K (ix2 i x)) (D (ix2 i 44)) (fun x => W (ix2 x j))
          (S (ix5 0 0 0 i j)) 11#32 := by
  pointwise [k0_pay219, k0_pay217, k0_pay218, k0_pay215, stored]

/-- What head 2 stores for sequence 12. -/
theorem state2_12 (C : IVec S128x64 32) (K D : FVec Ideal S128x64 .f32) (W : FVec Ideal S64x128 .bf16)
    (S : Vec Ideal S1x1x1x128x128 .f32) (i j : Fin 128) :
    ((k0_pay223 C K D W S : FVec Ideal S1x1x128x128 .f32)) (ix4 0 0 i j)
      = stored (fun x => C (ix2 i x)) (fun x => K (ix2 i x)) (D (ix2 i 48)) (fun x => W (ix2 x j))
          (S (ix5 0 0 0 i j)) 12#32 := by
  pointwise [k0_pay223, k0_pay221, stored]

/-- What head 2 stores for sequence 13. -/
theorem state2_13 (C : IVec S128x64 32) (K D : FVec Ideal S128x64 .f32) (W : FVec Ideal S64x128 .bf16)
    (S : Vec Ideal S1x1x1x128x128 .f32) (i j : Fin 128) :
    ((k0_pay227 C K D W (k0_pay224 S) : FVec Ideal S1x1x128x128 .f32)) (ix4 0 0 i j)
      = stored (fun x => C (ix2 i x)) (fun x => K (ix2 i x)) (D (ix2 i 52)) (fun x => W (ix2 x j))
          (S (ix5 0 0 0 i j)) 13#32 := by
  pointwise [k0_pay227, k0_pay224, stored]

/-- What head 2 stores for sequence 14. -/
theorem state2_14 (C : IVec S128x64 32) (K D : FVec Ideal S128x64 .f32) (W : FVec Ideal S64x128 .bf16)
    (S : Vec Ideal S1x1x1x128x128 .f32) (i j : Fin 128) :
    ((k0_pay230 C K D W S : FVec Ideal S1x1x128x128 .f32)) (ix4 0 0 i j)
      = stored (fun x => C (ix2 i x)) (fun x => K (ix2 i x)) (D (ix2 i 56)) (fun x => W (ix2 x j))
          (S (ix5 0 0 0 i j)) 14#32 := by
  pointwise [k0_pay230, k0_pay228, stored]

/-- What head 2 stores for sequence 15. -/
theorem state2_15 (C : IVec S128x64 32) (K D : FVec Ideal S128x64 .f32) (W : FVec Ideal S64x128 .bf16)
    (S : Vec Ideal S1x1x1x128x128 .f32) (i j : Fin 128) :
    ((k0_pay232 C K D W S : FVec Ideal S1x1x128x128 .f32)) (ix4 0 0 i j)
      = stored (fun x => C (ix2 i x)) (fun x => K (ix2 i x)) (D (ix2 i 60)) (fun x => W (ix2 x j))
          (S (ix5 0 0 0 i j)) 15#32 := by
  pointwise [k0_pay232, k0_pay231, stored]

end Cert.KernelIdeal.Block
-- ==== Proof.HgrnState3.lean ====
/-
  The state blocks head 3 of the sample recurrence stores, one per sequence of the block of 16, read at an index: each is
  the decayed old state plus the outer products of that sequence's four tokens (`stored`).
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

/-- What head 3 stores for sequence 0. -/
theorem state3_0 (C : IVec S128x64 32) (K D : FVec Ideal S128x64 .f32) (W : FVec Ideal S64x128 .bf16)
    (S : Vec Ideal S1x1x1x128x128 .f32) (i j : Fin 128) :
    ((k0_pay250 C K D W (k0_pay248 S) : FVec Ideal S1x1x128x128 .f32)) (ix4 0 0 i j)
      = stored (fun x => C (ix2 i x)) (fun x => K (ix2 i x)) (D (ix2 i 0)) (fun x => W (ix2 x j))
          (S (ix5 0 0 0 i j)) 0#32 := by
  pointwise [k0_pay250, k0_pay248, stored]

/-- What head 3 stores for sequence 1. -/
theorem state3_1 (C : IVec S128x64 32) (K D : FVec Ideal S128x64 .f32) (W : FVec Ideal S64x128 .bf16)
    (S : Vec Ideal S1x1x1x128x128 .f32) (i j : Fin 128) :
    ((k0_pay253 C K D W S : FVec Ideal S1x1x128x128 .f32)) (ix4 0 0 i j)
      = stored (fun x => C (ix2 i x)) (fun x => K (ix2 i x)) (D (ix2 i 4)) (fun x => W (ix2 x j))
          (S (ix5 0 0 0 i j)) 1#32 := by
  pointwise [k0_pay253, k0_pay251, stored]

/-- What head 3 stores for sequence 2. -/
theorem state3_2 (C : IVec S128x64 32) (K D : FVec Ideal S128x64 .f32) (W : FVec Ideal S64x128 .bf16)
    (S : Vec Ideal S1x1x1x128x128 .f32) (i j : Fin 128) :
    ((k0_pay255 C K D W S : FVec Ideal S1x1x128x128 .f32)) (ix4 0 0 i j)
      = stored (fun x => C (ix2 i x)) (fun x => K (ix2 i x)) (D (ix2 i 8)) (fun x => W (ix2 x j))
          (S (ix5 0 0 0 i j)) 2#32 := by
  pointwise [k0_pay255, k0_pay254, stored]

/-- What head 3 stores for sequence 3. -/
theorem state3_3 (C : IVec S128x64 32) (K D : FVec Ideal S128x64 .f32) (W : FVec Ideal S64x128 .bf16)
    (S : Vec Ideal S1x1x1x128x128 .f32) (i j : Fin 128) :
    ((k0_pay260 W (k0_pay258 C K) (k0_pay259 D S) : FVec Ideal S1x1x128x128 .f32)) (ix4 0 0 i j)
      = stored (fun x => C (ix2 i x)) (fun x => K (ix2 i x)) (D (ix2 i 12)) (fun x => W (ix2 x j))
          (S (ix5 0 0 0 i j)) 3#32 := by
  pointwise [k0_pay260, k0_pay258, k0_pay259, k0_pay256, stored]

/-- What head 3 stores for sequence 4. -/
theorem state3_4 (C : IVec S128x64 32) (K D : FVec Ideal S128x64 .f32) (W : FVec Ideal S64x128 .bf16)
    (S : Vec Ideal S1x1x1x128x128 .f32) (i j : Fin 128) :
    ((k0_pay264 C K D W S : FVec Ideal S1x1x128x128 .f32)) (ix4 0 0 i j)
      = stored (fun x => C (ix2 i x)) (fun x => K (ix2 i x)) (D (ix2 i 16)) (fun x => W (ix2 x j))
          (S (ix5 0 0 0 i j)) 4#32 := by
  pointwise [k0_pay264, k0_pay262, stored]

/-- What head 3 stores for sequence 5. -/
theorem state3_5 (C : IVec S128x64 32) (K D : FVec Ideal S128x64 .f32) (W : FVec Ideal S64x128 .bf16)
    (S : Vec Ideal S1x1x1x128x128 .f32) (i j : Fin 128) :
    ((k0_pay268 C K D W (k0_pay265 S) : FVec Ideal S1x1x128x128 .f32)) (ix4 0 0 i j)
      = stored (fun x => C (ix2 i x)) (fun x => K (ix2 i x)) (D (ix2 i 20)) (fun x => W (ix2 x j))
          (S (ix5 0 0 0 i j)) 5#32 := by
  pointwise [k0_pay268, k0_pay265, stored]

/-- What head 3 stores for sequence 6. -/
theorem state3_6 (C : IVec S128x64 32) (K D : FVec Ideal S128x64 .f32) (W : FVec Ideal S64x128 .bf16)
    (S : Vec Ideal S1x1x1x128x128 .f32) (i j : Fin 128) :
    ((k0_pay271 C K D W S : FVec Ideal S1x1x128x128 .f32)) (ix4 0 0 i j)
      = stored (fun x => C (ix2 i x)) (fun x => K (ix2 i x)) (D (ix2 i 24)) (fun x => W (ix2 x j))
          (S (ix5 0 0 0 i j)) 6#32 := by
  pointwise [k0_pay271, k0_pay269, stored]

/-- What head 3 stores for sequence 7. -/
theorem state3_7 (C : IVec S128x64 32) (K D : FVec Ideal S128x64 .f32) (W : FVec Ideal S64x128 .bf16)
    (S : Vec Ideal S1x1x1x128x128 .f32) (i j : Fin 128) :
    ((k0_pay274 C K D W S : FVec Ideal S1x1x128x128 .f32)) (ix4 0 0 i j)
      = stored (fun x => C (ix2 i x)) (fun x => K (ix2 i x)) (D (ix2 i 28)) (fun x => W (ix2 x j))
          (S (ix5 0 0 0 i j)) 7#32 := by
  pointwise [k0_pay274, k0_pay272, stored]

/-- What head 3 stores for sequence 8. -/
theorem state3_8 (C : IVec S128x64 32) (K D : FVec Ideal S128x64 .f32) (W : FVec Ideal S64x128 .bf16)
    (S : Vec Ideal S1x1x1x128x128 .f32) (i j : Fin 128) :
    ((k0_pay280 W (k0_pay276 S) (k0_pay278 C K) (k0_pay279 D) : FVec Ideal S1x1x128x128 .f32)) (ix4 0 0 i j)
      = stored (fun x => C (ix2 i x)) (fun x => K (ix2 i x)) (D (ix2 i 32)) (fun x => W (ix2 x j))
          (S (ix5 0 0 0 i j)) 8#32 := by
  pointwise [k0_pay280, k0_pay276, k0_pay278, k0_pay279, stored]

/-- What head 3 stores for sequence 9. -/
theorem state3_9 (C : IVec S128x64 32) (K D : FVec Ideal S128x64 .f32) (W : FVec Ideal S64x128 .bf16)
    (S : Vec Ideal S1x1x1x128x128 .f32) (i j : Fin 128) :
    ((k0_pay283 C K D W S : FVec Ideal S1x1x128x128 .f32)) (ix4 0 0 i j)
      = stored (fun x => C (ix2 i x)) (fun x => K (ix2 i x)) (D (ix2 i 36)) (fun x => W (ix2 x j))
          (S (ix5 0 0 0 i j)) 9#32 := by
  pointwise [k0_pay283, k0_pay281, stored]

/-- What head 3 stores for sequence 10. -/
theorem state3_10 (C : IVec S128x64 32) (K D : FVec Ideal S128x64 .f32) (W : FVec Ideal S64x128 .bf16)
    (S : Vec Ideal S1x1x1x128x128 .f32) (i j : Fin 128) :
    ((k0_pay287 C K D W (k0_pay284 S) : FVec Ideal S1x1x128x128 .f32)) (ix4 0 0 i j)
      = stored (fun x => C (ix2 i x)) (fun x => K (ix2 i x)) (D (ix2 i 40)) (fun x => W (ix2 x j))
          (S (ix5 0 0 0 i j)) 10#32 := by
  pointwise [k0_pay287, k0_pay284, stored]

/-- What head 3 stores for sequence 11. -/
theorem state3_11 (C : IVec S128x64 32) (K D : FVec Ideal S128x64 .f32) (W : FVec Ideal S64x128 .bf16)
    (S : Vec Ideal S1x1x1x128x128 .f32) (i j : Fin 128) :
    ((k0_pay290 C K D W S : FVec Ideal S1x1x128x128 .f32)) (ix4 0 0 i j)
      = stored (fun x => C (ix2 i x)) (fun x => K (ix2 i x)) (D (ix2 i 44)) (fun x => W (ix2 x j))
          (S (ix5 0 0 0 i j)) 11#32 := by
  pointwise [k0_pay290, k0_pay288, stored]

/-- What head 3 stores for sequence 12. -/
theorem state3_12 (C : IVec S128x64 32) (K D : FVec Ideal S128x64 .f32) (W : FVec Ideal S64x128 .bf16)
    (S : Vec Ideal S1x1x1x128x128 .f32) (i j : Fin 128) :
    ((k0_pay294 C K D W S : FVec Ideal S1x1x128x128 .f32)) (ix4 0 0 i j)
      = stored (fun x => C (ix2 i x)) (fun x => K (ix2 i x)) (D (ix2 i 48)) (fun x => W (ix2 x j))
          (S (ix5 0 0 0 i j)) 12#32 := by
  pointwise [k0_pay294, k0_pay293, stored]

/-- What head 3 stores for sequence 13. -/
theorem state3_13 (C : IVec S128x64 32) (K D : FVec Ideal S128x64 .f32) (W : FVec Ideal S64x128 .bf16)
    (S : Vec Ideal S1x1x1x128x128 .f32) (i j : Fin 128) :
    ((k0_pay299 W (k0_pay297 C K) (k0_pay298 D S) (constant S128x128 .f32 0x00000000#32) : FVec Ideal S1x1x128x128 .f32)) (ix4 0 0 i j)
      = stored (fun x => C (ix2 i x)) (fun x => K (ix2 i x)) (D (ix2 i 52)) (fun x => W (ix2 x j))
          (S (ix5 0 0 0 i j)) 13#32 := by
  pointwise [k0_pay299, k0_pay297, k0_pay298, k0_pay295, stored]

/-- What head 3 stores for sequence 14. -/
theorem state3_14 (C : IVec S128x64 32) (K D : FVec Ideal S128x64 .f32) (W : FVec Ideal S64x128 .bf16)
    (S : Vec Ideal S1x1x1x128x128 .f32) (i j : Fin 128) :
    ((k0_pay301 C K D W S : FVec Ideal S1x1x128x128 .f32)) (ix4 0 0 i j)
      = stored (fun x => C (ix2 i x)) (fun x => K (ix2 i x)) (D (ix2 i 56)) (fun x => W (ix2 x j))
          (S (ix5 0 0 0 i j)) 14#32 := by
  pointwise [k0_pay301, k0_pay300, stored]

/-- What head 3 stores for sequence 15. -/
theorem state3_15 (C : IVec S128x64 32) (K D : FVec Ideal S128x64 .f32) (W : FVec Ideal S64x128 .bf16)
    (S : Vec Ideal S1x1x1x128x128 .f32) (i j : Fin 128) :
    ((k0_pay1 (k0_pay304 D (k0_pay302 S)) (k0_pay305 C K W 15#32) : FVec Ideal S1x1x128x128 .f32)) (ix4 0 0 i j)
      = stored (fun x => C (ix2 i x)) (fun x => K (ix2 i x)) (D (ix2 i 60)) (fun x => W (ix2 x j))
          (S (ix5 0 0 0 i j)) 15#32 := by
  pointwise [k0_pay1, k0_pay304, k0_pay302, k0_pay305, stored]

end Cert.KernelIdeal.Block
-- ==== Proof.HgrnOut0.lean ====
/-
  The rows head 0 of the sample recurrence stores for a block of 16 sequences, read at an index: the gated norm of what the
  four tokens read of each other and of the old state.
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

set_option maxHeartbeats 4000000 in
/-- What head 0 stores for row `c` of the block. -/
theorem rows0 (P : FVec Ideal S64x64 .f32) (T : IVec S64x128 32) (G : IVec S16x128 32) (N : FVec Ideal S1x128 .f32)
    (X0 X1 X2 : Vec Ideal S64x128 .bf16) (X3 : Vec Ideal S64x128 .f32) (X4 : Vec Ideal S64x128 .bf16)
    (S : Fin 16 → Vec Ideal S1x1x1x128x128 .f32) (c : Fin 64) (j : Fin 128) :
    ((k0_pay85 N (k0_pay25 T (k0_pay17 X0) (k0_pay18 X1) (k0_pay19 X2) (k0_pay20 P X3) (k0_pay23 T (k0_pay17 X0) (k0_pay18 X1) (k0_pay19 X2) (k0_pay20 P X3)) (k0_pay24 T (k0_pay17 X0) (k0_pay18 X1) (k0_pay19 X2) (k0_pay20 P X3))) (k0_pay41 G (k0_pay29 (k0_pay22 (k0_pay17 X0) (k0_pay20 P X3))) (k0_pay37 G (k0_pay29 (k0_pay22 (k0_pay17 X0) (k0_pay20 P X3))) (k0_pay31 G (k0_pay22 (k0_pay17 X0) (k0_pay20 P X3)) (S 0)) (S 1) (S 2)) (S 3)) (k0_pay54 G (k0_pay43 (k0_pay22 (k0_pay17 X0) (k0_pay20 P X3))) (k0_pay48 G (k0_pay43 (k0_pay22 (k0_pay17 X0) (k0_pay20 P X3))) (k0_pay44 (F := Ideal)) (S 4) (S 5)) (S 6) (S 7)) (k0_pay69 G (k0_pay58 (k0_pay22 (k0_pay17 X0) (k0_pay20 P X3))) (k0_pay65 G (k0_pay58 (k0_pay22 (k0_pay17 X0) (k0_pay20 P X3))) (k0_pay60 G (k0_pay22 (k0_pay17 X0) (k0_pay20 P X3)) (S 8)) (S 9) (S 10)) (S 11)) (k0_pay82 G (k0_pay71 (k0_pay22 (k0_pay17 X0) (k0_pay20 P X3))) (k0_pay77 G (k0_pay71 (k0_pay22 (k0_pay17 X0) (k0_pay20 P X3))) (k0_pay73 G (k0_pay22 (k0_pay17 X0) (k0_pay20 P X3)) (S 12)) (S 13)) (k0_pay79 (S 14)) 2#32 (S 15)) X4 : FVec Ideal S64x128 .bf16)) (ix2 c j)
      = rows (Named.named κ "big" 0xF149F2CA#32 : Ideal .f32) (fun c x => T (ix2 c x)) (fun r x => G (ix2 r x))
          (fun c x => X0 (ix2 c x)) (fun c x => X1 (ix2 c x)) (fun c x => X2 (ix2 c x))
          (fun c x => ∑ e : Fin 64, P (ix2 c e) * X3 (ix2 e x)) (fun n i x => S n (ix5 0 0 0 i x))
          (fun x => N (ix2 0 x)) (fun c x => X4 (ix2 c x)) c j := by
  pointwise [k0_pay85, k0_pay25, k0_pay17, k0_pay18, k0_pay19, k0_pay20, k0_pay23, k0_pay24, k0_pay41, k0_pay29, k0_pay22, k0_pay37, k0_pay31, k0_pay54, k0_pay43, k0_pay48, k0_pay44, k0_pay69, k0_pay58, k0_pay65, k0_pay60, k0_pay82, k0_pay71, k0_pay77, k0_pay73, k0_pay79, k0_pay40, k0_pay34, k0_pay36, k0_pay30, k0_pay51, k0_pay53, k0_pay45, k0_pay47, k0_pay68, k0_pay62, k0_pay64, k0_pay59, k0_pay81, k0_pay76, k0_pay72, rows, gated, among, lag, back, inter, four, pick]

end Cert.KernelIdeal.Block
-- ==== Proof.HgrnOut1.lean ====
/-
  The rows head 1 of the sample recurrence stores for a block of 16 sequences, read at an index: the gated norm of what the
  four tokens read of each other and of the old state.
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

set_option maxHeartbeats 4000000 in
/-- What head 1 stores for row `c` of the block. -/
theorem rows1 (P : FVec Ideal S64x64 .f32) (T : IVec S64x128 32) (G : IVec S16x128 32) (N : FVec Ideal S1x128 .f32)
    (X0 X1 X2 : Vec Ideal S64x128 .bf16) (X3 : Vec Ideal S64x128 .f32) (X4 : Vec Ideal S64x128 .bf16)
    (S : Fin 16 → Vec Ideal S1x1x1x128x128 .f32) (c : Fin 64) (j : Fin 128) :
    ((k0_pay159 N (k0_pay157 G (k0_pay98 (k0_pay86 X0) (k0_pay94 T (k0_pay86 X0) (k0_pay87 X1) (k0_pay88 X2) (k0_pay89 P X3) (k0_pay92 (F := Ideal)) (k0_pay93 P X0 X1 X3)) (k0_pay95 (k0_pay87 X1)) (k0_pay96 (k0_pay88 X2)) (k0_pay97 T (k0_pay89 P X3))) (k0_pay113 G (k0_pay102 (k0_pay91 P X0 X3)) (k0_pay109 G (k0_pay102 (k0_pay91 P X0 X3)) (k0_pay104 G (k0_pay91 P X0 X3) (S 0)) (S 1) (S 2)) (S 3)) (k0_pay126 G (k0_pay115 (k0_pay91 P X0 X3)) (k0_pay121 G (k0_pay115 (k0_pay91 P X0 X3)) (k0_pay117 G (k0_pay91 P X0 X3) (S 4)) (S 5)) (k0_pay123 (S 6)) 2#32 (S 7)) (k0_pay141 (k0_pay129 (k0_pay91 P X0 X3)) (k0_pay137 G (k0_pay129 (k0_pay91 P X0 X3)) (k0_pay133 G (k0_pay91 P X0 X3) (S 8) (S 9)) (S 10)) (k0_pay139 (S 11)) (k0_pay140 G)) (k0_pay143 (k0_pay91 P X0 X3)) (k0_pay151 G (k0_pay143 (k0_pay91 P X0 X3)) (k0_pay145 G (k0_pay91 P X0 X3) (S 12)) (S 13) (S 14)) (S 15)) (k0_pay158 G (k0_pay98 (k0_pay86 X0) (k0_pay94 T (k0_pay86 X0) (k0_pay87 X1) (k0_pay88 X2) (k0_pay89 P X3) (k0_pay92 (F := Ideal)) (k0_pay93 P X0 X1 X3)) (k0_pay95 (k0_pay87 X1)) (k0_pay96 (k0_pay88 X2)) (k0_pay97 T (k0_pay89 P X3))) (k0_pay113 G (k0_pay102 (k0_pay91 P X0 X3)) (k0_pay109 G (k0_pay102 (k0_pay91 P X0 X3)) (k0_pay104 G (k0_pay91 P X0 X3) (S 0)) (S 1) (S 2)) (S 3)) (k0_pay126 G (k0_pay115 (k0_pay91 P X0 X3)) (k0_pay121 G (k0_pay115 (k0_pay91 P X0 X3)) (k0_pay117 G (k0_pay91 P X0 X3) (S 4)) (S 5)) (k0_pay123 (S 6)) 2#32 (S 7)) (k0_pay141 (k0_pay129 (k0_pay91 P X0 X3)) (k0_pay137 G (k0_pay129 (k0_pay91 P X0 X3)) (k0_pay133 G (k0_pay91 P X0 X3) (S 8) (S 9)) (S 10)) (k0_pay139 (S 11)) (k0_pay140 G)) (k0_pay143 (k0_pay91 P X0 X3)) (k0_pay151 G (k0_pay143 (k0_pay91 P X0 X3)) (k0_pay145 G (k0_pay91 P X0 X3) (S 12)) (S 13) (S 14)) (S 15)) X4 : FVec Ideal S64x128 .bf16)) (ix2 c j)
      = rows (Named.named κ "big" 0xF149F2CA#32 : Ideal .f32) (fun c x => T (ix2 c x)) (fun r x => G (ix2 r x))
          (fun c x => X0 (ix2 c x)) (fun c x => X1 (ix2 c x)) (fun c x => X2 (ix2 c x))
          (fun c x => ∑ e : Fin 64, P (ix2 c e) * X3 (ix2 e x)) (fun n i x => S n (ix5 0 0 0 i x))
          (fun x => N (ix2 0 x)) (fun c x => X4 (ix2 c x)) c j := by
  pointwise [k0_pay159, k0_pay157, k0_pay98, k0_pay86, k0_pay94, k0_pay87, k0_pay88, k0_pay89, k0_pay92, k0_pay93, k0_pay95, k0_pay96, k0_pay97, k0_pay113, k0_pay102, k0_pay91, k0_pay109, k0_pay104, k0_pay126, k0_pay115, k0_pay121, k0_pay117, k0_pay123, k0_pay141, k0_pay129, k0_pay137, k0_pay133, k0_pay139, k0_pay140, k0_pay143, k0_pay151, k0_pay145, k0_pay158, k0_pay155, k0_pay112, k0_pay106, k0_pay108, k0_pay103, k0_pay125, k0_pay120, k0_pay116, k0_pay136, k0_pay130, k0_pay132, k0_pay148, k0_pay150, k0_pay144, rows, gated, among, lag, back, inter, four, pick]

end Cert.KernelIdeal.Block
-- ==== Proof.HgrnOut2.lean ====
/-
  The rows head 2 of the sample recurrence stores for a block of 16 sequences, read at an index: the gated norm of what the
  four tokens read of each other and of the old state.
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

set_option maxHeartbeats 4000000 in
/-- What head 2 stores for row `c` of the block. -/
theorem rows2 (P : FVec Ideal S64x64 .f32) (T : IVec S64x128 32) (G : IVec S16x128 32) (N : FVec Ideal S1x128 .f32)
    (X0 X1 X2 : Vec Ideal S64x128 .bf16) (X3 : Vec Ideal S64x128 .f32) (X4 : Vec Ideal S64x128 .bf16)
    (S : Fin 16 → Vec Ideal S1x1x1x128x128 .f32) (c : Fin 64) (j : Fin 128) :
    ((k0_pay233 G N (k0_pay171 T (k0_pay160 X0) (k0_pay161 X1) (k0_pay162 X2) (k0_pay163 P X3) (k0_pay166 P X0 X1 X2 X3) (k0_pay167 X1) (k0_pay168 X2) (k0_pay169 T) (k0_pay170 P X3) (Named.named κ "big" 0xF149F2CA#32)) (k0_pay188 (k0_pay176 (k0_pay165 P X0 X3)) (k0_pay184 G (k0_pay176 (k0_pay165 P X0 X3)) (k0_pay180 G (k0_pay165 P X0 X3) (S 0) (S 1)) (S 2)) (k0_pay186 (S 3)) (k0_pay187 G)) (k0_pay203 G (k0_pay190 (k0_pay165 P X0 X3)) (k0_pay198 G (k0_pay190 (k0_pay165 P X0 X3)) (k0_pay192 G (k0_pay165 P X0 X3) (S 4)) (S 5) (S 6)) (S 7)) (k0_pay216 G (k0_pay205 (k0_pay165 P X0 X3)) (k0_pay211 G (k0_pay205 (k0_pay165 P X0 X3)) (k0_pay206 (F := Ideal)) (k0_pay207 (S 8)) k0_pay208 (S 9)) (S 10) (S 11)) (k0_pay220 (k0_pay165 P X0 X3)) (k0_pay229 G (k0_pay220 (k0_pay165 P X0 X3)) (k0_pay222 G (k0_pay165 P X0 X3) (S 12)) (k0_pay225 G) (k0_pay226 (S 13)) (S 14)) (S 15) X4 : FVec Ideal S64x128 .bf16)) (ix2 c j)
      = rows (Named.named κ "big" 0xF149F2CA#32 : Ideal .f32) (fun c x => T (ix2 c x)) (fun r x => G (ix2 r x))
          (fun c x => X0 (ix2 c x)) (fun c x => X1 (ix2 c x)) (fun c x => X2 (ix2 c x))
          (fun c x => ∑ e : Fin 64, P (ix2 c e) * X3 (ix2 e x)) (fun n i x => S n (ix5 0 0 0 i x))
          (fun x => N (ix2 0 x)) (fun c x => X4 (ix2 c x)) c j := by
  pointwise [k0_pay233, k0_pay171, k0_pay160, k0_pay161, k0_pay162, k0_pay163, k0_pay166, k0_pay167, k0_pay168, k0_pay169, k0_pay170, k0_pay188, k0_pay176, k0_pay165, k0_pay184, k0_pay180, k0_pay186, k0_pay187, k0_pay203, k0_pay190, k0_pay198, k0_pay192, k0_pay216, k0_pay205, k0_pay211, k0_pay206, k0_pay207, k0_pay208, k0_pay220, k0_pay229, k0_pay222, k0_pay225, k0_pay226, k0_pay231, k0_pay183, k0_pay177, k0_pay179, k0_pay202, k0_pay195, k0_pay197, k0_pay191, k0_pay213, k0_pay215, k0_pay210, k0_pay228, k0_pay221, k0_pay224, rows, gated, among, lag, back, inter, four, pick]

end Cert.KernelIdeal.Block
-- ==== Proof.HgrnOut3.lean ====
/-
  The rows head 3 of the sample recurrence stores for a block of 16 sequences, read at an index: the gated norm of what the
  four tokens read of each other and of the old state.
-/
module

public import proofs.«01_k».proof.Proof.HgrnMath
public import proofs.«01_k».proof.Proof.Gen.KernelIdeal.Frame

@[expose] public section

noncomputable section

namespace Cert.KernelIdeal.Block

open Idealize.ShloMosaic Idealize.ShloMosaic.TcCoe
open Cert.KernelIdeal Cert.KernelIdeal.Gen Cert.HgrnMath
open scoped BigOperators

set_option maxHeartbeats 4000000 in
/-- What head 3 stores for row `c` of the block. -/
theorem rows3 (P : FVec Ideal S64x64 .f32) (T : IVec S64x128 32) (G : IVec S16x128 32) (N : FVec Ideal S1x128 .f32)
    (X0 X1 X2 : Vec Ideal S64x128 .bf16) (X3 : Vec Ideal S64x128 .f32) (X4 : Vec Ideal S64x128 .bf16)
    (S : Fin 16 → Vec Ideal S1x1x1x128x128 .f32) (c : Fin 64) (j : Fin 128) :
    ((k0_pay2 N (k0_pay242 T (k0_pay234 X0) (k0_pay235 X1) (k0_pay236 X2) (k0_pay237 P X3) (k0_pay240 P T X0 X1 X2 X3) (k0_pay241 X1) 2#32) (k0_pay257 G (k0_pay246 (k0_pay239 P X0 X3)) (k0_pay252 G (k0_pay246 (k0_pay239 P X0 X3)) (k0_pay247 (F := Ideal)) (k0_pay248 (S 0)) k0_pay249 (S 1)) (S 2) (S 3)) (k0_pay273 G (k0_pay261 (k0_pay239 P X0 X3)) (k0_pay270 G (k0_pay261 (k0_pay239 P X0 X3)) (k0_pay263 G (k0_pay239 P X0 X3) (S 4)) (k0_pay266 G) (k0_pay267 (S 5)) (S 6)) (S 7)) (k0_pay289 G (k0_pay275 (k0_pay239 P X0 X3)) (k0_pay282 G (k0_pay275 (k0_pay239 P X0 X3)) (k0_pay277 G (k0_pay239 P X0 X3) (S 8)) (S 9)) (k0_pay285 G) (k0_pay286 (k0_pay275 (k0_pay239 P X0 X3)) (S 10)) (S 11)) (k0_pay303 G (k0_pay291 (k0_pay239 P X0 X3)) (k0_pay296 G (k0_pay291 (k0_pay239 P X0 X3)) (k0_pay292 (F := Ideal)) (S 12) (S 13)) (S 14) (S 15)) X4 : FVec Ideal S64x128 .bf16)) (ix2 c j)
      = rows (Named.named κ "big" 0xF149F2CA#32 : Ideal .f32) (fun c x => T (ix2 c x)) (fun r x => G (ix2 r x))
          (fun c x => X0 (ix2 c x)) (fun c x => X1 (ix2 c x)) (fun c x => X2 (ix2 c x))
          (fun c x => ∑ e : Fin 64, P (ix2 c e) * X3 (ix2 e x)) (fun n i x => S n (ix5 0 0 0 i x))
          (fun x => N (ix2 0 x)) (fun c x => X4 (ix2 c x)) c j := by
  pointwise [k0_pay2, k0_pay242, k0_pay234, k0_pay235, k0_pay236, k0_pay237, k0_pay240, k0_pay241, k0_pay257, k0_pay246, k0_pay239, k0_pay252, k0_pay247, k0_pay248, k0_pay249, k0_pay273, k0_pay261, k0_pay270, k0_pay263, k0_pay266, k0_pay267, k0_pay289, k0_pay275, k0_pay282, k0_pay277, k0_pay285, k0_pay286, k0_pay303, k0_pay291, k0_pay296, k0_pay292, k0_pay254, k0_pay256, k0_pay251, k0_pay272, k0_pay269, k0_pay262, k0_pay265, k0_pay288, k0_pay281, k0_pay276, k0_pay284, k0_pay300, k0_pay302, k0_pay293, k0_pay295, rows, gated, among, lag, back, inter, four, pick]

end Cert.KernelIdeal.Block
-- ==== Proof.HgrnBlock.lean ====
/-
  The blocks the sample recurrence's body stores, from its input blocks: row `4 n + t` of head `h` is the gated norm of what
  token `t` of sequence `n` reads, and state block `(n, h)` is that head's state after the sequence's tokens.
-/
module

public import proofs.«01_k».proof.Proof.HgrnSeq
public import proofs.«01_k».proof.Proof.HgrnMasks
public import proofs.«01_k».proof.Proof.HgrnState0
public import proofs.«01_k».proof.Proof.HgrnState1
public import proofs.«01_k».proof.Proof.HgrnState2
public import proofs.«01_k».proof.Proof.HgrnState3
public import proofs.«01_k».proof.Proof.HgrnOut0
public import proofs.«01_k».proof.Proof.HgrnOut1
public import proofs.«01_k».proof.Proof.HgrnOut2
public import proofs.«01_k».proof.Proof.HgrnOut3

@[expose] public section

noncomputable section

namespace Cert.KernelIdeal.Block

open Idealize.ShloMosaic Idealize.ShloMosaic.TcCoe
open Cert.KernelIdeal Cert.KernelIdeal.Gen Cert.HgrnMath
open scoped BigOperators

/-- Entry `i` of head `h` as a column. -/
def col (h : Fin 4) (i : Fin 128) : Fin 512 := ⟨128 * h.val + i.val, by omega⟩

/-- Head `h`'s columns of a block. -/
def hd (x : Fin 64 → Fin 512 → EReal) (h : Fin 4) (c : Fin 64) (i : Fin 128) : EReal := x c (col h i)

theorem hz : (![0, 0] : Fin 2 → Nat) = fun _ => 0 := funext fun a => by fin_cases a <;> rfl

/-- A load of one head's columns, at an index. -/
theorem ld_head {e : EltTy} (x : Vec Ideal S64x512 e) (c : Fin 64) (i : Fin 128) :
    View.ld x r0_1 (ix2 c i) = x (ix2 c (col 0 i)) ∧ View.ld x r0_34 (ix2 c i) = x (ix2 c (col 1 i))
    ∧ View.ld x r0_67 (ix2 c i) = x (ix2 c (col 2 i)) ∧ View.ld x r0_100 (ix2 c i) = x (ix2 c (col 3 i)) := by
  refine ⟨congrArg x (Shape.idx_ext₂ ?_ ?_), congrArg x (Shape.idx_ext₂ ?_ ?_), congrArg x (Shape.idx_ext₂ ?_ ?_),
    congrArg x (Shape.idx_ext₂ ?_ ?_)⟩
  · show 0 + 1 * c.val = c.val; omega
  · show 0 + 1 * i.val = 128 * 0 + i.val; omega
  · show 0 + 1 * c.val = c.val; omega
  · show 128 + 1 * i.val = 128 * 1 + i.val; omega
  · show 0 + 1 * c.val = c.val; omega
  · show 256 + 1 * i.val = 128 * 2 + i.val; omega
  · show 0 + 1 * c.val = c.val; omega
  · show 384 + 1 * i.val = 128 * 3 + i.val; omega

/-- A load of one old state, at an index. -/
theorem ld_state (x : Vec Ideal S1x16x4x128x128 .f32) (n : Fin 16) (h : Fin 4)
    (b : ∀ a, (![0, n.val, h.val, 0, 0] : Fin 5 → Nat) a + S1x1x1x128x128.size a ≤ S1x16x4x128x128.size a) (i j : Fin 128) :
    View.ld x (Rect.unit (s := S1x16x4x128x128) ![0, n.val, h.val, 0, 0] S1x1x1x128x128.size b) (ix5 0 0 0 i j)
      = x (ix5 0 n h i j) := by
  refine congrArg x (funext fun a => Fin.ext ?_)
  match a with
  | ⟨0, _⟩ => rfl
  | ⟨1, _⟩ => show n.val + 1 * 0 = n.val; omega
  | ⟨2, _⟩ => show h.val + 1 * 0 = h.val; omega
  | ⟨3, _⟩ => show 0 + 1 * i.val = i.val; omega
  | ⟨4, _⟩ => show 0 + 1 * j.val = j.val; omega

/-- A stored state block agrees with a function of the whole block's index, if it does entry by entry. -/
theorem place (n : Fin 16) (h : Fin 4)
    (b : ∀ a, (![n.val, h.val, 0, 0] : Fin 4 → Nat) a + S1x1x128x128.size a ≤ S16x4x128x128.size a)
    (f : Vec Ideal S1x1x128x128 .f32) (G : Fin 16 → Fin 4 → Fin 128 → Fin 128 → EReal)
    (hf : ∀ i j, f (ix4 0 0 i j) = G n h i j) (y : S1x1x128x128.Idx) :
    f y = (fun i : S16x4x128x128.Idx => G (i 0) (i 1) (i 2) (i 3))
      ((Rect.unit (s := S16x4x128x128) ![n.val, h.val, 0, 0] S1x1x128x128.size b).emb y) := by
  have e : y = ix4 0 0 (y 2) (y 3) := funext fun a => Fin.ext (by
    match a with
    | ⟨0, _⟩ => have h := (y 0).isLt; show (y 0).val = 0; exact Nat.lt_one_iff.mp h
    | ⟨1, _⟩ => have h := (y 1).isLt; show (y 1).val = 0; exact Nat.lt_one_iff.mp h
    | ⟨2, _⟩ => rfl
    | ⟨3, _⟩ => rfl)
  have e0 : (Rect.unit (s := S16x4x128x128) ![n.val, h.val, 0, 0] S1x1x128x128.size b).emb y = ix4 n h (y 2) (y 3) :=
    funext fun a => Fin.ext (by
      match a with
      | ⟨0, _⟩ => have h := (y 0).isLt; show n.val + 1 * (y 0).val = n.val; have := Nat.lt_one_iff.mp h; omega
      | ⟨1, _⟩ => have h' := (y 1).isLt; show h.val + 1 * (y 1).val = h.val; have := Nat.lt_one_iff.mp h'; omega
      | ⟨2, _⟩ => show 0 + 1 * (y 2).val = (y 2).val; omega
      | ⟨3, _⟩ => show 0 + 1 * (y 3).val = (y 3).val; omega)
  rw [e0]
  exact (congrArg f e).trans (hf _ _)

/-- The running sums of one head's log decays, at a row. -/
theorem sums (f : Fin 64 → Fin 128 → EReal) (n : Fin 16) (t : Fin 4) (i : Fin 128) :
    (∑ e : Fin 64, k0_pay8 (F := Ideal) (iota .tc S64x64 32 [0] iota_S64x64_d0_w32) (iota .tc S64x64 32 [1] iota_S64x64_d1_w32)
        k0_pay3 k0_pay4 k0_pay5 k0_pay6 (ix2 (row n t) e) * f e i) = cum (fun s => f (row n s)) t i
    ∧ (∑ e : Fin 64, k0_pay9 (F := Ideal) k0_pay3 k0_pay4 k0_pay5 k0_pay6 (ix2 (row n t) e) * f e i)
      = cum (fun s => f (row n s)) 3 i := by
  refine ⟨Eq.trans (Finset.sum_congr rfl fun e _ => ?_) (tril_sum f n t i),
    Eq.trans (Finset.sum_congr rfl fun e _ => ?_) (all_sum f n t i)⟩
  · rw [tril_apply]
  · rw [all_apply]

/-- The state block of sequence `n`, head `h`. -/
def newState (x1 x2 : Vec Ideal S64x512 .bf16) (x3 : Vec Ideal S64x512 .f32) (x6 : Vec Ideal S1x16x4x128x128 .f32)
    (n : Fin 16) (h : Fin 4) (i j : Fin 128) : EReal :=
  after (fun t i => x1 (ix2 (row n t) (col h i))) (fun t i => x2 (ix2 (row n t) (col h i)))
    (fun t i => x3 (ix2 (row n t) (col h i))) (fun i j => x6 (ix5 0 n h i j)) i j

/-- Row `c`, entry `j` of head `h` of what the body stores. -/
def newRow (x0 x1 x2 : Vec Ideal S64x512 .bf16) (x3 : Vec Ideal S64x512 .f32) (x4 : Vec Ideal S64x512 .bf16)
    (x5 : Vec Ideal S1x128 .f32) (x6 : Vec Ideal S1x16x4x128x128 .f32) (n : Fin 16) (t : Fin 4) (h : Fin 4) (j : Fin 128) : EReal :=
  gated (reads (fun t i => x0 (ix2 (row n t) (col h i))) (fun t i => x1 (ix2 (row n t) (col h i)))
      (fun t i => x2 (ix2 (row n t) (col h i))) (fun t i => x3 (ix2 (row n t) (col h i))) (fun i j => x6 (ix5 0 n h i j)) t)
    (fun i => x5 (ix2 0 i)) (fun i => x4 (ix2 (row n t) (col h i))) j

/-- Head 0's keys, decays and values in the form its state blocks use, at an index. -/
theorem parts0 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (m : Fin 16) (t : Fin 4) (x : Fin 64) (i j : Fin 128) :
    k0_pay322 x0 x1 x2 x3 x4 x5 x6 (ix2 i (row m t)) = x1 (ix2 (row m t) (col 0 i))
        * Ideal.exp (cum (fun s i => x3 (ix2 (row m s) (col 0 i))) 3 i - cum (fun s i => x3 (ix2 (row m s) (col 0 i))) t i)
    ∧ k0_pay323 x0 x1 x2 x3 x4 x5 x6 (ix2 i (row m t)) = Ideal.exp (cum (fun s i => x3 (ix2 (row m s) (col 0 i))) 3 i)
    ∧ k0_pay324 x0 x1 x2 x3 x4 x5 x6 (ix2 x j) = x2 (ix2 x (col 0 j)) := by
  have s := sums (fun c i => x3 (ix2 c (col 0 i))) m t i
  unfold k0_pay322 k0_pay323 k0_pay324 k0_pay317 k0_pay318 k0_pay319 k0_pay320 k0_pay310 k0_pay311 k0_pay306 k0_pay307 k0_pay308 k0_pay309
  rw [← s.1, ← s.2]
  have a1 := fun c i => (ld_head x1 c i).1
  have a2 := fun c i => (ld_head x2 c i).1
  have a3 := fun c i => (ld_head x3 c i).1
  generalize View.ld x1 r0_1 = y1 at a1 ⊢
  generalize View.ld x2 r0_1 = y2 at a2 ⊢
  generalize View.ld x3 r0_1 = y3 at a3 ⊢
  simp only [← a1, ← a2, ← a3]
  refine ⟨?_, ?_, ?_⟩
  · pointwise [k0_pay18, k0_pay19, k0_pay20, k0_pay21, k0_pay26, k0_pay27, k0_pay28]
  · pointwise [k0_pay18, k0_pay19, k0_pay20, k0_pay21, k0_pay26, k0_pay27, k0_pay28]
  · pointwise [k0_pay18, k0_pay19, k0_pay20, k0_pay21, k0_pay26, k0_pay27, k0_pay28]

/-- What head 0 stores for sequence `n` is its state after the sequence's tokens. -/
theorem new0 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (i j : Fin 128) (s : EReal) (hs : s = x6 (ix5 0 n 0 i j)) :
    stored (fun x => k0_pay313 x0 x1 x2 x3 x4 x5 x6 (ix2 i x)) (fun x => k0_pay322 x0 x1 x2 x3 x4 x5 x6 (ix2 i x)) (k0_pay323 x0 x1 x2 x3 x4 x5 x6 (ix2 i (row n 0)))
        (fun x => k0_pay324 x0 x1 x2 x3 x4 x5 x6 (ix2 x j)) s (BitVec.ofNat 32 n.val)
      = newState x1 x2 x3 x6 n 0 i j :=
  stored_eq (fun c i => x1 (ix2 c (col 0 i))) (fun c i => x2 (ix2 c (col 0 i))) (fun c i => x3 (ix2 c (col 0 i)))
    (fun i j => x6 (ix5 0 n 0 i j)) i j n _ _ _ _ _ (fun x => colseq_apply i x)
    (fun m t => (parts0 x0 x1 x2 x3 x4 x5 x6 m t 0 i j).1) (fun x => (parts0 x0 x1 x2 x3 x4 x5 x6 0 0 x i j).2.2)
    ((parts0 x0 x1 x2 x3 x4 x5 x6 n 0 0 i j).2.1) hs

/-- Head 1's keys, decays and values in the form its state blocks use, at an index. -/
theorem parts1 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (m : Fin 16) (t : Fin 4) (x : Fin 64) (i j : Fin 128) :
    k0_pay337 x0 x1 x2 x3 x4 x5 x6 (ix2 i (row m t)) = x1 (ix2 (row m t) (col 1 i))
        * Ideal.exp (cum (fun s i => x3 (ix2 (row m s) (col 1 i))) 3 i - cum (fun s i => x3 (ix2 (row m s) (col 1 i))) t i)
    ∧ k0_pay338 x0 x1 x2 x3 x4 x5 x6 (ix2 i (row m t)) = Ideal.exp (cum (fun s i => x3 (ix2 (row m s) (col 1 i))) 3 i)
    ∧ k0_pay339 x0 x1 x2 x3 x4 x5 x6 (ix2 x j) = x2 (ix2 x (col 1 j)) := by
  have s := sums (fun c i => x3 (ix2 c (col 1 i))) m t i
  unfold k0_pay337 k0_pay338 k0_pay339 k0_pay331 k0_pay332 k0_pay333 k0_pay334 k0_pay310 k0_pay311 k0_pay306 k0_pay307 k0_pay308 k0_pay309
  rw [← s.1, ← s.2]
  have a1 := fun c i => (ld_head x1 c i).2.1
  have a2 := fun c i => (ld_head x2 c i).2.1
  have a3 := fun c i => (ld_head x3 c i).2.1
  generalize View.ld x1 r0_34 = y1 at a1 ⊢
  generalize View.ld x2 r0_34 = y2 at a2 ⊢
  generalize View.ld x3 r0_34 = y3 at a3 ⊢
  simp only [← a1, ← a2, ← a3]
  refine ⟨?_, ?_, ?_⟩
  · pointwise [k0_pay87, k0_pay88, k0_pay89, k0_pay90, k0_pay99, k0_pay100, k0_pay101]
  · pointwise [k0_pay87, k0_pay88, k0_pay89, k0_pay90, k0_pay99, k0_pay100, k0_pay101]
  · pointwise [k0_pay87, k0_pay88, k0_pay89, k0_pay90, k0_pay99, k0_pay100, k0_pay101]

/-- What head 1 stores for sequence `n` is its state after the sequence's tokens. -/
theorem new1 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (i j : Fin 128) (s : EReal) (hs : s = x6 (ix5 0 n 1 i j)) :
    stored (fun x => k0_pay313 x0 x1 x2 x3 x4 x5 x6 (ix2 i x)) (fun x => k0_pay337 x0 x1 x2 x3 x4 x5 x6 (ix2 i x)) (k0_pay338 x0 x1 x2 x3 x4 x5 x6 (ix2 i (row n 0)))
        (fun x => k0_pay339 x0 x1 x2 x3 x4 x5 x6 (ix2 x j)) s (BitVec.ofNat 32 n.val)
      = newState x1 x2 x3 x6 n 1 i j :=
  stored_eq (fun c i => x1 (ix2 c (col 1 i))) (fun c i => x2 (ix2 c (col 1 i))) (fun c i => x3 (ix2 c (col 1 i)))
    (fun i j => x6 (ix5 0 n 1 i j)) i j n _ _ _ _ _ (fun x => colseq_apply i x)
    (fun m t => (parts1 x0 x1 x2 x3 x4 x5 x6 m t 0 i j).1) (fun x => (parts1 x0 x1 x2 x3 x4 x5 x6 0 0 x i j).2.2)
    ((parts1 x0 x1 x2 x3 x4 x5 x6 n 0 0 i j).2.1) hs

/-- Head 2's keys, decays and values in the form its state blocks use, at an index. -/
theorem parts2 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (m : Fin 16) (t : Fin 4) (x : Fin 64) (i j : Fin 128) :
    k0_pay355 x0 x1 x2 x3 x4 x5 x6 (ix2 i (row m t)) = x1 (ix2 (row m t) (col 2 i))
        * Ideal.exp (cum (fun s i => x3 (ix2 (row m s) (col 2 i))) 3 i - cum (fun s i => x3 (ix2 (row m s) (col 2 i))) t i)
    ∧ k0_pay357 x0 x1 x2 x3 x4 x5 x6 (ix2 i (row m t)) = Ideal.exp (cum (fun s i => x3 (ix2 (row m s) (col 2 i))) 3 i)
    ∧ k0_pay358 x0 x1 x2 x3 x4 x5 x6 (ix2 x j) = x2 (ix2 x (col 2 j)) := by
  have s := sums (fun c i => x3 (ix2 c (col 2 i))) m t i
  unfold k0_pay355 k0_pay357 k0_pay358 k0_pay356 k0_pay350 k0_pay351 k0_pay352 k0_pay353 k0_pay310 k0_pay311 k0_pay306 k0_pay307 k0_pay308 k0_pay309
  rw [← s.1, ← s.2]
  have a1 := fun c i => (ld_head x1 c i).2.2.1
  have a2 := fun c i => (ld_head x2 c i).2.2.1
  have a3 := fun c i => (ld_head x3 c i).2.2.1
  generalize View.ld x1 r0_67 = y1 at a1 ⊢
  generalize View.ld x2 r0_67 = y2 at a2 ⊢
  generalize View.ld x3 r0_67 = y3 at a3 ⊢
  simp only [← a1, ← a2, ← a3]
  refine ⟨?_, ?_, ?_⟩
  · pointwise [k0_pay173, k0_pay161, k0_pay162, k0_pay163, k0_pay164, k0_pay172, k0_pay174, k0_pay175]
  · pointwise [k0_pay173, k0_pay161, k0_pay162, k0_pay163, k0_pay164, k0_pay172, k0_pay174, k0_pay175]
  · pointwise [k0_pay173, k0_pay161, k0_pay162, k0_pay163, k0_pay164, k0_pay172, k0_pay174, k0_pay175]

/-- What head 2 stores for sequence `n` is its state after the sequence's tokens. -/
theorem new2 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (i j : Fin 128) (s : EReal) (hs : s = x6 (ix5 0 n 2 i j)) :
    stored (fun x => k0_pay313 x0 x1 x2 x3 x4 x5 x6 (ix2 i x)) (fun x => k0_pay355 x0 x1 x2 x3 x4 x5 x6 (ix2 i x)) (k0_pay357 x0 x1 x2 x3 x4 x5 x6 (ix2 i (row n 0)))
        (fun x => k0_pay358 x0 x1 x2 x3 x4 x5 x6 (ix2 x j)) s (BitVec.ofNat 32 n.val)
      = newState x1 x2 x3 x6 n 2 i j :=
  stored_eq (fun c i => x1 (ix2 c (col 2 i))) (fun c i => x2 (ix2 c (col 2 i))) (fun c i => x3 (ix2 c (col 2 i)))
    (fun i j => x6 (ix5 0 n 2 i j)) i j n _ _ _ _ _ (fun x => colseq_apply i x)
    (fun m t => (parts2 x0 x1 x2 x3 x4 x5 x6 m t 0 i j).1) (fun x => (parts2 x0 x1 x2 x3 x4 x5 x6 0 0 x i j).2.2)
    ((parts2 x0 x1 x2 x3 x4 x5 x6 n 0 0 i j).2.1) hs

/-- Head 3's keys, decays and values in the form its state blocks use, at an index. -/
theorem parts3 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (m : Fin 16) (t : Fin 4) (x : Fin 64) (i j : Fin 128) :
    k0_pay370 x0 x1 x2 x3 x4 x5 x6 (ix2 i (row m t)) = x1 (ix2 (row m t) (col 3 i))
        * Ideal.exp (cum (fun s i => x3 (ix2 (row m s) (col 3 i))) 3 i - cum (fun s i => x3 (ix2 (row m s) (col 3 i))) t i)
    ∧ k0_pay371 x0 x1 x2 x3 x4 x5 x6 (ix2 i (row m t)) = Ideal.exp (cum (fun s i => x3 (ix2 (row m s) (col 3 i))) 3 i)
    ∧ k0_pay372 x0 x1 x2 x3 x4 x5 x6 (ix2 x j) = x2 (ix2 x (col 3 j)) := by
  have s := sums (fun c i => x3 (ix2 c (col 3 i))) m t i
  unfold k0_pay370 k0_pay371 k0_pay372 k0_pay365 k0_pay366 k0_pay367 k0_pay368 k0_pay310 k0_pay311 k0_pay306 k0_pay307 k0_pay308 k0_pay309
  rw [← s.1, ← s.2]
  have a1 := fun c i => (ld_head x1 c i).2.2.2
  have a2 := fun c i => (ld_head x2 c i).2.2.2
  have a3 := fun c i => (ld_head x3 c i).2.2.2
  generalize View.ld x1 r0_100 = y1 at a1 ⊢
  generalize View.ld x2 r0_100 = y2 at a2 ⊢
  generalize View.ld x3 r0_100 = y3 at a3 ⊢
  simp only [← a1, ← a2, ← a3]
  refine ⟨?_, ?_, ?_⟩
  · pointwise [k0_pay235, k0_pay236, k0_pay237, k0_pay238, k0_pay243, k0_pay244, k0_pay245]
  · pointwise [k0_pay235, k0_pay236, k0_pay237, k0_pay238, k0_pay243, k0_pay244, k0_pay245]
  · pointwise [k0_pay235, k0_pay236, k0_pay237, k0_pay238, k0_pay243, k0_pay244, k0_pay245]

/-- What head 3 stores for sequence `n` is its state after the sequence's tokens. -/
theorem new3 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (i j : Fin 128) (s : EReal) (hs : s = x6 (ix5 0 n 3 i j)) :
    stored (fun x => k0_pay313 x0 x1 x2 x3 x4 x5 x6 (ix2 i x)) (fun x => k0_pay370 x0 x1 x2 x3 x4 x5 x6 (ix2 i x)) (k0_pay371 x0 x1 x2 x3 x4 x5 x6 (ix2 i (row n 0)))
        (fun x => k0_pay372 x0 x1 x2 x3 x4 x5 x6 (ix2 x j)) s (BitVec.ofNat 32 n.val)
      = newState x1 x2 x3 x6 n 3 i j :=
  stored_eq (fun c i => x1 (ix2 c (col 3 i))) (fun c i => x2 (ix2 c (col 3 i))) (fun c i => x3 (ix2 c (col 3 i)))
    (fun i j => x6 (ix5 0 n 3 i j)) i j n _ _ _ _ _ (fun x => colseq_apply i x)
    (fun m t => (parts3 x0 x1 x2 x3 x4 x5 x6 m t 0 i j).1) (fun x => (parts3 x0 x1 x2 x3 x4 x5 x6 0 0 x i j).2.2)
    ((parts3 x0 x1 x2 x3 x4 x5 x6 n 0 0 i j).2.1) hs

/-- The body's minus infinity. -/
theorem big_eq : (Named.named κ "big" 0xF149F2CA#32 : Ideal .f32) = (⊥ : EReal) :=
  IdealRules.named_const.ideal_named_scalar _ _ _ _ rfl

/-- A stored group of columns agrees with a function of the whole block's index, if it does token by token. -/
theorem placeRow (h : Fin 4) (b : ∀ a, (![0, 128 * h.val] : Fin 2 → Nat) a + S64x128.size a ≤ S64x512.size a)
    (f : Vec Ideal S64x128 .bf16) (G : Fin 16 → Fin 4 → Fin 4 → Fin 128 → EReal)
    (hf : ∀ n t j, f (ix2 (row n t) j) = G n t h j) (y : S64x128.Idx) :
    f y = (fun i : S64x512.Idx => G ⟨(i 0).val / 4, by have := (i 0).isLt; change (i 0).val < 64 at this; omega⟩
        ⟨(i 0).val % 4, by omega⟩ ⟨(i 1).val / 128, by have := (i 1).isLt; change (i 1).val < 512 at this; omega⟩
        ⟨(i 1).val % 128, by omega⟩)
      ((Rect.unit (s := S64x512) ![0, 128 * h.val] S64x128.size b).emb y) := by
  obtain ⟨c, j, rfl⟩ : ∃ (c : Fin 64) (j : Fin 128), y = ix2 c j := ⟨y 0, y 1, Shape.idx_ext₂ rfl rfl⟩
  have e0 : (Rect.unit (s := S64x512) ![0, 128 * h.val] S64x128.size b).emb (ix2 c j) = ix2 c (col h j) :=
    Shape.idx_ext₂ (by show 0 + 1 * c.val = c.val; omega) (by show 128 * h.val + 1 * j.val = 128 * h.val + j.val; omega)
  have ec : c = row ⟨c.val / 4, by omega⟩ ⟨c.val % 4, by omega⟩ := Fin.ext (by
    show c.val = 4 * (c.val / 4) + c.val % 4; omega)
  have eh : (⟨(col h j).val / 128, by have := (col h j).isLt; omega⟩ : Fin 4) = h := Fin.ext (by
    show (128 * h.val + j.val) / 128 = h.val; omega)
  have ej : (⟨(col h j).val % 128, by omega⟩ : Fin 128) = j := Fin.ext (by
    show (128 * h.val + j.val) % 128 = j.val; omega)
  rw [e0]
  refine (congrArg (fun c => f (ix2 c j)) ec).trans ((hf _ _ j).trans ?_)
  show G _ _ h j = G _ _ ⟨(col h j).val / 128, _⟩ ⟨(col h j).val % 128, _⟩
  rw [eh, ej]
  rfl

/-- The body's norm weights, at an index. -/
theorem gnorm (x0 x1 x2 : Vec Ideal S64x512 .bf16) (x3 : Vec Ideal S64x512 .f32) (x4 : Vec Ideal S64x512 .bf16)
    (x5 : Vec Ideal S1x128 .f32) (x6 : Vec Ideal S1x16x4x128x128 .f32) (x : Fin 128) :
    k0_pay315 x0 x1 x2 x3 x4 x5 x6 (ix2 0 x) = x5 (ix2 0 x) := by
  unfold k0_pay315
  have e : View.ld x5 r0_0 = x5 := View.ld_unit_zero hz _ _
  rw [e]
  pointwise [k0_pay16]

/-- The rectangle of one old state lies in the block of old states. -/
theorem inb (n : Fin 16) (h : Fin 4) (a : Fin 5) :
    (![0, n.val, h.val, 0, 0] : Fin 5 → Nat) a + S1x1x1x128x128.size a ≤ S1x16x4x128x128.size a := by
  revert n h a; decide

/-- The rectangle of one new state lies in the block of new states. -/
theorem inbOut (n : Fin 16) (h : Fin 4) (a : Fin 4) :
    (![n.val, h.val, 0, 0] : Fin 4 → Nat) a + S1x1x128x128.size a ≤ S16x4x128x128.size a := by
  revert n h a; decide

/-- The rectangle of one head's rows lies in the block of rows. -/
theorem inbRow (h : Fin 4) (a : Fin 2) : (![0, 128 * h.val] : Fin 2 → Nat) a + S64x128.size a ≤ S64x512.size a := by
  revert h a; decide

/-- Head 0's rows in the form of the body, at a token. -/
theorem row0 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (t : Fin 4) (j : Fin 128) :
    rows (Named.named κ "big" 0xF149F2CA#32 : Ideal .f32) (fun c x => k0_pay312 x0 x1 x2 x3 x4 x5 x6 (ix2 c x)) (fun r x => k0_pay314 x0 x1 x2 x3 x4 x5 x6 (ix2 r x))
        (fun c x => View.ld x0 r0_1 (ix2 c x)) (fun c x => View.ld x1 r0_1 (ix2 c x)) (fun c x => View.ld x2 r0_1 (ix2 c x))
        (fun c x => ∑ e : Fin 64, k0_pay310 x0 x1 x2 x3 x4 x5 x6 (ix2 c e) * View.ld x3 r0_1 (ix2 e x))
        (fun n i x => View.ld x6 (Rect.unit (s := S1x16x4x128x128) ![0, n.val, (0 : Fin 4).val, 0, 0] S1x1x1x128x128.size (inb n 0))
          (ix5 0 0 0 i x))
        (fun x => k0_pay315 x0 x1 x2 x3 x4 x5 x6 (ix2 0 x)) (fun c x => View.ld x4 r0_1 (ix2 c x)) (row n t) j
      = newRow x0 x1 x2 x3 x4 x5 x6 n t 0 j := by
  have h0 : (fun c x => View.ld x0 r0_1 (ix2 c x)) = fun c x => x0 (ix2 c (col 0 x)) := funext fun c => funext fun x => (ld_head x0 c x).1
  have h1 : (fun c x => View.ld x1 r0_1 (ix2 c x)) = fun c x => x1 (ix2 c (col 0 x)) := funext fun c => funext fun x => (ld_head x1 c x).1
  have h2 : (fun c x => View.ld x2 r0_1 (ix2 c x)) = fun c x => x2 (ix2 c (col 0 x)) := funext fun c => funext fun x => (ld_head x2 c x).1
  have h4 : (fun c x => View.ld x4 r0_1 (ix2 c x)) = fun c x => x4 (ix2 c (col 0 x)) := funext fun c => funext fun x => (ld_head x4 c x).1
  have h3 : ∀ c x, View.ld x3 r0_1 (ix2 c x) = x3 (ix2 c (col 0 x)) := fun c x => (ld_head x3 c x).1
  have h6 : (fun n i x => View.ld x6 (Rect.unit (s := S1x16x4x128x128) ![0, n.val, (0 : Fin 4).val, 0, 0] S1x1x1x128x128.size (inb n 0))
      (ix5 0 0 0 i x)) = fun n i x => x6 (ix5 0 n 0 i x) := funext fun n => funext fun i => funext fun x => ld_state x6 n 0 (inb n 0) i x
  have h5 : (fun x => k0_pay315 x0 x1 x2 x3 x4 x5 x6 (ix2 0 x)) = fun x => x5 (ix2 0 x) := funext fun x => gnorm x0 x1 x2 x3 x4 x5 x6 x
  rw [big_eq, h0, h1, h2, h4, h6, h5]
  exact rows_eq _ (fun c x => tok_apply c x) _ (fun r x => grpseq_apply r x) _ _ _ (fun c x => x3 (ix2 c (col 0 x))) _
    (fun n t i => (Finset.sum_congr rfl fun e _ => congrArg (_ * ·) (h3 e i)).trans (sums (fun c x => x3 (ix2 c (col 0 x))) n t i).1) _ _ _ n t j

/-- Head 1's rows in the form of the body, at a token. -/
theorem row1 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (t : Fin 4) (j : Fin 128) :
    rows (Named.named κ "big" 0xF149F2CA#32 : Ideal .f32) (fun c x => k0_pay312 x0 x1 x2 x3 x4 x5 x6 (ix2 c x)) (fun r x => k0_pay314 x0 x1 x2 x3 x4 x5 x6 (ix2 r x))
        (fun c x => View.ld x0 r0_34 (ix2 c x)) (fun c x => View.ld x1 r0_34 (ix2 c x)) (fun c x => View.ld x2 r0_34 (ix2 c x))
        (fun c x => ∑ e : Fin 64, k0_pay310 x0 x1 x2 x3 x4 x5 x6 (ix2 c e) * View.ld x3 r0_34 (ix2 e x))
        (fun n i x => View.ld x6 (Rect.unit (s := S1x16x4x128x128) ![0, n.val, (1 : Fin 4).val, 0, 0] S1x1x1x128x128.size (inb n 1))
          (ix5 0 0 0 i x))
        (fun x => k0_pay315 x0 x1 x2 x3 x4 x5 x6 (ix2 0 x)) (fun c x => View.ld x4 r0_34 (ix2 c x)) (row n t) j
      = newRow x0 x1 x2 x3 x4 x5 x6 n t 1 j := by
  have h0 : (fun c x => View.ld x0 r0_34 (ix2 c x)) = fun c x => x0 (ix2 c (col 1 x)) := funext fun c => funext fun x => (ld_head x0 c x).2.1
  have h1 : (fun c x => View.ld x1 r0_34 (ix2 c x)) = fun c x => x1 (ix2 c (col 1 x)) := funext fun c => funext fun x => (ld_head x1 c x).2.1
  have h2 : (fun c x => View.ld x2 r0_34 (ix2 c x)) = fun c x => x2 (ix2 c (col 1 x)) := funext fun c => funext fun x => (ld_head x2 c x).2.1
  have h4 : (fun c x => View.ld x4 r0_34 (ix2 c x)) = fun c x => x4 (ix2 c (col 1 x)) := funext fun c => funext fun x => (ld_head x4 c x).2.1
  have h3 : ∀ c x, View.ld x3 r0_34 (ix2 c x) = x3 (ix2 c (col 1 x)) := fun c x => (ld_head x3 c x).2.1
  have h6 : (fun n i x => View.ld x6 (Rect.unit (s := S1x16x4x128x128) ![0, n.val, (1 : Fin 4).val, 0, 0] S1x1x1x128x128.size (inb n 1))
      (ix5 0 0 0 i x)) = fun n i x => x6 (ix5 0 n 1 i x) := funext fun n => funext fun i => funext fun x => ld_state x6 n 1 (inb n 1) i x
  have h5 : (fun x => k0_pay315 x0 x1 x2 x3 x4 x5 x6 (ix2 0 x)) = fun x => x5 (ix2 0 x) := funext fun x => gnorm x0 x1 x2 x3 x4 x5 x6 x
  rw [big_eq, h0, h1, h2, h4, h6, h5]
  exact rows_eq _ (fun c x => tok_apply c x) _ (fun r x => grpseq_apply r x) _ _ _ (fun c x => x3 (ix2 c (col 1 x))) _
    (fun n t i => (Finset.sum_congr rfl fun e _ => congrArg (_ * ·) (h3 e i)).trans (sums (fun c x => x3 (ix2 c (col 1 x))) n t i).1) _ _ _ n t j

/-- Head 2's rows in the form of the body, at a token. -/
theorem row2 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (t : Fin 4) (j : Fin 128) :
    rows (Named.named κ "big" 0xF149F2CA#32 : Ideal .f32) (fun c x => k0_pay312 x0 x1 x2 x3 x4 x5 x6 (ix2 c x)) (fun r x => k0_pay314 x0 x1 x2 x3 x4 x5 x6 (ix2 r x))
        (fun c x => View.ld x0 r0_67 (ix2 c x)) (fun c x => View.ld x1 r0_67 (ix2 c x)) (fun c x => View.ld x2 r0_67 (ix2 c x))
        (fun c x => ∑ e : Fin 64, k0_pay310 x0 x1 x2 x3 x4 x5 x6 (ix2 c e) * View.ld x3 r0_67 (ix2 e x))
        (fun n i x => View.ld x6 (Rect.unit (s := S1x16x4x128x128) ![0, n.val, (2 : Fin 4).val, 0, 0] S1x1x1x128x128.size (inb n 2))
          (ix5 0 0 0 i x))
        (fun x => k0_pay315 x0 x1 x2 x3 x4 x5 x6 (ix2 0 x)) (fun c x => View.ld x4 r0_67 (ix2 c x)) (row n t) j
      = newRow x0 x1 x2 x3 x4 x5 x6 n t 2 j := by
  have h0 : (fun c x => View.ld x0 r0_67 (ix2 c x)) = fun c x => x0 (ix2 c (col 2 x)) := funext fun c => funext fun x => (ld_head x0 c x).2.2.1
  have h1 : (fun c x => View.ld x1 r0_67 (ix2 c x)) = fun c x => x1 (ix2 c (col 2 x)) := funext fun c => funext fun x => (ld_head x1 c x).2.2.1
  have h2 : (fun c x => View.ld x2 r0_67 (ix2 c x)) = fun c x => x2 (ix2 c (col 2 x)) := funext fun c => funext fun x => (ld_head x2 c x).2.2.1
  have h4 : (fun c x => View.ld x4 r0_67 (ix2 c x)) = fun c x => x4 (ix2 c (col 2 x)) := funext fun c => funext fun x => (ld_head x4 c x).2.2.1
  have h3 : ∀ c x, View.ld x3 r0_67 (ix2 c x) = x3 (ix2 c (col 2 x)) := fun c x => (ld_head x3 c x).2.2.1
  have h6 : (fun n i x => View.ld x6 (Rect.unit (s := S1x16x4x128x128) ![0, n.val, (2 : Fin 4).val, 0, 0] S1x1x1x128x128.size (inb n 2))
      (ix5 0 0 0 i x)) = fun n i x => x6 (ix5 0 n 2 i x) := funext fun n => funext fun i => funext fun x => ld_state x6 n 2 (inb n 2) i x
  have h5 : (fun x => k0_pay315 x0 x1 x2 x3 x4 x5 x6 (ix2 0 x)) = fun x => x5 (ix2 0 x) := funext fun x => gnorm x0 x1 x2 x3 x4 x5 x6 x
  rw [big_eq, h0, h1, h2, h4, h6, h5]
  exact rows_eq _ (fun c x => tok_apply c x) _ (fun r x => grpseq_apply r x) _ _ _ (fun c x => x3 (ix2 c (col 2 x))) _
    (fun n t i => (Finset.sum_congr rfl fun e _ => congrArg (_ * ·) (h3 e i)).trans (sums (fun c x => x3 (ix2 c (col 2 x))) n t i).1) _ _ _ n t j

/-- Head 3's rows in the form of the body, at a token. -/
theorem row3 (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (t : Fin 4) (j : Fin 128) :
    rows (Named.named κ "big" 0xF149F2CA#32 : Ideal .f32) (fun c x => k0_pay312 x0 x1 x2 x3 x4 x5 x6 (ix2 c x)) (fun r x => k0_pay314 x0 x1 x2 x3 x4 x5 x6 (ix2 r x))
        (fun c x => View.ld x0 r0_100 (ix2 c x)) (fun c x => View.ld x1 r0_100 (ix2 c x)) (fun c x => View.ld x2 r0_100 (ix2 c x))
        (fun c x => ∑ e : Fin 64, k0_pay310 x0 x1 x2 x3 x4 x5 x6 (ix2 c e) * View.ld x3 r0_100 (ix2 e x))
        (fun n i x => View.ld x6 (Rect.unit (s := S1x16x4x128x128) ![0, n.val, (3 : Fin 4).val, 0, 0] S1x1x1x128x128.size (inb n 3))
          (ix5 0 0 0 i x))
        (fun x => k0_pay315 x0 x1 x2 x3 x4 x5 x6 (ix2 0 x)) (fun c x => View.ld x4 r0_100 (ix2 c x)) (row n t) j
      = newRow x0 x1 x2 x3 x4 x5 x6 n t 3 j := by
  have h0 : (fun c x => View.ld x0 r0_100 (ix2 c x)) = fun c x => x0 (ix2 c (col 3 x)) := funext fun c => funext fun x => (ld_head x0 c x).2.2.2
  have h1 : (fun c x => View.ld x1 r0_100 (ix2 c x)) = fun c x => x1 (ix2 c (col 3 x)) := funext fun c => funext fun x => (ld_head x1 c x).2.2.2
  have h2 : (fun c x => View.ld x2 r0_100 (ix2 c x)) = fun c x => x2 (ix2 c (col 3 x)) := funext fun c => funext fun x => (ld_head x2 c x).2.2.2
  have h4 : (fun c x => View.ld x4 r0_100 (ix2 c x)) = fun c x => x4 (ix2 c (col 3 x)) := funext fun c => funext fun x => (ld_head x4 c x).2.2.2
  have h3 : ∀ c x, View.ld x3 r0_100 (ix2 c x) = x3 (ix2 c (col 3 x)) := fun c x => (ld_head x3 c x).2.2.2
  have h6 : (fun n i x => View.ld x6 (Rect.unit (s := S1x16x4x128x128) ![0, n.val, (3 : Fin 4).val, 0, 0] S1x1x1x128x128.size (inb n 3))
      (ix5 0 0 0 i x)) = fun n i x => x6 (ix5 0 n 3 i x) := funext fun n => funext fun i => funext fun x => ld_state x6 n 3 (inb n 3) i x
  have h5 : (fun x => k0_pay315 x0 x1 x2 x3 x4 x5 x6 (ix2 0 x)) = fun x => x5 (ix2 0 x) := funext fun x => gnorm x0 x1 x2 x3 x4 x5 x6 x
  rw [big_eq, h0, h1, h2, h4, h6, h5]
  exact rows_eq _ (fun c x => tok_apply c x) _ (fun r x => grpseq_apply r x) _ _ _ (fun c x => x3 (ix2 c (col 3 x))) _
    (fun n t i => (Finset.sum_congr rfl fun e _ => congrArg (_ * ·) (h3 e i)).trans (sums (fun c x => x3 (ix2 c (col 3 x))) n t i).1) _ _ _ n t j

/-- The rows the body stores. -/
theorem out7_apply (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (t h : Fin 4) (j : Fin 128) :
    out0_7 (F := Ideal) x0 x1 x2 x3 x4 x5 x6 (ix2 (row n t) (col h j)) = newRow x0 x1 x2 x3 x4 x5 x6 n t h j := by
  unfold out0_7
  refine (View.canon_apply_of_pieces (Val := Elt Ideal) (S := S64x512) (e := .bf16) (fun i : S64x512.Idx => newRow x0 x1 x2 x3 x4 x5 x6 ⟨(i 0).val / 4, by have := (i 0).isLt; change (i 0).val < 64 at this; omega⟩
        ⟨(i 0).val % 4, by omega⟩ ⟨(i 1).val / 128, by have := (i 1).isLt; change (i 1).val < 512 at this; omega⟩
        ⟨(i 1).val % 128, by omega⟩) _ (List.forall_mem_cons.2 ⟨?_, List.forall_mem_cons.2 ⟨?_, List.forall_mem_cons.2 ⟨?_,
          List.forall_mem_cons.2 ⟨?_, List.forall_mem_nil _⟩⟩⟩⟩) _ (cover0_7 _ _ _ _ _)).trans ?_
  · exact placeRow 3 (inbRow 3) _ (newRow x0 x1 x2 x3 x4 x5 x6) fun n t j => (rows3 (k0_pay310 x0 x1 x2 x3 x4 x5 x6) (k0_pay312 x0 x1 x2 x3 x4 x5 x6) (k0_pay314 x0 x1 x2 x3 x4 x5 x6) (k0_pay315 x0 x1 x2 x3 x4 x5 x6)
      (View.ld x0 r0_100) (View.ld x1 r0_100) (View.ld x2 r0_100) (View.ld x3 r0_100) (View.ld x4 r0_100)
      (fun n => View.ld x6 (Rect.unit (s := S1x16x4x128x128) ![0, n.val, (3 : Fin 4).val, 0, 0] S1x1x1x128x128.size (inb n 3)))
      (row n t) j).trans (row3 x0 x1 x2 x3 x4 x5 x6 n t j)
  · exact placeRow 2 (inbRow 2) _ (newRow x0 x1 x2 x3 x4 x5 x6) fun n t j => (rows2 (k0_pay310 x0 x1 x2 x3 x4 x5 x6) (k0_pay312 x0 x1 x2 x3 x4 x5 x6) (k0_pay314 x0 x1 x2 x3 x4 x5 x6) (k0_pay315 x0 x1 x2 x3 x4 x5 x6)
      (View.ld x0 r0_67) (View.ld x1 r0_67) (View.ld x2 r0_67) (View.ld x3 r0_67) (View.ld x4 r0_67)
      (fun n => View.ld x6 (Rect.unit (s := S1x16x4x128x128) ![0, n.val, (2 : Fin 4).val, 0, 0] S1x1x1x128x128.size (inb n 2)))
      (row n t) j).trans (row2 x0 x1 x2 x3 x4 x5 x6 n t j)
  · exact placeRow 1 (inbRow 1) _ (newRow x0 x1 x2 x3 x4 x5 x6) fun n t j => (rows1 (k0_pay310 x0 x1 x2 x3 x4 x5 x6) (k0_pay312 x0 x1 x2 x3 x4 x5 x6) (k0_pay314 x0 x1 x2 x3 x4 x5 x6) (k0_pay315 x0 x1 x2 x3 x4 x5 x6)
      (View.ld x0 r0_34) (View.ld x1 r0_34) (View.ld x2 r0_34) (View.ld x3 r0_34) (View.ld x4 r0_34)
      (fun n => View.ld x6 (Rect.unit (s := S1x16x4x128x128) ![0, n.val, (1 : Fin 4).val, 0, 0] S1x1x1x128x128.size (inb n 1)))
      (row n t) j).trans (row1 x0 x1 x2 x3 x4 x5 x6 n t j)
  · exact placeRow 0 (inbRow 0) _ (newRow x0 x1 x2 x3 x4 x5 x6) fun n t j => (rows0 (k0_pay310 x0 x1 x2 x3 x4 x5 x6) (k0_pay312 x0 x1 x2 x3 x4 x5 x6) (k0_pay314 x0 x1 x2 x3 x4 x5 x6) (k0_pay315 x0 x1 x2 x3 x4 x5 x6)
      (View.ld x0 r0_1) (View.ld x1 r0_1) (View.ld x2 r0_1) (View.ld x3 r0_1) (View.ld x4 r0_1)
      (fun n => View.ld x6 (Rect.unit (s := S1x16x4x128x128) ![0, n.val, (0 : Fin 4).val, 0, 0] S1x1x1x128x128.size (inb n 0)))
      (row n t) j).trans (row0 x0 x1 x2 x3 x4 x5 x6 n t j)
  · have en : (⟨(row n t).val / 4, by have := (row n t).isLt; omega⟩ : Fin 16) = n := Fin.ext (row_div n t)
    have et : (⟨(row n t).val % 4, by omega⟩ : Fin 4) = t := Fin.ext (by show (4 * n.val + t.val) % 4 = t.val; omega)
    have eh : (⟨(col h j).val / 128, by have := (col h j).isLt; omega⟩ : Fin 4) = h := Fin.ext (by
      show (128 * h.val + j.val) / 128 = h.val; omega)
    have ej : (⟨(col h j).val % 128, by omega⟩ : Fin 128) = j := Fin.ext (by
      show (128 * h.val + j.val) % 128 = j.val; omega)
    show newRow x0 x1 x2 x3 x4 x5 x6 ⟨(row n t).val / 4, _⟩ ⟨(row n t).val % 4, _⟩ ⟨(col h j).val / 128, _⟩ ⟨(col h j).val % 128, _⟩ = _
    rw [en, et, eh, ej]

/-- The state blocks the body stores. -/
theorem out8_apply (x0 x1 x2 : Vec Ideal S64x512 .bf16) (x3 : Vec Ideal S64x512 .f32) (x4 : Vec Ideal S64x512 .bf16)
    (x5 : Vec Ideal S1x128 .f32) (x6 : Vec Ideal S1x16x4x128x128 .f32)
    (n : Fin 16) (h : Fin 4) (i j : Fin 128) :
    out0_8 (F := Ideal) x0 x1 x2 x3 x4 x5 x6 (ix4 n h i j) = newState x1 x2 x3 x6 n h i j := by
  unfold out0_8
  refine View.canon_apply_of_pieces (Val := Elt Ideal) (S := S16x4x128x128) (e := .f32) (fun i : S16x4x128x128.Idx => newState x1 x2 x3 x6 (i 0) (i 1) (i 2) (i 3)) _
    (List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩) (ix4 n h i j) (cover0_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · exact place 15 3 (inbOut 15 3) _ (newState x1 x2 x3 x6) fun i j => (state3_15 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 15 i j _ (ld_state x6 15 3 (inb 15 3) i j))
  · exact place 14 3 (inbOut 14 3) _ (newState x1 x2 x3 x6) fun i j => (state3_14 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 14 i j _ (ld_state x6 14 3 (inb 14 3) i j))
  · exact place 13 3 (inbOut 13 3) _ (newState x1 x2 x3 x6) fun i j => (state3_13 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 13 i j _ (ld_state x6 13 3 (inb 13 3) i j))
  · exact place 12 3 (inbOut 12 3) _ (newState x1 x2 x3 x6) fun i j => (state3_12 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 12 i j _ (ld_state x6 12 3 (inb 12 3) i j))
  · exact place 11 3 (inbOut 11 3) _ (newState x1 x2 x3 x6) fun i j => (state3_11 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 11 i j _ (ld_state x6 11 3 (inb 11 3) i j))
  · exact place 10 3 (inbOut 10 3) _ (newState x1 x2 x3 x6) fun i j => (state3_10 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 10 i j _ (ld_state x6 10 3 (inb 10 3) i j))
  · exact place 9 3 (inbOut 9 3) _ (newState x1 x2 x3 x6) fun i j => (state3_9 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 9 i j _ (ld_state x6 9 3 (inb 9 3) i j))
  · exact place 8 3 (inbOut 8 3) _ (newState x1 x2 x3 x6) fun i j => (state3_8 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 8 i j _ (ld_state x6 8 3 (inb 8 3) i j))
  · exact place 7 3 (inbOut 7 3) _ (newState x1 x2 x3 x6) fun i j => (state3_7 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 7 i j _ (ld_state x6 7 3 (inb 7 3) i j))
  · exact place 6 3 (inbOut 6 3) _ (newState x1 x2 x3 x6) fun i j => (state3_6 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 6 i j _ (ld_state x6 6 3 (inb 6 3) i j))
  · exact place 5 3 (inbOut 5 3) _ (newState x1 x2 x3 x6) fun i j => (state3_5 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 5 i j _ (ld_state x6 5 3 (inb 5 3) i j))
  · exact place 4 3 (inbOut 4 3) _ (newState x1 x2 x3 x6) fun i j => (state3_4 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 4 i j _ (ld_state x6 4 3 (inb 4 3) i j))
  · exact place 3 3 (inbOut 3 3) _ (newState x1 x2 x3 x6) fun i j => (state3_3 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 3 i j _ (ld_state x6 3 3 (inb 3 3) i j))
  · exact place 2 3 (inbOut 2 3) _ (newState x1 x2 x3 x6) fun i j => (state3_2 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 2 i j _ (ld_state x6 2 3 (inb 2 3) i j))
  · exact place 1 3 (inbOut 1 3) _ (newState x1 x2 x3 x6) fun i j => (state3_1 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 1 i j _ (ld_state x6 1 3 (inb 1 3) i j))
  · exact place 0 3 (inbOut 0 3) _ (newState x1 x2 x3 x6) fun i j => (state3_0 (k0_pay313 x0 x1 x2 x3 x4 x5 x6) (k0_pay370 x0 x1 x2 x3 x4 x5 x6) (k0_pay371 x0 x1 x2 x3 x4 x5 x6) (k0_pay372 x0 x1 x2 x3 x4 x5 x6) _ i j).trans (new3 x0 x1 x2 x3 x4 x5 x6 0 i j _ (ld_state x6 0 3 (inb 0 3) i j))
  · exact place 15 2 (inbOut 15 2) _ (newState x1 x2 x3 x6) fun i j => (state2_15 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 15 i j _ (ld_state x6 15 2 (inb 15 2) i j))
  · exact place 14 2 (inbOut 14 2) _ (newState x1 x2 x3 x6) fun i j => (state2_14 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 14 i j _ (ld_state x6 14 2 (inb 14 2) i j))
  · exact place 13 2 (inbOut 13 2) _ (newState x1 x2 x3 x6) fun i j => (state2_13 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 13 i j _ (ld_state x6 13 2 (inb 13 2) i j))
  · exact place 12 2 (inbOut 12 2) _ (newState x1 x2 x3 x6) fun i j => (state2_12 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 12 i j _ (ld_state x6 12 2 (inb 12 2) i j))
  · exact place 11 2 (inbOut 11 2) _ (newState x1 x2 x3 x6) fun i j => (state2_11 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 11 i j _ (ld_state x6 11 2 (inb 11 2) i j))
  · exact place 10 2 (inbOut 10 2) _ (newState x1 x2 x3 x6) fun i j => (state2_10 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 10 i j _ (ld_state x6 10 2 (inb 10 2) i j))
  · exact place 9 2 (inbOut 9 2) _ (newState x1 x2 x3 x6) fun i j => (state2_9 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 9 i j _ (ld_state x6 9 2 (inb 9 2) i j))
  · exact place 8 2 (inbOut 8 2) _ (newState x1 x2 x3 x6) fun i j => (state2_8 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 8 i j _ (ld_state x6 8 2 (inb 8 2) i j))
  · exact place 7 2 (inbOut 7 2) _ (newState x1 x2 x3 x6) fun i j => (state2_7 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 7 i j _ (ld_state x6 7 2 (inb 7 2) i j))
  · exact place 6 2 (inbOut 6 2) _ (newState x1 x2 x3 x6) fun i j => (state2_6 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 6 i j _ (ld_state x6 6 2 (inb 6 2) i j))
  · exact place 5 2 (inbOut 5 2) _ (newState x1 x2 x3 x6) fun i j => (state2_5 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 5 i j _ (ld_state x6 5 2 (inb 5 2) i j))
  · exact place 4 2 (inbOut 4 2) _ (newState x1 x2 x3 x6) fun i j => (state2_4 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 4 i j _ (ld_state x6 4 2 (inb 4 2) i j))
  · exact place 3 2 (inbOut 3 2) _ (newState x1 x2 x3 x6) fun i j => (state2_3 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 3 i j _ (ld_state x6 3 2 (inb 3 2) i j))
  · exact place 2 2 (inbOut 2 2) _ (newState x1 x2 x3 x6) fun i j => (state2_2 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 2 i j _ (ld_state x6 2 2 (inb 2 2) i j))
  · exact place 1 2 (inbOut 1 2) _ (newState x1 x2 x3 x6) fun i j => (state2_1 (k0_pay313 x0 x1 x2 x3 x4 x5 x6) (k0_pay355 x0 x1 x2 x3 x4 x5 x6) (k0_pay357 x0 x1 x2 x3 x4 x5 x6) (k0_pay358 x0 x1 x2 x3 x4 x5 x6) _ i j).trans (new2 x0 x1 x2 x3 x4 x5 x6 1 i j _ (ld_state x6 1 2 (inb 1 2) i j))
  · exact place 0 2 (inbOut 0 2) _ (newState x1 x2 x3 x6) fun i j => (state2_0 (k0_pay313 x0 x1 x2 x3 x4 x5 x6) (k0_pay355 x0 x1 x2 x3 x4 x5 x6) (k0_pay351 x0 x1 x2 x3 x4 x5 x6) (k0_pay356 x0 x1 x2 x3 x4 x5 x6) _ i j).trans (new2 x0 x1 x2 x3 x4 x5 x6 0 i j _ (ld_state x6 0 2 (inb 0 2) i j))
  · exact place 15 1 (inbOut 15 1) _ (newState x1 x2 x3 x6) fun i j => (state1_15 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 15 i j _ (ld_state x6 15 1 (inb 15 1) i j))
  · exact place 14 1 (inbOut 14 1) _ (newState x1 x2 x3 x6) fun i j => (state1_14 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 14 i j _ (ld_state x6 14 1 (inb 14 1) i j))
  · exact place 13 1 (inbOut 13 1) _ (newState x1 x2 x3 x6) fun i j => (state1_13 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 13 i j _ (ld_state x6 13 1 (inb 13 1) i j))
  · exact place 12 1 (inbOut 12 1) _ (newState x1 x2 x3 x6) fun i j => (state1_12 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 12 i j _ (ld_state x6 12 1 (inb 12 1) i j))
  · exact place 11 1 (inbOut 11 1) _ (newState x1 x2 x3 x6) fun i j => (state1_11 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 11 i j _ (ld_state x6 11 1 (inb 11 1) i j))
  · exact place 10 1 (inbOut 10 1) _ (newState x1 x2 x3 x6) fun i j => (state1_10 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 10 i j _ (ld_state x6 10 1 (inb 10 1) i j))
  · exact place 9 1 (inbOut 9 1) _ (newState x1 x2 x3 x6) fun i j => (state1_9 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 9 i j _ (ld_state x6 9 1 (inb 9 1) i j))
  · exact place 8 1 (inbOut 8 1) _ (newState x1 x2 x3 x6) fun i j => (state1_8 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 8 i j _ (ld_state x6 8 1 (inb 8 1) i j))
  · exact place 7 1 (inbOut 7 1) _ (newState x1 x2 x3 x6) fun i j => (state1_7 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 7 i j _ (ld_state x6 7 1 (inb 7 1) i j))
  · exact place 6 1 (inbOut 6 1) _ (newState x1 x2 x3 x6) fun i j => (state1_6 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 6 i j _ (ld_state x6 6 1 (inb 6 1) i j))
  · exact place 5 1 (inbOut 5 1) _ (newState x1 x2 x3 x6) fun i j => (state1_5 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 5 i j _ (ld_state x6 5 1 (inb 5 1) i j))
  · exact place 4 1 (inbOut 4 1) _ (newState x1 x2 x3 x6) fun i j => (state1_4 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 4 i j _ (ld_state x6 4 1 (inb 4 1) i j))
  · exact place 3 1 (inbOut 3 1) _ (newState x1 x2 x3 x6) fun i j => (state1_3 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 3 i j _ (ld_state x6 3 1 (inb 3 1) i j))
  · exact place 2 1 (inbOut 2 1) _ (newState x1 x2 x3 x6) fun i j => (state1_2 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 2 i j _ (ld_state x6 2 1 (inb 2 1) i j))
  · exact place 1 1 (inbOut 1 1) _ (newState x1 x2 x3 x6) fun i j => (state1_1 (k0_pay313 x0 x1 x2 x3 x4 x5 x6) (k0_pay337 x0 x1 x2 x3 x4 x5 x6) (k0_pay338 x0 x1 x2 x3 x4 x5 x6) (k0_pay339 x0 x1 x2 x3 x4 x5 x6) _ i j).trans (new1 x0 x1 x2 x3 x4 x5 x6 1 i j _ (ld_state x6 1 1 (inb 1 1) i j))
  · exact place 0 1 (inbOut 0 1) _ (newState x1 x2 x3 x6) fun i j => (state1_0 (k0_pay313 x0 x1 x2 x3 x4 x5 x6) (k0_pay331 x0 x1 x2 x3 x4 x5 x6) (k0_pay332 x0 x1 x2 x3 x4 x5 x6) (k0_pay333 x0 x1 x2 x3 x4 x5 x6) (k0_pay334 x0 x1 x2 x3 x4 x5 x6) _ i j).trans (new1 x0 x1 x2 x3 x4 x5 x6 0 i j _ (ld_state x6 0 1 (inb 0 1) i j))
  · exact place 15 0 (inbOut 15 0) _ (newState x1 x2 x3 x6) fun i j => (state0_15 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 15 i j _ (ld_state x6 15 0 (inb 15 0) i j))
  · exact place 14 0 (inbOut 14 0) _ (newState x1 x2 x3 x6) fun i j => (state0_14 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 14 i j _ (ld_state x6 14 0 (inb 14 0) i j))
  · exact place 13 0 (inbOut 13 0) _ (newState x1 x2 x3 x6) fun i j => (state0_13 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 13 i j _ (ld_state x6 13 0 (inb 13 0) i j))
  · exact place 12 0 (inbOut 12 0) _ (newState x1 x2 x3 x6) fun i j => (state0_12 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 12 i j _ (ld_state x6 12 0 (inb 12 0) i j))
  · exact place 11 0 (inbOut 11 0) _ (newState x1 x2 x3 x6) fun i j => (state0_11 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 11 i j _ (ld_state x6 11 0 (inb 11 0) i j))
  · exact place 10 0 (inbOut 10 0) _ (newState x1 x2 x3 x6) fun i j => (state0_10 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 10 i j _ (ld_state x6 10 0 (inb 10 0) i j))
  · exact place 9 0 (inbOut 9 0) _ (newState x1 x2 x3 x6) fun i j => (state0_9 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 9 i j _ (ld_state x6 9 0 (inb 9 0) i j))
  · exact place 8 0 (inbOut 8 0) _ (newState x1 x2 x3 x6) fun i j => (state0_8 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 8 i j _ (ld_state x6 8 0 (inb 8 0) i j))
  · exact place 7 0 (inbOut 7 0) _ (newState x1 x2 x3 x6) fun i j => (state0_7 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 7 i j _ (ld_state x6 7 0 (inb 7 0) i j))
  · exact place 6 0 (inbOut 6 0) _ (newState x1 x2 x3 x6) fun i j => (state0_6 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 6 i j _ (ld_state x6 6 0 (inb 6 0) i j))
  · exact place 5 0 (inbOut 5 0) _ (newState x1 x2 x3 x6) fun i j => (state0_5 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 5 i j _ (ld_state x6 5 0 (inb 5 0) i j))
  · exact place 4 0 (inbOut 4 0) _ (newState x1 x2 x3 x6) fun i j => (state0_4 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 4 i j _ (ld_state x6 4 0 (inb 4 0) i j))
  · exact place 3 0 (inbOut 3 0) _ (newState x1 x2 x3 x6) fun i j => (state0_3 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 3 i j _ (ld_state x6 3 0 (inb 3 0) i j))
  · exact place 2 0 (inbOut 2 0) _ (newState x1 x2 x3 x6) fun i j => (state0_2 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 2 i j _ (ld_state x6 2 0 (inb 2 0) i j))
  · exact place 1 0 (inbOut 1 0) _ (newState x1 x2 x3 x6) fun i j => (state0_1 (k0_pay313 x0 x1 x2 x3 x4 x5 x6) (k0_pay322 x0 x1 x2 x3 x4 x5 x6) (k0_pay323 x0 x1 x2 x3 x4 x5 x6) (k0_pay324 x0 x1 x2 x3 x4 x5 x6) _ i j).trans (new0 x0 x1 x2 x3 x4 x5 x6 1 i j _ (ld_state x6 1 0 (inb 1 0) i j))
  · exact place 0 0 (inbOut 0 0) _ (newState x1 x2 x3 x6) fun i j => (state0_0 (k0_pay313 x0 x1 x2 x3 x4 x5 x6) (k0_pay317 x0 x1 x2 x3 x4 x5 x6) (k0_pay318 x0 x1 x2 x3 x4 x5 x6) (k0_pay319 x0 x1 x2 x3 x4 x5 x6) (k0_pay320 x0 x1 x2 x3 x4 x5 x6) _ i j).trans (new0 x0 x1 x2 x3 x4 x5 x6 0 i j _ (ld_state x6 0 0 (inb 0 0) i j))

end Cert.KernelIdeal.Block
-- ==== Proof.HgrnValue.lean ====
/-
  The recurrence kernel's two result arrays: rows and states as HgrnAt's functions of the argument arrays.
-/
module

public import proofs.«01_k».proof.Proof.HgrnAt
public import proofs.«01_k».proof.Proof.HgrnBlock
public import proofs.«01_k».proof.Proof.Gen.KernelIdeal.Value
public import Idealize.ShloMosaic.Lib.StableHlo.ReadAt

@[expose] public section

noncomputable section

namespace Cert.KernelIdeal.Whole

open Idealize.ShloMosaic Idealize.ShloMosaic.TcCoe Idealize.SL.Sem
open Idealize.ShloMosaic.Pipeline (Dat Window)
open Cert.KernelIdeal Cert.KernelIdeal.Gen Cert.HgrnMath

variable (m : (ℓ : Loc nD τ sig) → Buf (Elt Ideal) ℓ)

/-- The grid has 8 points. -/
theorem lt8 (t : Fin cfg0.N) : t.val < 8 := by have h := t.isLt; have : cfg0.N = 8 := N_0; omega

/-- Sequence `n` of block `t`. -/
def sqn (t : Fin cfg0.N) (n : Fin 16) : Fin 128 := ⟨16 * t.val + n.val, by have := lt8 t; omega⟩

/-- The block indices the windows take. -/
theorem index_rows : ∀ t : Fin cfg0.N,
    (win0_0.index t 0 = 256 + t.val ∧ win0_0.index t 1 = 0) ∧ (win0_1.index t 0 = 256 + t.val ∧ win0_1.index t 1 = 0)
    ∧ (win0_2.index t 0 = 256 + t.val ∧ win0_2.index t 1 = 0) ∧ (win0_3.index t 0 = 256 + t.val ∧ win0_3.index t 1 = 0)
    ∧ (win0_4.index t 0 = 256 + t.val ∧ win0_4.index t 1 = 0) ∧ (win0_5.index t 0 = 0 ∧ win0_5.index t 1 = 0)
    ∧ (win0_7.index t 0 = t.val ∧ win0_7.index t 1 = 0) := by
  decide +kernel

/-- The block indices the windows over states take. -/
theorem index_states : ∀ t : Fin cfg0.N,
    (win0_6.index t 0 = 3 ∧ win0_6.index t 1 = t.val ∧ win0_6.index t 2 = 0 ∧ win0_6.index t 3 = 0 ∧ win0_6.index t 4 = 0)
    ∧ (win0_8.index t 0 = t.val ∧ win0_8.index t 1 = 0 ∧ win0_8.index t 2 = 0 ∧ win0_8.index t 3 = 0) := by
  decide +kernel

/-- Block `t` of argument 0 holds the rows of sequences `16 t` to `16 t + 15`. -/
theorem iblk0 (c : Dev nD) (t : Fin cfg0.N) (n : Fin 16) (s h : Fin 4) (i : Fin 128) :
    iblk m c 0 t (ix2 (row n s) (Block.col h i)) = seq (m ((c : Thread nD τ).loc main_arg0)) (sqn t n) h s i := by
  have e : iblk m c 0 t (ix2 (row n s) (Block.col h i))
      = V m c main_arg0 ((win0_0.rect t).emb (ix2 (row n s) (Block.col h i))) := rfl
  rw [e, V_main_arg0]
  unfold seq
  congr 1
  refine Shape.idx_ext₂ ((win0_0.rect_emb_val t _ 0).trans ?_) ((win0_0.rect_emb_val t _ 1).trans ?_)
  · rw [(index_rows t).1.1]; show (256 + t.val) * 64 + (4 * n.val + s.val) = 16384 + ((16 * t.val + n.val) * 4 + s.val); omega
  · rw [(index_rows t).1.2]; show 0 * 512 + (128 * h.val + i.val) = h.val * 128 + i.val; omega

/-- Block `t` of argument 1 holds the rows of sequences `16 t` to `16 t + 15`. -/
theorem iblk1 (c : Dev nD) (t : Fin cfg0.N) (n : Fin 16) (s h : Fin 4) (i : Fin 128) :
    iblk m c 1 t (ix2 (row n s) (Block.col h i)) = seq (m ((c : Thread nD τ).loc main_arg1)) (sqn t n) h s i := by
  have e : iblk m c 1 t (ix2 (row n s) (Block.col h i))
      = V m c main_arg1 ((win0_1.rect t).emb (ix2 (row n s) (Block.col h i))) := rfl
  rw [e, V_main_arg1]
  unfold seq
  congr 1
  refine Shape.idx_ext₂ ((win0_1.rect_emb_val t _ 0).trans ?_) ((win0_1.rect_emb_val t _ 1).trans ?_)
  · rw [(index_rows t).2.1.1]; show (256 + t.val) * 64 + (4 * n.val + s.val) = 16384 + ((16 * t.val + n.val) * 4 + s.val); omega
  · rw [(index_rows t).2.1.2]; show 0 * 512 + (128 * h.val + i.val) = h.val * 128 + i.val; omega

/-- Block `t` of argument 2 holds the rows of sequences `16 t` to `16 t + 15`. -/
theorem iblk2 (c : Dev nD) (t : Fin cfg0.N) (n : Fin 16) (s h : Fin 4) (i : Fin 128) :
    iblk m c 2 t (ix2 (row n s) (Block.col h i)) = seq (m ((c : Thread nD τ).loc main_arg2)) (sqn t n) h s i := by
  have e : iblk m c 2 t (ix2 (row n s) (Block.col h i))
      = V m c main_arg2 ((win0_2.rect t).emb (ix2 (row n s) (Block.col h i))) := rfl
  rw [e, V_main_arg2]
  unfold seq
  congr 1
  refine Shape.idx_ext₂ ((win0_2.rect_emb_val t _ 0).trans ?_) ((win0_2.rect_emb_val t _ 1).trans ?_)
  · rw [(index_rows t).2.2.1.1]; show (256 + t.val) * 64 + (4 * n.val + s.val) = 16384 + ((16 * t.val + n.val) * 4 + s.val); omega
  · rw [(index_rows t).2.2.1.2]; show 0 * 512 + (128 * h.val + i.val) = h.val * 128 + i.val; omega

/-- Block `t` of argument 3 holds the rows of sequences `16 t` to `16 t + 15`. -/
theorem iblk3 (c : Dev nD) (t : Fin cfg0.N) (n : Fin 16) (s h : Fin 4) (i : Fin 128) :
    iblk m c 3 t (ix2 (row n s) (Block.col h i)) = seq (m ((c : Thread nD τ).loc main_arg3)) (sqn t n) h s i := by
  have e : iblk m c 3 t (ix2 (row n s) (Block.col h i))
      = V m c main_arg3 ((win0_3.rect t).emb (ix2 (row n s) (Block.col h i))) := rfl
  rw [e, V_main_arg3]
  unfold seq
  congr 1
  refine Shape.idx_ext₂ ((win0_3.rect_emb_val t _ 0).trans ?_) ((win0_3.rect_emb_val t _ 1).trans ?_)
  · rw [(index_rows t).2.2.2.1.1]; show (256 + t.val) * 64 + (4 * n.val + s.val) = 16384 + ((16 * t.val + n.val) * 4 + s.val); omega
  · rw [(index_rows t).2.2.2.1.2]; show 0 * 512 + (128 * h.val + i.val) = h.val * 128 + i.val; omega

/-- Block `t` of argument 4 holds the rows of sequences `16 t` to `16 t + 15`. -/
theorem iblk4 (c : Dev nD) (t : Fin cfg0.N) (n : Fin 16) (s h : Fin 4) (i : Fin 128) :
    iblk m c 4 t (ix2 (row n s) (Block.col h i)) = seq (m ((c : Thread nD τ).loc main_arg4)) (sqn t n) h s i := by
  have e : iblk m c 4 t (ix2 (row n s) (Block.col h i))
      = V m c main_arg4 ((win0_4.rect t).emb (ix2 (row n s) (Block.col h i))) := rfl
  rw [e, V_main_arg4]
  unfold seq
  congr 1
  refine Shape.idx_ext₂ ((win0_4.rect_emb_val t _ 0).trans ?_) ((win0_4.rect_emb_val t _ 1).trans ?_)
  · rw [(index_rows t).2.2.2.2.1.1]; show (256 + t.val) * 64 + (4 * n.val + s.val) = 16384 + ((16 * t.val + n.val) * 4 + s.val); omega
  · rw [(index_rows t).2.2.2.2.1.2]; show 0 * 512 + (128 * h.val + i.val) = h.val * 128 + i.val; omega

/-- Window 5 holds layer 3's norm weights. -/
theorem iblk5 (c : Dev nD) (t : Fin cfg0.N) (j : Fin 128) :
    iblk m c 5 t (ix2 0 j) = m ((c : Thread nD τ).loc main_arg5) (ix2 3 j) := by
  have e : iblk m c 5 t (ix2 0 j) = V m c main_v2 ((win0_5.rect t).emb (ix2 0 j)) := rfl
  have e' : (win0_5.rect t).emb (ix2 0 j) = ix2 0 j := by
    refine Shape.idx_ext₂ ((win0_5.rect_emb_val t _ 0).trans ?_) ((win0_5.rect_emb_val t _ 1).trans ?_)
    · rw [(index_rows t).2.2.2.2.2.1.1]; rfl
    · rw [(index_rows t).2.2.2.2.2.1.2]; show 0 * 128 + j.val = j.val; omega
  rw [e, e']
  unfold V
  after_reads_at

/-- Window 6 holds the states of layer 3 and of the block's sequences. -/
theorem iblk6 (c : Dev nD) (t : Fin cfg0.N) (n : Fin 16) (h : Fin 4) (i j : Fin 128) :
    iblk m c 6 t (ix5 0 n h i j) = old (m ((c : Thread nD τ).loc main_arg6)) (sqn t n) h i j := by
  have e : iblk m c 6 t (ix5 0 n h i j) = V m c main_arg6 ((win0_6.rect t).emb (ix5 0 n h i j)) := rfl
  rw [e, V_main_arg6]
  unfold old
  congr 1
  obtain ⟨i0, i1, i2, i3, i4⟩ := (index_states t).1
  funext a
  refine Fin.ext ((win0_6.rect_emb_val t _ a).trans ?_)
  match a with
  | ⟨0, _⟩ => show win0_6.index t 0 * 1 + 0 = 3; rw [i0]
  | ⟨1, _⟩ => show win0_6.index t 1 * 16 + n.val = 16 * t.val + n.val; rw [i1]; omega
  | ⟨2, _⟩ => show win0_6.index t 2 * 4 + h.val = h.val; rw [i2]; omega
  | ⟨3, _⟩ => show win0_6.index t 3 * 128 + i.val = i.val; rw [i3]; omega
  | ⟨4, _⟩ => show win0_6.index t 4 * 128 + j.val = j.val; rw [i4]; omega

/-- The rows' result array. -/
def G7 (c : Dev nD) : Buf (Elt Ideal) ((c : Thread nD τ).loc main_v3_0) := fun (i : S512x512.Idx) =>
  yAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    ⟨(i 0).val / 4, by have h := (i 0).isLt; change (i 0).val < 512 at h; omega⟩ ⟨(i 0).val % 4, by omega⟩
    ⟨(i 1).val / 128, by have h := (i 1).isLt; change (i 1).val < 512 at h; omega⟩ ⟨(i 1).val % 128, by omega⟩

/-- The states' result array. -/
def G8 (c : Dev nD) : Buf (Elt Ideal) ((c : Thread nD τ).loc main_v3_1) := fun (i : S128x4x128x128.Idx) =>
  sAt (m ((c : Thread nD τ).loc main_arg1)) (m ((c : Thread nD τ).loc main_arg2)) (m ((c : Thread nD τ).loc main_arg3))
    (m ((c : Thread nD τ).loc main_arg6)) (i 0) (i 1) (i 2) (i 3)

/-- A row of the result by its sequence and token. -/
def orow (b : Fin 128) (t : Fin 4) : Fin 512 := ⟨4 * b.val + t.val, by omega⟩

theorem G7_apply (c : Dev nD) (b : Fin 128) (t h : Fin 4) (j : Fin 128) :
    G7 m c (ix2 (orow b t) (lane h j)) = yAt (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) b t h j := by
  have e1 : (⟨(4 * b.val + t.val) / 4, by omega⟩ : Fin 128) = b := Fin.ext (by show (4 * b.val + t.val) / 4 = b.val; omega)
  have e2 : (⟨(4 * b.val + t.val) % 4, by omega⟩ : Fin 4) = t := Fin.ext (by show (4 * b.val + t.val) % 4 = t.val; omega)
  have e3 : (⟨(h.val * 128 + j.val) / 128, by omega⟩ : Fin 4) = h := Fin.ext (by show (h.val * 128 + j.val) / 128 = h.val; omega)
  have e4 : (⟨(h.val * 128 + j.val) % 128, by omega⟩ : Fin 128) = j := Fin.ext (by show (h.val * 128 + j.val) % 128 = j.val; omega)
  show yAt _ _ _ _ _ _ _ (⟨(4 * b.val + t.val) / 4, by omega⟩ : Fin 128) ⟨(4 * b.val + t.val) % 4, by omega⟩
    ⟨(h.val * 128 + j.val) / 128, by omega⟩ ⟨(h.val * 128 + j.val) % 128, by omega⟩ = _
  rw [e1, e2, e3, e4]

/-- Every index of the rows' block is a token of a sequence and an entry of a head. -/
theorem split7 (y : S64x512.Idx) : ∃ (n : Fin 16) (s h : Fin 4) (j : Fin 128), y = ix2 (row n s) (Block.col h j) := by
  have h0 : (y 0).val < 64 := (y 0).isLt
  have h1 : (y 1).val < 512 := (y 1).isLt
  refine ⟨⟨(y 0).val / 4, by omega⟩, ⟨(y 0).val % 4, by omega⟩, ⟨(y 1).val / 128, by omega⟩, ⟨(y 1).val % 128, by omega⟩,
    Shape.idx_ext₂ ?_ ?_⟩
  · show (y 0).val = 4 * ((y 0).val / 4) + (y 0).val % 4; omega
  · show (y 1).val = 128 * ((y 1).val / 128) + (y 1).val % 128; omega

/-- What point `t` writes back is block `t` of the rows' result. -/
theorem flushed7 (c : Dev nD) (t : Fin cfg0.N) : (dats m 0 c).flushed 7 t = ((cfg0.win 7).blk t).view.read (Elt Ideal) (G7 m c) := by
  rw [Value.flushed7]
  funext y
  obtain ⟨n, s, h, j, rfl⟩ := split7 y
  refine (Block.out7_apply _ _ _ _ _ _ _ n s h j).trans ?_
  unfold Block.newRow
  simp only [iblk0 m c t, iblk1 m c t, iblk2 m c t, iblk3 m c t, iblk4 m c t, iblk5 m c t, iblk6 m c t]
  have e : ((cfg0.win 7).blk t).view.read (Elt Ideal) (G7 m c) (ix2 (row n s) (Block.col h j))
      = G7 m c ((win0_7.rect t).emb (ix2 (row n s) (Block.col h j))) := rfl
  have e' : (win0_7.rect t).emb (ix2 (row n s) (Block.col h j)) = ix2 (orow (sqn t n) s) (lane h j) := by
    refine Shape.idx_ext₂ ((win0_7.rect_emb_val t _ 0).trans ?_) ((win0_7.rect_emb_val t _ 1).trans ?_)
    · rw [(index_rows t).2.2.2.2.2.2.1]; show t.val * 64 + (4 * n.val + s.val) = 4 * (16 * t.val + n.val) + s.val; omega
    · rw [(index_rows t).2.2.2.2.2.2.2]; show 0 * 512 + (128 * h.val + j.val) = h.val * 128 + j.val; omega
  rw [e, e', G7_apply]
  rfl

/-- What point `t` writes back is block `t` of the states' result. -/
theorem flushed8 (c : Dev nD) (t : Fin cfg0.N) : (dats m 0 c).flushed 8 t = ((cfg0.win 8).blk t).view.read (Elt Ideal) (G8 m c) := by
  rw [Value.flushed8]
  funext y
  obtain ⟨n, h, i, j, rfl⟩ : ∃ (n : Fin 16) (h : Fin 4) (i j : Fin 128), y = ix4 n h i j :=
    ⟨y 0, y 1, y 2, y 3, funext fun a => by fin_cases a <;> rfl⟩
  refine (Block.out8_apply _ _ _ _ _ _ _ n h i j).trans ?_
  unfold Block.newState
  simp only [iblk1 m c t, iblk2 m c t, iblk3 m c t, iblk6 m c t]
  have e : ((cfg0.win 8).blk t).view.read (Elt Ideal) (G8 m c) (ix4 n h i j) = G8 m c ((win0_8.rect t).emb (ix4 n h i j)) := rfl
  have e' : (win0_8.rect t).emb (ix4 n h i j) = ix4 (sqn t n) h i j := by
    obtain ⟨i0, i1, i2, i3⟩ := (index_states t).2
    funext a
    refine Fin.ext ((win0_8.rect_emb_val t _ a).trans ?_)
    match a with
    | ⟨0, _⟩ => show win0_8.index t 0 * 16 + n.val = 16 * t.val + n.val; rw [i0]; omega
    | ⟨1, _⟩ => show win0_8.index t 1 * 4 + h.val = h.val; rw [i1]; omega
    | ⟨2, _⟩ => show win0_8.index t 2 * 128 + i.val = i.val; rw [i2]; omega
    | ⟨3, _⟩ => show win0_8.index t 3 * 128 + j.val = j.val; rw [i3]; omega
  rw [e, e']
  rfl

/-- An index whose row lies among block `t`'s is in block `t`. -/
theorem mem_blk7 (t : Fin cfg0.N) (i : S512x512.Idx) (h : t.val * 64 ≤ (i 0 : Nat)) (h' : (i 0 : Nat) < t.val * 64 + 64) :
    i ∈ ((cfg0.win 7).blk t).view.set := by
  show i ∈ ((View.whole main_v3_0).slice (win0_7.rect t)).set
  rw [View.set_slice_whole, Rect.mem_set_unit]
  have h1 : (i 1 : Nat) < 512 := (i 1).isLt
  have e := (index_rows t).2.2.2.2.2.2
  intro a
  match a with
  | ⟨0, _⟩ =>
    show win0_7.index t 0 * 64 ≤ (i 0 : Nat) ∧ (i 0 : Nat) < win0_7.index t 0 * 64 + 64
    rw [e.1]; exact ⟨h, h'⟩
  | ⟨1, _⟩ =>
    show win0_7.index t 1 * 512 ≤ (i 1 : Nat) ∧ (i 1 : Nat) < win0_7.index t 1 * 512 + 512
    rw [e.2]; omega

/-- An index whose sequence lies among block `t`'s is in block `t`. -/
theorem mem_blk8 (t : Fin cfg0.N) (i : S128x4x128x128.Idx) (h : t.val * 16 ≤ (i 0 : Nat)) (h' : (i 0 : Nat) < t.val * 16 + 16) :
    i ∈ ((cfg0.win 8).blk t).view.set := by
  show i ∈ ((View.whole main_v3_1).slice (win0_8.rect t)).set
  rw [View.set_slice_whole, Rect.mem_set_unit]
  have h1 : (i 1 : Nat) < 4 := (i 1).isLt
  have h2 : (i 2 : Nat) < 128 := (i 2).isLt
  have h3 : (i 3 : Nat) < 128 := (i 3).isLt
  obtain ⟨i0, i1, i2, i3⟩ := (index_states t).2
  intro a
  match a with
  | ⟨0, _⟩ =>
    show win0_8.index t 0 * 16 ≤ (i 0 : Nat) ∧ (i 0 : Nat) < win0_8.index t 0 * 16 + 16
    rw [i0]; exact ⟨h, h'⟩
  | ⟨1, _⟩ =>
    show win0_8.index t 1 * 4 ≤ (i 1 : Nat) ∧ (i 1 : Nat) < win0_8.index t 1 * 4 + 4
    rw [i1]; omega
  | ⟨2, _⟩ =>
    show win0_8.index t 2 * 128 ≤ (i 2 : Nat) ∧ (i 2 : Nat) < win0_8.index t 2 * 128 + 128
    rw [i2]; omega
  | ⟨3, _⟩ =>
    show win0_8.index t 3 * 128 ≤ (i 3 : Nat) ∧ (i 3 : Nat) < win0_8.index t 3 * 128 + 128
    rw [i3]; omega

/-- Every row lies in the block of its point. -/
theorem cover7 (i : S512x512.Idx) : ∃ t : Fin cfg0.N, (cfg0.win 7).flush t = true ∧ i ∈ ((cfg0.win 7).blk t).view.set := by
  have hN : cfg0.N = 8 := N_0
  have h0 : (i 0 : Nat) < 512 := (i 0).isLt
  exact ⟨⟨(i 0 : Nat) / 64, by omega⟩, flush0_7 _, mem_blk7 _ i (by dsimp only; omega) (by dsimp only; omega)⟩

/-- Every sequence lies in the block of its point. -/
theorem cover8 (i : S128x4x128x128.Idx) : ∃ t : Fin cfg0.N, (cfg0.win 8).flush t = true ∧ i ∈ ((cfg0.win 8).blk t).view.set := by
  have hN : cfg0.N = 8 := N_0
  have h0 : (i 0 : Nat) < 128 := (i 0).isLt
  exact ⟨⟨(i 0 : Nat) / 16, by omega⟩, flush0_8 _, mem_blk8 _ i (by dsimp only; omega) (by dsimp only; omega)⟩

/-- The rows' array ends holding `G7`. -/
theorem final7 (c : Dev nD) : (dats m 0 c).arrAt 7 cfg0.N = G7 m c :=
  (dats m 0 c).arrAt_eq_of_cover 7 (G7 m c) (fun t _ => flushed7 m c t) cover7

/-- The states' array ends holding `G8`. -/
theorem final8 (c : Dev nD) : (dats m 0 c).arrAt 8 cfg0.N = G8 m c :=
  (dats m 0 c).arrAt_eq_of_cover 8 (G8 m c) (fun t _ => flushed8 m c t) cover8

end Cert.KernelIdeal.Whole
-- ==== Proof.HgrnReference.lean ====
/-
  The recurrence's reference, read at an index: its rows and its states are HgrnAt's functions of the argument arrays.
-/
module

public import proofs.«01_k».proof.Proof.HgrnAt
public import proofs.«01_k».proof.Proof.Gen.ReferenceIdeal.Read

@[expose] public section

noncomputable section

namespace Cert.ReferenceIdeal.Whole

open Idealize.ShloMosaic Idealize.ShloMosaic.TcCoe
open Cert.ReferenceIdeal Cert.ReferenceIdeal.Gen Cert.ReferenceIdeal.Read Cert.HgrnMath
open scoped BigOperators

/-- The shape of the running sum's window: four tokens of one sequence, head and entry. -/
abbrev Win : Shape := ⟨4, ![1, 4, 1, 1]⟩

/-- Position `n` of the window is its `n`-th token. -/
theorem win_at (n : Fin Win.numel) : (Win.rowMajor.symm n 0).val = 0 ∧ (Win.rowMajor.symm n 1).val = n.val
    ∧ (Win.rowMajor.symm n 2).val = 0 ∧ (Win.rowMajor.symm n 3).val = 0 := by
  revert n; decide +kernel

/-- What position `n` of the window at token `t` adds: nothing before the first token. -/
def part (x : S128x4x4x128.Idx → EReal) (b : Fin 128) (t g : Fin 4) (i : Fin 128) (n : Nat) : EReal :=
  if hn : 3 ≤ t.val + n ∧ t.val + n - 3 < 4 then x (ix4 b ⟨t.val + n - 3, hn.2⟩ g i) else 0

/-- The four positions' parts are the entries up to token `t`. -/
theorem parts (x : S128x4x4x128.Idx → EReal) (b : Fin 128) (t g : Fin 4) (i : Fin 128) :
    part x b t g i 0 + part x b t g i 1 + part x b t g i 2 + part x b t g i 3
      = ∑ s : Fin 4, if s ≤ t then x (ix4 b s g i) else 0 := by
  rw [Fin.sum_univ_four]
  fin_cases t <;> simp [part, Fin.le_def, add_assoc] <;> rfl

/-- The running sum over the tokens: entry `t` sums the entries up to `t`. -/
theorem running (x : S128x4x4x128.Idx → EReal) (v : S_.Idx → EReal)
    (h : S128x4x4x128.ReduceWindows ![1, 4, 1, 1] ![1, 1, 1, 1] ![0, 3, 0, 0] ![0, 0, 0, 0] S128x4x4x128) (hu : 0 < S_.numel)
    (hv : v (Shape.Idx.first hu) = 0) (b : Fin 128) (t g : Fin 4) (i : Fin 128) :
    Host.reduceWindow (· + ·) ![1, 4, 1, 1] ![1, 1, 1, 1] ![0, 3, 0, 0] ![0, 0, 0, 0] x v h hu (ix4 b t g i)
      = ∑ s : Fin 4, if s ≤ t then x (ix4 b s g i) else 0 := by
  refine Eq.trans ?_ (parts x b t g i)
  have step : (Host.reduceWindow (· + ·) ![1, 4, 1, 1] ![1, 1, 1, 1] ![0, 3, 0, 0] ![0, 0, 0, 0] x v h hu (ix4 b t g i))
      = (List.finRange Win.numel).foldl (fun (r : EReal) n => r + part x b t g i n.val) 0 := by
    unfold Host.reduceWindow
    dsimp only
    rw [hv]
    refine congrArg (fun f => List.foldl f (0 : EReal) (List.finRange Win.numel)) (funext fun r => funext fun n => ?_)
    obtain ⟨w0, w1, w2, w3⟩ := win_at n
    refine congrArg (fun z : EReal => r + z) ?_
    unfold part
    have hb := b.isLt
    have hg := g.isLt
    have hi := i.isLt
    split
    · next hin =>
      have h1 := hin 1
      change 3 ≤ t.val * 1 + (Win.rowMajor.symm n 1).val ∧ t.val * 1 + (Win.rowMajor.symm n 1).val - 3 < 4 at h1
      rw [w1, Nat.mul_one] at h1
      rw [dif_pos h1]
      refine congrArg x (funext fun a => Fin.ext ?_)
      match a with
      | ⟨0, _⟩ => show b.val * 1 + (Win.rowMajor.symm n 0).val - 0 = b.val; rw [w0]; omega
      | ⟨1, _⟩ => show t.val * 1 + (Win.rowMajor.symm n 1).val - 3 = t.val + n.val - 3; rw [w1]; omega
      | ⟨2, _⟩ => show g.val * 1 + (Win.rowMajor.symm n 2).val - 0 = g.val; rw [w2]; omega
      | ⟨3, _⟩ => show i.val * 1 + (Win.rowMajor.symm n 3).val - 0 = i.val; rw [w3]; omega
    · next hin =>
      rw [dif_neg fun h1 => hin fun a => ?_]
      match a with
      | ⟨0, _⟩ => show 0 ≤ b.val * 1 + (Win.rowMajor.symm n 0).val ∧ b.val * 1 + (Win.rowMajor.symm n 0).val - 0 < 128; rw [w0]; omega
      | ⟨1, _⟩ => show 3 ≤ t.val * 1 + (Win.rowMajor.symm n 1).val ∧ t.val * 1 + (Win.rowMajor.symm n 1).val - 3 < 4; rw [w1]; omega
      | ⟨2, _⟩ => show 0 ≤ g.val * 1 + (Win.rowMajor.symm n 2).val ∧ g.val * 1 + (Win.rowMajor.symm n 2).val - 0 < 4; rw [w2]; omega
      | ⟨3, _⟩ => show 0 ≤ i.val * 1 + (Win.rowMajor.symm n 3).val ∧ i.val * 1 + (Win.rowMajor.symm n 3).val - 0 < 128; rw [w3]; omega
  rw [step]
  show (List.finRange 4).foldl (fun (r : EReal) n => r + part x b t g i n.val) 0 = _
  simp [List.finRange_succ]

variable (x0 x1 x2 : (⟨S16896x512, .bf16⟩ : BufTy).Contents (Elt Ideal)) (x3 : (⟨S16896x512, .f32⟩ : BufTy).Contents (Elt Ideal))
  (x4 : (⟨S16896x512, .bf16⟩ : BufTy).Contents (Elt Ideal)) (x5 : (⟨S4x128, .f32⟩ : BufTy).Contents (Elt Ideal))
  (x6 : (⟨S4x128x4x128x128, .f32⟩ : BufTy).Contents (Elt Ideal))

theorem v2_at (b : Fin 128) (t h : Fin 4) (i : Fin 128) : val_main_v2 (F := Ideal) x0 (ix4 b t h i) = seq x0 b h t i := by
  pointwise [val_main_v2, val_main_v1, val_main_v0, seq, token, lane]

theorem v5_at (b : Fin 128) (t h : Fin 4) (i : Fin 128) : val_main_v5 (F := Ideal) x1 (ix4 b t h i) = seq x1 b h t i := by
  pointwise [val_main_v5, val_main_v4, val_main_v3, seq, token, lane]

theorem v8_at (b : Fin 128) (t h : Fin 4) (i : Fin 128) : val_main_v8 (F := Ideal) x2 (ix4 b t h i) = seq x2 b h t i := by
  pointwise [val_main_v8, val_main_v7, val_main_v6, seq, token, lane]

theorem v10_at (b : Fin 128) (t h : Fin 4) (i : Fin 128) : val_main_v10 (F := Ideal) x3 (ix4 b t h i) = seq x3 b h t i := by
  pointwise [val_main_v10, val_main_v9, seq, token, lane]

theorem v13_at (b : Fin 128) (t h : Fin 4) (i : Fin 128) : val_main_v13 (F := Ideal) x4 (ix4 b t h i) = seq x4 b h t i := by
  pointwise [val_main_v13, val_main_v12, val_main_v11, seq, token, lane]

theorem v15_at (b : Fin 128) (h : Fin 4) (i j : Fin 128) : val_main_v15 (F := Ideal) x6 (ix4 b h i j) = old x6 b h i j := by
  pointwise [val_main_v15, val_main_v14, old]

/-- The running sum is the sum of the log decays up to the token. -/
theorem v16_at (b : Fin 128) (t h : Fin 4) (i : Fin 128) : val_main_v16 (F := Ideal) x3 (ix4 b t h i) = cum (seq x3 b h) t i := by
  have e := running (val_main_v10 (F := Ideal) x3) (fun _ => val_main_call0_call0_v0 (F := Ideal) (Shape.Idx.first h_S_))
    reduceWindows_S128x4x4x128_S128x4x4x128_w1s1p0_0_w4s1p3_0_w1s1p0_0_w1s1p0_0 h_S_ (by
      show Ideal.ofBits .f32 0x00000000#32 = 0
      exact Ideal.ofBits_zero_f32) b t h i
  refine e.trans ?_
  simp only [v10_at]
  rfl

/-- The mask of the pairs: token `t` reads token `s` where `s ≤ t`. -/
theorem v19_at (t s : Fin 4) : val_main_v19 (F := Ideal) (ix5 0 t s 0 0) = if s ≤ t then 1#1 else 0#1 := by
  pointwise [val_main_v19, val_main_v18, val_main_v17]
  revert t s
  decide +kernel

/-- What token `t` reads of the old state. -/
theorem v23_at (b : Fin 128) (t h : Fin 4) (j : Fin 128) : val_main_v23 (F := Ideal) x0 x3 x6 (ix4 b t h j)
    = ∑ i : Fin 128, seq x0 b h t i * Ideal.exp (cum (seq x3 b h) t i) * old x6 b h i j := by
  have e : val_main_v23 (F := Ideal) x0 x3 x6 (ix4 b t h j) = ∑ i : Fin 128, val_main_v15 (F := Ideal) x6 (ix4 b h i j)
      * (val_main_v2 (F := Ideal) x0 (ix4 b t h i) * Ideal.exp (val_main_v16 (F := Ideal) x3 (ix4 b t h i))) := by
    unfold val_main_v23 val_main_v22 val_main_v21 val_main_v20
    generalize val_main_v15 (F := Ideal) x6 = y0
    generalize val_main_v2 (F := Ideal) x0 = y1
    generalize val_main_v16 (F := Ideal) x3 = y2
    pointwise
  rw [e]
  simp only [v15_at, v2_at, v16_at]
  exact Finset.sum_congr rfl fun i _ => mul_comm _ _

/-- The weight of token `s` in what token `t` reads. -/
theorem v38_at (b : Fin 128) (t s h : Fin 4) : val_main_v38 (F := Ideal) x0 x1 x3 (ix4 b t s h)
    = if s ≤ t then ∑ i : Fin 128, seq x0 b h t i * seq x1 b h s i * Ideal.exp (cum (seq x3 b h) t i - cum (seq x3 b h) s i) else 0 := by
  have e : val_main_v38 (F := Ideal) x0 x1 x3 (ix4 b t s h) = ∑ i : Fin 128, val_main_v2 (F := Ideal) x0 (ix4 b t h i)
      * val_main_v5 (F := Ideal) x1 (ix4 b s h i)
      * Scalar.select (val_main_v19 (F := Ideal) (ix5 0 t s 0 0)) (Ideal.exp (Scalar.select (val_main_v19 (F := Ideal) (ix5 0 t s 0 0))
          (val_main_v16 (F := Ideal) x3 (ix4 b t h i) - val_main_v16 (F := Ideal) x3 (ix4 b s h i)) (0 : EReal))) (0 : EReal) := by
    unfold val_main_v38 val_main_v37 val_main_v36 val_main_v35 val_main_v34 val_main_v33 val_main_v32 val_main_v31 val_main_v30
      val_main_v29 val_main_v28 val_main_v27 val_main_v26 val_main_v25 val_main_v24
    generalize val_main_v2 (F := Ideal) x0 = y1
    generalize val_main_v5 (F := Ideal) x1 = y3
    unfold val_main_call2_v1 val_main_call2_v2 val_main_call3_v1 val_main_call3_v2 val_main_call2_v0 val_main_call3_v0
    generalize val_main_v16 (F := Ideal) x3 = y2
    generalize val_main_v19 (F := Ideal) = y4
    simp only [id]
    pointwise [val_main_cst, val_main_cst_0, val_main_cst_1]
  rw [e]
  simp only [v19_at, v5_at, v2_at, v16_at]
  by_cases h : s ≤ t
  · simp only [if_pos h]; rfl
  · simp only [if_neg h]
    refine Finset.sum_eq_zero fun i _ => ?_
    exact mul_zero _

/-- The unnormalised row: what token `t` reads. -/
theorem v41_at (b : Fin 128) (t h : Fin 4) (j : Fin 128) : val_main_v41 (F := Ideal) x0 x1 x2 x3 x6 (ix4 b t h j)
    = reads (seq x0 b h) (seq x1 b h) (seq x2 b h) (seq x3 b h) (old x6 b h) t j := by
  have e : val_main_v41 (F := Ideal) x0 x1 x2 x3 x6 (ix4 b t h j) = val_main_v23 (F := Ideal) x0 x3 x6 (ix4 b t h j)
      + ∑ s : Fin 4, val_main_v8 (F := Ideal) x2 (ix4 b s h j) * val_main_v38 (F := Ideal) x0 x1 x3 (ix4 b t s h) := by
    unfold val_main_v41 val_main_v40 val_main_v39
    generalize val_main_v23 (F := Ideal) x0 x3 x6 = y0
    generalize val_main_v8 (F := Ideal) x2 = y1
    generalize val_main_v38 (F := Ideal) x0 x1 x3 = y2
    pointwise
  rw [e, v23_at]
  simp only [v8_at, v38_at]
  unfold reads
  exact congrArg (fun z : EReal => _ + z) (Finset.sum_congr rfl fun s _ => mul_comm _ _)

/-- The state after the four tokens. -/
theorem v54_at (b : Fin 128) (h : Fin 4) (i j : Fin 128) : val_main_v54 (F := Ideal) x1 x2 x3 x6 (ix4 b h i j)
    = sAt x1 x2 x3 x6 b h i j := by
  have e : val_main_v54 (F := Ideal) x1 x2 x3 x6 (ix4 b h i j)
      = Ideal.exp (val_main_v16 (F := Ideal) x3 (ix4 b 3 h i)) * val_main_v15 (F := Ideal) x6 (ix4 b h i j)
        + ∑ s : Fin 4, val_main_v5 (F := Ideal) x1 (ix4 b s h i)
            * Ideal.exp (val_main_v16 (F := Ideal) x3 (ix4 b 3 h i) - val_main_v16 (F := Ideal) x3 (ix4 b s h i))
            * val_main_v8 (F := Ideal) x2 (ix4 b s h j) := by
    unfold val_main_v54 val_main_v53 val_main_v52 val_main_v51 val_main_v50 val_main_v49 val_main_v48 val_main_v47 val_main_v46
      val_main_v45 val_main_v44 val_main_v43 val_main_v42
    generalize val_main_v5 (F := Ideal) x1 = y0
    generalize val_main_v8 (F := Ideal) x2 = y1
    generalize val_main_v16 (F := Ideal) x3 = y2
    generalize val_main_v15 (F := Ideal) x6 = y3
    pointwise
  rw [e]
  simp only [v5_at, v8_at, v15_at, v16_at]
  rfl

/-- The result row. -/
theorem v72_at (b : Fin 128) (t h : Fin 4) (j : Fin 128) :
    val_main_v72 (F := Ideal) x0 x1 x2 x3 x4 x5 x6 (ix2 ⟨b.val * 4 + t.val, by omega⟩ ⟨h.val * 128 + j.val, by omega⟩)
      = yAt x0 x1 x2 x3 x4 x5 x6 b t h j := by
  have e : val_main_v72 (F := Ideal) x0 x1 x2 x3 x4 x5 x6 (ix2 ⟨b.val * 4 + t.val, by omega⟩ ⟨h.val * 128 + j.val, by omega⟩)
      = gated (fun j => val_main_v41 (F := Ideal) x0 x1 x2 x3 x6 (ix4 b t h j)) (fun i => x5 (ix2 3 i))
          (fun i => val_main_v13 (F := Ideal) x4 (ix4 b t h i)) j := by
    unfold val_main_v72 val_main_v71 val_main_v70 val_main_v69 val_main_v68 val_main_v67 val_main_v66 val_main_v65 val_main_v64
      val_main_v63 val_main_v62 val_main_v61 val_main_v60 val_main_v59 val_main_v58 val_main_v57 val_main_v56 val_main_v55
    generalize val_main_v41 (F := Ideal) x0 x1 x2 x3 x6 = y0
    generalize val_main_v13 (F := Ideal) x4 = y1
    pointwise [val_main_cst_2, val_main_cst_3, val_main_cst_4, gated]
  rw [e]
  simp only [v41_at, v13_at]
  rfl

end Cert.ReferenceIdeal.Whole
-- ==== Proof.HgrnClaim.lean ====
/-
  The recurrence kernel's two results equal the reference's: the rows its tokens yield, and the states after them.
-/
module

public import proofs.«01_k».proof.Proof.HgrnValue
public import proofs.«01_k».proof.Proof.HgrnReference
public import proofs.«01_k».proof.Proof.HgrnFrame

@[expose] public section

noncomputable section

namespace Cert.Proof

open Idealize.ShloMosaic Idealize.ShloMosaic.TcCoe Idealize.SL.Sem

/-- The reference's rows are the kernel's, for equal arguments. -/
theorem rows_eq (m : (ℓ : Loc Cert.KernelIdeal.nD Cert.KernelIdeal.τ Cert.KernelIdeal.sig) → Buf (Elt Ideal) ℓ)
    (c : Dev Cert.KernelIdeal.nD)
    {q k v : FVec Ideal ⟨2, ![16896, 512]⟩ .bf16} {lf : FVec Ideal ⟨2, ![16896, 512]⟩ .f32}
    {gt : FVec Ideal ⟨2, ![16896, 512]⟩ .bf16} {gn : FVec Ideal ⟨2, ![4, 128]⟩ .f32}
    {s : FVec Ideal ⟨5, ![4, 128, 4, 128, 128]⟩ .f32}
    (h0 : q = m (c.tc.loc Cert.KernelIdeal.main_arg0)) (h1 : k = m (c.tc.loc Cert.KernelIdeal.main_arg1))
    (h2 : v = m (c.tc.loc Cert.KernelIdeal.main_arg2)) (h3 : lf = m (c.tc.loc Cert.KernelIdeal.main_arg3))
    (h4 : gt = m (c.tc.loc Cert.KernelIdeal.main_arg4)) (h5 : gn = m (c.tc.loc Cert.KernelIdeal.main_arg5))
    (h6 : s = m (c.tc.loc Cert.KernelIdeal.main_arg6)) :
    Cert.ReferenceIdeal.Read.val_main_v72 (F := Ideal) q k v lf gt gn s = Cert.KernelIdeal.Whole.G7 m c := by
  funext i
  have i0 : (i 0).val < 512 := (i 0).isLt
  have i1 : (i 1).val < 512 := (i 1).isLt
  obtain ⟨b, t, n, j, hr, hc, rfl⟩ : ∃ (b : Fin 128) (t n : Fin 4) (j : Fin 128) (hr : b.val * 4 + t.val < 512)
      (hc : n.val * 128 + j.val < 512), i = ix2 (⟨b.val * 4 + t.val, hr⟩ : Fin 512) (⟨n.val * 128 + j.val, hc⟩ : Fin 512) :=
    ⟨⟨(i 0).val / 4, by omega⟩, ⟨(i 0).val % 4, by omega⟩, ⟨(i 1).val / 128, by omega⟩, ⟨(i 1).val % 128, by omega⟩,
      by show (i 0).val / 4 * 4 + (i 0).val % 4 < 512; omega, by show (i 1).val / 128 * 128 + (i 1).val % 128 < 512; omega,
      Shape.idx_ext₂ (by show (i 0).val = (i 0).val / 4 * 4 + (i 0).val % 4; omega)
        (by show (i 1).val = (i 1).val / 128 * 128 + (i 1).val % 128; omega)⟩
  refine (Cert.ReferenceIdeal.Whole.v72_at _ _ _ _ _ _ _ b t n j).trans ?_
  refine (Cert.HgrnMath.yAt_congr h0 h1 h2 h3 h4 h5 h6 b t n j).trans ?_
  refine (Cert.KernelIdeal.Whole.G7_apply m c b t n j).symm.trans (congrArg (Cert.KernelIdeal.Whole.G7 m c) ?_)
  exact Shape.idx_ext₂ (by show 4 * b.val + t.val = b.val * 4 + t.val; omega) rfl

/-- The reference's states are the kernel's, for equal arguments. -/
theorem states_eq (m : (ℓ : Loc Cert.KernelIdeal.nD Cert.KernelIdeal.τ Cert.KernelIdeal.sig) → Buf (Elt Ideal) ℓ)
    (c : Dev Cert.KernelIdeal.nD)
    {k v : FVec Ideal ⟨2, ![16896, 512]⟩ .bf16} {lf : FVec Ideal ⟨2, ![16896, 512]⟩ .f32}
    {s : FVec Ideal ⟨5, ![4, 128, 4, 128, 128]⟩ .f32}
    (h1 : k = m (c.tc.loc Cert.KernelIdeal.main_arg1))
    (h2 : v = m (c.tc.loc Cert.KernelIdeal.main_arg2)) (h3 : lf = m (c.tc.loc Cert.KernelIdeal.main_arg3))
    (h6 : s = m (c.tc.loc Cert.KernelIdeal.main_arg6)) :
    Cert.ReferenceIdeal.Read.val_main_v54 (F := Ideal) k v lf s = Cert.KernelIdeal.Whole.G8 m c := by
  funext i
  obtain ⟨b, n, p, j, rfl⟩ : ∃ (b : Fin 128) (n : Fin 4) (p j : Fin 128), i = ix4 b n p j :=
    ⟨i 0, i 1, i 2, i 3, funext fun a => by fin_cases a <;> rfl⟩
  refine (Cert.ReferenceIdeal.Whole.v54_at _ _ _ _ b n p j).trans ?_
  exact Cert.HgrnMath.sAt_congr h1 h2 h3 h6 b n p j

/-- The kernel's two result arrays equal the reference's. -/
theorem algebraic_hgrn : Cert.algebraic_KernelIdeal_ReferenceIdeal := by
  intro m g m' g' _ hagree
  refine ⟨fun c => Cert.KernelIdeal.Whole.G7 m c, fun c => Cert.KernelIdeal.Whole.G8 m c, ?_, ?_⟩
  · refine (θ_run Cert.KernelIdeal.defs _ _).mono (fun r h c => ?_) (Cert.KernelIdeal.Value.run_blocks m g)
    exact ⟨(h c).1.trans (Cert.KernelIdeal.Whole.final7 m c), (h c).2.1.trans (Cert.KernelIdeal.Whole.final8 m c), (h c).2.2⟩
  · refine (θ_run Cert.ReferenceIdeal.defs _ _).mono (fun r h c => ?_) (Cert.ReferenceIdeal.Value.run m' g')
    obtain ⟨h0, h1, h2, h3, h4, h5, h6⟩ := hagree c
    replace h := h c
    obtain ⟨a, b, rest⟩ := h
    refine ⟨?_, ?_, rest⟩
    · clear b rest
      exact a.trans ((Cert.ReferenceIdeal.Read.val_main_v72_eq m' c).trans (rows_eq m c h0 h1 h2 h3 h4 h5 h6))
    · clear a rest
      exact b.trans (states_eq m c h1 h2 h3 h6)

end Cert.Proof
-- ==== Proof.InFrame.lean ====
/-
  The input-projection reference: its arguments end unchanged.
-/
module

public import proofs.«01_k».proof.Defs
public import proofs.«01_k».proof.Proof.Gen.ReferenceInIdeal.Run
public import Idealize.ShloMosaic.Lib.Claim

@[expose] public section

noncomputable section

namespace Cert.Proof

open Idealize.ShloMosaic Idealize.ShloMosaic.TcCoe Idealize.SL.Sem

/-- The reference's arguments end unchanged; it has no semaphore. -/
theorem frame_reference_in : Cert.quiescent_ReferenceInIdeal := fun m g _ =>
  (θ_run Cert.ReferenceInIdeal.defs _ _).mono (fun r h => ⟨fun c => (h c).2.2.2.2.2.2.2.2.2.2, sem_eq_zero_of_no_sems (by decide) r.2⟩)
    (Cert.ReferenceInIdeal.Value.run m g)

end Cert.Proof
-- ==== Proof.FfnMath.lean ====
/-
  The second half of the layer for ONE token, as plain functions over the extended reals: the gated merge of the two
  branches, the output projection with its normalised residual, and the squared-relu feed-forward with its own. Both the
  kernel's blocks and the reference's arrays are read back as these functions of a token's rows.
-/
module

public import Idealize.ShloMosaic.Lib.Pointwise

@[expose] public section

noncomputable section

namespace Cert.FfnMath

open Idealize.ShloMosaic
open scoped BigOperators

/-- Root-mean-square normalisation of a row of 1024 numbers with gain `g`: `z / √(mean z² + 1e-6) · g`. -/
def rms (z g : Fin 1024 → EReal) (j : Fin 1024) : EReal :=
  z j * Ideal.rsqrt (Ideal.div (∑ k : Fin 1024, z k * z k) (Ideal.ofBits .f32 0x44800000#32) + Ideal.ofBits .f32 0x358637BD#32) * g j

/-- The two branches of a token, each projected to 1024 features, gated and added. -/
def merged (ga gb : Fin 1024 → EReal) (ya yb : Fin 512 → EReal) (wa wb : Fin 512 → Fin 1024 → EReal) (k : Fin 1024) : EReal :=
  ga k * (∑ i : Fin 512, ya i * wa i k) + gb k * (∑ i : Fin 512, yb i * wb i k)

/-- The residual stream after the mixing half: `x + rms (merged · w_out)`. -/
def mixed (x : Fin 1024 → EReal) (mg : Fin 1024 → EReal) (wo : Fin 1024 → Fin 1024 → EReal) (g : Fin 1024 → EReal) (j : Fin 1024) : EReal :=
  x j + rms (fun c => ∑ k : Fin 1024, mg k * wo k c) g j

/-- One hidden unit: the squared positive part of `h · w_up`'s column. -/
def up (h w : Fin 1024 → EReal) : EReal :=
  max (∑ k : Fin 1024, h k * w k) 0 * max (∑ k : Fin 1024, h k * w k) 0

/-- The feed-forward half: `x + rms (relu(rms x · w_up)² · w_down)`. -/
def ffn (x gpre : Fin 1024 → EReal) (wup : Fin 1024 → Fin 4096 → EReal) (wdn : Fin 4096 → Fin 1024 → EReal) (gpost : Fin 1024 → EReal)
    (j : Fin 1024) : EReal :=
  x j + rms (fun c => ∑ i : Fin 4096, up (rms x gpre) (fun k => wup k i) * wdn i c) gpost j

/-- Column `c` of the `b`-th of the four groups of 1024 hidden units. -/
def unit (b : Fin 4) (c : Fin 1024) : Fin 4096 := ⟨b.val * 1024 + c.val, by omega⟩

/-- A sum over the 4096 hidden units, taken as four consecutive sums of 1024. -/
theorem sum_units (f : Fin 4096 → EReal) :
    ∑ i : Fin 4096, f i
      = (∑ c : Fin 1024, f (unit 0 c)) + (∑ c : Fin 1024, f (unit 1 c)) + (∑ c : Fin 1024, f (unit 2 c)) + (∑ c : Fin 1024, f (unit 3 c)) := by
  have e : (∑ i : Fin (4 * 1024), f ⟨i.val, i.isLt⟩) = ∑ b : Fin 4, ∑ c : Fin 1024, f (unit b c) := by
    rw [← Equiv.sum_comp finProdFinEquiv, Fintype.sum_prod_type]
    refine Finset.sum_congr rfl fun b _ => Finset.sum_congr rfl fun c _ => congrArg f (Fin.ext ?_)
    show c.val + 1024 * b.val = b.val * 1024 + c.val
    omega
  refine Eq.trans ?_ (e.trans (Fin.sum_univ_four _))
  rfl

/-- The result at token `T` and feature `j`, from the argument arrays (layer 3's weights). -/
def at_ (x : FVec Ideal ⟨2, ![16896, 1024]⟩ .f32) (ya yb : FVec Ideal ⟨2, ![16896, 512]⟩ .bf16)
    (ga gb : FVec Ideal ⟨2, ![16896, 1024]⟩ .bf16) (gmix gpre gpost : FVec Ideal ⟨2, ![4, 1024]⟩ .f32)
    (wa wb : FVec Ideal ⟨3, ![4, 512, 1024]⟩ .f32) (wo : FVec Ideal ⟨3, ![4, 1024, 1024]⟩ .f32)
    (wup : FVec Ideal ⟨3, ![4, 1024, 4096]⟩ .f32) (wdn : FVec Ideal ⟨3, ![4, 4096, 1024]⟩ .f32) (T : Fin 16896) (j : Fin 1024) : EReal :=
  ffn (mixed (fun c => x (ix2 T c))
        (merged (fun c => ga (ix2 T c)) (fun c => gb (ix2 T c)) (fun i => ya (ix2 T i)) (fun i => yb (ix2 T i))
          (fun i c => wa (ix3 3 i c)) (fun i c => wb (ix3 3 i c)))
        (fun k c => wo (ix3 3 k c)) (fun c => gmix (ix2 3 c)))
    (fun c => gpre (ix2 3 c)) (fun k i => wup (ix3 3 k i)) (fun i c => wdn (ix3 3 i c)) (fun c => gpost (ix2 3 c)) j

/-- Equal argument arrays give equal results. -/
theorem at_congr {x x' : FVec Ideal ⟨2, ![16896, 1024]⟩ .f32} {ya ya' yb yb' : FVec Ideal ⟨2, ![16896, 512]⟩ .bf16}
    {ga ga' gb gb' : FVec Ideal ⟨2, ![16896, 1024]⟩ .bf16} {gmix gmix' gpre gpre' gpost gpost' : FVec Ideal ⟨2, ![4, 1024]⟩ .f32}
    {wa wa' wb wb' : FVec Ideal ⟨3, ![4, 512, 1024]⟩ .f32} {wo wo' : FVec Ideal ⟨3, ![4, 1024, 1024]⟩ .f32}
    {wup wup' : FVec Ideal ⟨3, ![4, 1024, 4096]⟩ .f32} {wdn wdn' : FVec Ideal ⟨3, ![4, 4096, 1024]⟩ .f32}
    (h0 : x = x') (h1 : ya = ya') (h2 : yb = yb') (h3 : ga = ga') (h4 : gb = gb') (h5 : gmix = gmix') (h6 : gpre = gpre')
    (h7 : gpost = gpost') (h8 : wa = wa') (h9 : wb = wb') (h10 : wo = wo') (h11 : wup = wup') (h12 : wdn = wdn') (T : Fin 16896) (j : Fin 1024) :
    at_ x ya yb ga gb gmix gpre gpost wa wb wo wup wdn T j = at_ x' ya' yb' ga' gb' gmix' gpre' gpost' wa' wb' wo' wup' wdn' T j := by
  subst h0 h1 h2 h3 h4 h5 h6 h7 h8 h9 h10 h11 h12; rfl

end Cert.FfnMath
-- ==== Proof.InMath.lean ====
/-
  The first step of the layer for ONE token, as plain functions over the extended reals: the normalised row, its projection
  to 5632 features, the gates, the forget gate's lower bound, and the rotary embedding. Both the kernel's blocks and the
  reference's arrays are read back as these functions.
-/
module

public import Idealize.ShloMosaic.Lib.Pointwise
public import proofs.«01_k».proof.Proof.FfnMath

@[expose] public section

noncomputable section

namespace Cert.InMath

open Idealize.ShloMosaic
open Cert.FfnMath (rms)
open scoped BigOperators

/-- Feature `c` of the projection of a normalised row. -/
def proj (x g : Fin 1024 → EReal) (w : Fin 1024 → Fin 5632 → EReal) (c : Fin 5632) : EReal :=
  ∑ k : Fin 1024, rms x g k * w k c

/-- Feature `off + j`. -/
def col (off : Nat) (j : Fin 1024) (h : off + 1024 ≤ 5632 := by decide) : Fin 5632 := ⟨off + j.val, by omega⟩

/-- Feature `off + j` of a group of 512. -/
def col5 (off : Nat) (j : Fin 512) (h : off + 512 ≤ 5632 := by decide) : Fin 5632 := ⟨off + j.val, by omega⟩

/-- A row turned by a table of cosines and one of signed sines: entry `j` of head `h`. -/
def spin (a : Fin 512 → EReal) (cs sn : Fin 128 → EReal) (h : Fin 4) (j : Fin 128) : EReal :=
  a ⟨h.val * 128 + j.val, by omega⟩ * cs j + a ⟨h.val * 128 + (j.val + 128 - 64) % 128, by omega⟩ * sn j

/-- `a / (1 + e⁻ᵃ)`. -/
def silu (a : EReal) : EReal := a * Ideal.logistic a

/-- The exponential of an entry of a column of four, less the column's greatest. -/
def ex (b : Fin 4 → EReal) (i : Fin 4) : EReal := Ideal.exp (b i - Finset.univ.sup b)

/-- The softmax of a column of four. -/
def soft (b : Fin 4 → EReal) (i : Fin 4) : EReal := Ideal.div (ex b i) (∑ i : Fin 4, ex b i)

/-- Layer 3's lower bound: the softmax's mass on the layers 1 to 3. -/
def low (b : Fin 4 → EReal) : EReal := soft b 1 + soft b 2 + soft b 3

/-- The logarithm of the forget gate. -/
def logf (lb z : EReal) : EReal :=
  Ideal.log (max (lb + (1 - lb) * Ideal.logistic z) (Ideal.ofBits .f32 0x0DA24260#32))

/-- The key: one less the forget gate. -/
def key (lb z : EReal) : EReal := (1 - lb) * Ideal.logistic (-z)

/-- The `e`-th angular frequency. -/
def freq (e : Fin 64) : EReal :=
  Ideal.pow (Ideal.ofBits .f32 0x461C4000#32)
    (Ideal.div (-(Ideal.ofBits .f32 0x40000000#32 * FloatOps.sitofp (F := Ideal) .f32 (BitVec.ofNat 32 e.val))) (Ideal.ofBits .f32 0x43000000#32))

/-- The position of token `T`: its place in its prompt sequence, or 2048 plus its place among a sample's four. -/
def place (T : Fin 16896) : BitVec 32 :=
  if T.val < 16384 then BitVec.ofNat 32 (T.val % 4096) else 2048#32 + BitVec.ofNat 32 ((T.val - 16384) % 4)

/-- The angle by which position `p` turns the `e`-th pair. -/
def angle (p : BitVec 32) (e : Fin 64) : EReal := FloatOps.sitofp (F := Ideal) .f32 p * freq e

/-- The first half of a rotated head. -/
def turn0 (p : BitVec 32) (a0 a1 : EReal) (e : Fin 64) : EReal := a0 * Ideal.cos (angle p e) - a1 * Ideal.sin (angle p e)

/-- The second half of a rotated head. -/
def turn1 (p : BitVec 32) (a0 a1 : EReal) (e : Fin 64) : EReal := a1 * Ideal.cos (angle p e) + a0 * Ideal.sin (angle p e)

/-- Entry `j` of head `h` as a column. -/
def headCol (h : Fin 4) (j : Fin 128) : Fin 512 := ⟨h.val * 128 + j.val, by omega⟩

/-- A head turned by position `p`: entry `j` pairs with the entry 64 from it. -/
def rot (p : BitVec 32) (a : Fin 512 → EReal) (h : Fin 4) (j : Fin 128) : EReal :=
  if hj : j.val < 64 then turn0 p (a (headCol h ⟨j.val, by omega⟩)) (a (headCol h ⟨64 + j.val, by omega⟩)) ⟨j.val, hj⟩
  else turn1 p (a (headCol h ⟨j.val - 64, by omega⟩)) (a (headCol h ⟨64 + (j.val - 64), by omega⟩)) ⟨j.val - 64, by omega⟩

/-- Feature `c` of token `T` under layer 3's weights. -/
def feature (x : FVec Ideal ⟨2, ![16896, 1024]⟩ .f32) (g : FVec Ideal ⟨2, ![4, 1024]⟩ .f32) (w : FVec Ideal ⟨3, ![4, 1024, 5632]⟩ .f32)
    (T : Fin 16896) (c : Fin 5632) : EReal :=
  proj (fun c => x (ix2 T c)) (fun c => g (ix2 3 c)) (fun k c => w (ix3 3 k c)) c

/-- Layer 3's lower bound of feature `j`. -/
def lowAt (b : FVec Ideal ⟨2, ![4, 512]⟩ .f32) (j : Fin 512) : EReal := low (fun i => b (ix2 i j))

/-- Result 0 at token `T`, entry `j`: the recurrence's query. -/
def res0 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  silu (feature x g w T (col5 0 j))

/-- Result 1 at token `T`, entry `j`: the log forget gate. -/
def res1 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  logf (lowAt b j) (feature x g w T (col5 512 j))

/-- Result 2 at token `T`, entry `j`: the recurrence's key. -/
def res2 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  key (lowAt b j) (feature x g w T (col5 512 j))

/-- Result 3 at token `T`, entry `j`: the recurrence's value. -/
def res3 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  feature x g w T (col5 1024 j)

/-- Result 4 at token `T`, entry `j`: the recurrence's output gate. -/
def res4 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  silu (feature x g w T (col5 1536 j))

/-- Result 5 at token `T`, entry `j`: the turned query. -/
def res5 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  rot (place T) (fun c => feature x g w T (col5 2048 c)) ⟨j.val / 128, by omega⟩ ⟨j.val % 128, by omega⟩

/-- Result 6 at token `T`, entry `j`: the turned key. -/
def res6 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  rot (place T) (fun c => feature x g w T (col5 2560 c)) ⟨j.val / 128, by omega⟩ ⟨j.val % 128, by omega⟩

/-- Result 7 at token `T`, entry `j`: the attention's value. -/
def res7 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 512) : EReal :=
  feature x g w T (col5 3072 j)

/-- Result 8 at token `T`, entry `j`: the first merge gate. -/
def res8 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 1024) : EReal :=
  Ideal.logistic (feature x g w T (col 3584 j))

/-- Result 9 at token `T`, entry `j`: the second merge gate. -/
def res9 (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (j : Fin 1024) : EReal :=
  Ideal.logistic (feature x g w T (col 4608 j))

/-- Result 5 at entry `j` of head `h`. -/
theorem res5_at (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (h : Fin 4) (j : Fin 128) :
    res5 x g w b T (headCol h j) = rot (place T) (fun c => feature x g w T (col5 2048 c)) h j := by
  have eh : (⟨(headCol h j).val / 128, by have := (headCol h j).isLt; omega⟩ : Fin 4) = h := Fin.ext (by
    show (h.val * 128 + j.val) / 128 = h.val; omega)
  have ej : (⟨(headCol h j).val % 128, by omega⟩ : Fin 128) = j := Fin.ext (by
    show (h.val * 128 + j.val) % 128 = j.val; omega)
  unfold res5
  rw [eh, ej]

/-- Result 6 at entry `j` of head `h`. -/
theorem res6_at (x : FVec Ideal ⟨2, ![16896, 1024]⟩ .f32) (g : FVec Ideal ⟨2, ![4, 1024]⟩ .f32) (w : FVec Ideal ⟨3, ![4, 1024, 5632]⟩ .f32)
    (b : FVec Ideal ⟨2, ![4, 512]⟩ .f32) (T : Fin 16896) (h : Fin 4) (j : Fin 128) :
    res6 x g w b T (headCol h j) = rot (place T) (fun c => feature x g w T (col5 2560 c)) h j := by
  have eh : (⟨(headCol h j).val / 128, by have := (headCol h j).isLt; omega⟩ : Fin 4) = h := Fin.ext (by
    show (h.val * 128 + j.val) / 128 = h.val; omega)
  have ej : (⟨(headCol h j).val % 128, by omega⟩ : Fin 128) = j := Fin.ext (by
    show (h.val * 128 + j.val) % 128 = j.val; omega)
  unfold res6
  rw [eh, ej]

/-- Every column is an entry of a head. -/
theorem exists_headCol (c : Fin 512) : ∃ (h : Fin 4) (j : Fin 128), c = headCol h j :=
  ⟨⟨c.val / 128, by omega⟩, ⟨c.val % 128, by omega⟩, Fin.ext (by show c.val = c.val / 128 * 128 + c.val % 128; omega)⟩

/-- A row turned by the two tables of a position is turned by the position. -/
theorem spin_rot (p : BitVec 32) (a : Fin 512 → EReal) (cs sn : Fin 128 → EReal) (h : Fin 4) (j : Fin 128)
    (c0 : ∀ e : Fin 64, cs ⟨e.val, by omega⟩ = Ideal.cos (angle p e)) (c1 : ∀ e : Fin 64, cs ⟨64 + e.val, by omega⟩ = Ideal.cos (angle p e))
    (s0 : ∀ e : Fin 64, sn ⟨e.val, by omega⟩ = -Ideal.sin (angle p e)) (s1 : ∀ e : Fin 64, sn ⟨64 + e.val, by omega⟩ = Ideal.sin (angle p e)) :
    spin a cs sn h j = rot p a h j := by
  unfold spin rot
  split
  · rename_i hj
    have e1 : cs j = Ideal.cos (angle p ⟨j.val, hj⟩) := c0 ⟨j.val, hj⟩
    have e2 : sn j = -Ideal.sin (angle p ⟨j.val, hj⟩) := s0 ⟨j.val, hj⟩
    have e3 : (j.val + 128 - 64) % 128 = 64 + j.val := by omega
    simp only [e1, e2, e3, turn0, headCol]
    rw [mul_neg, sub_eq_add_neg]
  · rename_i hj
    have ej : j = ⟨64 + (j.val - 64), by omega⟩ := Fin.ext (by show j.val = 64 + (j.val - 64); omega)
    have e1 : cs j = Ideal.cos (angle p ⟨j.val - 64, by omega⟩) := (congrArg cs ej).trans (c1 ⟨j.val - 64, by omega⟩)
    have e2 : sn j = Ideal.sin (angle p ⟨j.val - 64, by omega⟩) := (congrArg sn ej).trans (s1 ⟨j.val - 64, by omega⟩)
    have e3 : (j.val + 128 - 64) % 128 = j.val - 64 := by omega
    have e4 : 64 + (j.val - 64) = j.val := by omega
    simp only [e1, e2, e3, e4, turn1, headCol]

/-- A nonpositive number's exponential is a nonnegative real. -/
theorem exp_real {x : EReal} (h : x ≤ 0) : ∃ r : ℝ, 0 ≤ r ∧ Ideal.exp x = (r : EReal) := by
  induction x using EReal.rec with
  | bot => exact ⟨0, le_rfl, rfl⟩
  | coe r => exact ⟨Real.exp r, (Real.exp_pos r).le, rfl⟩
  | top => exact absurd h (by decide)

/-- The running sum to the last layer, less layer 0's mass, is the mass on the layers 1 to 3. -/
theorem low_eq (b : Fin 4 → EReal) : soft b 0 + soft b 1 + soft b 2 + soft b 3 - soft b 0 = low b := by
  have hr : ∀ i, ∃ r : ℝ, 0 ≤ r ∧ ex b i = (r : EReal) := fun i =>
    exp_real (EReal.sub_nonpos.mpr (Finset.le_sup (Finset.mem_univ i)))
  choose r h0 hr using hr
  have hs : (∑ i : Fin 4, ex b i) = ((r 0 + r 1 + r 2 + r 3 : ℝ) : EReal) := by
    rw [Fin.sum_univ_four, hr, hr, hr, hr]; push_cast; rfl
  unfold low soft
  rw [hs, hr, hr, hr, hr]
  by_cases hz : r 0 + r 1 + r 2 + r 3 = 0
  · have e0 : r 0 = 0 := by linarith [h0 0, h0 1, h0 2, h0 3]
    have d : Ideal.div ((r 0 : ℝ) : EReal) ((r 0 + r 1 + r 2 + r 3 : ℝ) : EReal) = ⊥ := by
      rw [hz, e0]; simp [Ideal.div]
    have e1 : r 1 = 0 := by linarith [h0 0, h0 1, h0 2, h0 3]
    have d1 : Ideal.div ((r 1 : ℝ) : EReal) ((r 0 + r 1 + r 2 + r 3 : ℝ) : EReal) = ⊥ := by
      rw [hz, e1]; simp [Ideal.div]
    rw [d, d1]; simp [sub_eq_add_neg]
  · have hd : ∀ x : ℝ, Ideal.div (x : EReal) ((r 0 + r 1 + r 2 + r 3 : ℝ) : EReal) = ((x * (r 0 + r 1 + r 2 + r 3)⁻¹ : ℝ) : EReal) := by
      intro x
      rw [Ideal.div, if_neg (by exact_mod_cast hz), EReal.coe_mul, EReal.coe_inv]
    rw [hd, hd, hd, hd]
    norm_cast
    ring

/-- A token below 16384 is token `t` of a prompt `b`. -/
theorem prompt_token (T : Fin 16896) (h : T.val < 16384) :
    ∃ (b : Fin 4) (t : Fin 4096) (hb : b.val * 4096 + t.val < 16896), T = ⟨b.val * 4096 + t.val, hb⟩ :=
  ⟨⟨T.val / 4096, by omega⟩, ⟨T.val % 4096, by omega⟩, by show T.val / 4096 * 4096 + T.val % 4096 < 16896; omega,
    Fin.ext (by show T.val = T.val / 4096 * 4096 + T.val % 4096; omega)⟩

/-- A token past the prompts is token `t` of a sample `b`. -/
theorem sample_token (T : Fin 16896) (h : ¬ T.val < 16384) :
    ∃ (b : Fin 128) (t : Fin 4) (hb : 16384 + (b.val * 4 + t.val) < 16896), T = ⟨16384 + (b.val * 4 + t.val), hb⟩ :=
  ⟨⟨(T.val - 16384) / 4, by omega⟩, ⟨(T.val - 16384) % 4, by omega⟩,
    by show 16384 + ((T.val - 16384) / 4 * 4 + (T.val - 16384) % 4) < 16896; omega, Fin.ext (by
    show T.val = 16384 + ((T.val - 16384) / 4 * 4 + (T.val - 16384) % 4); omega)⟩

/-- The position of a prompt's token. -/
theorem place_prompt (b : Fin 4) (t : Fin 4096) (hb : b.val * 4096 + t.val < 16896) :
    place ⟨b.val * 4096 + t.val, hb⟩ = BitVec.ofNat 32 t.val := by
  unfold place
  rw [if_pos (by show b.val * 4096 + t.val < 16384; omega)]
  have e : (b.val * 4096 + t.val) % 4096 = t.val := by omega
  show BitVec.ofNat 32 ((b.val * 4096 + t.val) % 4096) = _
  rw [e]

/-- The position of a sample's token. -/
theorem place_sample (b : Fin 128) (t : Fin 4) (hb : 16384 + (b.val * 4 + t.val) < 16896) :
    place ⟨16384 + (b.val * 4 + t.val), hb⟩ = 2048#32 + BitVec.ofNat 32 t.val := by
  unfold place
  rw [if_neg (by show ¬ 16384 + (b.val * 4 + t.val) < 16384; omega)]
  have e : (16384 + (b.val * 4 + t.val) - 16384) % 4 = t.val := by omega
  show 2048#32 + BitVec.ofNat 32 ((16384 + (b.val * 4 + t.val) - 16384) % 4) = _
  rw [e]

end Cert.InMath
-- ==== Proof.InBlock.lean ====
/-
  The first step's block of 512 tokens, read at an index: row `r` of each array the body stores is the one-token function of
  InMath at row `r` of its input blocks.
-/
module

public import proofs.«01_k».proof.Proof.InMath
public import proofs.«01_k».proof.Proof.Gen.KernelInIdeal.Frame

@[expose] public section

noncomputable section

namespace Cert.KernelInIdeal.Block

open Idealize.ShloMosaic Idealize.ShloMosaic.TcCoe
open Cert.KernelInIdeal Cert.KernelInIdeal.Gen Cert.InMath
open Cert.FfnMath (rms)
open scoped BigOperators

/-- The normalised row. -/
theorem pay2_apply (x : Vec Ideal S512x1024 .f32) (g : Vec Ideal S1x1024 .f32) (r : Fin 512) (j : Fin 1024) :
    k0_pay2 (F := Ideal) x g (ix2 r j) = rms (fun c => x (ix2 r c)) (fun c => g (ix2 0 c)) j := by
  pointwise [k0_pay2, rms]

/-- The greatest's start. -/
theorem ofBits_bot : Ideal.ofBits FTy.f32 0xFF800000#32 = ⊥ := by
  simp [Ideal.ofBits, Ideal.ieee]

/-- The forget gate's lower bound. -/
theorem pay3_apply (b : Vec Ideal S4x512 .f32) (j : Fin 512) :
    k0_pay3 (F := Ideal) b (ix2 0 j) = low (fun i => b (ix2 i j)) := by
  pointwise [k0_pay3, low, soft, ex]
  rw [Fin.sum_univ_three, ofBits_bot]
  rfl

/-- One entry of a row times a block of weights. -/
def dot (y : Fin 1024 → EReal) (w : Fin 1024 → EReal) : EReal := ∑ k : Fin 1024, y k * w k

/-- The forget gate's weights pass through. -/
theorem pay5_apply (w : Vec Ideal S1024x512 .bf16) (k : Fin 1024) (j : Fin 512) : k0_pay5 (F := Ideal) w (ix2 k j) = w (ix2 k j) := by
  pointwise [k0_pay5]

/-- The tables pass through. -/
theorem pay11_apply (w : Vec Ideal S512x128 .f32) (k : Fin 512) (j : Fin 128) : k0_pay11 (F := Ideal) w (ix2 k j) = w (ix2 k j) := by
  pointwise [k0_pay11]

/-- The tables pass through. -/
theorem pay12_apply (w : Vec Ideal S512x128 .f32) (k : Fin 512) (j : Fin 128) : k0_pay12 (F := Ideal) w (ix2 k j) = w (ix2 k j) := by
  pointwise [k0_pay12]

/-- The log of the forget gate. -/
theorem pay7_apply (y : FVec Ideal S512x1024 .bf16) (lb : FVec Ideal S1x512 .f32) (w : FVec Ideal S1024x512 .bf16)
    (r : Fin 512) (j : Fin 512) :
    k0_pay7 (F := Ideal) y lb w (constant S512x512 .f32 0x00000000#32) (ix2 r j) = logf (lb (ix2 0 j)) (dot (fun k => y (ix2 r k)) (fun k => w (ix2 k j))) := by
  pointwise [k0_pay7, k0_pay6, logf, dot]

/-- The key. -/
theorem pay8_apply (y : FVec Ideal S512x1024 .bf16) (lb : FVec Ideal S1x512 .f32) (w : FVec Ideal S1024x512 .bf16)
    (r : Fin 512) (j : Fin 512) :
    k0_pay8 (F := Ideal) y lb w (constant S512x512 .f32 0x00000000#32) (ix2 r j) = key (lb (ix2 0 j)) (dot (fun k => y (ix2 r k)) (fun k => w (ix2 k j))) := by
  pointwise [k0_pay8, k0_pay6, key, dot]
  simp only [zero_sub]

/-- The query of the recurrence. -/
theorem pay4_apply (x : Vec Ideal S512x1024 .f32) (g : Vec Ideal S1x1024 .f32) (w : Vec Ideal S1024x512 .bf16) (r j : Fin 512) :
    k0_pay4 (F := Ideal) x g w (ix2 r j) = silu (dot (fun k => k0_pay2 (F := Ideal) x g (ix2 r k)) (fun k => w (ix2 k j))) := by
  unfold k0_pay4
  generalize k0_pay2 (F := Ideal) x g = y
  pointwise [dot, silu]

/-- The recurrence's values. -/
theorem pay9_apply (y : FVec Ideal S512x1024 .bf16) (w : Vec Ideal S1024x512 .bf16) (r j : Fin 512) :
    k0_pay9 (F := Ideal) y w (ix2 r j) = dot (fun k => y (ix2 r k)) (fun k => w (ix2 k j)) := by
  pointwise [k0_pay9, dot]

/-- The gate of the recurrence. -/
theorem pay10_apply (y : FVec Ideal S512x1024 .bf16) (w : Vec Ideal S1024x512 .bf16) (r j : Fin 512) :
    k0_pay10 (F := Ideal) y w (ix2 r j) = silu (dot (fun k => y (ix2 r k)) (fun k => w (ix2 k j))) := by
  pointwise [k0_pay10, dot, silu]

/-- The attention's values. -/
theorem pay24_apply (y : FVec Ideal S512x1024 .bf16) (w : Vec Ideal S1024x512 .bf16) (r j : Fin 512) :
    k0_pay24 (F := Ideal) y w (ix2 r j) = dot (fun k => y (ix2 r k)) (fun k => w (ix2 k j)) := by
  pointwise [k0_pay24, dot]

/-- The first merge gate. -/
theorem pay25_apply (y : FVec Ideal S512x1024 .bf16) (w : Vec Ideal S1024x1024 .bf16) (r : Fin 512) (j : Fin 1024) :
    k0_pay25 (F := Ideal) y w (ix2 r j) = Ideal.logistic (dot (fun k => y (ix2 r k)) (fun k => w (ix2 k j))) := by
  pointwise [k0_pay25, dot]

/-- The second merge gate. -/
theorem pay1_apply (y : FVec Ideal S512x1024 .bf16) (w : Vec Ideal S1024x1024 .bf16) (r : Fin 512) (j : Fin 1024) :
    k0_pay1 (F := Ideal) y w (ix2 r j) = Ideal.logistic (dot (fun k => y (ix2 r k)) (fun k => w (ix2 k j))) := by
  pointwise [k0_pay1, dot]

/-- Head 0 of the turned queries. -/
theorem pay14_apply (y : FVec Ideal S512x1024 .bf16) (cs : FVec Ideal S512x128 .f32) (sn : Vec Ideal S512x128 .f32)
    (w : Vec Ideal S1024x512 .bf16) (r : Fin 512) (j : Fin 128) :
    k0_pay14 (F := Ideal) y cs sn w (ix2 r j)
      = spin (fun c => dot (fun k => y (ix2 r k)) (fun k => w (ix2 k c))) (fun j => cs (ix2 r j)) (fun j => sn (ix2 r j)) 0 j := by
  pointwise [k0_pay14, k0_pay13, k0_pay12, spin, dot]

/-- Head 1 of the turned queries. -/
theorem pay15_apply (y : FVec Ideal S512x1024 .bf16) (cs : FVec Ideal S512x128 .f32) (sn : Vec Ideal S512x128 .f32)
    (w : Vec Ideal S1024x512 .bf16) (r : Fin 512) (j : Fin 128) :
    k0_pay15 (F := Ideal) y cs sn w (ix2 r j)
      = spin (fun c => dot (fun k => y (ix2 r k)) (fun k => w (ix2 k c))) (fun j => cs (ix2 r j)) (fun j => sn (ix2 r j)) 1 j := by
  pointwise [k0_pay15, k0_pay13, k0_pay12, spin, dot]

/-- Head 2 of the turned queries. -/
theorem pay16_apply (y : FVec Ideal S512x1024 .bf16) (cs : FVec Ideal S512x128 .f32) (sn : Vec Ideal S512x128 .f32)
    (w : Vec Ideal S1024x512 .bf16) (r : Fin 512) (j : Fin 128) :
    k0_pay16 (F := Ideal) y cs sn w (ix2 r j)
      = spin (fun c => dot (fun k => y (ix2 r k)) (fun k => w (ix2 k c))) (fun j => cs (ix2 r j)) (fun j => sn (ix2 r j)) 2 j := by
  pointwise [k0_pay16, k0_pay13, k0_pay12, spin, dot]

/-- Head 3 of the turned queries. -/
theorem pay17_apply (y : FVec Ideal S512x1024 .bf16) (cs : FVec Ideal S512x128 .f32) (sn : Vec Ideal S512x128 .f32)
    (w : Vec Ideal S1024x512 .bf16) (r : Fin 512) (j : Fin 128) :
    k0_pay17 (F := Ideal) y cs sn w (ix2 r j)
      = spin (fun c => dot (fun k => y (ix2 r k)) (fun k => w (ix2 k c))) (fun j => cs (ix2 r j)) (fun j => sn (ix2 r j)) 3 j := by
  pointwise [k0_pay17, k0_pay13, k0_pay12, spin, dot]

/-- Head 0 of the turned keys. -/
theorem pay20_apply (y : FVec Ideal S512x1024 .bf16) (cs : FVec Ideal S512x128 .f32) (sn : FVec Ideal S512x128 .f32)
    (w : Vec Ideal S1024x512 .bf16) (r : Fin 512) (j : Fin 128) :
    k0_pay20 (F := Ideal) cs sn (k0_pay19 y w) (ix2 r j)
      = spin (fun c => dot (fun k => y (ix2 r k)) (fun k => w (ix2 k c))) (fun j => cs (ix2 r j)) (fun j => sn (ix2 r j)) 0 j := by
  pointwise [k0_pay20, k0_pay19, k0_pay18, spin, dot]

/-- Head 1 of the turned keys. -/
theorem pay21_apply (y : FVec Ideal S512x1024 .bf16) (cs : FVec Ideal S512x128 .f32) (sn : FVec Ideal S512x128 .f32)
    (w : Vec Ideal S1024x512 .bf16) (r : Fin 512) (j : Fin 128) :
    k0_pay21 (F := Ideal) cs sn (k0_pay18 y w) (ix2 r j)
      = spin (fun c => dot (fun k => y (ix2 r k)) (fun k => w (ix2 k c))) (fun j => cs (ix2 r j)) (fun j => sn (ix2 r j)) 1 j := by
  pointwise [k0_pay21, k0_pay18, spin, dot]

/-- Head 2 of the turned keys. -/
theorem pay22_apply (y : FVec Ideal S512x1024 .bf16) (cs : FVec Ideal S512x128 .f32) (sn : FVec Ideal S512x128 .f32)
    (w : Vec Ideal S1024x512 .bf16) (r : Fin 512) (j : Fin 128) :
    k0_pay22 (F := Ideal) cs sn (k0_pay18 y w) (ix2 r j)
      = spin (fun c => dot (fun k => y (ix2 r k)) (fun k => w (ix2 k c))) (fun j => cs (ix2 r j)) (fun j => sn (ix2 r j)) 2 j := by
  pointwise [k0_pay22, k0_pay18, spin, dot]

/-- Head 3 of the turned keys. -/
theorem pay23_apply (y : FVec Ideal S512x1024 .bf16) (cs : FVec Ideal S512x128 .f32) (sn : FVec Ideal S512x128 .f32)
    (w : Vec Ideal S1024x512 .bf16) (r : Fin 512) (j : Fin 128) :
    k0_pay23 (F := Ideal) cs sn (k0_pay18 y w) (ix2 r j)
      = spin (fun c => dot (fun k => y (ix2 r k)) (fun k => w (ix2 k c))) (fun j => cs (ix2 r j)) (fun j => sn (ix2 r j)) 3 j := by
  pointwise [k0_pay23, k0_pay18, spin, dot]

theorem hz : (![0, 0] : Fin 2 → Nat) = fun _ => 0 := funext fun a => by fin_cases a <;> rfl

/-- A load of a whole block is the block. -/
theorem ld_whole : (∀ x : Vec Ideal S512x1024 .f32, View.ld x r0_0 = x) ∧ (∀ x : Vec Ideal S1x1024 .f32, View.ld x r0_1 = x)
    ∧ (∀ x : Vec Ideal S4x512 .f32, View.ld x r0_2 = x) ∧ (∀ x : Vec Ideal S512x128 .f32, View.ld x r0_8 = x) :=
  ⟨fun _ => View.ld_unit_zero hz _ _, fun _ => View.ld_unit_zero hz _ _, fun _ => View.ld_unit_zero hz _ _,
    fun _ => View.ld_unit_zero hz _ _⟩

/-- The weight's columns from 0 on. -/
theorem ld3 (w : Vec Ideal S1024x5632 .bf16) (k : Fin 1024) (j : Fin 512) : View.ld w r0_3 (ix2 k j) = w (ix2 k (col5 0 j)) := by
  refine congrArg w (Shape.idx_ext₂ ?_ ?_)
  · show 0 + 1 * k.val = k.val; omega
  · show 0 + 1 * j.val = 0 + j.val; omega

/-- The weight's columns from 512 on. -/
theorem ld5 (w : Vec Ideal S1024x5632 .bf16) (k : Fin 1024) (j : Fin 512) : View.ld w r0_5 (ix2 k j) = w (ix2 k (col5 512 j)) := by
  refine congrArg w (Shape.idx_ext₂ ?_ ?_)
  · show 0 + 1 * k.val = k.val; omega
  · show 512 + 1 * j.val = 512 + j.val; omega

/-- The weight's columns from 1024 on. -/
theorem ld6 (w : Vec Ideal S1024x5632 .bf16) (k : Fin 1024) (j : Fin 512) : View.ld w r0_6 (ix2 k j) = w (ix2 k (col5 1024 j)) := by
  refine congrArg w (Shape.idx_ext₂ ?_ ?_)
  · show 0 + 1 * k.val = k.val; omega
  · show 1024 + 1 * j.val = 1024 + j.val; omega

/-- The weight's columns from 1536 on. -/
theorem ld7 (w : Vec Ideal S1024x5632 .bf16) (k : Fin 1024) (j : Fin 512) : View.ld w r0_7 (ix2 k j) = w (ix2 k (col5 1536 j)) := by
  refine congrArg w (Shape.idx_ext₂ ?_ ?_)
  · show 0 + 1 * k.val = k.val; omega
  · show 1536 + 1 * j.val = 1536 + j.val; omega

/-- The weight's columns from 2048 on. -/
theorem ld9 (w : Vec Ideal S1024x5632 .bf16) (k : Fin 1024) (j : Fin 512) : View.ld w r0_9 (ix2 k j) = w (ix2 k (col5 2048 j)) := by
  refine congrArg w (Shape.idx_ext₂ ?_ ?_)
  · show 0 + 1 * k.val = k.val; omega
  · show 2048 + 1 * j.val = 2048 + j.val; omega

/-- The weight's columns from 2560 on. -/
theorem ld14 (w : Vec Ideal S1024x5632 .bf16) (k : Fin 1024) (j : Fin 512) : View.ld w r0_14 (ix2 k j) = w (ix2 k (col5 2560 j)) := by
  refine congrArg w (Shape.idx_ext₂ ?_ ?_)
  · show 0 + 1 * k.val = k.val; omega
  · show 2560 + 1 * j.val = 2560 + j.val; omega

/-- The weight's columns from 3072 on. -/
theorem ld15 (w : Vec Ideal S1024x5632 .bf16) (k : Fin 1024) (j : Fin 512) : View.ld w r0_15 (ix2 k j) = w (ix2 k (col5 3072 j)) := by
  refine congrArg w (Shape.idx_ext₂ ?_ ?_)
  · show 0 + 1 * k.val = k.val; omega
  · show 3072 + 1 * j.val = 3072 + j.val; omega

/-- The weight's columns from 3584 on. -/
theorem ld16 (w : Vec Ideal S1024x5632 .bf16) (k : Fin 1024) (j : Fin 1024) : View.ld w r0_16 (ix2 k j) = w (ix2 k (col 3584 j)) := by
  refine congrArg w (Shape.idx_ext₂ ?_ ?_)
  · show 0 + 1 * k.val = k.val; omega
  · show 3584 + 1 * j.val = 3584 + j.val; omega

/-- The weight's columns from 4608 on. -/
theorem ld17 (w : Vec Ideal S1024x5632 .bf16) (k : Fin 1024) (j : Fin 1024) : View.ld w r0_17 (ix2 k j) = w (ix2 k (col 4608 j)) := by
  refine congrArg w (Shape.idx_ext₂ ?_ ?_)
  · show 0 + 1 * k.val = k.val; omega
  · show 4608 + 1 * j.val = 4608 + j.val; omega

/-- Feature `c` of row `r` of a block. -/
def feat (x0 : Vec Ideal S512x1024 .f32) (x1 : Vec Ideal S1x1024 .f32) (x2 : Vec Ideal S1024x5632 .bf16) (r : Fin 512) (c : Fin 5632) : EReal :=
  proj (fun c => x0 (ix2 r c)) (fun c => x1 (ix2 0 c)) (fun k c => x2 (ix2 k c)) c

/-- What the body stores of the recurrence's queries. -/
theorem out6_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 512) :
    out0_6 (F := Ideal) x0 x1 x2 x3 x4 x5 (ix2 r j) = silu (feat x0 x1 x2 r (col5 0 j)) := by
  unfold_out out0_6
  rw [View.canon_unit_zero hz, pay4_apply]
  simp only [dot, ld3 x2, ld_whole.1, ld_whole.2.1, pay2_apply]
  rfl

/-- What the body stores of the log forget gates. -/
theorem out7_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 512) :
    out0_7 (F := Ideal) x0 x1 x2 x3 x4 x5 (ix2 r j) = logf (low (fun i => x3 (ix2 i j))) (feat x0 x1 x2 r (col5 512 j)) := by
  unfold_out out0_7
  rw [View.canon_unit_zero hz, ld_whole.2.2.1 x3, pay7_apply, pay3_apply]
  simp only [dot, pay5_apply, ld5 x2, ld_whole.1, ld_whole.2.1, ld_whole.2.2.1, pay2_apply]
  rfl

/-- What the body stores of the recurrence's keys. -/
theorem out8_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 512) :
    out0_8 (F := Ideal) x0 x1 x2 x3 x4 x5 (ix2 r j) = key (low (fun i => x3 (ix2 i j))) (feat x0 x1 x2 r (col5 512 j)) := by
  unfold_out out0_8
  rw [View.canon_unit_zero hz, ld_whole.2.2.1 x3, pay8_apply, pay3_apply]
  simp only [dot, pay5_apply, ld5 x2, ld_whole.1, ld_whole.2.1, ld_whole.2.2.1, pay2_apply]
  rfl

/-- What the body stores of the recurrence's values. -/
theorem out9_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 512) :
    out0_9 (F := Ideal) x0 x1 x2 x3 x4 x5 (ix2 r j) = feat x0 x1 x2 r (col5 1024 j) := by
  unfold_out out0_9
  rw [View.canon_unit_zero hz, pay9_apply]
  simp only [dot, ld6 x2, ld_whole.1, ld_whole.2.1, pay2_apply]
  rfl

/-- What the body stores of the recurrence's output gates. -/
theorem out10_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 512) :
    out0_10 (F := Ideal) x0 x1 x2 x3 x4 x5 (ix2 r j) = silu (feat x0 x1 x2 r (col5 1536 j)) := by
  unfold_out out0_10
  rw [View.canon_unit_zero hz, pay10_apply]
  simp only [dot, ld7 x2, ld_whole.1, ld_whole.2.1, pay2_apply]
  rfl

/-- What the body stores of the attention's values. -/
theorem out13_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 512) :
    out0_13 (F := Ideal) x0 x1 x2 x3 x4 x5 (ix2 r j) = feat x0 x1 x2 r (col5 3072 j) := by
  unfold_out out0_13
  rw [View.canon_unit_zero hz, pay24_apply]
  simp only [dot, ld15 x2, ld_whole.1, ld_whole.2.1, pay2_apply]
  rfl

/-- What the body stores of the first merge gates. -/
theorem out14_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 1024) :
    out0_14 (F := Ideal) x0 x1 x2 x3 x4 x5 (ix2 r j) = Ideal.logistic (feat x0 x1 x2 r (col 3584 j)) := by
  unfold_out out0_14
  rw [View.canon_unit_zero hz, pay25_apply]
  simp only [dot, ld16 x2, ld_whole.1, ld_whole.2.1, pay2_apply]
  rfl

/-- What the body stores of the second merge gates. -/
theorem out15_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (j : Fin 1024) :
    out0_15 (F := Ideal) x0 x1 x2 x3 x4 x5 (ix2 r j) = Ideal.logistic (feat x0 x1 x2 r (col 4608 j)) := by
  unfold_out out0_15
  rw [View.canon_unit_zero hz, pay1_apply]
  simp only [dot, ld17 x2, ld_whole.1, ld_whole.2.1, pay2_apply]
  rfl

/-- A stored column piece agrees with a function of the whole block's index, if it does entry by entry. -/
theorem place_bf16 (h : Fin 4) (b : ∀ a, (![0, h.val * 128] : Fin 2 → Nat) a + S512x128.size a ≤ S512x512.size a)
    (f : Vec Ideal S512x128 .bf16) (G : Fin 512 → Fin 4 → Fin 128 → EReal)
    (hf : ∀ r j, f (ix2 r j) = G r h j) (y : S512x128.Idx) :
    f y = (fun i : S512x512.Idx => G (i 0) ⟨(i 1).val / 128, by have := (i 1).isLt; change (i 1).val < 512 at this; omega⟩
        ⟨(i 1).val % 128, by omega⟩)
      ((Rect.unit (s := S512x512) ![0, h.val * 128] S512x128.size b).emb y) := by
  obtain ⟨c, j, rfl⟩ : ∃ (c : Fin 512) (j : Fin 128), y = ix2 c j := ⟨y 0, y 1, Shape.idx_ext₂ rfl rfl⟩
  have e0 : (Rect.unit (s := S512x512) ![0, h.val * 128] S512x128.size b).emb (ix2 c j) = ix2 c (headCol h j) :=
    Shape.idx_ext₂ (by show 0 + 1 * c.val = c.val; omega) (by show h.val * 128 + 1 * j.val = h.val * 128 + j.val; omega)
  have eh : (⟨(headCol h j).val / 128, by have := (headCol h j).isLt; omega⟩ : Fin 4) = h := Fin.ext (by
    show (h.val * 128 + j.val) / 128 = h.val; omega)
  have ej : (⟨(headCol h j).val % 128, by omega⟩ : Fin 128) = j := Fin.ext (by
    show (h.val * 128 + j.val) % 128 = j.val; omega)
  rw [e0]
  refine (hf _ j).trans ?_
  show G _ h j = G _ ⟨(headCol h j).val / 128, _⟩ ⟨(headCol h j).val % 128, _⟩
  rw [eh, ej]
  rfl

/-- A stored column piece agrees with a function of the whole block's index, if it does entry by entry. -/
theorem place_f32 (h : Fin 4) (b : ∀ a, (![0, h.val * 128] : Fin 2 → Nat) a + S512x128.size a ≤ S512x512.size a)
    (f : Vec Ideal S512x128 .f32) (G : Fin 512 → Fin 4 → Fin 128 → EReal)
    (hf : ∀ r j, f (ix2 r j) = G r h j) (y : S512x128.Idx) :
    f y = (fun i : S512x512.Idx => G (i 0) ⟨(i 1).val / 128, by have := (i 1).isLt; change (i 1).val < 512 at this; omega⟩
        ⟨(i 1).val % 128, by omega⟩)
      ((Rect.unit (s := S512x512) ![0, h.val * 128] S512x128.size b).emb y) := by
  obtain ⟨c, j, rfl⟩ : ∃ (c : Fin 512) (j : Fin 128), y = ix2 c j := ⟨y 0, y 1, Shape.idx_ext₂ rfl rfl⟩
  have e0 : (Rect.unit (s := S512x512) ![0, h.val * 128] S512x128.size b).emb (ix2 c j) = ix2 c (headCol h j) :=
    Shape.idx_ext₂ (by show 0 + 1 * c.val = c.val; omega) (by show h.val * 128 + 1 * j.val = h.val * 128 + j.val; omega)
  have eh : (⟨(headCol h j).val / 128, by have := (headCol h j).isLt; omega⟩ : Fin 4) = h := Fin.ext (by
    show (h.val * 128 + j.val) / 128 = h.val; omega)
  have ej : (⟨(headCol h j).val % 128, by omega⟩ : Fin 128) = j := Fin.ext (by
    show (h.val * 128 + j.val) % 128 = j.val; omega)
  rw [e0]
  refine (hf _ j).trans ?_
  show G _ h j = G _ ⟨(headCol h j).val / 128, _⟩ ⟨(headCol h j).val % 128, _⟩
  rw [eh, ej]
  rfl

/-- A column piece of a block lies inside it. -/
theorem inb (h : Fin 4) : ∀ a, (![0, h.val * 128] : Fin 2 → Nat) a + S512x128.size a ≤ S512x512.size a := by
  revert h; decide +kernel

/-- Head `h` of the turned queries of row `r`. -/
def spin11 (x0 : Vec Ideal S512x1024 .f32) (x1 : Vec Ideal S1x1024 .f32) (x2 : Vec Ideal S1024x5632 .bf16) (x3 : Vec Ideal S4x512 .f32) (x4 x5 : Vec Ideal S512x128 .f32) (r : Fin 512) (h : Fin 4) (j : Fin 128) : EReal :=
  spin (fun c => feat x0 x1 x2 r (col5 2048 c)) (fun j => x4 (ix2 r j)) (fun j => x5 (ix2 r j)) h j

/-- What the body stores of the turned queries. -/
theorem out11_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (h : Fin 4) (j : Fin 128) :
    out0_11 (F := Ideal) x0 x1 x2 x3 x4 x5 (ix2 r (headCol h j)) = spin11 x0 x1 x2 x3 x4 x5 r h j := by
  unfold_out out0_11
  refine (View.canon_apply_of_pieces (Val := Elt Ideal) (S := S512x512) (e := .bf16) (fun i : S512x512.Idx => spin11 x0 x1 x2 x3 x4 x5 (i 0)
        ⟨(i 1).val / 128, by have := (i 1).isLt; change (i 1).val < 512 at this; omega⟩
        ⟨(i 1).val % 128, by omega⟩) _ (List.forall_mem_cons.2 ⟨?_, List.forall_mem_cons.2 ⟨?_, List.forall_mem_cons.2 ⟨?_,
          List.forall_mem_cons.2 ⟨?_, List.forall_mem_nil _⟩⟩⟩⟩) _ (cover0_11 _ _ _ _ _)).trans ?_
  · refine place_bf16 3 (inb 3) _ (spin11 x0 x1 x2 x3 x4 x5) fun r j => ?_
    refine (congrArg (fun s => k0_pay17 (F := Ideal) _ _ s _ (ix2 r j)) (ld_whole.2.2.2 x5)).trans ((pay17_apply _ _ _ _ r j).trans ?_)
    simp only [dot, ld9 x2, ld_whole.1, ld_whole.2.1, ld_whole.2.2.2 x4, ld_whole.2.2.2 x5, pay2_apply, pay11_apply]
    rfl
  · refine place_bf16 2 (inb 2) _ (spin11 x0 x1 x2 x3 x4 x5) fun r j => ?_
    refine (congrArg (fun s => k0_pay16 (F := Ideal) _ _ s _ (ix2 r j)) (ld_whole.2.2.2 x5)).trans ((pay16_apply _ _ _ _ r j).trans ?_)
    simp only [dot, ld9 x2, ld_whole.1, ld_whole.2.1, ld_whole.2.2.2 x4, ld_whole.2.2.2 x5, pay2_apply, pay11_apply]
    rfl
  · refine place_bf16 1 (inb 1) _ (spin11 x0 x1 x2 x3 x4 x5) fun r j => ?_
    refine (congrArg (fun s => k0_pay15 (F := Ideal) _ _ s _ (ix2 r j)) (ld_whole.2.2.2 x5)).trans ((pay15_apply _ _ _ _ r j).trans ?_)
    simp only [dot, ld9 x2, ld_whole.1, ld_whole.2.1, ld_whole.2.2.2 x4, ld_whole.2.2.2 x5, pay2_apply, pay11_apply]
    rfl
  · refine place_bf16 0 (inb 0) _ (spin11 x0 x1 x2 x3 x4 x5) fun r j => ?_
    refine (congrArg (fun s => k0_pay14 (F := Ideal) _ _ s _ (ix2 r j)) (ld_whole.2.2.2 x5)).trans ((pay14_apply _ _ _ _ r j).trans ?_)
    simp only [dot, ld9 x2, ld_whole.1, ld_whole.2.1, ld_whole.2.2.2 x4, ld_whole.2.2.2 x5, pay2_apply, pay11_apply]
    rfl
  · have eh : (⟨(headCol h j).val / 128, by have := (headCol h j).isLt; omega⟩ : Fin 4) = h := Fin.ext (by
      show (h.val * 128 + j.val) / 128 = h.val; omega)
    have ej : (⟨(headCol h j).val % 128, by omega⟩ : Fin 128) = j := Fin.ext (by
      show (h.val * 128 + j.val) % 128 = j.val; omega)
    show spin11 x0 x1 x2 x3 x4 x5 r ⟨(headCol h j).val / 128, _⟩ ⟨(headCol h j).val % 128, _⟩ = _
    rw [eh, ej]

/-- Head `h` of the turned keys of row `r`. -/
def spin12 (x0 : Vec Ideal S512x1024 .f32) (x1 : Vec Ideal S1x1024 .f32) (x2 : Vec Ideal S1024x5632 .bf16) (x3 : Vec Ideal S4x512 .f32) (x4 x5 : Vec Ideal S512x128 .f32) (r : Fin 512) (h : Fin 4) (j : Fin 128) : EReal :=
  spin (fun c => feat x0 x1 x2 r (col5 2560 c)) (fun j => x4 (ix2 r j)) (fun j => x5 (ix2 r j)) h j

/-- What the body stores of the turned keys. -/
theorem out12_apply (x0 : Vec Ideal S512x1024 .f32) (x1 : Vec Ideal S1x1024 .f32) (x2 : Vec Ideal S1024x5632 .bf16)
    (x3 : Vec Ideal S4x512 .f32) (x4 x5 : Vec Ideal S512x128 .f32) (r : Fin 512) (h : Fin 4) (j : Fin 128) :
    out0_12 (F := Ideal) x0 x1 x2 x3 x4 x5 (ix2 r (headCol h j)) = spin12 x0 x1 x2 x3 x4 x5 r h j := by
  unfold_out out0_12
  refine (View.canon_apply_of_pieces (Val := Elt Ideal) (S := S512x512) (e := .f32) (fun i : S512x512.Idx => spin12 x0 x1 x2 x3 x4 x5 (i 0)
        ⟨(i 1).val / 128, by have := (i 1).isLt; change (i 1).val < 512 at this; omega⟩
        ⟨(i 1).val % 128, by omega⟩) _ (List.forall_mem_cons.2 ⟨?_, List.forall_mem_cons.2 ⟨?_, List.forall_mem_cons.2 ⟨?_,
          List.forall_mem_cons.2 ⟨?_, List.forall_mem_nil _⟩⟩⟩⟩) _ (cover0_12 _ _ _ _ _)).trans ?_
  · refine place_f32 3 (inb 3) _ (spin12 x0 x1 x2 x3 x4 x5) fun r j => ?_
    refine (pay23_apply _ _ _ _ r j).trans ?_
    simp only [dot, ld14 x2, ld_whole.1, ld_whole.2.1, ld_whole.2.2.2 x4, ld_whole.2.2.2 x5, pay2_apply, pay11_apply, pay12_apply]
    rfl
  · refine place_f32 2 (inb 2) _ (spin12 x0 x1 x2 x3 x4 x5) fun r j => ?_
    refine (pay22_apply _ _ _ _ r j).trans ?_
    simp only [dot, ld14 x2, ld_whole.1, ld_whole.2.1, ld_whole.2.2.2 x4, ld_whole.2.2.2 x5, pay2_apply, pay11_apply, pay12_apply]
    rfl
  · refine place_f32 1 (inb 1) _ (spin12 x0 x1 x2 x3 x4 x5) fun r j => ?_
    refine (pay21_apply _ _ _ _ r j).trans ?_
    simp only [dot, ld14 x2, ld_whole.1, ld_whole.2.1, ld_whole.2.2.2 x4, ld_whole.2.2.2 x5, pay2_apply, pay11_apply, pay12_apply]
    rfl
  · refine place_f32 0 (inb 0) _ (spin12 x0 x1 x2 x3 x4 x5) fun r j => ?_
    refine (pay20_apply _ _ _ _ r j).trans ?_
    simp only [dot, ld14 x2, ld_whole.1, ld_whole.2.1, ld_whole.2.2.2 x4, ld_whole.2.2.2 x5, pay2_apply, pay11_apply, pay12_apply]
    rfl
  · have eh : (⟨(headCol h j).val / 128, by have := (headCol h j).isLt; omega⟩ : Fin 4) = h := Fin.ext (by
      show (h.val * 128 + j.val) / 128 = h.val; omega)
    have ej : (⟨(headCol h j).val % 128, by omega⟩ : Fin 128) = j := Fin.ext (by
      show (h.val * 128 + j.val) % 128 = j.val; omega)
    show spin12 x0 x1 x2 x3 x4 x5 r ⟨(headCol h j).val / 128, _⟩ ⟨(headCol h j).val % 128, _⟩ = _
    rw [eh, ej]

end Cert.KernelInIdeal.Block
-- ==== Proof.InTables.lean ====
/-
  The rotary tables the first step's kernel is given: entry `j` of a token's row is the cosine of the angle by which its
  position turns pair `j` (or `j - 64`), and the sine with its sign.
-/
module

public import proofs.«01_k».proof.Proof.InBlock
public import proofs.«01_k».proof.Proof.Gen.KernelInIdeal.Value
public import Idealize.ShloMosaic.Lib.StableHlo.ReadAt

@[expose] public section

noncomputable section

namespace Cert.KernelInIdeal.Whole

open Idealize.ShloMosaic Idealize.ShloMosaic.TcCoe Idealize.SL.Sem
open Idealize.ShloMosaic.Pipeline (Dat Window)
open Cert.KernelInIdeal Cert.KernelInIdeal.Gen Cert.InMath
open scoped BigOperators

variable (m : (ℓ : Loc nD τ sig) → Buf (Elt Ideal) ℓ)

/-- A token past the prompts is among the samples' 512. -/
theorem sample_lt (T : Fin 16896) (h : ¬ T.val < 16384) : T.val - 16384 < 512 := by omega

/-- The first half of the table of cosines. -/
theorem cos_lo (c : Dev nD) (T : Fin 16896) (e : Fin 64) :
    V m c main_v29 (ix2 T ⟨e.val, by omega⟩) = Ideal.cos (angle (place T) e) := by
  by_cases h : T.val < 16384
  · unfold V
    after_reads_at
    rw [dif_pos h]
    after_reads_at
    rw [angle, place, if_pos h]
    rfl
  · unfold V
    after_reads_at
    rw [dif_neg h, angle, place, if_neg h]
    have hq : T.val - 16384 < 512 := by omega
    rw [show (⟨T.val - 16384, sample_lt T h⟩ : Fin 512) = ⟨T.val - 16384, hq⟩ from rfl]
    generalize T.val - 16384 = q at hq
    clear h
    after_reads_at
    rfl

/-- The second half repeats it. -/
theorem cos_hi (c : Dev nD) (T : Fin 16896) (e : Fin 64) :
    V m c main_v29 (ix2 T ⟨64 + e.val, by omega⟩) = Ideal.cos (angle (place T) e) := by
  by_cases h : T.val < 16384
  · unfold V
    after_reads_at
    rw [dif_pos h]
    after_reads_at
    rw [angle, place, if_pos h]
    rfl
  · unfold V
    after_reads_at
    rw [dif_neg h, angle, place, if_neg h]
    have hq : T.val - 16384 < 512 := by omega
    rw [show (⟨T.val - 16384, sample_lt T h⟩ : Fin 512) = ⟨T.val - 16384, hq⟩ from rfl]
    generalize T.val - 16384 = q at hq
    clear h
    after_reads_at
    rfl

/-- The first half of the table of signed sines is negated. -/
theorem sin_lo (c : Dev nD) (T : Fin 16896) (e : Fin 64) :
    V m c main_v31 (ix2 T ⟨e.val, by omega⟩) = -Ideal.sin (angle (place T) e) := by
  by_cases h : T.val < 16384
  · unfold V
    after_reads_at
    rw [dif_pos h]
    after_reads_at
    rw [angle, place, if_pos h]
    rfl
  · unfold V
    after_reads_at
    rw [dif_neg h, angle, place, if_neg h]
    have hq : T.val - 16384 < 512 := by omega
    rw [show (⟨T.val - 16384, sample_lt T h⟩ : Fin 512) = ⟨T.val - 16384, hq⟩ from rfl]
    generalize T.val - 16384 = q at hq
    clear h
    after_reads_at
    rfl

/-- The second half is not. -/
theorem sin_hi (c : Dev nD) (T : Fin 16896) (e : Fin 64) :
    V m c main_v31 (ix2 T ⟨64 + e.val, by omega⟩) = Ideal.sin (angle (place T) e) := by
  by_cases h : T.val < 16384
  · unfold V
    after_reads_at
    rw [dif_pos h]
    after_reads_at
    rw [angle, place, if_pos h]
    rfl
  · unfold V
    after_reads_at
    rw [dif_neg h, angle, place, if_neg h]
    have hq : T.val - 16384 < 512 := by omega
    rw [show (⟨T.val - 16384, sample_lt T h⟩ : Fin 512) = ⟨T.val - 16384, hq⟩ from rfl]
    generalize T.val - 16384 = q at hq
    clear h
    after_reads_at
    rfl

end Cert.KernelInIdeal.Whole
-- ==== Proof.InValue.lean ====
/-
  The first step's result arrays: at token `T` each is the function of InMath at token `T`'s row of the argument arrays and
  layer 3's weights.
-/
module

public import proofs.«01_k».proof.Proof.InTables

@[expose] public section

noncomputable section

namespace Cert.KernelInIdeal.Whole

open Idealize.ShloMosaic Idealize.ShloMosaic.TcCoe Idealize.SL.Sem
open Idealize.ShloMosaic.Pipeline (Dat Window)
open Cert.KernelInIdeal Cert.KernelInIdeal.Gen Cert.InMath
open scoped BigOperators

variable (m : (ℓ : Loc nD τ sig) → Buf (Elt Ideal) ℓ)

/-- The token that row `r` of block `t` is. -/
def tok (t : Fin 33) (r : Fin 512) : Fin 16896 := ⟨512 * t.val + r.val, by omega⟩

/-- The grid has 33 points. -/
theorem lt33 (t : Fin cfg0.N) : t.val < 33 := by have h := t.isLt; have : cfg0.N = 33 := N_0; omega

/-- A point of the grid as a number below 33. -/
def pt (t : Fin cfg0.N) : Fin 33 := ⟨t.val, lt33 t⟩

/-- Window 0 takes block `t` of the tokens. -/
theorem index0 : ∀ t : Fin cfg0.N, win0_0.index t 0 = t.val ∧ win0_0.index t 1 = 0 := by decide +kernel

/-- Window 4 takes block `t` of the tokens. -/
theorem index4 : ∀ t : Fin cfg0.N, win0_4.index t 0 = t.val ∧ win0_4.index t 1 = 0 := by decide +kernel

/-- Window 5 takes block `t` of the tokens. -/
theorem index5 : ∀ t : Fin cfg0.N, win0_5.index t 0 = t.val ∧ win0_5.index t 1 = 0 := by decide +kernel

/-- Window 6 takes block `t` of the tokens. -/
theorem index6 : ∀ t : Fin cfg0.N, win0_6.index t 0 = t.val ∧ win0_6.index t 1 = 0 := by decide +kernel

/-- Window 7 takes block `t` of the tokens. -/
theorem index7 : ∀ t : Fin cfg0.N, win0_7.index t 0 = t.val ∧ win0_7.index t 1 = 0 := by decide +kernel

/-- Window 8 takes block `t` of the tokens. -/
theorem index8 : ∀ t : Fin cfg0.N, win0_8.index t 0 = t.val ∧ win0_8.index t 1 = 0 := by decide +kernel

/-- Window 9 takes block `t` of the tokens. -/
theorem index9 : ∀ t : Fin cfg0.N, win0_9.index t 0 = t.val ∧ win0_9.index t 1 = 0 := by decide +kernel

/-- Window 10 takes block `t` of the tokens. -/
theorem index10 : ∀ t : Fin cfg0.N, win0_10.index t 0 = t.val ∧ win0_10.index t 1 = 0 := by decide +kernel

/-- Window 11 takes block `t` of the tokens. -/
theorem index11 : ∀ t : Fin cfg0.N, win0_11.index t 0 = t.val ∧ win0_11.index t 1 = 0 := by decide +kernel

/-- Window 12 takes block `t` of the tokens. -/
theorem index12 : ∀ t : Fin cfg0.N, win0_12.index t 0 = t.val ∧ win0_12.index t 1 = 0 := by decide +kernel

/-- Window 13 takes block `t` of the tokens. -/
theorem index13 : ∀ t : Fin cfg0.N, win0_13.index t 0 = t.val ∧ win0_13.index t 1 = 0 := by decide +kernel

/-- Window 14 takes block `t` of the tokens. -/
theorem index14 : ∀ t : Fin cfg0.N, win0_14.index t 0 = t.val ∧ win0_14.index t 1 = 0 := by decide +kernel

/-- Window 15 takes block `t` of the tokens. -/
theorem index15 : ∀ t : Fin cfg0.N, win0_15.index t 0 = t.val ∧ win0_15.index t 1 = 0 := by decide +kernel

/-- Window 1 stays at the whole array. -/
theorem index1 : ∀ t : Fin cfg0.N, win0_1.index t 0 = 0 ∧ win0_1.index t 1 = 0 := by decide +kernel

/-- Window 2 stays at the whole array. -/
theorem index2 : ∀ t : Fin cfg0.N, win0_2.index t 0 = 0 ∧ win0_2.index t 1 = 0 := by decide +kernel

/-- Window 3 stays at the whole array. -/
theorem index3 : ∀ t : Fin cfg0.N, win0_3.index t 0 = 0 ∧ win0_3.index t 1 = 0 := by decide +kernel

/-- Row `r` of block `t` of window 0 is row `512 t + r` of its array. -/
theorem emb0 (t : Fin cfg0.N) (r : Fin 512) (j : Fin 1024) : (win0_0.rect t).emb (ix2 r j) = ix2 (tok (pt t) r) j := by
  refine Shape.idx_ext₂ ((win0_0.rect_emb_val t _ 0).trans ?_) ((win0_0.rect_emb_val t _ 1).trans ?_)
  · rw [(index0 t).1]; show t.val * 512 + r.val = 512 * t.val + r.val; omega
  · rw [(index0 t).2]; show 0 * 1024 + j.val = j.val; omega

/-- Row `r` of block `t` of window 4 is row `512 t + r` of its array. -/
theorem emb4 (t : Fin cfg0.N) (r : Fin 512) (j : Fin 128) : (win0_4.rect t).emb (ix2 r j) = ix2 (tok (pt t) r) j := by
  refine Shape.idx_ext₂ ((win0_4.rect_emb_val t _ 0).trans ?_) ((win0_4.rect_emb_val t _ 1).trans ?_)
  · rw [(index4 t).1]; show t.val * 512 + r.val = 512 * t.val + r.val; omega
  · rw [(index4 t).2]; show 0 * 128 + j.val = j.val; omega

/-- Row `r` of block `t` of window 5 is row `512 t + r` of its array. -/
theorem emb5 (t : Fin cfg0.N) (r : Fin 512) (j : Fin 128) : (win0_5.rect t).emb (ix2 r j) = ix2 (tok (pt t) r) j := by
  refine Shape.idx_ext₂ ((win0_5.rect_emb_val t _ 0).trans ?_) ((win0_5.rect_emb_val t _ 1).trans ?_)
  · rw [(index5 t).1]; show t.val * 512 + r.val = 512 * t.val + r.val; omega
  · rw [(index5 t).2]; show 0 * 128 + j.val = j.val; omega

/-- Row `r` of block `t` of window 6 is row `512 t + r` of its array. -/
theorem emb6 (t : Fin cfg0.N) (r : Fin 512) (j : Fin 512) : (win0_6.rect t).emb (ix2 r j) = ix2 (tok (pt t) r) j := by
  refine Shape.idx_ext₂ ((win0_6.rect_emb_val t _ 0).trans ?_) ((win0_6.rect_emb_val t _ 1).trans ?_)
  · rw [(index6 t).1]; show t.val * 512 + r.val = 512 * t.val + r.val; omega
  · rw [(index6 t).2]; show 0 * 512 + j.val = j.val; omega

/-- Row `r` of block `t` of window 7 is row `512 t + r` of its array. -/
theorem emb7 (t : Fin cfg0.N) (r : Fin 512) (j : Fin 512) : (win0_7.rect t).emb (ix2 r j) = ix2 (tok (pt t) r) j := by
  refine Shape.idx_ext₂ ((win0_7.rect_emb_val t _ 0).trans ?_) ((win0_7.rect_emb_val t _ 1).trans ?_)
  · rw [(index7 t).1]; show t.val * 512 + r.val = 512 * t.val + r.val; omega
  · rw [(index7 t).2]; show 0 * 512 + j.val = j.val; omega

/-- Row `r` of block `t` of window 8 is row `512 t + r` of its array. -/
theorem emb8 (t : Fin cfg0.N) (r : Fin 512) (j : Fin 512) : (win0_8.rect t).emb (ix2 r j) = ix2 (tok (pt t) r) j := by
  refine Shape.idx_ext₂ ((win0_8.rect_emb_val t _ 0).trans ?_) ((win0_8.rect_emb_val t _ 1).trans ?_)
  · rw [(index8 t).1]; show t.val * 512 + r.val = 512 * t.val + r.val; omega
  · rw [(index8 t).2]; show 0 * 512 + j.val = j.val; omega

/-- Row `r` of block `t` of window 9 is row `512 t + r` of its array. -/
theorem emb9 (t : Fin cfg0.N) (r : Fin 512) (j : Fin 512) : (win0_9.rect t).emb (ix2 r j) = ix2 (tok (pt t) r) j := by
  refine Shape.idx_ext₂ ((win0_9.rect_emb_val t _ 0).trans ?_) ((win0_9.rect_emb_val t _ 1).trans ?_)
  · rw [(index9 t).1]; show t.val * 512 + r.val = 512 * t.val + r.val; omega
  · rw [(index9 t).2]; show 0 * 512 + j.val = j.val; omega

/-- Row `r` of block `t` of window 10 is row `512 t + r` of its array. -/
theorem emb10 (t : Fin cfg0.N) (r : Fin 512) (j : Fin 512) : (win0_10.rect t).emb (ix2 r j) = ix2 (tok (pt t) r) j := by
  refine Shape.idx_ext₂ ((win0_10.rect_emb_val t _ 0).trans ?_) ((win0_10.rect_emb_val t _ 1).trans ?_)
  · rw [(index10 t).1]; show t.val * 512 + r.val = 512 * t.val + r.val; omega
  · rw [(index10 t).2]; show 0 * 512 + j.val = j.val; omega

/-- Row `r` of block `t` of window 11 is row `512 t + r` of its array. -/
theorem emb11 (t : Fin cfg0.N) (r : Fin 512) (j : Fin 512) : (win0_11.rect t).emb (ix2 r j) = ix2 (tok (pt t) r) j := by
  refine Shape.idx_ext₂ ((win0_11.rect_emb_val t _ 0).trans ?_) ((win0_11.rect_emb_val t _ 1).trans ?_)
  · rw [(index11 t).1]; show t.val * 512 + r.val = 512 * t.val + r.val; omega
  · rw [(index11 t).2]; show 0 * 512 + j.val = j.val; omega

/-- Row `r` of block `t` of window 12 is row `512 t + r` of its array. -/
theorem emb12 (t : Fin cfg0.N) (r : Fin 512) (j : Fin 512) : (win0_12.rect t).emb (ix2 r j) = ix2 (tok (pt t) r) j := by
  refine Shape.idx_ext₂ ((win0_12.rect_emb_val t _ 0).trans ?_) ((win0_12.rect_emb_val t _ 1).trans ?_)
  · rw [(index12 t).1]; show t.val * 512 + r.val = 512 * t.val + r.val; omega
  · rw [(index12 t).2]; show 0 * 512 + j.val = j.val; omega

/-- Row `r` of block `t` of window 13 is row `512 t + r` of its array. -/
theorem emb13 (t : Fin cfg0.N) (r : Fin 512) (j : Fin 512) : (win0_13.rect t).emb (ix2 r j) = ix2 (tok (pt t) r) j := by
  refine Shape.idx_ext₂ ((win0_13.rect_emb_val t _ 0).trans ?_) ((win0_13.rect_emb_val t _ 1).trans ?_)
  · rw [(index13 t).1]; show t.val * 512 + r.val = 512 * t.val + r.val; omega
  · rw [(index13 t).2]; show 0 * 512 + j.val = j.val; omega

/-- Row `r` of block `t` of window 14 is row `512 t + r` of its array. -/
theorem emb14 (t : Fin cfg0.N) (r : Fin 512) (j : Fin 1024) : (win0_14.rect t).emb (ix2 r j) = ix2 (tok (pt t) r) j := by
  refine Shape.idx_ext₂ ((win0_14.rect_emb_val t _ 0).trans ?_) ((win0_14.rect_emb_val t _ 1).trans ?_)
  · rw [(index14 t).1]; show t.val * 512 + r.val = 512 * t.val + r.val; omega
  · rw [(index14 t).2]; show 0 * 1024 + j.val = j.val; omega

/-- Row `r` of block `t` of window 15 is row `512 t + r` of its array. -/
theorem emb15 (t : Fin cfg0.N) (r : Fin 512) (j : Fin 1024) : (win0_15.rect t).emb (ix2 r j) = ix2 (tok (pt t) r) j := by
  refine Shape.idx_ext₂ ((win0_15.rect_emb_val t _ 0).trans ?_) ((win0_15.rect_emb_val t _ 1).trans ?_)
  · rw [(index15 t).1]; show t.val * 512 + r.val = 512 * t.val + r.val; omega
  · rw [(index15 t).2]; show 0 * 1024 + j.val = j.val; omega

/-- Window 1's block is its whole array. -/
theorem emb1 (t : Fin cfg0.N) (i : Fin 1) (j : Fin 1024) : (win0_1.rect t).emb (ix2 i j) = ix2 i j := by
  refine Shape.idx_ext₂ ((win0_1.rect_emb_val t _ 0).trans ?_) ((win0_1.rect_emb_val t _ 1).trans ?_)
  · rw [(index1 t).1]; show 0 * 1 + i.val = i.val; omega
  · rw [(index1 t).2]; show 0 * 1024 + j.val = j.val; omega

/-- Window 2's block is its whole array. -/
theorem emb2 (t : Fin cfg0.N) (i : Fin 1024) (j : Fin 5632) : (win0_2.rect t).emb (ix2 i j) = ix2 i j := by
  refine Shape.idx_ext₂ ((win0_2.rect_emb_val t _ 0).trans ?_) ((win0_2.rect_emb_val t _ 1).trans ?_)
  · rw [(index2 t).1]; show 0 * 1024 + i.val = i.val; omega
  · rw [(index2 t).2]; show 0 * 5632 + j.val = j.val; omega

/-- Window 3's block is its whole array. -/
theorem emb3 (t : Fin cfg0.N) (i : Fin 4) (j : Fin 512) : (win0_3.rect t).emb (ix2 i j) = ix2 i j := by
  refine Shape.idx_ext₂ ((win0_3.rect_emb_val t _ 0).trans ?_) ((win0_3.rect_emb_val t _ 1).trans ?_)
  · rw [(index3 t).1]; show 0 * 4 + i.val = i.val; omega
  · rw [(index3 t).2]; show 0 * 512 + j.val = j.val; omega

/-- Row `r` of block `t` of the tokens. -/
theorem iblk0 (c : Dev nD) (t : Fin cfg0.N) (r : Fin 512) (j : Fin 1024) :
    iblk m c 0 t (ix2 r j) = m ((c : Thread nD τ).loc main_arg0) (ix2 (tok (pt t) r) j) := by
  have e : iblk m c 0 t (ix2 r j) = V m c main_arg0 ((win0_0.rect t).emb (ix2 r j)) := rfl
  rw [e, V_main_arg0, emb0]

/-- Layer 3's gains. -/
theorem iblk1 (c : Dev nD) (t : Fin cfg0.N) (j : Fin 1024) :
    iblk m c 1 t (ix2 0 j) = m ((c : Thread nD τ).loc main_arg1) (ix2 3 j) := by
  have e : iblk m c 1 t (ix2 0 j) = V m c main_v35 ((win0_1.rect t).emb (ix2 0 j)) := rfl
  rw [e, emb1]
  unfold V
  after_reads_at

/-- Layer 3's weights. -/
theorem iblk2 (c : Dev nD) (t : Fin cfg0.N) (k : Fin 1024) (j : Fin 5632) :
    iblk m c 2 t (ix2 k j) = m ((c : Thread nD τ).loc main_arg2) (ix3 3 k j) := by
  have e : iblk m c 2 t (ix2 k j) = V m c main_v37 ((win0_2.rect t).emb (ix2 k j)) := rfl
  rw [e, emb2]
  unfold V
  after_reads_at

/-- The lower bounds' logits. -/
theorem iblk3 (c : Dev nD) (t : Fin cfg0.N) (i : Fin 4) (j : Fin 512) :
    iblk m c 3 t (ix2 i j) = m ((c : Thread nD τ).loc main_arg3) (ix2 i j) := by
  have e : iblk m c 3 t (ix2 i j) = V m c main_arg3 ((win0_3.rect t).emb (ix2 i j)) := rfl
  rw [e, V_main_arg3, emb3]

/-- The rows of the table of cosines. -/
theorem iblk4 (c : Dev nD) (t : Fin cfg0.N) (r : Fin 512) (j : Fin 128) :
    iblk m c 4 t (ix2 r j) = V m c main_v29 (ix2 (tok (pt t) r) j) := by
  have e : iblk m c 4 t (ix2 r j) = V m c main_v29 ((win0_4.rect t).emb (ix2 r j)) := rfl
  rw [e, emb4]

/-- The rows of the table of signed sines. -/
theorem iblk5 (c : Dev nD) (t : Fin cfg0.N) (r : Fin 512) (j : Fin 128) :
    iblk m c 5 t (ix2 r j) = V m c main_v31 (ix2 (tok (pt t) r) j) := by
  have e : iblk m c 5 t (ix2 r j) = V m c main_v31 ((win0_5.rect t).emb (ix2 r j)) := rfl
  rw [e, emb5]

/-- A block's features are its tokens'. -/
theorem feat_eq (c : Dev nD) (t : Fin cfg0.N) (r : Fin 512) (k : Fin 5632) :
    Block.feat (iblk m c 0 t) (iblk m c 1 t) (iblk m c 2 t) r k
      = feature (m ((c : Thread nD τ).loc main_arg0)) (m ((c : Thread nD τ).loc main_arg1)) (m ((c : Thread nD τ).loc main_arg2)) (tok (pt t) r) k := by
  unfold Block.feat feature
  simp only [iblk0 m c t, iblk1 m c t, iblk2 m c t]

/-- A block's lower bounds are the arrays'. -/
theorem low_at (c : Dev nD) (t : Fin cfg0.N) (j : Fin 512) :
    low (fun i => iblk m c 3 t (ix2 i j)) = lowAt (m ((c : Thread nD τ).loc main_arg3)) j := by
  unfold lowAt
  simp only [iblk3 m c t]

/-- A row turned by its tables' rows is turned by its position. -/
theorem turn (c : Dev nD) (t : Fin cfg0.N) (r : Fin 512) (h : Fin 4) (j : Fin 128) (a : Fin 512 → EReal) :
    spin a (fun j => iblk m c 4 t (ix2 r j)) (fun j => iblk m c 5 t (ix2 r j)) h j = rot (place (tok (pt t) r)) a h j := by
  refine spin_rot _ _ _ _ h j (fun e => ?_) (fun e => ?_) (fun e => ?_) (fun e => ?_)
  · rw [iblk4]; exact cos_lo m c _ e
  · rw [iblk4]; exact cos_hi m c _ e
  · rw [iblk5]; exact sin_lo m c _ e
  · rw [iblk5]; exact sin_hi m c _ e

/-- The whole of result 0. -/
def G0 (c : Dev nD) : Buf (Elt Ideal) ((c : Thread nD τ).loc main_v38_0) := fun i =>
  res0 (m ((c : Thread nD τ).loc main_arg0)) (m ((c : Thread nD τ).loc main_arg1)) (m ((c : Thread nD τ).loc main_arg2))
    (m ((c : Thread nD τ).loc main_arg3)) (i 0) (i 1)

/-- What point `t` writes back of result 0 is block `t` of it. -/
theorem flushed0 (c : Dev nD) (t : Fin cfg0.N) : (dats m 0 c).flushed 6 t = ((cfg0.win 6).blk t).view.read (Elt Ideal) (G0 m c) := by
  rw [Value.flushed6]
  funext y
  obtain ⟨r, j, rfl⟩ : ∃ (r : Fin 512) (j : Fin 512), y = ix2 r j := ⟨y 0, y 1, Shape.idx_ext₂ rfl rfl⟩
  have e : ((cfg0.win 6).blk t).view.read (Elt Ideal) (G0 m c) (ix2 r j) = G0 m c ((win0_6.rect t).emb (ix2 r j)) := rfl
  rw [e, emb6]
  refine (Block.out6_apply _ _ _ _ _ _ r j).trans ?_
  rw [feat_eq m c t]
  rfl

/-- An index of result 0 whose token lies among block `t`'s rows is in block `t`. -/
theorem mem0 (t : Fin cfg0.N) (i : S16896x512.Idx) (h : t.val * 512 ≤ (i 0 : Nat)) (h' : (i 0 : Nat) < t.val * 512 + 512) :
    i ∈ ((cfg0.win 6).blk t).view.set := by
  show i ∈ ((View.whole main_v38_0).slice (win0_6.rect t)).set
  rw [View.set_slice_whole, Rect.mem_set_unit]
  have h1 : (i 1 : Nat) < 512 := (i 1).isLt
  have e := index6 t
  intro a
  match a with
  | ⟨0, _⟩ =>
    show win0_6.index t 0 * 512 ≤ (i 0 : Nat) ∧ (i 0 : Nat) < win0_6.index t 0 * 512 + 512
    rw [e.1]; exact ⟨h, h'⟩
  | ⟨1, _⟩ =>
    show win0_6.index t 1 * 512 ≤ (i 1 : Nat) ∧ (i 1 : Nat) < win0_6.index t 1 * 512 + 512
    rw [e.2]; omega

/-- Every token of result 0 lies in the block of its point. -/
theorem cover0 (i : S16896x512.Idx) : ∃ t : Fin cfg0.N, (cfg0.win 6).flush t = true ∧ i ∈ ((cfg0.win 6).blk t).view.set := by
  have hN : cfg0.N = 33 := N_0
  have h0 : (i 0 : Nat) < 16896 := (i 0).isLt
  exact ⟨⟨(i 0 : Nat) / 512, by omega⟩, flush0_6 _, mem0 _ i (by dsimp only; omega) (by dsimp only; omega)⟩

/-- So result 0 ends holding its array. -/
theorem final0 (c : Dev nD) : (dats m 0 c).arrAt 6 cfg0.N = G0 m c :=
  (dats m 0 c).arrAt_eq_of_cover 6 (G0 m c) (fun t _ => flushed0 m c t) cover0

/-- The whole of result 1. -/
def G1 (c : Dev nD) : Buf (Elt Ideal) ((c : Thread nD τ).loc main_v38_1) := fun i =>
  res1 (m ((c : Thread nD τ).loc main_arg0)) (m ((c : Thread nD τ).loc main_arg1)) (m ((c : Thread nD τ).loc main_arg2))
    (m ((c : Thread nD τ).loc main_arg3)) (i 0) (i 1)

/-- What point `t` writes back of result 1 is block `t` of it. -/
theorem flushed1 (c : Dev nD) (t : Fin cfg0.N) : (dats m 0 c).flushed 7 t = ((cfg0.win 7).blk t).view.read (Elt Ideal) (G1 m c) := by
  rw [Value.flushed7]
  funext y
  obtain ⟨r, j, rfl⟩ : ∃ (r : Fin 512) (j : Fin 512), y = ix2 r j := ⟨y 0, y 1, Shape.idx_ext₂ rfl rfl⟩
  have e : ((cfg0.win 7).blk t).view.read (Elt Ideal) (G1 m c) (ix2 r j) = G1 m c ((win0_7.rect t).emb (ix2 r j)) := rfl
  rw [e, emb7]
  refine (Block.out7_apply _ _ _ _ _ _ r j).trans ?_
  rw [feat_eq m c t, low_at m c t]
  rfl

/-- An index of result 1 whose token lies among block `t`'s rows is in block `t`. -/
theorem mem1 (t : Fin cfg0.N) (i : S16896x512.Idx) (h : t.val * 512 ≤ (i 0 : Nat)) (h' : (i 0 : Nat) < t.val * 512 + 512) :
    i ∈ ((cfg0.win 7).blk t).view.set := by
  show i ∈ ((View.whole main_v38_1).slice (win0_7.rect t)).set
  rw [View.set_slice_whole, Rect.mem_set_unit]
  have h1 : (i 1 : Nat) < 512 := (i 1).isLt
  have e := index7 t
  intro a
  match a with
  | ⟨0, _⟩ =>
    show win0_7.index t 0 * 512 ≤ (i 0 : Nat) ∧ (i 0 : Nat) < win0_7.index t 0 * 512 + 512
    rw [e.1]; exact ⟨h, h'⟩
  | ⟨1, _⟩ =>
    show win0_7.index t 1 * 512 ≤ (i 1 : Nat) ∧ (i 1 : Nat) < win0_7.index t 1 * 512 + 512
    rw [e.2]; omega

/-- Every token of result 1 lies in the block of its point. -/
theorem cover1 (i : S16896x512.Idx) : ∃ t : Fin cfg0.N, (cfg0.win 7).flush t = true ∧ i ∈ ((cfg0.win 7).blk t).view.set := by
  have hN : cfg0.N = 33 := N_0
  have h0 : (i 0 : Nat) < 16896 := (i 0).isLt
  exact ⟨⟨(i 0 : Nat) / 512, by omega⟩, flush0_7 _, mem1 _ i (by dsimp only; omega) (by dsimp only; omega)⟩

/-- So result 1 ends holding its array. -/
theorem final1 (c : Dev nD) : (dats m 0 c).arrAt 7 cfg0.N = G1 m c :=
  (dats m 0 c).arrAt_eq_of_cover 7 (G1 m c) (fun t _ => flushed1 m c t) cover1

/-- The whole of result 2. -/
def G2 (c : Dev nD) : Buf (Elt Ideal) ((c : Thread nD τ).loc main_v38_2) := fun i =>
  res2 (m ((c : Thread nD τ).loc main_arg0)) (m ((c : Thread nD τ).loc main_arg1)) (m ((c : Thread nD τ).loc main_arg2))
    (m ((c : Thread nD τ).loc main_arg3)) (i 0) (i 1)

/-- What point `t` writes back of result 2 is block `t` of it. -/
theorem flushed2 (c : Dev nD) (t : Fin cfg0.N) : (dats m 0 c).flushed 8 t = ((cfg0.win 8).blk t).view.read (Elt Ideal) (G2 m c) := by
  rw [Value.flushed8]
  funext y
  obtain ⟨r, j, rfl⟩ : ∃ (r : Fin 512) (j : Fin 512), y = ix2 r j := ⟨y 0, y 1, Shape.idx_ext₂ rfl rfl⟩
  have e : ((cfg0.win 8).blk t).view.read (Elt Ideal) (G2 m c) (ix2 r j) = G2 m c ((win0_8.rect t).emb (ix2 r j)) := rfl
  rw [e, emb8]
  refine (Block.out8_apply _ _ _ _ _ _ r j).trans ?_
  rw [feat_eq m c t, low_at m c t]
  rfl

/-- An index of result 2 whose token lies among block `t`'s rows is in block `t`. -/
theorem mem2 (t : Fin cfg0.N) (i : S16896x512.Idx) (h : t.val * 512 ≤ (i 0 : Nat)) (h' : (i 0 : Nat) < t.val * 512 + 512) :
    i ∈ ((cfg0.win 8).blk t).view.set := by
  show i ∈ ((View.whole main_v38_2).slice (win0_8.rect t)).set
  rw [View.set_slice_whole, Rect.mem_set_unit]
  have h1 : (i 1 : Nat) < 512 := (i 1).isLt
  have e := index8 t
  intro a
  match a with
  | ⟨0, _⟩ =>
    show win0_8.index t 0 * 512 ≤ (i 0 : Nat) ∧ (i 0 : Nat) < win0_8.index t 0 * 512 + 512
    rw [e.1]; exact ⟨h, h'⟩
  | ⟨1, _⟩ =>
    show win0_8.index t 1 * 512 ≤ (i 1 : Nat) ∧ (i 1 : Nat) < win0_8.index t 1 * 512 + 512
    rw [e.2]; omega

/-- Every token of result 2 lies in the block of its point. -/
theorem cover2 (i : S16896x512.Idx) : ∃ t : Fin cfg0.N, (cfg0.win 8).flush t = true ∧ i ∈ ((cfg0.win 8).blk t).view.set := by
  have hN : cfg0.N = 33 := N_0
  have h0 : (i 0 : Nat) < 16896 := (i 0).isLt
  exact ⟨⟨(i 0 : Nat) / 512, by omega⟩, flush0_8 _, mem2 _ i (by dsimp only; omega) (by dsimp only; omega)⟩

/-- So result 2 ends holding its array. -/
theorem final2 (c : Dev nD) : (dats m 0 c).arrAt 8 cfg0.N = G2 m c :=
  (dats m 0 c).arrAt_eq_of_cover 8 (G2 m c) (fun t _ => flushed2 m c t) cover2

/-- The whole of result 3. -/
def G3 (c : Dev nD) : Buf (Elt Ideal) ((c : Thread nD τ).loc main_v38_3) := fun i =>
  res3 (m ((c : Thread nD τ).loc main_arg0)) (m ((c : Thread nD τ).loc main_arg1)) (m ((c : Thread nD τ).loc main_arg2))
    (m ((c : Thread nD τ).loc main_arg3)) (i 0) (i 1)

/-- What point `t` writes back of result 3 is block `t` of it. -/
theorem flushed3 (c : Dev nD) (t : Fin cfg0.N) : (dats m 0 c).flushed 9 t = ((cfg0.win 9).blk t).view.read (Elt Ideal) (G3 m c) := by
  rw [Value.flushed9]
  funext y
  obtain ⟨r, j, rfl⟩ : ∃ (r : Fin 512) (j : Fin 512), y = ix2 r j := ⟨y 0, y 1, Shape.idx_ext₂ rfl rfl⟩
  have e : ((cfg0.win 9).blk t).view.read (Elt Ideal) (G3 m c) (ix2 r j) = G3 m c ((win0_9.rect t).emb (ix2 r j)) := rfl
  rw [e, emb9]
  refine (Block.out9_apply _ _ _ _ _ _ r j).trans ?_
  rw [feat_eq m c t]
  rfl

/-- An index of result 3 whose token lies among block `t`'s rows is in block `t`. -/
theorem mem3 (t : Fin cfg0.N) (i : S16896x512.Idx) (h : t.val * 512 ≤ (i 0 : Nat)) (h' : (i 0 : Nat) < t.val * 512 + 512) :
    i ∈ ((cfg0.win 9).blk t).view.set := by
  show i ∈ ((View.whole main_v38_3).slice (win0_9.rect t)).set
  rw [View.set_slice_whole, Rect.mem_set_unit]
  have h1 : (i 1 : Nat) < 512 := (i 1).isLt
  have e := index9 t
  intro a
  match a with
  | ⟨0, _⟩ =>
    show win0_9.index t 0 * 512 ≤ (i 0 : Nat) ∧ (i 0 : Nat) < win0_9.index t 0 * 512 + 512
    rw [e.1]; exact ⟨h, h'⟩
  | ⟨1, _⟩ =>
    show win0_9.index t 1 * 512 ≤ (i 1 : Nat) ∧ (i 1 : Nat) < win0_9.index t 1 * 512 + 512
    rw [e.2]; omega

/-- Every token of result 3 lies in the block of its point. -/
theorem cover3 (i : S16896x512.Idx) : ∃ t : Fin cfg0.N, (cfg0.win 9).flush t = true ∧ i ∈ ((cfg0.win 9).blk t).view.set := by
  have hN : cfg0.N = 33 := N_0
  have h0 : (i 0 : Nat) < 16896 := (i 0).isLt
  exact ⟨⟨(i 0 : Nat) / 512, by omega⟩, flush0_9 _, mem3 _ i (by dsimp only; omega) (by dsimp only; omega)⟩

/-- So result 3 ends holding its array. -/
theorem final3 (c : Dev nD) : (dats m 0 c).arrAt 9 cfg0.N = G3 m c :=
  (dats m 0 c).arrAt_eq_of_cover 9 (G3 m c) (fun t _ => flushed3 m c t) cover3

/-- The whole of result 4. -/
def G4 (c : Dev nD) : Buf (Elt Ideal) ((c : Thread nD τ).loc main_v38_4) := fun i =>
  res4 (m ((c : Thread nD τ).loc main_arg0)) (m ((c : Thread nD τ).loc main_arg1)) (m ((c : Thread nD τ).loc main_arg2))
    (m ((c : Thread nD τ).loc main_arg3)) (i 0) (i 1)

/-- What point `t` writes back of result 4 is block `t` of it. -/
theorem flushed4 (c : Dev nD) (t : Fin cfg0.N) : (dats m 0 c).flushed 10 t = ((cfg0.win 10).blk t).view.read (Elt Ideal) (G4 m c) := by
  rw [Value.flushed10]
  funext y
  obtain ⟨r, j, rfl⟩ : ∃ (r : Fin 512) (j : Fin 512), y = ix2 r j := ⟨y 0, y 1, Shape.idx_ext₂ rfl rfl⟩
  have e : ((cfg0.win 10).blk t).view.read (Elt Ideal) (G4 m c) (ix2 r j) = G4 m c ((win0_10.rect t).emb (ix2 r j)) := rfl
  rw [e, emb10]
  refine (Block.out10_apply _ _ _ _ _ _ r j).trans ?_
  rw [feat_eq m c t]
  rfl

/-- An index of result 4 whose token lies among block `t`'s rows is in block `t`. -/
theorem mem4 (t : Fin cfg0.N) (i : S16896x512.Idx) (h : t.val * 512 ≤ (i 0 : Nat)) (h' : (i 0 : Nat) < t.val * 512 + 512) :
    i ∈ ((cfg0.win 10).blk t).view.set := by
  show i ∈ ((View.whole main_v38_4).slice (win0_10.rect t)).set
  rw [View.set_slice_whole, Rect.mem_set_unit]
  have h1 : (i 1 : Nat) < 512 := (i 1).isLt
  have e := index10 t
  intro a
  match a with
  | ⟨0, _⟩ =>
    show win0_10.index t 0 * 512 ≤ (i 0 : Nat) ∧ (i 0 : Nat) < win0_10.index t 0 * 512 + 512
    rw [e.1]; exact ⟨h, h'⟩
  | ⟨1, _⟩ =>
    show win0_10.index t 1 * 512 ≤ (i 1 : Nat) ∧ (i 1 : Nat) < win0_10.index t 1 * 512 + 512
    rw [e.2]; omega

/-- Every token of result 4 lies in the block of its point. -/
theorem cover4 (i : S16896x512.Idx) : ∃ t : Fin cfg0.N, (cfg0.win 10).flush t = true ∧ i ∈ ((cfg0.win 10).blk t).view.set := by
  have hN : cfg0.N = 33 := N_0
  have h0 : (i 0 : Nat) < 16896 := (i 0).isLt
  exact ⟨⟨(i 0 : Nat) / 512, by omega⟩, flush0_10 _, mem4 _ i (by dsimp only; omega) (by dsimp only; omega)⟩

/-- So result 4 ends holding its array. -/
theorem final4 (c : Dev nD) : (dats m 0 c).arrAt 10 cfg0.N = G4 m c :=
  (dats m 0 c).arrAt_eq_of_cover 10 (G4 m c) (fun t _ => flushed4 m c t) cover4

/-- The whole of result 5. -/
def G5 (c : Dev nD) : Buf (Elt Ideal) ((c : Thread nD τ).loc main_v38_5) := fun i =>
  res5 (m ((c : Thread nD τ).loc main_arg0)) (m ((c : Thread nD τ).loc main_arg1)) (m ((c : Thread nD τ).loc main_arg2))
    (m ((c : Thread nD τ).loc main_arg3)) (i 0) (i 1)

/-- What point `t` writes back of result 5 is block `t` of it. -/
theorem flushed5 (c : Dev nD) (t : Fin cfg0.N) : (dats m 0 c).flushed 11 t = ((cfg0.win 11).blk t).view.read (Elt Ideal) (G5 m c) := by
  rw [Value.flushed11]
  funext y
  obtain ⟨r, d, rfl⟩ : ∃ (r : Fin 512) (d : Fin 512), y = ix2 r d := ⟨y 0, y 1, Shape.idx_ext₂ rfl rfl⟩
  obtain ⟨h, j, rfl⟩ := exists_headCol d
  have e : ((cfg0.win 11).blk t).view.read (Elt Ideal) (G5 m c) (ix2 r (headCol h j)) = G5 m c ((win0_11.rect t).emb (ix2 r (headCol h j))) := rfl
  rw [e, emb11]
  refine (Block.out11_apply _ _ _ _ _ _ r h j).trans ?_
  unfold Block.spin11
  simp only [feat_eq m c t]
  exact (turn m c t r h j _).trans (res5_at _ _ _ _ _ h j).symm

/-- An index of result 5 whose token lies among block `t`'s rows is in block `t`. -/
theorem mem5 (t : Fin cfg0.N) (i : S16896x512.Idx) (h : t.val * 512 ≤ (i 0 : Nat)) (h' : (i 0 : Nat) < t.val * 512 + 512) :
    i ∈ ((cfg0.win 11).blk t).view.set := by
  show i ∈ ((View.whole main_v38_5).slice (win0_11.rect t)).set
  rw [View.set_slice_whole, Rect.mem_set_unit]
  have h1 : (i 1 : Nat) < 512 := (i 1).isLt
  have e := index11 t
  intro a
  match a with
  | ⟨0, _⟩ =>
    show win0_11.index t 0 * 512 ≤ (i 0 : Nat) ∧ (i 0 : Nat) < win0_11.index t 0 * 512 + 512
    rw [e.1]; exact ⟨h, h'⟩
  | ⟨1, _⟩ =>
    show win0_11.index t 1 * 512 ≤ (i 1 : Nat) ∧ (i 1 : Nat) < win0_11.index t 1 * 512 + 512
    rw [e.2]; omega

/-- Every token of result 5 lies in the block of its point. -/
theorem cover5 (i : S16896x512.Idx) : ∃ t : Fin cfg0.N, (cfg0.win 11).flush t = true ∧ i ∈ ((cfg0.win 11).blk t).view.set := by
  have hN : cfg0.N = 33 := N_0
  have h0 : (i 0 : Nat) < 16896 := (i 0).isLt
  exact ⟨⟨(i 0 : Nat) / 512, by omega⟩, flush0_11 _, mem5 _ i (by dsimp only; omega) (by dsimp only; omega)⟩

/-- So result 5 ends holding its array. -/
theorem final5 (c : Dev nD) : (dats m 0 c).arrAt 11 cfg0.N = G5 m c :=
  (dats m 0 c).arrAt_eq_of_cover 11 (G5 m c) (fun t _ => flushed5 m c t) cover5

/-- The whole of result 6. -/
def G6 (c : Dev nD) : Buf (Elt Ideal) ((c : Thread nD τ).loc main_v38_6) := fun i =>
  res6 (m ((c : Thread nD τ).loc main_arg0)) (m ((c : Thread nD τ).loc main_arg1)) (m ((c : Thread nD τ).loc main_arg2))
    (m ((c : Thread nD τ).loc main_arg3)) (i 0) (i 1)

/-- What point `t` writes back of result 6 is block `t` of it. -/
theorem flushed6 (c : Dev nD) (t : Fin cfg0.N) : (dats m 0 c).flushed 12 t = ((cfg0.win 12).blk t).view.read (Elt Ideal) (G6 m c) := by
  rw [Value.flushed12]
  funext y
  obtain ⟨r, d, rfl⟩ : ∃ (r : Fin 512) (d : Fin 512), y = ix2 r d := ⟨y 0, y 1, Shape.idx_ext₂ rfl rfl⟩
  obtain ⟨h, j, rfl⟩ := exists_headCol d
  have e : ((cfg0.win 12).blk t).view.read (Elt Ideal) (G6 m c) (ix2 r (headCol h j)) = G6 m c ((win0_12.rect t).emb (ix2 r (headCol h j))) := rfl
  rw [e, emb12]
  refine (Block.out12_apply _ _ _ _ _ _ r h j).trans ?_
  unfold Block.spin12
  simp only [feat_eq m c t]
  exact (turn m c t r h j _).trans (res6_at _ _ _ _ _ h j).symm

/-- An index of result 6 whose token lies among block `t`'s rows is in block `t`. -/
theorem mem6 (t : Fin cfg0.N) (i : S16896x512.Idx) (h : t.val * 512 ≤ (i 0 : Nat)) (h' : (i 0 : Nat) < t.val * 512 + 512) :
    i ∈ ((cfg0.win 12).blk t).view.set := by
  show i ∈ ((View.whole main_v38_6).slice (win0_12.rect t)).set
  rw [View.set_slice_whole, Rect.mem_set_unit]
  have h1 : (i 1 : Nat) < 512 := (i 1).isLt
  have e := index12 t
  intro a
  match a with
  | ⟨0, _⟩ =>
    show win0_12.index t 0 * 512 ≤ (i 0 : Nat) ∧ (i 0 : Nat) < win0_12.index t 0 * 512 + 512
    rw [e.1]; exact ⟨h, h'⟩
  | ⟨1, _⟩ =>
    show win0_12.index t 1 * 512 ≤ (i 1 : Nat) ∧ (i 1 : Nat) < win0_12.index t 1 * 512 + 512
    rw [e.2]; omega

/-- Every token of result 6 lies in the block of its point. -/
theorem cover6 (i : S16896x512.Idx) : ∃ t : Fin cfg0.N, (cfg0.win 12).flush t = true ∧ i ∈ ((cfg0.win 12).blk t).view.set := by
  have hN : cfg0.N = 33 := N_0
  have h0 : (i 0 : Nat) < 16896 := (i 0).isLt
  exact ⟨⟨(i 0 : Nat) / 512, by omega⟩, flush0_12 _, mem6 _ i (by dsimp only; omega) (by dsimp only; omega)⟩

/-- So result 6 ends holding its array. -/
theorem final6 (c : Dev nD) : (dats m 0 c).arrAt 12 cfg0.N = G6 m c :=
  (dats m 0 c).arrAt_eq_of_cover 12 (G6 m c) (fun t _ => flushed6 m c t) cover6

/-- The whole of result 7. -/
def G7 (c : Dev nD) : Buf (Elt Ideal) ((c : Thread nD τ).loc main_v38_7) := fun i =>
  res7 (m ((c : Thread nD τ).loc main_arg0)) (m ((c : Thread nD τ).loc main_arg1)) (m ((c : Thread nD τ).loc main_arg2))
    (m ((c : Thread nD τ).loc main_arg3)) (i 0) (i 1)

/-- What point `t` writes back of result 7 is block `t` of it. -/
theorem flushed7 (c : Dev nD) (t : Fin cfg0.N) : (dats m 0 c).flushed 13 t = ((cfg0.win 13).blk t).view.read (Elt Ideal) (G7 m c) := by
  rw [Value.flushed13]
  funext y
  obtain ⟨r, j, rfl⟩ : ∃ (r : Fin 512) (j : Fin 512), y = ix2 r j := ⟨y 0, y 1, Shape.idx_ext₂ rfl rfl⟩
  have e : ((cfg0.win 13).blk t).view.read (Elt Ideal) (G7 m c) (ix2 r j) = G7 m c ((win0_13.rect t).emb (ix2 r j)) := rfl
  rw [e, emb13]
  refine (Block.out13_apply _ _ _ _ _ _ r j).trans ?_
  rw [feat_eq m c t]
  rfl

/-- An index of result 7 whose token lies among block `t`'s rows is in block `t`. -/
theorem mem7 (t : Fin cfg0.N) (i : S16896x512.Idx) (h : t.val * 512 ≤ (i 0 : Nat)) (h' : (i 0 : Nat) < t.val * 512 + 512) :
    i ∈ ((cfg0.win 13).blk t).view.set := by
  show i ∈ ((View.whole main_v38_7).slice (win0_13.rect t)).set
  rw [View.set_slice_whole, Rect.mem_set_unit]
  have h1 : (i 1 : Nat) < 512 := (i 1).isLt
  have e := index13 t
  intro a
  match a with
  | ⟨0, _⟩ =>
    show win0_13.index t 0 * 512 ≤ (i 0 : Nat) ∧ (i 0 : Nat) < win0_13.index t 0 * 512 + 512
    rw [e.1]; exact ⟨h, h'⟩
  | ⟨1, _⟩ =>
    show win0_13.index t 1 * 512 ≤ (i 1 : Nat) ∧ (i 1 : Nat) < win0_13.index t 1 * 512 + 512
    rw [e.2]; omega

/-- Every token of result 7 lies in the block of its point. -/
theorem cover7 (i : S16896x512.Idx) : ∃ t : Fin cfg0.N, (cfg0.win 13).flush t = true ∧ i ∈ ((cfg0.win 13).blk t).view.set := by
  have hN : cfg0.N = 33 := N_0
  have h0 : (i 0 : Nat) < 16896 := (i 0).isLt
  exact ⟨⟨(i 0 : Nat) / 512, by omega⟩, flush0_13 _, mem7 _ i (by dsimp only; omega) (by dsimp only; omega)⟩

/-- So result 7 ends holding its array. -/
theorem final7 (c : Dev nD) : (dats m 0 c).arrAt 13 cfg0.N = G7 m c :=
  (dats m 0 c).arrAt_eq_of_cover 13 (G7 m c) (fun t _ => flushed7 m c t) cover7

/-- The whole of result 8. -/
def G8 (c : Dev nD) : Buf (Elt Ideal) ((c : Thread nD τ).loc main_v38_8) := fun i =>
  res8 (m ((c : Thread nD τ).loc main_arg0)) (m ((c : Thread nD τ).loc main_arg1)) (m ((c : Thread nD τ).loc main_arg2))
    (m ((c : Thread nD τ).loc main_arg3)) (i 0) (i 1)

/-- What point `t` writes back of result 8 is block `t` of it. -/
theorem flushed8 (c : Dev nD) (t : Fin cfg0.N) : (dats m 0 c).flushed 14 t = ((cfg0.win 14).blk t).view.read (Elt Ideal) (G8 m c) := by
  rw [Value.flushed14]
  funext y
  obtain ⟨r, j, rfl⟩ : ∃ (r : Fin 512) (j : Fin 1024), y = ix2 r j := ⟨y 0, y 1, Shape.idx_ext₂ rfl rfl⟩
  have e : ((cfg0.win 14).blk t).view.read (Elt Ideal) (G8 m c) (ix2 r j) = G8 m c ((win0_14.rect t).emb (ix2 r j)) := rfl
  rw [e, emb14]
  refine (Block.out14_apply _ _ _ _ _ _ r j).trans ?_
  rw [feat_eq m c t]
  rfl

/-- An index of result 8 whose token lies among block `t`'s rows is in block `t`. -/
theorem mem8 (t : Fin cfg0.N) (i : S16896x1024.Idx) (h : t.val * 512 ≤ (i 0 : Nat)) (h' : (i 0 : Nat) < t.val * 512 + 512) :
    i ∈ ((cfg0.win 14).blk t).view.set := by
  show i ∈ ((View.whole main_v38_8).slice (win0_14.rect t)).set
  rw [View.set_slice_whole, Rect.mem_set_unit]
  have h1 : (i 1 : Nat) < 1024 := (i 1).isLt
  have e := index14 t
  intro a
  match a with
  | ⟨0, _⟩ =>
    show win0_14.index t 0 * 512 ≤ (i 0 : Nat) ∧ (i 0 : Nat) < win0_14.index t 0 * 512 + 512
    rw [e.1]; exact ⟨h, h'⟩
  | ⟨1, _⟩ =>
    show win0_14.index t 1 * 1024 ≤ (i 1 : Nat) ∧ (i 1 : Nat) < win0_14.index t 1 * 1024 + 1024
    rw [e.2]; omega

/-- Every token of result 8 lies in the block of its point. -/
theorem cover8 (i : S16896x1024.Idx) : ∃ t : Fin cfg0.N, (cfg0.win 14).flush t = true ∧ i ∈ ((cfg0.win 14).blk t).view.set := by
  have hN : cfg0.N = 33 := N_0
  have h0 : (i 0 : Nat) < 16896 := (i 0).isLt
  exact ⟨⟨(i 0 : Nat) / 512, by omega⟩, flush0_14 _, mem8 _ i (by dsimp only; omega) (by dsimp only; omega)⟩

/-- So result 8 ends holding its array. -/
theorem final8 (c : Dev nD) : (dats m 0 c).arrAt 14 cfg0.N = G8 m c :=
  (dats m 0 c).arrAt_eq_of_cover 14 (G8 m c) (fun t _ => flushed8 m c t) cover8

/-- The whole of result 9. -/
def G9 (c : Dev nD) : Buf (Elt Ideal) ((c : Thread nD τ).loc main_v38_9) := fun i =>
  res9 (m ((c : Thread nD τ).loc main_arg0)) (m ((c : Thread nD τ).loc main_arg1)) (m ((c : Thread nD τ).loc main_arg2))
    (m ((c : Thread nD τ).loc main_arg3)) (i 0) (i 1)

/-- What point `t` writes back of result 9 is block `t` of it. -/
theorem flushed9 (c : Dev nD) (t : Fin cfg0.N) : (dats m 0 c).flushed 15 t = ((cfg0.win 15).blk t).view.read (Elt Ideal) (G9 m c) := by
  rw [Value.flushed15]
  funext y
  obtain ⟨r, j, rfl⟩ : ∃ (r : Fin 512) (j : Fin 1024), y = ix2 r j := ⟨y 0, y 1, Shape.idx_ext₂ rfl rfl⟩
  have e : ((cfg0.win 15).blk t).view.read (Elt Ideal) (G9 m c) (ix2 r j) = G9 m c ((win0_15.rect t).emb (ix2 r j)) := rfl
  rw [e, emb15]
  refine (Block.out15_apply _ _ _ _ _ _ r j).trans ?_
  rw [feat_eq m c t]
  rfl

/-- An index of result 9 whose token lies among block `t`'s rows is in block `t`. -/
theorem mem9 (t : Fin cfg0.N) (i : S16896x1024.Idx) (h : t.val * 512 ≤ (i 0 : Nat)) (h' : (i 0 : Nat) < t.val * 512 + 512) :
    i ∈ ((cfg0.win 15).blk t).view.set := by
  show i ∈ ((View.whole main_v38_9).slice (win0_15.rect t)).set
  rw [View.set_slice_whole, Rect.mem_set_unit]
  have h1 : (i 1 : Nat) < 1024 := (i 1).isLt
  have e := index15 t
  intro a
  match a with
  | ⟨0, _⟩ =>
    show win0_15.index t 0 * 512 ≤ (i 0 : Nat) ∧ (i 0 : Nat) < win0_15.index t 0 * 512 + 512
    rw [e.1]; exact ⟨h, h'⟩
  | ⟨1, _⟩ =>
    show win0_15.index t 1 * 1024 ≤ (i 1 : Nat) ∧ (i 1 : Nat) < win0_15.index t 1 * 1024 + 1024
    rw [e.2]; omega

/-- Every token of result 9 lies in the block of its point. -/
theorem cover9 (i : S16896x1024.Idx) : ∃ t : Fin cfg0.N, (cfg0.win 15).flush t = true ∧ i ∈ ((cfg0.win 15).blk t).view.set := by
  have hN : cfg0.N = 33 := N_0
  have h0 : (i 0 : Nat) < 16896 := (i 0).isLt
  exact ⟨⟨(i 0 : Nat) / 512, by omega⟩, flush0_15 _, mem9 _ i (by dsimp only; omega) (by dsimp only; omega)⟩

/-- So result 9 ends holding its array. -/
theorem final9 (c : Dev nD) : (dats m 0 c).arrAt 15 cfg0.N = G9 m c :=
  (dats m 0 c).arrAt_eq_of_cover 15 (G9 m c) (fun t _ => flushed9 m c t) cover9

end Cert.KernelInIdeal.Whole
-- ==== Proof.InReference.lean ====
/-
  The reference of the first step, read at an index: every result but the turned queries and keys, from the features of a
  token and layer 3's lower bound.
-/
module

public import proofs.«01_k».proof.Proof.InMath
public import proofs.«01_k».proof.Proof.Gen.ReferenceInIdeal.Read

@[expose] public section

noncomputable section

namespace Cert.ReferenceInIdeal.Whole

open Idealize.ShloMosaic Idealize.ShloMosaic.TcCoe
open Cert.ReferenceInIdeal Cert.ReferenceInIdeal.Gen Cert.ReferenceInIdeal.Read Cert.InMath
open Cert.FfnMath (rms)
open scoped BigOperators

/-- The shape of the running sum's window: four layers of one feature. -/
abbrev Win : Shape := ⟨2, ![4, 1]⟩

/-- Position `n` of the window is its `n`-th layer. -/
theorem win_at (n : Fin Win.numel) : (Win.rowMajor.symm n 0).val = n.val ∧ (Win.rowMajor.symm n 1).val = 0 := by
  revert n; decide +kernel

/-- What position `n` of the window at layer `t` adds: nothing before the first layer. -/
def part (x : S4x512.Idx → EReal) (t : Fin 4) (i : Fin 512) (n : Nat) : EReal :=
  if hn : 3 ≤ t.val + n ∧ t.val + n - 3 < 4 then x (ix2 ⟨t.val + n - 3, hn.2⟩ i) else 0

/-- The running sum over the layers, at the last one. -/
theorem running (x : S4x512.Idx → EReal) (v : S_.Idx → EReal)
    (h : S4x512.ReduceWindows ![4, 1] ![1, 1] ![3, 0] ![0, 0] S4x512) (hu : 0 < S_.numel)
    (hv : v (Shape.Idx.first hu) = 0) (i : Fin 512) :
    Host.reduceWindow (· + ·) ![4, 1] ![1, 1] ![3, 0] ![0, 0] x v h hu (ix2 3 i)
      = x (ix2 0 i) + x (ix2 1 i) + x (ix2 2 i) + x (ix2 3 i) := by
  have step : (Host.reduceWindow (· + ·) ![4, 1] ![1, 1] ![3, 0] ![0, 0] x v h hu (ix2 3 i))
      = (List.finRange Win.numel).foldl (fun (r : EReal) n => r + part x 3 i n.val) 0 := by
    unfold Host.reduceWindow
    dsimp only
    rw [hv]
    refine congrArg (fun f => List.foldl f (0 : EReal) (List.finRange Win.numel)) (funext fun r => funext fun n => ?_)
    obtain ⟨w0, w1⟩ := win_at n
    refine congrArg (fun z : EReal => r + z) ?_
    unfold part
    have hi := i.isLt
    split
    · next hin =>
      have h0 := hin 0
      change 3 ≤ 3 * 1 + (Win.rowMajor.symm n 0).val ∧ 3 * 1 + (Win.rowMajor.symm n 0).val - 3 < 4 at h0
      rw [w0, Nat.mul_one] at h0
      rw [dif_pos (show 3 ≤ (3 : Fin 4).val + n.val ∧ (3 : Fin 4).val + n.val - 3 < 4 from h0)]
      refine congrArg x (funext fun a => Fin.ext ?_)
      match a with
      | ⟨0, _⟩ => show 3 * 1 + (Win.rowMajor.symm n 0).val - 3 = 3 + n.val - 3; rw [w0]
      | ⟨1, _⟩ => show i.val * 1 + (Win.rowMajor.symm n 1).val - 0 = i.val; rw [w1]; omega
    · next hin =>
      rw [dif_neg fun h1 => hin fun a => ?_]
      match a with
      | ⟨0, _⟩ => show 3 ≤ 3 * 1 + (Win.rowMajor.symm n 0).val ∧ 3 * 1 + (Win.rowMajor.symm n 0).val - 3 < 4; rw [w0]; exact h1
      | ⟨1, _⟩ => show 0 ≤ i.val * 1 + (Win.rowMajor.symm n 1).val ∧ i.val * 1 + (Win.rowMajor.symm n 1).val - 0 < 512; rw [w1]; omega
  rw [step]
  show (List.finRange 4).foldl (fun (r : EReal) n => r + part x 3 i n.val) 0 = _
  simp [List.finRange_succ, part]

/-- The greatest's start. -/
theorem ofBits_bot : Ideal.ofBits FTy.f32 0xFF800000#32 = ⊥ := by
  simp [Ideal.ofBits, Ideal.ieee]

/-- The normalised row. -/
theorem v31_at (x0 : (⟨S16896x1024, .f32⟩ : BufTy).Contents (Elt Ideal)) (x1 : (⟨S4x1024, .f32⟩ : BufTy).Contents (Elt Ideal)) (T : Fin 16896) (k : Fin 1024) : val_main_v31 (F := Ideal) x0 x1 (ix2 T k) = rms (fun c => x0 (ix2 T c)) (fun c => x1 (ix2 3 c)) k := by
  pointwise [val_main_v31, val_main_v30, val_main_v29, val_main_v18, val_main_v17, val_main_v28, val_main_v27, val_main_v26, val_main_v25, val_main_v24, val_main_cst_4, val_main_v23, val_main_v22, val_main_cst_3, val_main_v21, val_main_v20, val_main_cst_2, val_main_v19, rms]

/-- Layer 3's weights. -/
theorem v33_at (x2 : (⟨S4x1024x5632, .f32⟩ : BufTy).Contents (Elt Ideal)) (k : Fin 1024) (c : Fin 5632) : val_main_v33 (F := Ideal) x2 (ix2 k c) = x2 (ix3 3 k c) := by
  pointwise [val_main_v33, val_main_v32]

/-- The features. -/
theorem v34_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (T : Fin 16896) (c : Fin 5632) : val_main_v34 (F := Ideal) x0 x1 x2 (ix2 T c) = feature x0 x1 x2 T c := by
  unfold val_main_v34
  generalize h0 : val_main_v31 (F := Ideal) x0 x1 = y0
  generalize h1 : val_main_v33 (F := Ideal) x2 = y1
  pointwise []
  subst h0
  subst h1
  simp only [v31_at, v33_at]
  rfl

/-- The softmax over the layers. -/
theorem v10_at (x3 : (⟨S4x512, .f32⟩ : BufTy).Contents (Elt Ideal)) (i : Fin 4) (j : Fin 512) : val_main_v10 (F := Ideal) x3 (ix2 i j) = soft (fun i => x3 (ix2 i j)) i := by
  pointwise [val_main_v10, val_main_v9, val_main_v8, val_main_v7, val_main_cst_1, val_main_v6, val_main_v5, val_main_v4, val_main_v3, val_main_v2, val_main_v0, val_main_cst, val_main_v1, val_main_cst_0, soft, ex]
  simp only [ofBits_bot, max_bot_left]
  rfl

/-- The running sum at the last layer. -/
theorem v11_at (x3 : (⟨S4x512, .f32⟩ : BufTy).Contents (Elt Ideal)) (j : Fin 512) : val_main_v11 (F := Ideal) x3 (ix2 3 j)
    = soft (fun i => x3 (ix2 i j)) 0 + soft (fun i => x3 (ix2 i j)) 1 + soft (fun i => x3 (ix2 i j)) 2 + soft (fun i => x3 (ix2 i j)) 3 := by
  have e := running (val_main_v10 (F := Ideal) x3) (fun _ => val_main_call0_call0_v0 (F := Ideal) (Shape.Idx.first h_S_))
    reduceWindows_S4x512_S4x512_w4s1p3_0_w1s1p0_0 h_S_ (by
      show Ideal.ofBits .f32 0x00000000#32 = 0
      exact Ideal.ofBits_zero_f32) j
  refine e.trans ?_
  simp only [v10_at]

/-- Layer 3's lower bound. -/
theorem v16_at (x3 : (⟨S4x512, .f32⟩ : BufTy).Contents (Elt Ideal)) (j : Fin 512) : val_main_v16 (F := Ideal) x3 (ix1 j) = lowAt x3 j := by
  unfold val_main_v16 val_main_v15 val_main_v14 val_main_v13 val_main_v12
  generalize h0 : val_main_v11 (F := Ideal) x3 = y0
  generalize h1 : val_main_v10 (F := Ideal) x3 = y1
  pointwise []
  subst h0
  subst h1
  simp only [v11_at, v10_at]
  exact low_eq _

/-- Result 0. -/
theorem v78_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 512) : val_main_v78 (F := Ideal) x0 x1 x2 (ix2 T j) = res0 x0 x1 x2 x3 T j := by
  unfold val_main_v78 val_main_v77 val_main_call1_v5 val_main_call1_v3 val_main_call1_v1 val_main_call1_v0 val_main_call1_v2 val_main_call1_cst val_main_call1_v4 val_main_call1_cst_0 val_main_v35
  generalize h0 : val_main_v34 (F := Ideal) x0 x1 x2 = y0
  pointwise [res0, silu, Ideal.logistic, col5]
  subst h0
  simp only [v34_at]

/-- Result 1. -/
theorem v60_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 512) : val_main_v60 (F := Ideal) x0 x1 x2 x3 (ix2 T j) = res1 x0 x1 x2 x3 T j := by
  unfold val_main_v60 val_main_v59 val_main_v58 val_main_cst_8 val_main_v57 val_main_v54 val_main_v51 val_main_v49 val_main_v47 val_main_v46 val_main_v36 val_main_v48 val_main_cst_6 val_main_v50 val_main_cst_7 val_main_v53 val_main_v52 val_main_v45 val_main_v44 val_main_cst_5 val_main_v56 val_main_v55
  generalize h0 : val_main_v16 (F := Ideal) x3 = y0
  generalize h1 : val_main_v34 (F := Ideal) x0 x1 x2 = y1
  pointwise [res1, logf, Ideal.logistic, col5]
  subst h0
  subst h1
  simp only [v16_at, v34_at]

/-- Result 2. -/
theorem v79_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 512) : val_main_v79 (F := Ideal) x0 x1 x2 x3 (ix2 T j) = res2 x0 x1 x2 x3 T j := by
  unfold val_main_v79 val_main_v72 val_main_v69 val_main_v67 val_main_v65 val_main_v64 val_main_v63 val_main_v36 val_main_v66 val_main_cst_10 val_main_v68 val_main_cst_11 val_main_v71 val_main_v70 val_main_v62 val_main_v61 val_main_cst_9
  generalize h0 : val_main_v16 (F := Ideal) x3 = y0
  generalize h1 : val_main_v34 (F := Ideal) x0 x1 x2 = y1
  pointwise [res2, key, Ideal.logistic, col5]
  subst h0
  subst h1
  simp only [v16_at, v34_at]

/-- Result 3. -/
theorem v80_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 512) : val_main_v80 (F := Ideal) x0 x1 x2 (ix2 T j) = res3 x0 x1 x2 x3 T j := by
  unfold val_main_v80 val_main_v37
  generalize h0 : val_main_v34 (F := Ideal) x0 x1 x2 = y0
  pointwise [res3, col5]
  subst h0
  simp only [v34_at]

/-- Result 4. -/
theorem v82_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 512) : val_main_v82 (F := Ideal) x0 x1 x2 (ix2 T j) = res4 x0 x1 x2 x3 T j := by
  unfold val_main_v82 val_main_v81 val_main_call2_v5 val_main_call2_v3 val_main_call2_v1 val_main_call2_v0 val_main_call2_v2 val_main_call2_cst val_main_call2_v4 val_main_call2_cst_0 val_main_v38
  generalize h0 : val_main_v34 (F := Ideal) x0 x1 x2 = y0
  pointwise [res4, silu, Ideal.logistic, col5]
  subst h0
  simp only [v34_at]

/-- Result 7. -/
theorem v41_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 512) : val_main_v41 (F := Ideal) x0 x1 x2 (ix2 T j) = res7 x0 x1 x2 x3 T j := by
  unfold val_main_v41
  generalize h0 : val_main_v34 (F := Ideal) x0 x1 x2 = y0
  pointwise [res7, col5]
  subst h0
  simp only [v34_at]

/-- Result 8. -/
theorem v236_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 1024) : val_main_v236 (F := Ideal) x0 x1 x2 (ix2 T j) = res8 x0 x1 x2 x3 T j := by
  unfold val_main_v236 val_main_v235 val_main_v233 val_main_v231 val_main_v230 val_main_v42 val_main_v232 val_main_cst_28 val_main_v234 val_main_cst_29
  generalize h0 : val_main_v34 (F := Ideal) x0 x1 x2 = y0
  pointwise [res8, Ideal.logistic, col]
  subst h0
  simp only [v34_at]

/-- Result 9. -/
theorem v243_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (j : Fin 1024) : val_main_v243 (F := Ideal) x0 x1 x2 (ix2 T j) = res9 x0 x1 x2 x3 T j := by
  unfold val_main_v243 val_main_v242 val_main_v240 val_main_v238 val_main_v237 val_main_v43 val_main_v239 val_main_cst_30 val_main_v241 val_main_cst_31
  generalize h0 : val_main_v34 (F := Ideal) x0 x1 x2 = y0
  pointwise [res9, Ideal.logistic, col]
  subst h0
  simp only [v34_at]

end Cert.ReferenceInIdeal.Whole
-- ==== Proof.InRotary.lean ====
/-
  The reference's turned queries and keys, read at an index.
-/
module

public import proofs.«01_k».proof.Proof.InReference

@[expose] public section

noncomputable section

namespace Cert.ReferenceInIdeal.Whole

open Idealize.ShloMosaic Idealize.ShloMosaic.TcCoe
open Cert.ReferenceInIdeal Cert.ReferenceInIdeal.Gen Cert.ReferenceInIdeal.Read Cert.InMath
open scoped BigOperators

/-- A prompt's query before it turns. -/
theorem query_prompt (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (s : Fin 4096) (h : Fin 4) (j : Fin 128) : val_main_v84 (F := Ideal) x0 x1 x2 (ix4 b s h j) = feature x0 x1 x2 ⟨b.val * 4096 + s.val, by omega⟩ (col5 2048 (headCol h j)) := by
  unfold val_main_v84 val_main_v83 val_main_v39
  generalize h0 : val_main_v34 (F := Ideal) x0 x1 x2 = y0
  pointwise [col5, headCol]
  subst h0
  simp only [v34_at]

/-- A prompt's angles. -/
theorem query_angle_prompt (s : Fin 4096) (e : Fin 64) : val_main_v100 (F := Ideal) (ix2 s e) = angle (BitVec.ofNat 32 s.val) e := by
  pointwise [val_main_v100, val_main_v99, val_main_v97, val_main_v94, val_main_v92, val_main_v91, val_main_cst_14, val_main_v90, val_main_v89, val_main_v87, val_main_v85, val_main_v86, val_main_cst_12, val_main_v88, val_main_cst_13, val_main_v93, val_main_cst_15, val_main_v98, val_main_v96, val_main_v95, val_main_v73, angle, freq]

/-- A prompt's query, turned. -/
theorem query_turned_prompt (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (s : Fin 4096) (h : Fin 4) (j : Fin 128) : val_main_v117 (F := Ideal) x0 x1 x2 (ix4 b s h j) = rot (BitVec.ofNat 32 s.val) (fun c => feature x0 x1 x2 ⟨b.val * 4096 + s.val, by omega⟩ (col5 2048 c)) h j := by
  unfold val_main_v117 val_main_v116 val_main_v115 val_main_v114 val_main_v113 val_main_v112 val_main_v111 val_main_v110 val_main_v109 val_main_v104 val_main_v103 val_main_v106 val_main_v108 val_main_v107 val_main_v102 val_main_v101 val_main_v105
  generalize h0 : val_main_v84 (F := Ideal) x0 x1 x2 = y0
  generalize h1 : val_main_v100 (F := Ideal) = y1
  pointwise [rot, turn0, turn1]
  subst h0
  subst h1
  simp only [query_prompt, query_angle_prompt]

/-- The prompts' query rows. -/
theorem query_rows_prompt (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (s : Fin 4096) (h : Fin 4) (j : Fin 128) : val_main_v118 (F := Ideal) x0 x1 x2 (ix2 ⟨b.val * 4096 + s.val, by omega⟩ (headCol h j)) = rot (BitVec.ofNat 32 s.val) (fun c => feature x0 x1 x2 ⟨b.val * 4096 + s.val, by omega⟩ (col5 2048 c)) h j := by
  unfold val_main_v118
  generalize h0 : val_main_v117 (F := Ideal) x0 x1 x2 = y0
  pointwise [headCol]
  subst h0
  simp only [query_turned_prompt]

/-- A sample's query before it turns. -/
theorem query_sample (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 128) (s : Fin 4) (h : Fin 4) (j : Fin 128) : val_main_v120 (F := Ideal) x0 x1 x2 (ix4 b s h j) = feature x0 x1 x2 ⟨16384 + (b.val * 4 + s.val), by omega⟩ (col5 2048 (headCol h j)) := by
  unfold val_main_v120 val_main_v119 val_main_v39
  generalize h0 : val_main_v34 (F := Ideal) x0 x1 x2 = y0
  pointwise [col5, headCol]
  subst h0
  simp only [v34_at]

/-- A sample's angles. -/
theorem query_angle_sample (s : Fin 4) (e : Fin 64) : val_main_v136 (F := Ideal) (ix2 s e) = angle (2048#32 + BitVec.ofNat 32 s.val) e := by
  pointwise [val_main_v136, val_main_v135, val_main_v133, val_main_v130, val_main_v128, val_main_v127, val_main_cst_18, val_main_v126, val_main_v125, val_main_v123, val_main_v121, val_main_v122, val_main_cst_16, val_main_v124, val_main_cst_17, val_main_v129, val_main_cst_19, val_main_v134, val_main_v132, val_main_v131, val_main_v76, val_main_v74, val_main_v75, val_main_c, angle, freq]
  rfl

/-- A sample's query, turned. -/
theorem query_turned_sample (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 128) (s : Fin 4) (h : Fin 4) (j : Fin 128) : val_main_v153 (F := Ideal) x0 x1 x2 (ix4 b s h j) = rot (2048#32 + BitVec.ofNat 32 s.val) (fun c => feature x0 x1 x2 ⟨16384 + (b.val * 4 + s.val), by omega⟩ (col5 2048 c)) h j := by
  unfold val_main_v153 val_main_v152 val_main_v151 val_main_v150 val_main_v149 val_main_v148 val_main_v147 val_main_v146 val_main_v145 val_main_v140 val_main_v139 val_main_v142 val_main_v144 val_main_v143 val_main_v138 val_main_v137 val_main_v141
  generalize h0 : val_main_v120 (F := Ideal) x0 x1 x2 = y0
  generalize h1 : val_main_v136 (F := Ideal) = y1
  pointwise [rot, turn0, turn1]
  subst h0
  subst h1
  simp only [query_sample, query_angle_sample]

/-- The samples' query rows. -/
theorem query_rows_sample (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 128) (s : Fin 4) (h : Fin 4) (j : Fin 128) : val_main_v154 (F := Ideal) x0 x1 x2 (ix2 ⟨b.val * 4 + s.val, by omega⟩ (headCol h j)) = rot (2048#32 + BitVec.ofNat 32 s.val) (fun c => feature x0 x1 x2 ⟨16384 + (b.val * 4 + s.val), by omega⟩ (col5 2048 c)) h j := by
  unfold val_main_v154
  generalize h0 : val_main_v153 (F := Ideal) x0 x1 x2 = y0
  pointwise [headCol]
  subst h0
  simp only [query_turned_sample]

/-- The prompts' rows come first, the samples' after them. -/
theorem query_all (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (T : Fin 16896) (c : Fin 512) : val_main_v156 (F := Ideal) x0 x1 x2 (ix2 T c) = if hT : T.val < 16384 then val_main_v118 x0 x1 x2 (ix2 ⟨T.val, hT⟩ c) else val_main_v154 x0 x1 x2 (ix2 ⟨T.val - 16384, by omega⟩ c) := by
  unfold val_main_v156 val_main_v155
  generalize h0 : val_main_v118 (F := Ideal) x0 x1 x2 = y0
  generalize h1 : val_main_v154 (F := Ideal) x0 x1 x2 = y1
  pointwise []

/-- Result 5 in full. -/
theorem v156_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (c : Fin 512) :
    val_main_v156 (F := Ideal) x0 x1 x2 (ix2 T c) = res5 x0 x1 x2 x3 T c := by
  obtain ⟨h, j, rfl⟩ := exists_headCol c
  rw [query_all]
  by_cases hT : T.val < 16384
  · obtain ⟨b, t, hb, rfl⟩ := prompt_token T hT
    rw [dif_pos hT]
    refine (query_rows_prompt x0 x1 x2 b t h j).trans ?_
    rw [← place_prompt b t hb]
    exact (res5_at x0 x1 x2 x3 _ h j).symm
  · obtain ⟨b, t, hb, rfl⟩ := sample_token T hT
    rw [dif_neg hT]
    have e : ∀ q : Nat, 16384 + q - 16384 = q := fun q => Nat.add_sub_cancel_left 16384 q
    simp only [e]
    refine (query_rows_sample x0 x1 x2 b t h j).trans ?_
    rw [← place_sample b t hb]
    exact (res5_at x0 x1 x2 x3 _ h j).symm

/-- A prompt's key before it turns. -/
theorem key_prompt (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (s : Fin 4096) (h : Fin 4) (j : Fin 128) : val_main_v158 (F := Ideal) x0 x1 x2 (ix4 b s h j) = feature x0 x1 x2 ⟨b.val * 4096 + s.val, by omega⟩ (col5 2560 (headCol h j)) := by
  unfold val_main_v158 val_main_v157 val_main_v40
  generalize h0 : val_main_v34 (F := Ideal) x0 x1 x2 = y0
  pointwise [col5, headCol]
  subst h0
  simp only [v34_at]

/-- A prompt's angles. -/
theorem key_angle_prompt (s : Fin 4096) (e : Fin 64) : val_main_v174 (F := Ideal) (ix2 s e) = angle (BitVec.ofNat 32 s.val) e := by
  pointwise [val_main_v174, val_main_v173, val_main_v171, val_main_v168, val_main_v166, val_main_v165, val_main_cst_22, val_main_v164, val_main_v163, val_main_v161, val_main_v159, val_main_v160, val_main_cst_20, val_main_v162, val_main_cst_21, val_main_v167, val_main_cst_23, val_main_v172, val_main_v170, val_main_v169, val_main_v73, angle, freq]

/-- A prompt's key, turned. -/
theorem key_turned_prompt (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (s : Fin 4096) (h : Fin 4) (j : Fin 128) : val_main_v191 (F := Ideal) x0 x1 x2 (ix4 b s h j) = rot (BitVec.ofNat 32 s.val) (fun c => feature x0 x1 x2 ⟨b.val * 4096 + s.val, by omega⟩ (col5 2560 c)) h j := by
  unfold val_main_v191 val_main_v190 val_main_v189 val_main_v188 val_main_v187 val_main_v186 val_main_v185 val_main_v184 val_main_v183 val_main_v178 val_main_v177 val_main_v180 val_main_v182 val_main_v181 val_main_v176 val_main_v175 val_main_v179
  generalize h0 : val_main_v158 (F := Ideal) x0 x1 x2 = y0
  generalize h1 : val_main_v174 (F := Ideal) = y1
  pointwise [rot, turn0, turn1]
  subst h0
  subst h1
  simp only [key_prompt, key_angle_prompt]

/-- The prompts' key rows. -/
theorem key_rows_prompt (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 4) (s : Fin 4096) (h : Fin 4) (j : Fin 128) : val_main_v192 (F := Ideal) x0 x1 x2 (ix2 ⟨b.val * 4096 + s.val, by omega⟩ (headCol h j)) = rot (BitVec.ofNat 32 s.val) (fun c => feature x0 x1 x2 ⟨b.val * 4096 + s.val, by omega⟩ (col5 2560 c)) h j := by
  unfold val_main_v192
  generalize h0 : val_main_v191 (F := Ideal) x0 x1 x2 = y0
  pointwise [headCol]
  subst h0
  simp only [key_turned_prompt]

/-- A sample's key before it turns. -/
theorem key_sample (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 128) (s : Fin 4) (h : Fin 4) (j : Fin 128) : val_main_v194 (F := Ideal) x0 x1 x2 (ix4 b s h j) = feature x0 x1 x2 ⟨16384 + (b.val * 4 + s.val), by omega⟩ (col5 2560 (headCol h j)) := by
  unfold val_main_v194 val_main_v193 val_main_v40
  generalize h0 : val_main_v34 (F := Ideal) x0 x1 x2 = y0
  pointwise [col5, headCol]
  subst h0
  simp only [v34_at]

/-- A sample's angles. -/
theorem key_angle_sample (s : Fin 4) (e : Fin 64) : val_main_v210 (F := Ideal) (ix2 s e) = angle (2048#32 + BitVec.ofNat 32 s.val) e := by
  pointwise [val_main_v210, val_main_v209, val_main_v207, val_main_v204, val_main_v202, val_main_v201, val_main_cst_26, val_main_v200, val_main_v199, val_main_v197, val_main_v195, val_main_v196, val_main_cst_24, val_main_v198, val_main_cst_25, val_main_v203, val_main_cst_27, val_main_v208, val_main_v206, val_main_v205, val_main_v76, val_main_v74, val_main_v75, val_main_c, angle, freq]
  rfl

/-- A sample's key, turned. -/
theorem key_turned_sample (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 128) (s : Fin 4) (h : Fin 4) (j : Fin 128) : val_main_v227 (F := Ideal) x0 x1 x2 (ix4 b s h j) = rot (2048#32 + BitVec.ofNat 32 s.val) (fun c => feature x0 x1 x2 ⟨16384 + (b.val * 4 + s.val), by omega⟩ (col5 2560 c)) h j := by
  unfold val_main_v227 val_main_v226 val_main_v225 val_main_v224 val_main_v223 val_main_v222 val_main_v221 val_main_v220 val_main_v219 val_main_v214 val_main_v213 val_main_v216 val_main_v218 val_main_v217 val_main_v212 val_main_v211 val_main_v215
  generalize h0 : val_main_v194 (F := Ideal) x0 x1 x2 = y0
  generalize h1 : val_main_v210 (F := Ideal) = y1
  pointwise [rot, turn0, turn1]
  subst h0
  subst h1
  simp only [key_sample, key_angle_sample]

/-- The samples' key rows. -/
theorem key_rows_sample (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (b : Fin 128) (s : Fin 4) (h : Fin 4) (j : Fin 128) : val_main_v228 (F := Ideal) x0 x1 x2 (ix2 ⟨b.val * 4 + s.val, by omega⟩ (headCol h j)) = rot (2048#32 + BitVec.ofNat 32 s.val) (fun c => feature x0 x1 x2 ⟨16384 + (b.val * 4 + s.val), by omega⟩ (col5 2560 c)) h j := by
  unfold val_main_v228
  generalize h0 : val_main_v227 (F := Ideal) x0 x1 x2 = y0
  pointwise [headCol]
  subst h0
  simp only [key_turned_sample]

/-- The prompts' rows come first, the samples' after them. -/
theorem key_all (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (T : Fin 16896) (c : Fin 512) : val_main_v229 (F := Ideal) x0 x1 x2 (ix2 T c) = if hT : T.val < 16384 then val_main_v192 x0 x1 x2 (ix2 ⟨T.val, hT⟩ c) else val_main_v228 x0 x1 x2 (ix2 ⟨T.val - 16384, by omega⟩ c) := by
  unfold val_main_v229
  generalize h0 : val_main_v192 (F := Ideal) x0 x1 x2 = y0
  generalize h1 : val_main_v228 (F := Ideal) x0 x1 x2 = y1
  pointwise []

/-- Result 6 in full. -/
theorem v229_at (x0 : (⟨S16896x1024, .f32⟩ : BufTy).Contents (Elt Ideal)) (x1 : (⟨S4x1024, .f32⟩ : BufTy).Contents (Elt Ideal)) (x2 : (⟨S4x1024x5632, .f32⟩ : BufTy).Contents (Elt Ideal)) (x3 : (⟨S4x512, .f32⟩ : BufTy).Contents (Elt Ideal)) (T : Fin 16896) (c : Fin 512) :
    val_main_v229 (F := Ideal) x0 x1 x2 (ix2 T c) = res6 x0 x1 x2 x3 T c := by
  obtain ⟨h, j, rfl⟩ := exists_headCol c
  rw [key_all]
  by_cases hT : T.val < 16384
  · obtain ⟨b, t, hb, rfl⟩ := prompt_token T hT
    rw [dif_pos hT]
    refine (key_rows_prompt x0 x1 x2 b t h j).trans ?_
    rw [← place_prompt b t hb]
    exact (res6_at x0 x1 x2 x3 _ h j).symm
  · obtain ⟨b, t, hb, rfl⟩ := sample_token T hT
    rw [dif_neg hT]
    have e : ∀ q : Nat, 16384 + q - 16384 = q := fun q => Nat.add_sub_cancel_left 16384 q
    simp only [e]
    refine (key_rows_sample x0 x1 x2 b t h j).trans ?_
    rw [← place_sample b t hb]
    exact (res6_at x0 x1 x2 x3 _ h j).symm

end Cert.ReferenceInIdeal.Whole
-- ==== Proof.InClaim.lean ====
/-
  The input projections' ten results equal the reference's.
-/
module

public import proofs.«01_k».proof.Proof.InValue
public import proofs.«01_k».proof.Proof.InRotary
public import proofs.«01_k».proof.Proof.Gen.ReferenceInIdeal.Run
public import proofs.«01_k».proof.Defs
public import Idealize.ShloMosaic.Lib.Claim

@[expose] public section

noncomputable section

namespace Cert.Proof

open Idealize.ShloMosaic Idealize.ShloMosaic.TcCoe Idealize.ShloMosaic.StableHlo Idealize.SL.Sem

/-- The reference's result 0 is the kernel's, for equal arguments. -/
theorem in_eq0 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v78 (F := Ideal) x0 x1 x2 = Cert.KernelInIdeal.Whole.G0 m c := by
  funext i
  obtain ⟨T, j, rfl⟩ : ∃ (T : Fin 16896) (j : Fin 512), i = ix2 T j := ⟨i 0, i 1, Shape.idx_ext₂ rfl rfl⟩
  refine (Cert.ReferenceInIdeal.Whole.v78_at x0 x1 x2 x3 T j).trans ?_
  rw [h0, h1, h2, h3]
  rfl

/-- The reference's result 1 is the kernel's, for equal arguments. -/
theorem in_eq1 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v60 (F := Ideal) x0 x1 x2 x3 = Cert.KernelInIdeal.Whole.G1 m c := by
  funext i
  obtain ⟨T, j, rfl⟩ : ∃ (T : Fin 16896) (j : Fin 512), i = ix2 T j := ⟨i 0, i 1, Shape.idx_ext₂ rfl rfl⟩
  refine (Cert.ReferenceInIdeal.Whole.v60_at x0 x1 x2 x3 T j).trans ?_
  rw [h0, h1, h2, h3]
  rfl

/-- The reference's result 2 is the kernel's, for equal arguments. -/
theorem in_eq2 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v79 (F := Ideal) x0 x1 x2 x3 = Cert.KernelInIdeal.Whole.G2 m c := by
  funext i
  obtain ⟨T, j, rfl⟩ : ∃ (T : Fin 16896) (j : Fin 512), i = ix2 T j := ⟨i 0, i 1, Shape.idx_ext₂ rfl rfl⟩
  refine (Cert.ReferenceInIdeal.Whole.v79_at x0 x1 x2 x3 T j).trans ?_
  rw [h0, h1, h2, h3]
  rfl

/-- The reference's result 3 is the kernel's, for equal arguments. -/
theorem in_eq3 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v80 (F := Ideal) x0 x1 x2 = Cert.KernelInIdeal.Whole.G3 m c := by
  funext i
  obtain ⟨T, j, rfl⟩ : ∃ (T : Fin 16896) (j : Fin 512), i = ix2 T j := ⟨i 0, i 1, Shape.idx_ext₂ rfl rfl⟩
  refine (Cert.ReferenceInIdeal.Whole.v80_at x0 x1 x2 x3 T j).trans ?_
  rw [h0, h1, h2, h3]
  rfl

/-- The reference's result 4 is the kernel's, for equal arguments. -/
theorem in_eq4 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v82 (F := Ideal) x0 x1 x2 = Cert.KernelInIdeal.Whole.G4 m c := by
  funext i
  obtain ⟨T, j, rfl⟩ : ∃ (T : Fin 16896) (j : Fin 512), i = ix2 T j := ⟨i 0, i 1, Shape.idx_ext₂ rfl rfl⟩
  refine (Cert.ReferenceInIdeal.Whole.v82_at x0 x1 x2 x3 T j).trans ?_
  rw [h0, h1, h2, h3]
  rfl

/-- The reference's result 5 is the kernel's, for equal arguments. -/
theorem in_eq5 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v156 (F := Ideal) x0 x1 x2 = Cert.KernelInIdeal.Whole.G5 m c := by
  funext i
  obtain ⟨T, j, rfl⟩ : ∃ (T : Fin 16896) (j : Fin 512), i = ix2 T j := ⟨i 0, i 1, Shape.idx_ext₂ rfl rfl⟩
  refine (Cert.ReferenceInIdeal.Whole.v156_at x0 x1 x2 x3 T j).trans ?_
  rw [h0, h1, h2, h3]
  rfl

/-- The reference's result 6 is the kernel's, for equal arguments. -/
theorem in_eq6 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v229 (F := Ideal) x0 x1 x2 = Cert.KernelInIdeal.Whole.G6 m c := by
  funext i
  obtain ⟨T, j, rfl⟩ : ∃ (T : Fin 16896) (j : Fin 512), i = ix2 T j := ⟨i 0, i 1, Shape.idx_ext₂ rfl rfl⟩
  refine (Cert.ReferenceInIdeal.Whole.v229_at x0 x1 x2 x3 T j).trans ?_
  rw [h0, h1, h2, h3]
  rfl

/-- The reference's result 7 is the kernel's, for equal arguments. -/
theorem in_eq7 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v41 (F := Ideal) x0 x1 x2 = Cert.KernelInIdeal.Whole.G7 m c := by
  funext i
  obtain ⟨T, j, rfl⟩ : ∃ (T : Fin 16896) (j : Fin 512), i = ix2 T j := ⟨i 0, i 1, Shape.idx_ext₂ rfl rfl⟩
  refine (Cert.ReferenceInIdeal.Whole.v41_at x0 x1 x2 x3 T j).trans ?_
  rw [h0, h1, h2, h3]
  rfl

/-- The reference's result 8 is the kernel's, for equal arguments. -/
theorem in_eq8 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v236 (F := Ideal) x0 x1 x2 = Cert.KernelInIdeal.Whole.G8 m c := by
  funext i
  obtain ⟨T, j, rfl⟩ : ∃ (T : Fin 16896) (j : Fin 1024), i = ix2 T j := ⟨i 0, i 1, Shape.idx_ext₂ rfl rfl⟩
  refine (Cert.ReferenceInIdeal.Whole.v236_at x0 x1 x2 x3 T j).trans ?_
  rw [h0, h1, h2, h3]
  rfl

/-- The reference's result 9 is the kernel's, for equal arguments. -/
theorem in_eq9 (m : (ℓ : Loc Cert.KernelInIdeal.nD Cert.KernelInIdeal.τ Cert.KernelInIdeal.sig) → Buf (Elt Ideal) ℓ)
    (c : Dev Cert.KernelInIdeal.nD)
    {x0 : FVec Ideal ⟨2, ![16896, 1024]⟩ .f32} {x1 : FVec Ideal ⟨2, ![4, 1024]⟩ .f32}
    {x2 : FVec Ideal ⟨3, ![4, 1024, 5632]⟩ .f32} {x3 : FVec Ideal ⟨2, ![4, 512]⟩ .f32}
    (h0 : x0 = m (c.tc.loc Cert.KernelInIdeal.main_arg0)) (h1 : x1 = m (c.tc.loc Cert.KernelInIdeal.main_arg1))
    (h2 : x2 = m (c.tc.loc Cert.KernelInIdeal.main_arg2)) (h3 : x3 = m (c.tc.loc Cert.KernelInIdeal.main_arg3)) :
    Cert.ReferenceInIdeal.Read.val_main_v243 (F := Ideal) x0 x1 x2 = Cert.KernelInIdeal.Whole.G9 m c := by
  funext i
  obtain ⟨T, j, rfl⟩ : ∃ (T : Fin 16896) (j : Fin 1024), i = ix2 T j := ⟨i 0, i 1, Shape.idx_ext₂ rfl rfl⟩
  refine (Cert.ReferenceInIdeal.Whole.v243_at x0 x1 x2 x3 T j).trans ?_
  rw [h0, h1, h2, h3]
  rfl

/-- The kernel's ten result arrays equal the reference's. -/
theorem algebraic_in : Cert.algebraic_KernelInIdeal_ReferenceInIdeal := by
  intro m g m' g' _ hagree
  refine ⟨fun c => Cert.KernelInIdeal.Whole.G0 m c, fun c => Cert.KernelInIdeal.Whole.G1 m c, fun c => Cert.KernelInIdeal.Whole.G2 m c, fun c => Cert.KernelInIdeal.Whole.G3 m c, fun c => Cert.KernelInIdeal.Whole.G4 m c, fun c => Cert.KernelInIdeal.Whole.G5 m c, fun c => Cert.KernelInIdeal.Whole.G6 m c, fun c => Cert.KernelInIdeal.Whole.G7 m c, fun c => Cert.KernelInIdeal.Whole.G8 m c, fun c => Cert.KernelInIdeal.Whole.G9 m c, ?_, ?_⟩
  · refine (θ_run Cert.KernelInIdeal.defs _ _).mono (fun r h c => ?_) (Cert.KernelInIdeal.Value.run_blocks m g)
    obtain ⟨r0, r1, r2, r3, r4, r5, r6, r7, r8, r9, rest⟩ := h c
    exact ⟨r0.trans (Cert.KernelInIdeal.Whole.final0 m c), r1.trans (Cert.KernelInIdeal.Whole.final1 m c), r2.trans (Cert.KernelInIdeal.Whole.final2 m c), r3.trans (Cert.KernelInIdeal.Whole.final3 m c), r4.trans (Cert.KernelInIdeal.Whole.final4 m c), r5.trans (Cert.KernelInIdeal.Whole.final5 m c), r6.trans (Cert.KernelInIdeal.Whole.final6 m c), r7.trans (Cert.KernelInIdeal.Whole.final7 m c), r8.trans (Cert.KernelInIdeal.Whole.final8 m c), r9.trans (Cert.KernelInIdeal.Whole.final9 m c), rest⟩
  · refine (θ_run Cert.ReferenceInIdeal.defs _ _).mono (fun r h c => ?_) (Cert.ReferenceInIdeal.Value.run m' g')
    obtain ⟨h0, h1, h2, h3⟩ := hagree c
    replace h := h c
    obtain ⟨r0, r1, r2, r3, r4, r5, r6, r7, r8, r9, rest⟩ := h
    refine ⟨?_, ?_, ?_, ?_, ?_, ?_, ?_, ?_, ?_, ?_, rest⟩
    · clear r1 r2 r3 r4 r5 r6 r7 r8 r9 rest
      exact r0.trans ((Cert.ReferenceInIdeal.Read.val_main_v78_eq (launchContents m' c)).trans (in_eq0 m c h0 h1 h2 h3))
    · clear r0 r2 r3 r4 r5 r6 r7 r8 r9 rest
      exact r1.trans ((Cert.ReferenceInIdeal.Read.val_main_v60_eq (launchContents m' c)).trans (in_eq1 m c h0 h1 h2 h3))
    · clear r0 r1 r3 r4 r5 r6 r7 r8 r9 rest
      exact r2.trans ((Cert.ReferenceInIdeal.Read.val_main_v79_eq (launchContents m' c)).trans (in_eq2 m c h0 h1 h2 h3))
    · clear r0 r1 r2 r4 r5 r6 r7 r8 r9 rest
      exact r3.trans ((Cert.ReferenceInIdeal.Read.val_main_v80_eq (launchContents m' c)).trans (in_eq3 m c h0 h1 h2 h3))
    · clear r0 r1 r2 r3 r5 r6 r7 r8 r9 rest
      exact r4.trans ((Cert.ReferenceInIdeal.Read.val_main_v82_eq (launchContents m' c)).trans (in_eq4 m c h0 h1 h2 h3))
    · clear r0 r1 r2 r3 r4 r6 r7 r8 r9 rest
      exact r5.trans ((Cert.ReferenceInIdeal.Read.val_main_v156_eq (launchContents m' c)).trans (in_eq5 m c h0 h1 h2 h3))
    · clear r0 r1 r2 r3 r4 r5 r7 r8 r9 rest
      exact r6.trans ((Cert.ReferenceInIdeal.Read.val_main_v229_eq (launchContents m' c)).trans (in_eq6 m c h0 h1 h2 h3))
    · clear r0 r1 r2 r3 r4 r5 r6 r8 r9 rest
      exact r7.trans ((Cert.ReferenceInIdeal.Read.val_main_v41_eq (launchContents m' c)).trans (in_eq7 m c h0 h1 h2 h3))
    · clear r0 r1 r2 r3 r4 r5 r6 r7 r9 rest
      exact r8.trans ((Cert.ReferenceInIdeal.Read.val_main_v236_eq (launchContents m' c)).trans (in_eq8 m c h0 h1 h2 h3))
    · clear r0 r1 r2 r3 r4 r5 r6 r7 r8 rest
      exact r9.trans ((Cert.ReferenceInIdeal.Read.val_main_v243_eq (launchContents m' c)).trans (in_eq9 m c h0 h1 h2 h3))

end Cert.Proof
-- ==== Proof.FfnBlock.lean ====
/-
  The fused merge-and-feed-forward kernel's block of 512 tokens, read at an index: row `r` of what the body stores is the
  one-token function of FfnMath at row `r` of its input blocks.
-/
module

public import proofs.«01_k».proof.Proof.FfnMath
public import proofs.«01_k».proof.Proof.Gen.KernelFfnIdeal.Frame

@[expose] public section

noncomputable section

namespace Cert.KernelFfnIdeal.Block

open Idealize.ShloMosaic Idealize.ShloMosaic.TcCoe
open Cert.KernelFfnIdeal Cert.KernelFfnIdeal.Gen Cert.FfnMath
open scoped BigOperators

/-- The merge, output projection and first residual of a block, at row `r`. -/
theorem pay1_apply (v0 : Vec Ideal S512x1024 .bf16) (v2 : Vec Ideal S512x512 .bf16) (v3 : Vec Ideal S512x1024 .bf16)
    (v7 : Vec Ideal S512x1024 .bf16) (v9 : Vec Ideal S512x512 .bf16) (v10 : Vec Ideal S512x1024 .bf16)
    (v15 : Vec Ideal S512x1024 .f32) (v17 : Vec Ideal S1024x1024 .bf16) (v20 : Vec Ideal S1x1024 .f32) (r : Fin 512) (j : Fin 1024) :
    k0_pay1 (F := Ideal) v0 v2 v3 v7 v9 v10 v15 v17 v20 (ix2 r j)
      = mixed (fun c => v15 (ix2 r c))
          (merged (fun c => v0 (ix2 r c)) (fun c => v7 (ix2 r c)) (fun i => v2 (ix2 r i)) (fun i => v9 (ix2 r i))
            (fun i c => v3 (ix2 i c)) (fun i c => v10 (ix2 i c)))
          (fun k c => v17 (ix2 k c)) (fun c => v20 (ix2 0 c)) j := by
  pointwise [k0_pay1, mixed, merged, rms]

/-- The normalised input of the feed-forward half, at row `r`. -/
theorem pay2_apply (v34 : Vec Ideal S512x1024 .f32) (v35 : Vec Ideal S1x1024 .f32) (r : Fin 512) (j : Fin 1024) :
    k0_pay2 (F := Ideal) v34 v35 (ix2 r j) = rms (fun c => v34 (ix2 r c)) (fun c => v35 (ix2 0 c)) j := by
  pointwise [k0_pay2, rms]

/-- The first two groups of hidden units, accumulated. -/
theorem pay3_apply (v34 : Vec Ideal S512x1024 .f32) (v35 : Vec Ideal S1x1024 .f32) (u0 d0 u1 d1 : Vec Ideal S1024x1024 .bf16)
    (r : Fin 512) (j : Fin 1024) :
    k0_pay3 (F := Ideal) v34 v35 u0 d0 u1 d1 (ix2 r j)
      = (∑ c : Fin 1024, up (fun k => k0_pay2 (F := Ideal) v34 v35 (ix2 r k)) (fun k => u0 (ix2 k c)) * d0 (ix2 c j))
        + (∑ c : Fin 1024, up (fun k => k0_pay2 (F := Ideal) v34 v35 (ix2 r k)) (fun k => u1 (ix2 k c)) * d1 (ix2 c j)) := by
  unfold k0_pay3
  generalize k0_pay2 (F := Ideal) v34 v35 = h
  pointwise [up]

/-- The last two groups, the second normalisation and the second residual. -/
theorem pay4_apply (x : Vec Ideal S512x1024 .f32) (h : Vec Ideal S512x1024 .bf16) (acc : Vec Ideal S512x1024 .f32)
    (u2 d2 u3 d3 : Vec Ideal S1024x1024 .bf16) (g : Vec Ideal S1x1024 .f32) (r : Fin 512) (j : Fin 1024) :
    k0_pay4 (F := Ideal) x h acc u2 d2 u3 d3 g (ix2 r j)
      = x (ix2 r j) + rms (fun j => acc (ix2 r j)
            + (∑ c : Fin 1024, up (fun k => h (ix2 r k)) (fun k => u2 (ix2 k c)) * d2 (ix2 c j))
            + (∑ c : Fin 1024, up (fun k => h (ix2 r k)) (fun k => u3 (ix2 k c)) * d3 (ix2 c j)))
          (fun c => g (ix2 0 c)) j := by
  pointwise [k0_pay4, up, rms]

theorem hz : (![0, 0] : Fin 2 → Nat) = fun _ => 0 := funext fun a => by fin_cases a <;> rfl

/-- A load of a whole block is the block. -/
theorem ld_whole : (∀ x : Vec Ideal S512x1024 .f32, View.ld x r0_0 = x) ∧ (∀ x : Vec Ideal S512x1024 .bf16, View.ld x r0_0 = x)
    ∧ (∀ x : Vec Ideal S512x512 .bf16, View.ld x r0_1 = x) ∧ (∀ x : Vec Ideal S1024x1024 .bf16, View.ld x r0_2 = x)
    ∧ (∀ x : Vec Ideal S1x1024 .f32, View.ld x r0_3 = x) :=
  ⟨fun _ => View.ld_unit_zero hz _ _, fun _ => View.ld_unit_zero hz _ _, fun _ => View.ld_unit_zero hz _ _,
    fun _ => View.ld_unit_zero hz _ _, fun _ => View.ld_unit_zero hz _ _⟩

/-- The four loads of the up-projection's weight are its four groups of columns. -/
theorem ld_up (w : Vec Ideal S1024x4096 .bf16) (k c : Fin 1024) :
    View.ld w r0_4 (ix2 k c) = w (ix2 k (unit 0 c)) ∧ View.ld w r0_6 (ix2 k c) = w (ix2 k (unit 1 c))
    ∧ View.ld w r0_8 (ix2 k c) = w (ix2 k (unit 2 c)) ∧ View.ld w r0_10 (ix2 k c) = w (ix2 k (unit 3 c)) := by
  refine ⟨congrArg w (Shape.idx_ext₂ ?_ ?_), congrArg w (Shape.idx_ext₂ ?_ ?_), congrArg w (Shape.idx_ext₂ ?_ ?_),
    congrArg w (Shape.idx_ext₂ ?_ ?_)⟩
  · show 0 + 1 * k.val = k.val; omega
  · show 0 + 1 * c.val = 0 * 1024 + c.val; omega
  · show 0 + 1 * k.val = k.val; omega
  · show 1024 + 1 * c.val = 1 * 1024 + c.val; omega
  · show 0 + 1 * k.val = k.val; omega
  · show 2048 + 1 * c.val = 2 * 1024 + c.val; omega
  · show 0 + 1 * k.val = k.val; omega
  · show 3072 + 1 * c.val = 3 * 1024 + c.val; omega

/-- The four loads of the down-projection's weight are its four groups of rows. -/
theorem ld_down (w : Vec Ideal S4096x1024 .bf16) (c k : Fin 1024) :
    View.ld w r0_5 (ix2 c k) = w (ix2 (unit 0 c) k) ∧ View.ld w r0_7 (ix2 c k) = w (ix2 (unit 1 c) k)
    ∧ View.ld w r0_9 (ix2 c k) = w (ix2 (unit 2 c) k) ∧ View.ld w r0_11 (ix2 c k) = w (ix2 (unit 3 c) k) := by
  refine ⟨congrArg w (Shape.idx_ext₂ ?_ ?_), congrArg w (Shape.idx_ext₂ ?_ ?_), congrArg w (Shape.idx_ext₂ ?_ ?_),
    congrArg w (Shape.idx_ext₂ ?_ ?_)⟩
  · show 0 + 1 * c.val = 0 * 1024 + c.val; omega
  · show 0 + 1 * k.val = k.val; omega
  · show 1024 + 1 * c.val = 1 * 1024 + c.val; omega
  · show 0 + 1 * k.val = k.val; omega
  · show 2048 + 1 * c.val = 2 * 1024 + c.val; omega
  · show 0 + 1 * k.val = k.val; omega
  · show 3072 + 1 * c.val = 3 * 1024 + c.val; omega
  · show 0 + 1 * k.val = k.val; omega

/-- What the body stores, at row `r` and feature `j`: the one-token function of row `r` of its blocks. -/
theorem out_apply (x0 : Vec Ideal S512x1024 .f32) (x1 x2 : Vec Ideal S512x512 .bf16) (x3 x4 : Vec Ideal S512x1024 .bf16)
    (x5 x6 : Vec Ideal S512x1024 .bf16) (x7 : Vec Ideal S1024x1024 .bf16) (x8 : Vec Ideal S1024x4096 .bf16)
    (x9 : Vec Ideal S4096x1024 .bf16) (x10 x11 x12 : Vec Ideal S1x1024 .f32) (r : Fin 512) (j : Fin 1024) :
    out0_13 (F := Ideal) x0 x1 x2 x3 x4 x5 x6 x7 x8 x9 x10 x11 x12 (ix2 r j)
      = ffn (mixed (fun c => x0 (ix2 r c))
          (merged (fun c => x3 (ix2 r c)) (fun c => x4 (ix2 r c)) (fun i => x1 (ix2 r i)) (fun i => x2 (ix2 r i))
            (fun i c => x5 (ix2 i c)) (fun i c => x6 (ix2 i c)))
          (fun k c => x7 (ix2 k c)) (fun c => x10 (ix2 0 c)))
        (fun c => x11 (ix2 0 c)) (fun k i => x8 (ix2 k i)) (fun i c => x9 (ix2 i c)) (fun c => x12 (ix2 0 c)) j := by
  unfold_out out0_13
  rw [View.canon_unit_zero hz, ld_whole.2.2.2.2 x12, pay4_apply]
  simp only [pay3_apply, pay2_apply, pay1_apply, (ld_up x8 _ _).1, (ld_up x8 _ _).2.1, (ld_up x8 _ _).2.2.1, (ld_up x8 _ _).2.2.2,
    (ld_down x9 _ _).1, (ld_down x9 _ _).2.1, (ld_down x9 _ _).2.2.1, (ld_down x9 _ _).2.2.2, ld_whole.1, ld_whole.2.1, ld_whole.2.2.1, ld_whole.2.2.2.1,
    ld_whole.2.2.2.2]
  unfold ffn
  simp only [sum_units]

end Cert.KernelFfnIdeal.Block
-- ==== Proof.FfnValue.lean ====
/-
  The fused merge-and-feed-forward kernel's result array: at token `T` and feature `j` it is the one-token function of
  FfnMath at token `T`'s rows of the argument arrays and layer 3's weights.
-/
module

public import proofs.«01_k».proof.Proof.FfnBlock
public import proofs.«01_k».proof.Proof.Gen.KernelFfnIdeal.Value
public import Idealize.ShloMosaic.Lib.StableHlo.ReadAt

@[expose] public section

noncomputable section

namespace Cert.KernelFfnIdeal.Whole

open Idealize.ShloMosaic Idealize.ShloMosaic.TcCoe Idealize.SL.Sem
open Idealize.ShloMosaic.Pipeline (Dat Window)
open Cert.KernelFfnIdeal Cert.KernelFfnIdeal.Gen Cert.FfnMath
open scoped BigOperators

variable (m : (ℓ : Loc nD τ sig) → Buf (Elt Ideal) ℓ)

/-- The token that row `r` of block `t` is. -/
def tok (t : Fin 33) (r : Fin 512) : Fin 16896 := ⟨512 * t.val + r.val, by omega⟩

/-- The grid has 33 points. -/
theorem lt33 (t : Fin cfg0.N) : t.val < 33 := by have h := t.isLt; have : cfg0.N = 33 := N_0; omega

/-- A point of the grid as a number below 33. -/
def pt (t : Fin cfg0.N) : Fin 33 := ⟨t.val, lt33 t⟩

/-- The block indices the windows over tokens take: block `t`, column block 0. -/
theorem index_rows : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_13.index t 0 = t.val ∧ win0_13.index t 1 = 0) := by
  decide +kernel

/-- The windows over weights and gains stay at block (0, 0), the whole array. -/
theorem index_whole : ∀ t : Fin cfg0.N,
    (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0)
    ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) := by
  decide +kernel

/-- Row `r` of block `t` of argument 0 is row `512 t + r` of the array. -/
theorem iblk0 (c : Dev nD) (t : Fin cfg0.N) (r : Fin 512) (j : Fin 1024) :
    iblk m c 0 t (ix2 r j) = m ((c : Thread nD τ).loc main_arg0) (ix2 (tok (pt t) r) j) := by
  have e : iblk m c 0 t (ix2 r j) = V m c main_arg0 ((win0_0.rect t).emb (ix2 r j)) := rfl
  rw [e, V_main_arg0]
  congr 1
  refine Shape.idx_ext₂ ((win0_0.rect_emb_val t _ 0).trans ?_) ((win0_0.rect_emb_val t _ 1).trans ?_)
  · rw [(index_rows t).1.1]; show t.val * 512 + r.val = 512 * t.val + r.val; omega
  · rw [(index_rows t).1.2]; show 0 * 1024 + j.val = j.val; omega

/-- Row `r` of block `t` of argument 1 is row `512 t + r` of the array. -/
theorem iblk1 (c : Dev nD) (t : Fin cfg0.N) (r : Fin 512) (j : Fin 512) :
    iblk m c 1 t (ix2 r j) = m ((c : Thread nD τ).loc main_arg1) (ix2 (tok (pt t) r) j) := by
  have e : iblk m c 1 t (ix2 r j) = V m c main_arg1 ((win0_1.rect t).emb (ix2 r j)) := rfl
  rw [e, V_main_arg1]
  congr 1
  refine Shape.idx_ext₂ ((win0_1.rect_emb_val t _ 0).trans ?_) ((win0_1.rect_emb_val t _ 1).trans ?_)
  · rw [(index_rows t).2.1.1]; show t.val * 512 + r.val = 512 * t.val + r.val; omega
  · rw [(index_rows t).2.1.2]; show 0 * 512 + j.val = j.val; omega

/-- Row `r` of block `t` of argument 2 is row `512 t + r` of the array. -/
theorem iblk2 (c : Dev nD) (t : Fin cfg0.N) (r : Fin 512) (j : Fin 512) :
    iblk m c 2 t (ix2 r j) = m ((c : Thread nD τ).loc main_arg2) (ix2 (tok (pt t) r) j) := by
  have e : iblk m c 2 t (ix2 r j) = V m c main_arg2 ((win0_2.rect t).emb (ix2 r j)) := rfl
  rw [e, V_main_arg2]
  congr 1
  refine Shape.idx_ext₂ ((win0_2.rect_emb_val t _ 0).trans ?_) ((win0_2.rect_emb_val t _ 1).trans ?_)
  · rw [(index_rows t).2.2.1.1]; show t.val * 512 + r.val = 512 * t.val + r.val; omega
  · rw [(index_rows t).2.2.1.2]; show 0 * 512 + j.val = j.val; omega

/-- Row `r` of block `t` of argument 3 is row `512 t + r` of the array. -/
theorem iblk3 (c : Dev nD) (t : Fin cfg0.N) (r : Fin 512) (j : Fin 1024) :
    iblk m c 3 t (ix2 r j) = m ((c : Thread nD τ).loc main_arg3) (ix2 (tok (pt t) r) j) := by
  have e : iblk m c 3 t (ix2 r j) = V m c main_arg3 ((win0_3.rect t).emb (ix2 r j)) := rfl
  rw [e, V_main_arg3]
  congr 1
  refine Shape.idx_ext₂ ((win0_3.rect_emb_val t _ 0).trans ?_) ((win0_3.rect_emb_val t _ 1).trans ?_)
  · rw [(index_rows t).2.2.2.1.1]; show t.val * 512 + r.val = 512 * t.val + r.val; omega
  · rw [(index_rows t).2.2.2.1.2]; show 0 * 1024 + j.val = j.val; omega

/-- Row `r` of block `t` of argument 4 is row `512 t + r` of the array. -/
theorem iblk4 (c : Dev nD) (t : Fin cfg0.N) (r : Fin 512) (j : Fin 1024) :
    iblk m c 4 t (ix2 r j) = m ((c : Thread nD τ).loc main_arg4) (ix2 (tok (pt t) r) j) := by
  have e : iblk m c 4 t (ix2 r j) = V m c main_arg4 ((win0_4.rect t).emb (ix2 r j)) := rfl
  rw [e, V_main_arg4]
  congr 1
  refine Shape.idx_ext₂ ((win0_4.rect_emb_val t _ 0).trans ?_) ((win0_4.rect_emb_val t _ 1).trans ?_)
  · rw [(index_rows t).2.2.2.2.1.1]; show t.val * 512 + r.val = 512 * t.val + r.val; omega
  · rw [(index_rows t).2.2.2.2.1.2]; show 0 * 1024 + j.val = j.val; omega

/-- Window 5 holds layer 3 of argument `arg8`. -/
theorem iblk5 (c : Dev nD) (t : Fin cfg0.N) (i : Fin 512) (j : Fin 1024) :
    iblk m c 5 t (ix2 i j) = m ((c : Thread nD τ).loc main_arg8) (ix3 3 i j) := by
  have e : iblk m c 5 t (ix2 i j) = V m c main_v6 ((win0_5.rect t).emb (ix2 i j)) := rfl
  have e' : (win0_5.rect t).emb (ix2 i j) = ix2 i j := by
    refine Shape.idx_ext₂ ((win0_5.rect_emb_val t _ 0).trans ?_) ((win0_5.rect_emb_val t _ 1).trans ?_)
    · rw [(index_whole t).1.1]; show 0 * 512 + i.val = i.val; omega
    · rw [(index_whole t).1.2]; show 0 * 1024 + j.val = j.val; omega
  rw [e, e']
  unfold V
  after_reads_at

/-- Window 6 holds layer 3 of argument `arg9`. -/
theorem iblk6 (c : Dev nD) (t : Fin cfg0.N) (i : Fin 512) (j : Fin 1024) :
    iblk m c 6 t (ix2 i j) = m ((c : Thread nD τ).loc main_arg9) (ix3 3 i j) := by
  have e : iblk m c 6 t (ix2 i j) = V m c main_v8 ((win0_6.rect t).emb (ix2 i j)) := rfl
  have e' : (win0_6.rect t).emb (ix2 i j) = ix2 i j := by
    refine Shape.idx_ext₂ ((win0_6.rect_emb_val t _ 0).trans ?_) ((win0_6.rect_emb_val t _ 1).trans ?_)
    · rw [(index_whole t).2.1.1]; show 0 * 512 + i.val = i.val; omega
    · rw [(index_whole t).2.1.2]; show 0 * 1024 + j.val = j.val; omega
  rw [e, e']
  unfold V
  after_reads_at

/-- Window 7 holds layer 3 of argument `arg10`. -/
theorem iblk7 (c : Dev nD) (t : Fin cfg0.N) (i : Fin 1024) (j : Fin 1024) :
    iblk m c 7 t (ix2 i j) = m ((c : Thread nD τ).loc main_arg10) (ix3 3 i j) := by
  have e : iblk m c 7 t (ix2 i j) = V m c main_v10 ((win0_7.rect t).emb (ix2 i j)) := rfl
  have e' : (win0_7.rect t).emb (ix2 i j) = ix2 i j := by
    refine Shape.idx_ext₂ ((win0_7.rect_emb_val t _ 0).trans ?_) ((win0_7.rect_emb_val t _ 1).trans ?_)
    · rw [(index_whole t).2.2.1.1]; show 0 * 1024 + i.val = i.val; omega
    · rw [(index_whole t).2.2.1.2]; show 0 * 1024 + j.val = j.val; omega
  rw [e, e']
  unfold V
  after_reads_at

/-- Window 8 holds layer 3 of argument `arg11`. -/
theorem iblk8 (c : Dev nD) (t : Fin cfg0.N) (i : Fin 1024) (j : Fin 4096) :
    iblk m c 8 t (ix2 i j) = m ((c : Thread nD τ).loc main_arg11) (ix3 3 i j) := by
  have e : iblk m c 8 t (ix2 i j) = V m c main_v12 ((win0_8.rect t).emb (ix2 i j)) := rfl
  have e' : (win0_8.rect t).emb (ix2 i j) = ix2 i j := by
    refine Shape.idx_ext₂ ((win0_8.rect_emb_val t _ 0).trans ?_) ((win0_8.rect_emb_val t _ 1).trans ?_)
    · rw [(index_whole t).2.2.2.1.1]; show 0 * 1024 + i.val = i.val; omega
    · rw [(index_whole t).2.2.2.1.2]; show 0 * 4096 + j.val = j.val; omega
  rw [e, e']
  unfold V
  after_reads_at

/-- Window 9 holds layer 3 of argument `arg12`. -/
theorem iblk9 (c : Dev nD) (t : Fin cfg0.N) (i : Fin 4096) (j : Fin 1024) :
    iblk m c 9 t (ix2 i j) = m ((c : Thread nD τ).loc main_arg12) (ix3 3 i j) := by
  have e : iblk m c 9 t (ix2 i j) = V m c main_v14 ((win0_9.rect t).emb (ix2 i j)) := rfl
  have e' : (win0_9.rect t).emb (ix2 i j) = ix2 i j := by
    refine Shape.idx_ext₂ ((win0_9.rect_emb_val t _ 0).trans ?_) ((win0_9.rect_emb_val t _ 1).trans ?_)
    · rw [(index_whole t).2.2.2.2.1.1]; show 0 * 4096 + i.val = i.val; omega
    · rw [(index_whole t).2.2.2.2.1.2]; show 0 * 1024 + j.val = j.val; omega
  rw [e, e']
  unfold V
  after_reads_at

/-- Window 10 holds layer 3's row of argument `arg5`. -/
theorem iblk10 (c : Dev nD) (t : Fin cfg0.N) (j : Fin 1024) :
    iblk m c 10 t (ix2 0 j) = m ((c : Thread nD τ).loc main_arg5) (ix2 3 j) := by
  have e : iblk m c 10 t (ix2 0 j) = V m c main_v17 ((win0_10.rect t).emb (ix2 0 j)) := rfl
  have e' : (win0_10.rect t).emb (ix2 0 j) = ix2 0 j := by
    refine Shape.idx_ext₂ ((win0_10.rect_emb_val t _ 0).trans ?_) ((win0_10.rect_emb_val t _ 1).trans ?_)
    · rw [(index_whole t).2.2.2.2.2.1.1]; rfl
    · rw [(index_whole t).2.2.2.2.2.1.2]; show 0 * 1024 + j.val = j.val; omega
  rw [e, e']
  unfold V
  after_reads_at

/-- Window 11 holds layer 3's row of argument `arg6`. -/
theorem iblk11 (c : Dev nD) (t : Fin cfg0.N) (j : Fin 1024) :
    iblk m c 11 t (ix2 0 j) = m ((c : Thread nD τ).loc main_arg6) (ix2 3 j) := by
  have e : iblk m c 11 t (ix2 0 j) = V m c main_v20 ((win0_11.rect t).emb (ix2 0 j)) := rfl
  have e' : (win0_11.rect t).emb (ix2 0 j) = ix2 0 j := by
    refine Shape.idx_ext₂ ((win0_11.rect_emb_val t _ 0).trans ?_) ((win0_11.rect_emb_val t _ 1).trans ?_)
    · rw [(index_whole t).2.2.2.2.2.2.1.1]; rfl
    · rw [(index_whole t).2.2.2.2.2.2.1.2]; show 0 * 1024 + j.val = j.val; omega
  rw [e, e']
  unfold V
  after_reads_at

/-- Window 12 holds layer 3's row of argument `arg7`. -/
theorem iblk12 (c : Dev nD) (t : Fin cfg0.N) (j : Fin 1024) :
    iblk m c 12 t (ix2 0 j) = m ((c : Thread nD τ).loc main_arg7) (ix2 3 j) := by
  have e : iblk m c 12 t (ix2 0 j) = V m c main_v23 ((win0_12.rect t).emb (ix2 0 j)) := rfl
  have e' : (win0_12.rect t).emb (ix2 0 j) = ix2 0 j := by
    refine Shape.idx_ext₂ ((win0_12.rect_emb_val t _ 0).trans ?_) ((win0_12.rect_emb_val t _ 1).trans ?_)
    · rw [(index_whole t).2.2.2.2.2.2.2.1]; rfl
    · rw [(index_whole t).2.2.2.2.2.2.2.2]; show 0 * 1024 + j.val = j.val; omega
  rw [e, e']
  unfold V
  after_reads_at

/-- The whole result array: `at_` of the argument arrays. -/
def G (c : Dev nD) : Buf (Elt Ideal) ((c : Thread nD τ).loc main_v24) := fun i =>
  at_ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (i 0) (i 1)

/-- What point `t` writes back is block `t` of `G`. -/
theorem flushed_eq (c : Dev nD) (t : Fin cfg0.N) : (dats m 0 c).flushed 13 t = ((cfg0.win 13).blk t).view.read (Elt Ideal) (G m c) := by
  rw [Value.flushed13]
  funext y
  obtain ⟨r, j, rfl⟩ : ∃ (r : Fin 512) (j : Fin 1024), y = ix2 r j := ⟨y 0, y 1, Shape.idx_ext₂ rfl rfl⟩
  refine (Block.out_apply _ _ _ _ _ _ _ _ _ _ _ _ _ r j).trans ?_
  simp only [iblk0 m c t, iblk1 m c t, iblk2 m c t, iblk3 m c t, iblk4 m c t, iblk5 m c t, iblk6 m c t, iblk7 m c t, iblk8 m c t,
    iblk9 m c t, iblk10 m c t, iblk11 m c t, iblk12 m c t]
  have e : ((cfg0.win 13).blk t).view.read (Elt Ideal) (G m c) (ix2 r j) = G m c ((win0_13.rect t).emb (ix2 r j)) := rfl
  have e' : (win0_13.rect t).emb (ix2 r j) = ix2 (tok (pt t) r) j := by
    refine Shape.idx_ext₂ ((win0_13.rect_emb_val t _ 0).trans ?_) ((win0_13.rect_emb_val t _ 1).trans ?_)
    · rw [(index_rows t).2.2.2.2.2.1]; show t.val * 512 + r.val = 512 * t.val + r.val; omega
    · rw [(index_rows t).2.2.2.2.2.2]; show 0 * 1024 + j.val = j.val; omega
  rw [e, e']
  rfl

/-- An index whose token lies among block `t`'s rows is in block `t`. -/
theorem mem_blk (t : Fin cfg0.N) (i : S16896x1024.Idx) (h : t.val * 512 ≤ (i 0 : Nat)) (h' : (i 0 : Nat) < t.val * 512 + 512) :
    i ∈ ((cfg0.win 13).blk t).view.set := by
  show i ∈ ((View.whole main_v24).slice (win0_13.rect t)).set
  rw [View.set_slice_whole, Rect.mem_set_unit]
  have h1 : (i 1 : Nat) < 1024 := (i 1).isLt
  have e := (index_rows t).2.2.2.2.2
  intro a
  match a with
  | ⟨0, _⟩ =>
    show win0_13.index t 0 * 512 ≤ (i 0 : Nat) ∧ (i 0 : Nat) < win0_13.index t 0 * 512 + 512
    rw [e.1]; exact ⟨h, h'⟩
  | ⟨1, _⟩ =>
    show win0_13.index t 1 * 1024 ≤ (i 1 : Nat) ∧ (i 1 : Nat) < win0_13.index t 1 * 1024 + 1024
    rw [e.2]; omega

/-- Every token lies in the block of its point. -/
theorem cover (i : S16896x1024.Idx) : ∃ t : Fin cfg0.N, (cfg0.win 13).flush t = true ∧ i ∈ ((cfg0.win 13).blk t).view.set := by
  have hN : cfg0.N = 33 := N_0
  have h0 : (i 0 : Nat) < 16896 := (i 0).isLt
  exact ⟨⟨(i 0 : Nat) / 512, by omega⟩, flush0_13 _, mem_blk _ i (by dsimp only; omega) (by dsimp only; omega)⟩

/-- So the result array ends holding `G`. -/
theorem final (c : Dev nD) : (dats m 0 c).arrAt 13 cfg0.N = G m c :=
  (dats m 0 c).arrAt_eq_of_cover 13 (G m c) (fun t _ => flushed_eq m c t) cover

end Cert.KernelFfnIdeal.Whole
-- ==== Proof.FfnReference.lean ====
/-
  The reference of the merge-and-feed-forward half as a straight line of host operations cut into five stages, and each
  stage read at an index from whatever the buffers hold before it: the merge of the branches (`mergeOps`), the output
  projection with its normalization and residual (`mixOps`), the normalization (`normOps`), the two weight matrices with
  the squared rectifier between them (`mlpOps`), the last normalization and residual (`lastOps`).
-/
module

public import proofs.«01_k».proof.Proof.FfnMath
public import proofs.«01_k».proof.Proof.Gen.ReferenceFfnIdeal
public import Idealize.ShloMosaic.Lib.StableHlo.ReadAt
public import Idealize.ShloMosaic.Lib.StableHlo.RunHlo
public import Idealize.ShloMosaic.Lib.Pipeline.Frame

@[expose] public section

noncomputable section

namespace Cert.ReferenceFfnIdeal.Whole

open Cert.ReferenceFfnIdeal Cert.ReferenceFfnIdeal.Gen Idealize.ShloMosaic Idealize.ShloMosaic.TcCoe Idealize.SL.Sem
  Idealize.ShloMosaic.StableHlo Cert.FfnMath
open scoped BigOperators

variable {F : FTy → Type} [FloatOps F]

/-- The merge of the branches. -/
abbrev mergeOps : List (HloOp τ sig (Elt F)) :=
  [ unary main_arg1 main_v0 ((extf .f32 · bitsLt_bf16_f32) : (⟨S16896x512, .bf16⟩ : BufTy).Contents (Elt F) → (⟨S16896x512, .f32⟩ : BufTy).Contents (Elt F)),
    unary main_arg2 main_v1 ((extf .f32 · bitsLt_bf16_f32) : (⟨S16896x512, .bf16⟩ : BufTy).Contents (Elt F) → (⟨S16896x512, .f32⟩ : BufTy).Contents (Elt F)),
    unary main_arg3 main_v2 ((extf .f32 · bitsLt_bf16_f32) : (⟨S16896x1024, .bf16⟩ : BufTy).Contents (Elt F) → (⟨S16896x1024, .f32⟩ : BufTy).Contents (Elt F)),
    unary main_arg4 main_v3 ((extf .f32 · bitsLt_bf16_f32) : (⟨S16896x1024, .bf16⟩ : BufTy).Contents (Elt F) → (⟨S16896x1024, .f32⟩ : BufTy).Contents (Elt F)),
    unary main_arg8 main_v4 ((extractStridedSlice S1x512x1024 ![3, 0, 0] · slices_S4x512x1024_S1x512x1024_3_0_0) : (⟨S4x512x1024, .f32⟩ : BufTy).Contents (Elt F) → (⟨S1x512x1024, .f32⟩ : BufTy).Contents (Elt F)),
    reshape main_v4 main_v5 (rfl : (.f32 : EltTy) = .f32) shapeCasts_S1x512x1024_S512x1024,
    binary main_v0 main_v5 main_v6 ((fun l r => Host.dotGeneral dot_S16896x512_S512x1024_S16896x1024_1_0_0_1_n_n none l r) : (⟨S16896x512, .f32⟩ : BufTy).Contents (Elt F) → (⟨S512x1024, .f32⟩ : BufTy).Contents (Elt F) → (⟨S16896x1024, .f32⟩ : BufTy).Contents (Elt F)),
    binary main_v2 main_v6 main_v7 (mulf : (⟨S16896x1024, .f32⟩ : BufTy).Contents (Elt F) → (⟨S16896x1024, .f32⟩ : BufTy).Contents (Elt F) → (⟨S16896x1024, .f32⟩ : BufTy).Contents (Elt F)),
    unary main_arg9 main_v8 ((extractStridedSlice S1x512x1024 ![3, 0, 0] · slices_S4x512x1024_S1x512x1024_3_0_0) : (⟨S4x512x1024, .f32⟩ : BufTy).Contents (Elt F) → (⟨S1x512x1024, .f32⟩ : BufTy).Contents (Elt F)),
    reshape main_v8 main_v9 (rfl : (.f32 : EltTy) = .f32) shapeCasts_S1x512x1024_S512x1024,
    binary main_v1 main_v9 main_v10 ((fun l r => Host.dotGeneral dot_S16896x512_S512x1024_S16896x1024_1_0_0_1_n_n none l r) : (⟨S16896x512, .f32⟩ : BufTy).Contents (Elt F) → (⟨S512x1024, .f32⟩ : BufTy).Contents (Elt F) → (⟨S16896x1024, .f32⟩ : BufTy).Contents (Elt F)),
    binary main_v3 main_v10 main_v11 (mulf : (⟨S16896x1024, .f32⟩ : BufTy).Contents (Elt F) → (⟨S16896x1024, .f32⟩ : BufTy).Contents (Elt F) → (⟨S16896x1024, .f32⟩ : BufTy).Contents (Elt F)),
    binary main_v7 main_v11 main_v12 (addf : (⟨S16896x1024, .f32⟩ : BufTy).Contents (Elt F) → (⟨S16896x1024, .f32⟩ : BufTy).Contents (Elt F) → (⟨S16896x1024, .f32⟩ : BufTy).Contents (Elt F)) ]

/-- The output projection, its normalization and the residual. -/
abbrev mixOps : List (HloOp τ sig (Elt F)) :=
  [ unary main_arg10 main_v13 ((extractStridedSlice S1x1024x1024 ![3, 0, 0] · slices_S4x1024x1024_S1x1024x1024_3_0_0) : (⟨S4x1024x1024, .f32⟩ : BufTy).Contents (Elt F) → (⟨S1x1024x1024, .f32⟩ : BufTy).Contents (Elt F)),
    reshape main_v13 main_v14 (rfl : (.f32 : EltTy) = .f32) shapeCasts_S1x1024x1024_S1024x1024,
    binary main_v12 main_v14 main_v15 ((fun l r => Host.dotGeneral dot_S16896x1024_S1024x1024_S16896x1024_1_0_0_1_n_n none l r) : (⟨S16896x1024, .f32⟩ : BufTy).Contents (Elt F) → (⟨S1024x1024, .f32⟩ : BufTy).Contents (Elt F) → (⟨S16896x1024, .f32⟩ : BufTy).Contents (Elt F)),
    unary main_arg5 main_v16 ((extractStridedSlice S1x1024 ![3, 0] · slices_S4x1024_S1x1024_3_0) : (⟨S4x1024, .f32⟩ : BufTy).Contents (Elt F) → (⟨S1x1024, .f32⟩ : BufTy).Contents (Elt F)),
    reshape main_v16 main_v17 (rfl : (.f32 : EltTy) = .f32) shapeCasts_S1x1024_S1024,
    binary main_v15 main_v15 main_v18 (mulf : (⟨S16896x1024, .f32⟩ : BufTy).Contents (Elt F) → (⟨S16896x1024, .f32⟩ : BufTy).Contents (Elt F) → (⟨S16896x1024, .f32⟩ : BufTy).Contents (Elt F)),
    nullary main_cst (constant S_ .f32 0x00000000#32),
    binary main_v18 main_cst main_v19 ((fun x v => Host.reduceAdd x v reducesTo_S16896x1024_S16896_d1 h_S_) : (⟨S16896x1024, .f32⟩ : BufTy).Contents (Elt F) → (⟨S_, .f32⟩ : BufTy).Contents (Elt F) → (⟨S16896, .f32⟩ : BufTy).Contents (Elt F)),
    unary main_v19 main_v20 (broadcastInDim S16896x1 ![0] bcast_S16896_S16896x1_0 : (⟨S16896, .f32⟩ : BufTy).Contents (Elt F) → (⟨S16896x1, .f32⟩ : BufTy).Contents (Elt F)),
    nullary main_cst_0 (constant S_ .f32 0x44800000#32),
    unary main_cst_0 main_v21 (broadcastInDim S16896x1 ![] bcast_S_S16896x1 : (⟨S_, .f32⟩ : BufTy).Contents (Elt F) → (⟨S16896x1, .f32⟩ : BufTy).Contents (Elt F)),
    binary main_v20 main_v21 main_v22 (Host.divf : (⟨S16896x1, .f32⟩ : BufTy).Contents (Elt F) → (⟨S16896x1, .f32⟩ : BufTy).Contents (Elt F) → (⟨S16896x1, .f32⟩ : BufTy).Contents (Elt F)),
    nullary main_cst_1 (constant S_ .f32 0x358637BD#32),
    unary main_cst_1 main_v23 (broadcastInDim S16896x1 ![] bcast_S_S16896x1 : (⟨S_, .f32⟩ : BufTy).Contents (Elt F) → (⟨S16896x1, .f32⟩ : BufTy).Contents (Elt F)),
    binary main_v22 main_v23 main_v24 (addf : (⟨S16896x1, .f32⟩ : BufTy).Contents (Elt F) → (⟨S16896x1, .f32⟩ : BufTy).Contents (Elt F) → (⟨S16896x1, .f32⟩ : BufTy).Contents (Elt F)),
    unary main_v24 main_v25 (Host.rsqrt : (⟨S16896x1, .f32⟩ : BufTy).Contents (Elt F) → (⟨S16896x1, .f32⟩ : BufTy).Contents (Elt F)),
    unary main_v25 main_v26 (broadcastInDim S16896x1024 ![0, 1] bcast_S16896x1_S16896x1024_0_1 : (⟨S16896x1, .f32⟩ : BufTy).Contents (Elt F) → (⟨S16896x1024, .f32⟩ : BufTy).Contents (Elt F)),
    binary main_v15 main_v26 main_v27 (mulf : (⟨S16896x1024, .f32⟩ : BufTy).Contents (Elt F) → (⟨S16896x1024, .f32⟩ : BufTy).Contents (Elt F) → (⟨S16896x1024, .f32⟩ : BufTy).Contents (Elt F)),
    unary main_v17 main_v28 (broadcastInDim S1x1024 ![1] bcast_S1024_S1x1024_1 : (⟨S1024, .f32⟩ : BufTy).Contents (Elt F) → (⟨S1x1024, .f32⟩ : BufTy).Contents (Elt F)),
    unary main_v28 main_v29 (broadcastInDim S16896x1024 ![0, 1] bcast_S1x1024_S16896x1024_0_1 : (⟨S1x1024, .f32⟩ : BufTy).Contents (Elt F) → (⟨S16896x1024, .f32⟩ : BufTy).Contents (Elt F)),
    binary main_v27 main_v29 main_v30 (mulf : (⟨S16896x1024, .f32⟩ : BufTy).Contents (Elt F) → (⟨S16896x1024, .f32⟩ : BufTy).Contents (Elt F) → (⟨S16896x1024, .f32⟩ : BufTy).Contents (Elt F)),
    binary main_arg0 main_v30 main_v31 (addf : (⟨S16896x1024, .f32⟩ : BufTy).Contents (Elt F) → (⟨S16896x1024, .f32⟩ : BufTy).Contents (Elt F) → (⟨S16896x1024, .f32⟩ : BufTy).Contents (Elt F)) ]

/-- The normalization before the matrices. -/
abbrev normOps : List (HloOp τ sig (Elt F)) :=
  [ unary main_arg6 main_v32 ((extractStridedSlice S1x1024 ![3, 0] · slices_S4x1024_S1x1024_3_0) : (⟨S4x1024, .f32⟩ : BufTy).Contents (Elt F) → (⟨S1x1024, .f32⟩ : BufTy).Contents (Elt F)),
    reshape main_v32 main_v33 (rfl : (.f32 : EltTy) = .f32) shapeCasts_S1x1024_S1024,
    binary main_v31 main_v31 main_v34 (mulf : (⟨S16896x1024, .f32⟩ : BufTy).Contents (Elt F) → (⟨S16896x1024, .f32⟩ : BufTy).Contents (Elt F) → (⟨S16896x1024, .f32⟩ : BufTy).Contents (Elt F)),
    nullary main_cst_2 (constant S_ .f32 0x00000000#32),
    binary main_v34 main_cst_2 main_v35 ((fun x v => Host.reduceAdd x v reducesTo_S16896x1024_S16896_d1 h_S_) : (⟨S16896x1024, .f32⟩ : BufTy).Contents (Elt F) → (⟨S_, .f32⟩ : BufTy).Contents (Elt F) → (⟨S16896, .f32⟩ : BufTy).Contents (Elt F)),
    unary main_v35 main_v36 (broadcastInDim S16896x1 ![0] bcast_S16896_S16896x1_0 : (⟨S16896, .f32⟩ : BufTy).Contents (Elt F) → (⟨S16896x1, .f32⟩ : BufTy).Contents (Elt F)),
    nullary main_cst_3 (constant S_ .f32 0x44800000#32),
    unary main_cst_3 main_v37 (broadcastInDim S16896x1 ![] bcast_S_S16896x1 : (⟨S_, .f32⟩ : BufTy).Contents (Elt F) → (⟨S16896x1, .f32⟩ : BufTy).Contents (Elt F)),
    binary main_v36 main_v37 main_v38 (Host.divf : (⟨S16896x1, .f32⟩ : BufTy).Contents (Elt F) → (⟨S16896x1, .f32⟩ : BufTy).Contents (Elt F) → (⟨S16896x1, .f32⟩ : BufTy).Contents (Elt F)),
    nullary main_cst_4 (constant S_ .f32 0x358637BD#32),
    unary main_cst_4 main_v39 (broadcastInDim S16896x1 ![] bcast_S_S16896x1 : (⟨S_, .f32⟩ : BufTy).Contents (Elt F) → (⟨S16896x1, .f32⟩ : BufTy).Contents (Elt F)),
    binary main_v38 main_v39 main_v40 (addf : (⟨S16896x1, .f32⟩ : BufTy).Contents (Elt F) → (⟨S16896x1, .f32⟩ : BufTy).Contents (Elt F) → (⟨S16896x1, .f32⟩ : BufTy).Contents (Elt F)),
    unary main_v40 main_v41 (Host.rsqrt : (⟨S16896x1, .f32⟩ : BufTy).Contents (Elt F) → (⟨S16896x1, .f32⟩ : BufTy).Contents (Elt F)),
    unary main_v41 main_v42 (broadcastInDim S16896x1024 ![0, 1] bcast_S16896x1_S16896x1024_0_1 : (⟨S16896x1, .f32⟩ : BufTy).Contents (Elt F) → (⟨S16896x1024, .f32⟩ : BufTy).Contents (Elt F)),
    binary main_v31 main_v42 main_v43 (mulf : (⟨S16896x1024, .f32⟩ : BufTy).Contents (Elt F) → (⟨S16896x1024, .f32⟩ : BufTy).Contents (Elt F) → (⟨S16896x1024, .f32⟩ : BufTy).Contents (Elt F)),
    unary main_v33 main_v44 (broadcastInDim S1x1024 ![1] bcast_S1024_S1x1024_1 : (⟨S1024, .f32⟩ : BufTy).Contents (Elt F) → (⟨S1x1024, .f32⟩ : BufTy).Contents (Elt F)),
    unary main_v44 main_v45 (broadcastInDim S16896x1024 ![0, 1] bcast_S1x1024_S16896x1024_0_1 : (⟨S1x1024, .f32⟩ : BufTy).Contents (Elt F) → (⟨S16896x1024, .f32⟩ : BufTy).Contents (Elt F)),
    binary main_v43 main_v45 main_v46 (mulf : (⟨S16896x1024, .f32⟩ : BufTy).Contents (Elt F) → (⟨S16896x1024, .f32⟩ : BufTy).Contents (Elt F) → (⟨S16896x1024, .f32⟩ : BufTy).Contents (Elt F)) ]

/-- The two matrices and the squared rectifier. -/
abbrev mlpOps : List (HloOp τ sig (Elt F)) :=
  [ unary main_arg11 main_v47 ((extractStridedSlice S1x1024x4096 ![3, 0, 0] · slices_S4x1024x4096_S1x1024x4096_3_0_0) : (⟨S4x1024x4096, .f32⟩ : BufTy).Contents (Elt F) → (⟨S1x1024x4096, .f32⟩ : BufTy).Contents (Elt F)),
    reshape main_v47 main_v48 (rfl : (.f32 : EltTy) = .f32) shapeCasts_S1x1024x4096_S1024x4096,
    binary main_v46 main_v48 main_v49 ((fun l r => Host.dotGeneral dot_S16896x1024_S1024x4096_S16896x4096_1_0_0_1_n_n none l r) : (⟨S16896x1024, .f32⟩ : BufTy).Contents (Elt F) → (⟨S1024x4096, .f32⟩ : BufTy).Contents (Elt F) → (⟨S16896x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16896x4096, .f32⟩) main_call0_v0) (broadcastInDim S16896x4096 ![] bcast_S_S16896x4096),
    TRef.binary (TRef.of (T := ⟨S16896x4096, .f32⟩) main_v49) (TRef.of (T := ⟨S16896x4096, .f32⟩) main_call0_v0) (TRef.of (T := ⟨S16896x4096, .f32⟩) main_v50) maximumf,
    binary main_v50 main_v50 main_v51 (mulf : (⟨S16896x4096, .f32⟩ : BufTy).Contents (Elt F) → (⟨S16896x4096, .f32⟩ : BufTy).Contents (Elt F) → (⟨S16896x4096, .f32⟩ : BufTy).Contents (Elt F)),
    unary main_arg12 main_v52 ((extractStridedSlice S1x4096x1024 ![3, 0, 0] · slices_S4x4096x1024_S1x4096x1024_3_0_0) : (⟨S4x4096x1024, .f32⟩ : BufTy).Contents (Elt F) → (⟨S1x4096x1024, .f32⟩ : BufTy).Contents (Elt F)),
    reshape main_v52 main_v53 (rfl : (.f32 : EltTy) = .f32) shapeCasts_S1x4096x1024_S4096x1024,
    binary main_v51 main_v53 main_v54 ((fun l r => Host.dotGeneral dot_S16896x4096_S4096x1024_S16896x1024_1_0_0_1_n_n none l r) : (⟨S16896x4096, .f32⟩ : BufTy).Contents (Elt F) → (⟨S4096x1024, .f32⟩ : BufTy).Contents (Elt F) → (⟨S16896x1024, .f32⟩ : BufTy).Contents (Elt F)) ]

/-- The last normalization and the residual. -/
abbrev lastOps : List (HloOp τ sig (Elt F)) :=
  [ unary main_arg7 main_v55 ((extractStridedSlice S1x1024 ![3, 0] · slices_S4x1024_S1x1024_3_0) : (⟨S4x1024, .f32⟩ : BufTy).Contents (Elt F) → (⟨S1x1024, .f32⟩ : BufTy).Contents (Elt F)),
    reshape main_v55 main_v56 (rfl : (.f32 : EltTy) = .f32) shapeCasts_S1x1024_S1024,
    binary main_v54 main_v54 main_v57 (mulf : (⟨S16896x1024, .f32⟩ : BufTy).Contents (Elt F) → (⟨S16896x1024, .f32⟩ : BufTy).Contents (Elt F) → (⟨S16896x1024, .f32⟩ : BufTy).Contents (Elt F)),
    nullary main_cst_5 (constant S_ .f32 0x00000000#32),
    binary main_v57 main_cst_5 main_v58 ((fun x v => Host.reduceAdd x v reducesTo_S16896x1024_S16896_d1 h_S_) : (⟨S16896x1024, .f32⟩ : BufTy).Contents (Elt F) → (⟨S_, .f32⟩ : BufTy).Contents (Elt F) → (⟨S16896, .f32⟩ : BufTy).Contents (Elt F)),
    unary main_v58 main_v59 (broadcastInDim S16896x1 ![0] bcast_S16896_S16896x1_0 : (⟨S16896, .f32⟩ : BufTy).Contents (Elt F) → (⟨S16896x1, .f32⟩ : BufTy).Contents (Elt F)),
    nullary main_cst_6 (constant S_ .f32 0x44800000#32),
    unary main_cst_6 main_v60 (broadcastInDim S16896x1 ![] bcast_S_S16896x1 : (⟨S_, .f32⟩ : BufTy).Contents (Elt F) → (⟨S16896x1, .f32⟩ : BufTy).Contents (Elt F)),
    binary main_v59 main_v60 main_v61 (Host.divf : (⟨S16896x1, .f32⟩ : BufTy).Contents (Elt F) → (⟨S16896x1, .f32⟩ : BufTy).Contents (Elt F) → (⟨S16896x1, .f32⟩ : BufTy).Contents (Elt F)),
    nullary main_cst_7 (constant S_ .f32 0x358637BD#32),
    unary main_cst_7 main_v62 (broadcastInDim S16896x1 ![] bcast_S_S16896x1 : (⟨S_, .f32⟩ : BufTy).Contents (Elt F) → (⟨S16896x1, .f32⟩ : BufTy).Contents (Elt F)),
    binary main_v61 main_v62 main_v63 (addf : (⟨S16896x1, .f32⟩ : BufTy).Contents (Elt F) → (⟨S16896x1, .f32⟩ : BufTy).Contents (Elt F) → (⟨S16896x1, .f32⟩ : BufTy).Contents (Elt F)),
    unary main_v63 main_v64 (Host.rsqrt : (⟨S16896x1, .f32⟩ : BufTy).Contents (Elt F) → (⟨S16896x1, .f32⟩ : BufTy).Contents (Elt F)),
    unary main_v64 main_v65 (broadcastInDim S16896x1024 ![0, 1] bcast_S16896x1_S16896x1024_0_1 : (⟨S16896x1, .f32⟩ : BufTy).Contents (Elt F) → (⟨S16896x1024, .f32⟩ : BufTy).Contents (Elt F)),
    binary main_v54 main_v65 main_v66 (mulf : (⟨S16896x1024, .f32⟩ : BufTy).Contents (Elt F) → (⟨S16896x1024, .f32⟩ : BufTy).Contents (Elt F) → (⟨S16896x1024, .f32⟩ : BufTy).Contents (Elt F)),
    unary main_v56 main_v67 (broadcastInDim S1x1024 ![1] bcast_S1024_S1x1024_1 : (⟨S1024, .f32⟩ : BufTy).Contents (Elt F) → (⟨S1x1024, .f32⟩ : BufTy).Contents (Elt F)),
    unary main_v67 main_v68 (broadcastInDim S16896x1024 ![0, 1] bcast_S1x1024_S16896x1024_0_1 : (⟨S1x1024, .f32⟩ : BufTy).Contents (Elt F) → (⟨S16896x1024, .f32⟩ : BufTy).Contents (Elt F)),
    binary main_v66 main_v68 main_v69 (mulf : (⟨S16896x1024, .f32⟩ : BufTy).Contents (Elt F) → (⟨S16896x1024, .f32⟩ : BufTy).Contents (Elt F) → (⟨S16896x1024, .f32⟩ : BufTy).Contents (Elt F)),
    binary main_v31 main_v69 main_v70 (addf : (⟨S16896x1024, .f32⟩ : BufTy).Contents (Elt F) → (⟨S16896x1024, .f32⟩ : BufTy).Contents (Elt F) → (⟨S16896x1024, .f32⟩ : BufTy).Contents (Elt F)) ]

/-- The buffers' contents. -/
abbrev Vals := Valuation τ sig (Elt Ideal)

/-- The gated merge of the branches. -/
theorem merge_at (V : Vals) (T : Fin 16896) (k : Fin 1024) :
    after mergeOps V (Proc.devRef .tc main_v12) (ix2 T k)
      = merged (fun c => V (Proc.devRef .tc main_arg3) (ix2 T c)) (fun c => V (Proc.devRef .tc main_arg4) (ix2 T c))
          (fun i => V (Proc.devRef .tc main_arg1) (ix2 T i)) (fun i => V (Proc.devRef .tc main_arg2) (ix2 T i))
          (fun i c => V (Proc.devRef .tc main_arg8) (ix3 3 i c)) (fun i c => V (Proc.devRef .tc main_arg9) (ix3 3 i c)) k := by
  unfold merged
  after_reads_at

/-- The residual stream after the mixing half. -/
theorem mix_at (V : Vals) (T : Fin 16896) (j : Fin 1024) :
    after mixOps V (Proc.devRef .tc main_v31) (ix2 T j)
      = mixed (fun c => V (Proc.devRef .tc main_arg0) (ix2 T c)) (fun c => V (Proc.devRef .tc main_v12) (ix2 T c))
          (fun k c => V (Proc.devRef .tc main_arg10) (ix3 3 k c)) (fun c => V (Proc.devRef .tc main_arg5) (ix2 3 c)) j := by
  unfold mixed rms
  after_reads_at

/-- The normalization before the matrices. -/
theorem norm_at (V : Vals) (T : Fin 16896) (j : Fin 1024) :
    after normOps V (Proc.devRef .tc main_v46) (ix2 T j)
      = rms (fun c => V (Proc.devRef .tc main_v31) (ix2 T c)) (fun c => V (Proc.devRef .tc main_arg6) (ix2 3 c)) j := by
  unfold rms
  after_reads_at

/-- The two matrices and the squared rectifier. -/
theorem mlp_at (V : Vals) (T : Fin 16896) (j : Fin 1024) :
    after mlpOps V (Proc.devRef .tc main_v54) (ix2 T j)
      = ∑ i : Fin 4096, up (fun k => V (Proc.devRef .tc main_v46) (ix2 T k)) (fun k => V (Proc.devRef .tc main_arg11) (ix3 3 k i))
          * (V (Proc.devRef .tc main_arg12) (ix3 3 i j) : EReal) := by
  unfold up
  after_reads_at

/-- The last normalization and the residual. -/
theorem last_at (V : Vals) (T : Fin 16896) (j : Fin 1024) :
    after lastOps V (Proc.devRef .tc main_v70) (ix2 T j)
      = @HAdd.hAdd EReal EReal EReal instHAdd (V (Proc.devRef .tc main_v31) (ix2 T j))
        (rms (fun c => V (Proc.devRef .tc main_v54) (ix2 T c)) (fun c => V (Proc.devRef .tc main_arg7) (ix2 3 c)) j) := by
  unfold rms
  after_reads_at

/-- The whole line. -/
abbrev allOps : List (HloOp τ sig (Elt F)) := mergeOps ++ (mixOps ++ (normOps ++ (mlpOps ++ lastOps)))

/-- The arguments a later stage reads are what they were before the merge. -/
theorem merge_keeps (V : Vals) :
    after mergeOps V (Proc.devRef .tc main_arg0) = V (Proc.devRef .tc main_arg0)
    ∧ after mergeOps V (Proc.devRef .tc main_arg10) = V (Proc.devRef .tc main_arg10)
    ∧ after mergeOps V (Proc.devRef .tc main_arg5) = V (Proc.devRef .tc main_arg5)
    ∧ after mergeOps V (Proc.devRef .tc main_arg6) = V (Proc.devRef .tc main_arg6)
    ∧ after mergeOps V (Proc.devRef .tc main_arg7) = V (Proc.devRef .tc main_arg7)
    ∧ after mergeOps V (Proc.devRef .tc main_arg11) = V (Proc.devRef .tc main_arg11)
    ∧ after mergeOps V (Proc.devRef .tc main_arg12) = V (Proc.devRef .tc main_arg12) := by
  refine ⟨?_, ?_, ?_, ?_, ?_, ?_, ?_⟩ <;> after_reads_simp

/-- The arguments a later stage reads are what they were before the mixing half. -/
theorem mix_keeps (V : Vals) :
    after mixOps V (Proc.devRef .tc main_arg6) = V (Proc.devRef .tc main_arg6)
    ∧ after mixOps V (Proc.devRef .tc main_arg7) = V (Proc.devRef .tc main_arg7)
    ∧ after mixOps V (Proc.devRef .tc main_arg11) = V (Proc.devRef .tc main_arg11)
    ∧ after mixOps V (Proc.devRef .tc main_arg12) = V (Proc.devRef .tc main_arg12) := by
  refine ⟨?_, ?_, ?_, ?_⟩ <;> after_reads_simp

/-- What later stages read is what it was before the normalization. -/
theorem norm_keeps (V : Vals) :
    after normOps V (Proc.devRef .tc main_v31) = V (Proc.devRef .tc main_v31)
    ∧ after normOps V (Proc.devRef .tc main_arg7) = V (Proc.devRef .tc main_arg7)
    ∧ after normOps V (Proc.devRef .tc main_arg11) = V (Proc.devRef .tc main_arg11)
    ∧ after normOps V (Proc.devRef .tc main_arg12) = V (Proc.devRef .tc main_arg12) := by
  refine ⟨?_, ?_, ?_, ?_⟩ <;> after_reads_simp

/-- What the last stage reads is what it was before the matrices. -/
theorem mlp_keeps (V : Vals) :
    after mlpOps V (Proc.devRef .tc main_v31) = V (Proc.devRef .tc main_v31)
    ∧ after mlpOps V (Proc.devRef .tc main_arg7) = V (Proc.devRef .tc main_arg7) := by
  refine ⟨?_, ?_⟩ <;> after_reads_simp

/-- The result of the whole line at token `T` and feature `j`. -/
theorem all_at (V : Vals) (T : Fin 16896) (j : Fin 1024) :
    after allOps V (Proc.devRef .tc main_v70) (ix2 T j)
      = at_ (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11))
          (V (Proc.devRef .tc main_arg12)) T j := by
  have e : after allOps V = after lastOps (after mlpOps (after normOps (after mixOps (after mergeOps V)))) :=
    (after_append mergeOps _ V).trans ((after_append mixOps _ _).trans ((after_append normOps _ _).trans (after_append mlpOps lastOps _)))
  rw [e, last_at, (mlp_keeps _).1, (mlp_keeps _).2, (norm_keeps _).1, (norm_keeps _).2.1, (mix_keeps _).2.1, (merge_keeps _).2.2.2.2.1]
  rw [show (fun c => after mlpOps _ (Proc.devRef .tc main_v54) (ix2 T c)) = _ from funext fun c => mlp_at _ T c,
    (norm_keeps _).2.2.1, (norm_keeps _).2.2.2,
    show (fun c => after normOps _ (Proc.devRef .tc main_v46) (ix2 T c)) = _ from funext fun c => norm_at _ T c,
    (mix_keeps _).1, (mix_keeps _).2.2.1, (mix_keeps _).2.2.2, mix_at,
    show (fun c => after mixOps _ (Proc.devRef .tc main_v31) (ix2 T c)) = _ from funext fun c => mix_at _ T c,
    (merge_keeps _).1, (merge_keeps _).2.1, (merge_keeps _).2.2.1, (merge_keeps _).2.2.2.1, (merge_keeps _).2.2.2.2.2.1,
    (merge_keeps _).2.2.2.2.2.2,
    show (fun c => after mergeOps _ (Proc.devRef .tc main_v12) (ix2 T c)) = _ from funext fun c => merge_at _ T c]
  rfl

/-- The program runs to its line's contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after allOps (launchContents m c) (Proc.devRef .tc b) :=
  run_hlo defs main (ops := allOps) (fun _ => rfl) (by decide) (by decide) (by simp)
    (by intro _ h; (repeat (cases h with | head => rfl | tail _ h => ?_)); exact nomatch h) m ρ

/-- No operation writes an argument. -/
theorem keeps (V : Vals) :
    after allOps V (Proc.devRef .tc main_arg0) = V (Proc.devRef .tc main_arg0)
    ∧ after allOps V (Proc.devRef .tc main_arg1) = V (Proc.devRef .tc main_arg1)
    ∧ after allOps V (Proc.devRef .tc main_arg2) = V (Proc.devRef .tc main_arg2)
    ∧ after allOps V (Proc.devRef .tc main_arg3) = V (Proc.devRef .tc main_arg3)
    ∧ after allOps V (Proc.devRef .tc main_arg4) = V (Proc.devRef .tc main_arg4)
    ∧ after allOps V (Proc.devRef .tc main_arg5) = V (Proc.devRef .tc main_arg5)
    ∧ after allOps V (Proc.devRef .tc main_arg6) = V (Proc.devRef .tc main_arg6)
    ∧ after allOps V (Proc.devRef .tc main_arg7) = V (Proc.devRef .tc main_arg7)
    ∧ after allOps V (Proc.devRef .tc main_arg8) = V (Proc.devRef .tc main_arg8)
    ∧ after allOps V (Proc.devRef .tc main_arg9) = V (Proc.devRef .tc main_arg9)
    ∧ after allOps V (Proc.devRef .tc main_arg10) = V (Proc.devRef .tc main_arg10)
    ∧ after allOps V (Proc.devRef .tc main_arg11) = V (Proc.devRef .tc main_arg11)
    ∧ after allOps V (Proc.devRef .tc main_arg12) = V (Proc.devRef .tc main_arg12) := by
  refine ⟨?_, ?_, ?_, ?_, ?_, ?_, ?_, ?_, ?_, ?_, ?_, ?_, ?_⟩ <;> after_reads_simp

end Cert.ReferenceFfnIdeal.Whole
-- ==== Proof.FfnClaim.lean ====
/-
  The two claims about the merge-and-feed-forward half that its value decides: the reference leaves its arguments
  unchanged, and the kernel's result equals the reference's.
-/
module

public import proofs.«01_k».proof.Proof.FfnValue
public import proofs.«01_k».proof.Proof.FfnReference
public import proofs.«01_k».proof.Defs
public import Idealize.ShloMosaic.Lib.Claim

@[expose] public section

noncomputable section

namespace Cert.Proof

open Idealize.ShloMosaic Idealize.ShloMosaic.TcCoe Idealize.SL.Sem

/-- The reference's arguments end unchanged; it has no semaphore. -/
theorem frame_reference_ffn : Cert.quiescent_ReferenceFfnIdeal := by
  intro m g _
  refine (θ_run Cert.ReferenceFfnIdeal.defs _ _).mono (fun r h => ⟨fun c => ?_, sem_eq_zero_of_no_sems (by decide) r.2⟩)
    (Cert.ReferenceFfnIdeal.Whole.run m g)
  have k := Cert.ReferenceFfnIdeal.Whole.keeps (StableHlo.launchContents m c)
  simp only [h c]
  exact k

/-- The kernel's result array equals the reference's. -/
theorem algebraic_ffn : Cert.algebraic_KernelFfnIdeal_ReferenceFfnIdeal := by
  intro m g m' g' _ hagree
  refine ⟨fun c => Cert.KernelFfnIdeal.Whole.G m c, ?_, ?_⟩
  · refine (θ_run Cert.KernelFfnIdeal.defs _ _).mono (fun r h c => ?_) (Cert.KernelFfnIdeal.Value.run_blocks m g)
    exact ⟨(h c).1.trans (Cert.KernelFfnIdeal.Whole.final m c), (h c).2⟩
  · refine (θ_run Cert.ReferenceFfnIdeal.defs _ _).mono (fun r h c => ?_) (Cert.ReferenceFfnIdeal.Whole.run m' g')
    have k := Cert.ReferenceFfnIdeal.Whole.keeps (StableHlo.launchContents m' c)
    simp only [h c]
    refine ⟨?_, k⟩
    funext i
    obtain ⟨T, j, rfl⟩ : ∃ (T : Fin 16896) (j : Fin 1024), i = ix2 T j := ⟨i 0, i 1, Shape.idx_ext₂ rfl rfl⟩
    obtain ⟨h0, h1, h2, h3, h4, h5, h6, h7, h8, h9, h10, h11, h12⟩ := hagree c
    refine (Cert.ReferenceFfnIdeal.Whole.all_at _ T j).trans ?_
    exact Cert.FfnMath.at_congr h0 h1 h2 h3 h4 h5 h6 h7 h8 h9 h10 h11 h12 T j

end Cert.Proof
-- ==== Proof.PromptMath.lean ====
/-
  The gated linear recurrence of one head over the prompt, in chunks of 64 rows, as plain functions of extended reals: the
  running sum of the log decays in a chunk, the state after a chunk, and the state after a number of chunks of a sequence.
-/
module

public import Idealize.ShloMosaic.Lib.Pointwise
public import Idealize.ShloMosaic.PureOps.Ideal.Laws

@[expose] public section

noncomputable section

namespace Cert.PromptMath

open Idealize.ShloMosaic Idealize.ShloMosaic.TcCoe
open scoped BigOperators

/-- The sum of a chunk's log decays up to row `s`. -/
def run (lf : Fin 64 → Fin 128 → EReal) (s : Fin 64) (d : Fin 128) : EReal := ∑ x : Fin 64, if x ≤ s then lf x d else 0

/-- The state after a chunk: the old state decayed by the whole chunk, and each row's outer product of key and value decayed
    by the rows after it. -/
def next (k v lf : Fin 64 → Fin 128 → EReal) (S : Fin 128 → Fin 128 → EReal) (d j : Fin 128) : EReal :=
  Ideal.exp (run lf 63 d) * S d j + ∑ s : Fin 64, k s d * Ideal.exp (run lf 63 d - run lf s d) * v s j

/-- Row `s` of chunk `n` of prompt sequence `b`, as a row of the argument arrays. -/
def prow (b : Fin 4) (n : ℕ) (s : Fin 64) : Fin 16896 := ⟨(b.val * 4096 + n * 64 + s.val) % 16896, Nat.mod_lt _ (by decide)⟩

/-- Entry `i` of head `h`, as a column of the argument arrays. -/
def pcol (h : Fin 4) (i : Fin 128) : Fin 512 := ⟨h.val * 128 + i.val, by omega⟩

/-- The rows of chunk `n` of one sequence and head. -/
def chunk (a : (⟨2, ![16896, 512]⟩ : Shape).Idx → EReal) (b h : Fin 4) (n : ℕ) (s : Fin 64) (i : Fin 128) : EReal :=
  a (ix2 (prow b n s) (pcol h i))

/-- The state of one sequence and head after `n` chunks, from zero. -/
def stateAt (k v lf : (⟨2, ![16896, 512]⟩ : Shape).Idx → EReal) (b h : Fin 4) : ℕ → Fin 128 → Fin 128 → EReal
  | 0 => fun _ _ => 0
  | n + 1 => next (chunk k b h n) (chunk v b h n) (chunk lf b h n) (stateAt k v lf b h n)

/-- The state after one more chunk. -/
theorem stateAt_succ (k v lf : (⟨2, ![16896, 512]⟩ : Shape).Idx → EReal) (b h : Fin 4) (n : ℕ) :
    stateAt k v lf b h (n + 1) = next (chunk k b h n) (chunk v b h n) (chunk lf b h n) (stateAt k v lf b h n) := rfl

/-- Equal argument arrays give equal states. -/
theorem stateAt_congr {k k' v v' lf lf' : (⟨2, ![16896, 512]⟩ : Shape).Idx → EReal} (h1 : k = k') (h2 : v = v') (h3 : lf = lf')
    (b h : Fin 4) (n : ℕ) (d j : Fin 128) : stateAt k v lf b h n d j = stateAt k' v' lf' b h n d j := by
  subst h1 h2 h3; rfl

end Cert.PromptMath
-- ==== Proof.PromptIdealRun.lean ====
/-
  One grid point of the prompt kernel's ideal form, step by step. The grid is sequences × heads × 8 parts of 512 rows, the parts
  fastest. A point is of one of three kinds: A, the first part of a sequence and head, which sets the scratch state to zero;
  B, a middle part; C, the last part, which also writes the final state. Each kind's run says which writes the point makes.
-/
module

public import proofs.«01_k».proof.Proof.Gen.KernelPromptIdeal.Frame
public import proofs.«01_k».proof.Proof.Gen.KernelPromptIdeal.Loops
public import proofs.«01_k».proof.Proof.Gen.KernelPromptIdeal.Points
public import proofs.«01_k».proof.Proof.Gen.KernelPromptIdeal.Skeleton

@[expose] public section

set_option maxRecDepth 16384

noncomputable section

namespace Cert.KernelPromptIdeal.Body

open Cert.KernelPromptIdeal Cert.KernelPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The test for the first part of a sequence and head. -/
abbrev cond0_0 (i : grid0.Coords) : Prop := (Scalar.cmpi .ne (Scalar.extui (Scalar.cmpi .eq (BitVec.ofNat 32 (i 2).val) 0#32)) 0#32) = 1#1
/-- It holds at every eighth point, from 0. -/
theorem hcond0_0 : ∀ t : Fin cfg0.N, cond0_0 (grid0.coords t) ↔ t.val % 8 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [cond0_0, e0, e1, e2]
    word_cmp
   : ∀ t : Fin grid0.N, cond0_0 (grid0.coords t) ↔ t.val % 8 = 0)

/-- The test for the last part of a sequence and head. -/
abbrev cond0_1 (i : grid0.Coords) : Prop := k0_cond2 i = 1#1
/-- It holds at every eighth point, from 7. -/
theorem hcond0_1 : ∀ t : Fin cfg0.N, cond0_1 (grid0.coords t) ↔ t.val % 8 = 7 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 8 % 4 := Pipeline.Grid.coords_val t 1 (by decide) rfl
    have e2 : (grid0.coords t 2).val = t.val / 1 % 8 := Pipeline.Grid.coords_val t 2 (by decide) rfl
    simp only [cond0_1, k0_cond2, e0, e1, e2]
    word_cmp
   : ∀ t : Fin grid0.N, cond0_1 (grid0.coords t) ↔ t.val % 8 = 7)

/-- The arguments' blocks and the rows' block are held at every point. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- The state's block is held at the last part only, and is written back only there. -/
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-- The buffers of the blocks and the scratch state. -/
abbrev VO0_6 : View sig .tc .vmem S512x128 .bf16 := (Memref.whole cc0_stg6_0 : Memref sig .tc .vmem S512x128 .bf16).view
abbrev VO0_7 : View sig .tc .vmem S1x1x128x128 .f32 := (Memref.whole cc0_stg7_0 : Memref sig .tc .vmem S1x1x128x128 .f32).view
abbrev ms0_0 (t : Fin cfg0.N) : Memref sig .tc .vmem S512x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x128x128 .f32 := win0_7.stage (cfg0.slots t 7)
abbrev hs0_7 (t : Fin cfg0.N) : (ms0_7 t).IsWhole := hstage0_7 ((cfg0.slots t 7).cast nbuf0_7)
abbrev scM0_0 : Memref sig .tc .vmem S128x128 .f32 := Memref.whole cc0_scratch0
abbrev VS0_0 : View sig .tc .vmem S128x128 .f32 := scM0_0.view

/-- What the call holds beside the blocks: the scratch state and the random register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- A first part: the state starts at zero; the writes to the rows' block and to the scratch state. -/
noncomputable def kernelRun0_A (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) :
    Σ' (L6 : List (View.Piece (Elt F) S512x128 .bf16)), Σ' (L7 : List (View.Piece (Elt F) S1x1x128x128 .f32)), { LS0 : List (View.Piece (Elt F) S128x128 .f32) //
      ∀ (xi7 : Vec F S1x1x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn_prompt i arg3 harg3 arg4 harg4 arg5 harg5 arg6 harg6 arg7 harg7 arg8 harg8 arg9 harg9 arg10 harg10 arg11 harg11) K } := by
  refine ⟨?_, [], ?_, fun xi7 E K => ?run⟩
  case run =>
    simp only [cc0_hgrn_prompt_eq_skeleton]; unfold cc0_hgrn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

set_option maxHeartbeats 1000000 in
/-- A middle part: the state is the one the part before left; the same writes. -/
noncomputable def kernelRun0_B (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) :
    Σ' (L6 : List (View.Piece (Elt F) S512x128 .bf16)), Σ' (L7 : List (View.Piece (Elt F) S1x1x128x128 .f32)), { LS0 : List (View.Piece (Elt F) S128x128 .f32) //
      ∀ (xi7 : Vec F S1x1x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn_prompt i arg3 harg3 arg4 harg4 arg5 harg5 arg6 harg6 arg7 harg7 arg8 harg8 arg9 harg9 arg10 harg10 arg11 harg11) K } := by
  refine ⟨?_, [], ?_, fun xi7 E K => ?run⟩
  case run =>
    simp only [cc0_hgrn_prompt_eq_skeleton]; unfold cc0_hgrn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]
    · iexists _; isplitr; · ipureintro; exact harg10.read_unread _
      iexact H7
    iexists _; iexact HS0

set_option maxHeartbeats 1000000 in
/-- A last part: as a middle part, and the final state is written to the state's block. -/
noncomputable def kernelRun0_C (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) :
    Σ' (L6 : List (View.Piece (Elt F) S512x128 .bf16)), Σ' (L7 : List (View.Piece (Elt F) S1x1x128x128 .f32)), { LS0 : List (View.Piece (Elt F) S128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_hgrn_prompt i arg3 harg3 arg4 harg4 arg5 harg5 arg6 harg6 arg7 harg7 arg8 harg8 arg9 harg9 arg10 harg10 arg11 harg11) K } := by
  refine ⟨?_, ?_, ?_, fun E K => ?run⟩
  case run =>
    simp only [cc0_hgrn_prompt_eq_skeleton]; unfold cc0_hgrn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    iexists _; iexact HS0

end Cert.KernelPromptIdeal.Body

end
-- ==== Proof.PromptIdealFrame.lean ====
/-
  The frame of the prompt kernel's ideal form: what every grid point leaves in the rows' block, the state's block and the scratch
  state, from the three kinds of points; then the whole run, after which the arguments are unchanged and the semaphores zero.
-/
module

public import proofs.«01_k».proof.Proof.PromptIdealRun
public import Idealize.ShloMosaic.Lib.Claim

@[expose] public section

set_option maxRecDepth 16384

noncomputable section

namespace Cert.KernelPromptIdeal.Body

open Cert.KernelPromptIdeal Cert.KernelPromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A first part writes every entry of the rows' block. -/
theorem cover0_A_6 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (y : S512x128.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).1 S64x128.size (by sl_kernel_rfl) y

/-- What a first part leaves in the rows' block. -/
def out0_A_6 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) : Vec F S512x128 .bf16 :=
  VO0_6.read (Elt F) (VO0_6.writes (Elt F) VO0_6.junk (kernelRun0_A c i arg3 harg3 arg4 harg4 arg5 harg5 arg6 harg6 arg7 harg7 arg8 harg8 arg9 harg9 arg10 harg10 arg11 harg11 hc0 hc1 x0 x1 x2 x3 x4 x5).1)

/-- The state's block at a first part, which does not write it. -/
def out0_A_7 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) : Vec F S1x1x128x128 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5).2.1)

/-- A first part writes every entry of the scratch state. -/
theorem scover0_A_0 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (y : S128x128.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5).2.2.1 S128x128.size (by sl_kernel_rfl) y

/-- What a first part leaves in the scratch state. -/
def sout0_A_0 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) : Vec F S128x128 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 x0 x1 x2 x3 x4 x5).2.2.1)

/-- A middle part writes every entry of the rows' block. -/
theorem cover0_B_6 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) (y : S512x128.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xs0).1 S64x128.size (by sl_kernel_rfl) y

/-- What a middle part leaves in the rows' block. -/
def out0_B_6 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) : Vec F S512x128 .bf16 :=
  VO0_6.read (Elt F) (VO0_6.writes (Elt F) VO0_6.junk (kernelRun0_B c i arg3 harg3 arg4 harg4 arg5 harg5 arg6 harg6 arg7 harg7 arg8 harg8 arg9 harg9 arg10 harg10 arg11 harg11 hc0 hc1 x0 x1 x2 x3 x4 x5 xs0).1)

/-- The state's block at a middle part, which does not write it. -/
def out0_B_7 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) : Vec F S1x1x128x128 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 xs0).2.1)

/-- A middle part writes every entry of the scratch state. -/
theorem scover0_B_0 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) (y : S128x128.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 xs0).2.2.1 S128x128.size (by sl_kernel_rfl) y

/-- What a middle part leaves in the scratch state. -/
def sout0_B_0 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : ¬cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) : Vec F S128x128 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 hc0 hc1 x0 x1 x2 x3 x4 x5 xs0).2.2.1)

/-- A last part writes every entry of the rows' block. -/
theorem cover0_C_6 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) (y : S512x128.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).1 S64x128.size (by sl_kernel_rfl) y

/-- What a last part leaves in the rows' block. -/
def out0_C_6 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) : Vec F S512x128 .bf16 :=
  VO0_6.read (Elt F) (VO0_6.writes (Elt F) VO0_6.junk (kernelRun0_C c i arg3 harg3 arg4 harg4 arg5 harg5 arg6 harg6 arg7 harg7 arg8 harg8 arg9 harg9 arg10 harg10 arg11 harg11 hc0 hc1 x0 x1 x2 x3 x4 x5 xs0).1)

/-- A last part writes every entry of the state's block. -/
theorem cover0_C_7 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) (y : S1x1x128x128.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).2.1 S1x1x128x128.size (by sl_kernel_rfl) y

/-- What a last part leaves in the state's block. -/
def out0_C_7 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) : Vec F S1x1x128x128 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 hc0 hc1 x0 x1 x2 x3 x4 x5 xs0).2.1)

/-- A last part writes every entry of the scratch state. -/
theorem scover0_C_0 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) (y : S128x128.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 xs0).2.2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 xs0).2.2.1 S128x128.size (by sl_kernel_rfl) y

/-- What a last part leaves in the scratch state. -/
def sout0_C_0 (c : Dev nD) (i : grid0.Coords) (arg3 : Memref sig .tc .vmem S512x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S512x128 .bf16) (harg7 : arg7.IsWhole) (arg8 : Memref sig .tc .vmem S1x128 .f32) (harg8 : arg8.IsWhole) (arg9 : Memref sig .tc .vmem S512x128 .bf16) (harg9 : arg9.IsWhole) (arg10 : Memref sig .tc .vmem S1x1x128x128 .f32) (harg10 : arg10.IsWhole) (arg11 : Memref sig .tc .vmem S128x128 .f32) (harg11 : arg11.IsWhole) (hc0 : ¬cond0_0 i) (hc1 : cond0_1 i)
    (x0 : Vec F S512x128 .bf16) (x1 : Vec F S512x128 .bf16) (x2 : Vec F S512x128 .bf16) (x3 : Vec F S512x128 .f32) (x4 : Vec F S512x128 .bf16) (x5 : Vec F S1x128 .f32) (xs0 : Vec F S128x128 .f32) : Vec F S128x128 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 hc0 hc1 x0 x1 x2 x3 x4 x5 xs0).2.2.1)

/-- What point `n` leaves in the rows' block, the state's block and the scratch state. -/
def outsAt0 (c : Dev nD) : (n : ℕ) → n < cfg0.N → Vec F S512x128 .bf16 × Vec F S1x1x128x128 .f32 × Vec F S128x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h1 : (n + 1) % 8 = 7 then
        False.elim (by have hN : n + 1 < 128 := lt_of_lt_of_eq hn (show cfg0.N = 128 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 8 = 7 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- What a first part leaves, in all. -/
theorem outsAt0_A (c : Dev nD) (t : Fin cfg0.N) (h0 : t.val % 8 = 0) (h1 : ¬t.val % 8 = 7) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- What a middle part leaves, in all. -/
theorem outsAt0_B (c : Dev nD) (t : Fin cfg0.N) (h0 : ¬t.val % 8 = 0) (h1 : ¬t.val % 8 = 7) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- What a last part leaves, in all. -/
theorem outsAt0_C (c : Dev nD) (t : Fin cfg0.N) (h0 : ¬t.val % 8 = 0) (h1 : t.val % 8 = 7) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What is held before point `n`: at first anything in the scratch state, then what the point before left there. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The call's arrays and what each point leaves in its blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The arrays start with the memory's contents. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in each block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- A point finds in each argument's block the argument's part. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What a point starts from. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What a point ends with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- Every point, run from `bodyPre`, ends with `bodyPost`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
      · rw [PhiS_castSucc m c t, PhiS_pos m c _ _ hz]
        rw [outsAt0_A m c t h0 h1]
        unfold out0_A_6 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _)
        iexists _; iexact H7
  · by_cases h1 : t.val % 8 = 7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        unfold out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        unfold out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _)
        iexists _; iexact H7

theorem defs₀_row (t : Fin cfg0.N) :
    defs₀ (F := F) .tc cfg0.body (cfg0.bodyArgs t (cfg0.slots t)) = bodyAt0 t := by
  unfold defs₀; rw [Defs.onTc_tc]

/-- The same in the form the whole run asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The call starts with the scratch state unknown. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the scratch state may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The call ends with the scratch state forgotten. -/
theorem hout (c : Dev nD) : (dats m 0 c).Φ (Fin.last cfg0.N) ⊢ Pipeline.ΦA spec0 c :=
  Phi_out m c _ (by rw [Fin.val_last]; have : cfg0.N = 128 := N_0; omega)
set_option backward.isDefEq.respectTransparency.types false in
/-- The whole run: the arrays end as the points leave them, the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The whole run, the semaphores left aside. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelPromptIdeal.Body

end
-- ==== Proof.PromptBlock.lean ====
/-
  One grid point of the prompt kernel: eight trips over chunks of 64 rows, each taking the state to `next` of the chunk; what
  the point leaves in the scratch state and, at a sequence's last point, in the result block.
-/
module

public import proofs.«01_k».proof.Proof.PromptMath
public import proofs.«01_k».proof.Proof.PromptIdealFrame
public import Idealize.ShloMosaic.Lib.Pipeline.ValueKit
public import Idealize.ShloMosaic.Lib.WholeRead

@[expose] public section

set_option maxRecDepth 16384

noncomputable section

namespace Cert.KernelPromptIdeal.Block

open Idealize.ShloMosaic Idealize.ShloMosaic.TcCoe Idealize.ShloMosaic.Tactic
open Cert.KernelPromptIdeal Cert.KernelPromptIdeal.Gen Cert.KernelPromptIdeal.Body Cert.PromptMath
open scoped BigOperators

/-- The words 1 and 0 as numbers. -/
theorem word_one : (FloatOps.sitofp .f32 (1#32) : Ideal .f32) = (1 : EReal) := by
  show ((((1#32).toInt : ℝ)) : EReal) = 1
  simp
theorem word_zero : (FloatOps.sitofp .f32 (0#32) : Ideal .f32) = (0 : EReal) := by
  show ((((0#32).toInt : ℝ)) : EReal) = 0
  simp

/-- The matrix of the running sums: 1 where row `x` is not after row `s`. -/
theorem tril_apply (s x : Fin 64) : k0_pay2 (F := Ideal) (ix2 s x) = if x ≤ s then (1 : EReal) else 0 := by
  unfold k0_pay2
  pointwise
  have h : ∀ s x : Fin 64, BitVec.setWidth 32 (IntOp.cmpi .sge (BitVec.ofNat 32 s.val) (BitVec.ofNat 32 x.val))
      = if x ≤ s then 1#32 else 0#32 := by decide +kernel
  rw [h s x]
  split_ifs
  · exact word_one
  · exact word_zero

/-- The running sums of a chunk's log decays. -/
theorem sums (w : Vec Ideal S64x128 .f32) (s : Fin 64) (d : Fin 128) :
    k0_pay10 (F := Ideal) k0_pay2 w (ix2 s d) = run (fun x d => w (ix2 x d)) s d := by
  have e : k0_pay10 (F := Ideal) k0_pay2 w (ix2 s d) = ∑ x : Fin 64, k0_pay2 (F := Ideal) (ix2 s x) * w (ix2 x d) := by
    generalize k0_pay2 (F := Ideal) = y
    pointwise [k0_pay10]
  rw [e]
  unfold run
  refine Finset.sum_congr rfl fun x _ => ?_
  rw [tril_apply]
  split_ifs
  · exact one_mul _
  · exact zero_mul _

/-- The state a trip carries on. -/
theorem carried (S : Vec Ideal S128x128 .f32) (k v b : FVec Ideal S64x128 .f32) (d j : Fin 128) :
    k0_pay143 (F := Ideal) S k v b (ix2 j d) = Ideal.exp (b (ix2 63 d)) * S (ix2 j d)
      + ∑ s : Fin 64, v (ix2 s j) * (k (ix2 s d) * Ideal.exp (b (ix2 63 d) - b (ix2 s d))) := by
  pointwise [k0_pay143]

/-- The loop runs eight trips. -/
theorem trips_eq : k0_t1_loop.trips = 8 := by decide +kernel

/-- Row `s` of trip `k`'s chunk within the point's 512 rows. -/
def brow (k : ℕ) (s : Fin 64) : Fin 512 := ⟨(k * 64 + s.val) % 512, Nat.mod_lt _ (by decide)⟩

/-- Trip `k`'s chunk of a block. -/
def part (X : S512x128.Idx → EReal) (k : ℕ) (s : Fin 64) (i : Fin 128) : EReal := X (ix2 (brow k s) i)

/-- The row at which trip `k`'s chunk starts. -/
theorem off_eq : ∀ k : Fin k0_t1_loop.trips, k0_off1 k 0 = k.val * 64 ∧ k0_off1 k 1 = 0 := by decide +kernel

/-- The index a trip's load reads. -/
theorem load_idx (k : Fin k0_t1_loop.trips) (s : Fin 64) (i : Fin 128) :
    (Rect.unit (s := S512x128) (k0_off1 k) S64x128.size (k0_off1_inb k)).toLoadRect.idx (ix2 s i) = ix2 (brow k.val s) i := by
  have hk : k.val < 8 := lt_of_lt_of_eq k.isLt trips_eq
  have hs := s.isLt
  obtain ⟨o0, o1⟩ := off_eq k
  refine Shape.idx_ext₂ ?_ ?_
  · show k0_off1 k 0 + 1 * s.val = (k.val * 64 + s.val) % 512
    rw [o0]; omega
  · show k0_off1 k 1 + 1 * i.val = i.val
    rw [o1]; omega

section
variable (c : Dev nD) (i : grid0.Coords)
    (arg3 : Memref sig .tc .vmem S512x128 .bf16) (harg3 : arg3.IsWhole) (arg4 : Memref sig .tc .vmem S512x128 .bf16) (harg4 : arg4.IsWhole)
    (arg5 : Memref sig .tc .vmem S512x128 .bf16) (harg5 : arg5.IsWhole) (arg6 : Memref sig .tc .vmem S512x128 .f32) (harg6 : arg6.IsWhole)
    (arg7 : Memref sig .tc .vmem S512x128 .bf16) (harg7 : arg7.IsWhole) (arg8 : Memref sig .tc .vmem S1x128 .f32) (harg8 : arg8.IsWhole)
    (arg9 : Memref sig .tc .vmem S512x128 .bf16) (harg9 : arg9.IsWhole) (arg10 : Memref sig .tc .vmem S1x1x128x128 .f32) (harg10 : arg10.IsWhole)
    (arg11 : Memref sig .tc .vmem S128x128 .f32) (harg11 : arg11.IsWhole)
    (x0 x1 x2 : Vec Ideal S512x128 .bf16) (x3 : Vec Ideal S512x128 .f32) (x4 : Vec Ideal S512x128 .bf16) (x5 : Vec Ideal S1x128 .f32)

/-- What a trip makes of the state it is handed. -/
theorem trip_eq (k : Fin k0_t1_loop.trips) (S : Vec Ideal S128x128 .f32) :
    tripR_k0_t1 (F := Ideal) Variants.none c none i arg3 harg3 arg4 harg4 arg5 harg5 arg6 harg6 arg7 harg7 arg8 harg8 arg9 harg9 arg10 harg10 arg11 harg11 x5
        (harg3.unread x0) (harg4.unread x1) (harg5.unread x2) (harg6.unread x3) (harg7.unread x4) k S
      = k0_pay143 S
          (k0_pay8 (View.readAt (Elt Ideal) arg4.view (Rect.unit (s := S512x128) (k0_off1 k) S64x128.size (k0_off1_inb k)).toLoadRect (harg4.unread x1)))
          (k0_pay9 (View.readAt (Elt Ideal) arg5.view (Rect.unit (s := S512x128) (k0_off1 k) S64x128.size (k0_off1_inb k)).toLoadRect (harg5.unread x2)))
          (k0_pay10 k0_pay2
            (View.readAt (Elt Ideal) arg6.view (Rect.unit (s := S512x128) (k0_off1 k) S64x128.size (k0_off1_inb k)).toLoadRect (harg6.unread x3))) := by
  unfold tripR_k0_t1 trip_k0_t1
  rfl

/-- The state after a trip, at an index. -/
theorem trip_apply (k : Fin k0_t1_loop.trips) (S : Vec Ideal S128x128 .f32) (d j : Fin 128) :
    tripR_k0_t1 (F := Ideal) Variants.none c none i arg3 harg3 arg4 harg4 arg5 harg5 arg6 harg6 arg7 harg7 arg8 harg8 arg9 harg9 arg10 harg10 arg11 harg11 x5
        (harg3.unread x0) (harg4.unread x1) (harg5.unread x2) (harg6.unread x3) (harg7.unread x4) k S (ix2 j d)
      = next (part x1 k.val) (part x2 k.val) (part x3 k.val) (fun d j => S (ix2 j d)) d j := by
  rw [trip_eq]
  have e1 : ∀ (s : Fin 64) (i : Fin 128), View.readAt (Elt Ideal) arg4.view
      (Rect.unit (s := S512x128) (k0_off1 k) S64x128.size (k0_off1_inb k)).toLoadRect (harg4.unread x1) (ix2 s i) = part x1 k.val s i :=
    fun s i => (harg4.readAt_unread x1 _ _).trans (congrArg x1 (load_idx k s i))
  have e2 : ∀ (s : Fin 64) (i : Fin 128), View.readAt (Elt Ideal) arg5.view
      (Rect.unit (s := S512x128) (k0_off1 k) S64x128.size (k0_off1_inb k)).toLoadRect (harg5.unread x2) (ix2 s i) = part x2 k.val s i :=
    fun s i => (harg5.readAt_unread x2 _ _).trans (congrArg x2 (load_idx k s i))
  have e3 : ∀ (s : Fin 64) (i : Fin 128), View.readAt (Elt Ideal) arg6.view
      (Rect.unit (s := S512x128) (k0_off1 k) S64x128.size (k0_off1_inb k)).toLoadRect (harg6.unread x3) (ix2 s i) = part x3 k.val s i :=
    fun s i => (harg6.readAt_unread x3 _ _).trans (congrArg x3 (load_idx k s i))
  generalize View.readAt (Elt Ideal) arg4.view
    (Rect.unit (s := S512x128) (k0_off1 k) S64x128.size (k0_off1_inb k)).toLoadRect (harg4.unread x1) = y1 at e1 ⊢
  generalize View.readAt (Elt Ideal) arg5.view
    (Rect.unit (s := S512x128) (k0_off1 k) S64x128.size (k0_off1_inb k)).toLoadRect (harg5.unread x2) = y2 at e2 ⊢
  generalize View.readAt (Elt Ideal) arg6.view
    (Rect.unit (s := S512x128) (k0_off1 k) S64x128.size (k0_off1_inb k)).toLoadRect (harg6.unread x3) = y3 at e3 ⊢
  rw [carried]
  unfold next
  have b : ∀ s d, k0_pay10 (F := Ideal) k0_pay2 y3 (ix2 s d) = run (part x3 k.val) s d := fun s d => by
    rw [sums]; simp only [e3]
  have f1 : ∀ s d, k0_pay8 (F := Ideal) y1 (ix2 s d) = part x1 k.val s d := fun s d => e1 s d
  have f2 : ∀ s d, k0_pay9 (F := Ideal) y2 (ix2 s d) = part x2 k.val s d := fun s d => e2 s d
  simp only [b, f1, f2]
  exact congrArg (fun z : EReal => _ + z) (Finset.sum_congr rfl fun s _ => mul_comm _ _)

/-- The state after `n` trips, for any sequence of states that starts at the point's initial state and goes on by `next`. -/
theorem trips_apply (S : Vec Ideal S128x128 .f32) (T : ℕ → Fin 128 → Fin 128 → EReal) (h0 : ∀ d j, S (ix2 j d) = T 0 d j)
    (hs : ∀ n, n < 8 → T (n + 1) = next (part x1 n) (part x2 n) (part x3 n) (T n)) :
    ∀ n, n ≤ 8 → ∀ d j : Fin 128, (st_k0_t1 (F := Ideal) Variants.none c none i arg3 harg3 arg4 harg4 arg5 harg5 arg6 harg6 arg7 harg7 arg8 harg8 arg9 harg9 arg10 harg10 arg11 harg11 x5
        (harg3.unread x0) (harg4.unread x1) (harg5.unread x2) (harg6.unread x3) (harg7.unread x4) S n).1 (ix2 j d) = T n d j
  | 0, _, d, j => h0 d j
  | n + 1, hn, d, j => by
    have hk : n < k0_t1_loop.trips := lt_of_lt_of_eq hn trips_eq.symm
    have e := congrArg Prod.fst (st_k0_t1_succ (F := Ideal) Variants.none c none i arg3 harg3 arg4 harg4 arg5 harg5 arg6 harg6 arg7 harg7 arg8 harg8 arg9 harg9 arg10 harg10 arg11 harg11 x5
        (harg3.unread x0) (harg4.unread x1) (harg5.unread x2) (harg6.unread x3) (harg7.unread x4) S ⟨n, hk⟩)
    refine (congrFun e (ix2 j d)).trans ?_
    refine (trip_apply c i arg3 harg3 arg4 harg4 arg5 harg5 arg6 harg6 arg7 harg7 arg8 harg8 arg9 harg9 arg10 harg10 arg11 harg11 x0 x1 x2 x3 x4 x5 ⟨n, hk⟩ _ d j).trans ?_
    rw [hs n (by omega)]
    refine congrArg (fun z => next (part x1 n) (part x2 n) (part x3 n) z d j) (funext fun d => funext fun j => ?_)
    exact trips_apply S T h0 hs n (by omega) d j

end

end Cert.KernelPromptIdeal.Block
-- ==== Proof.PromptValue.lean ====
/-
  The prompt kernel's final states: the scratch state before and after each grid point, and the result array the last point of
  each sequence and head writes.
-/
module

public import proofs.«01_k».proof.Proof.PromptBlock
public import Idealize.ShloMosaic.Lib.StableHlo.ReadAt

@[expose] public section

set_option maxRecDepth 16384

noncomputable section

namespace Cert.KernelPromptIdeal.Whole

open Idealize.ShloMosaic Idealize.ShloMosaic.TcCoe Idealize.ShloMosaic.Tactic Idealize.SL.Sem
open Idealize.ShloMosaic.Pipeline (Dat Window)
open Cert.KernelPromptIdeal Cert.KernelPromptIdeal.Gen Cert.KernelPromptIdeal.Body Cert.PromptMath

variable (m : (ℓ : Loc nD τ sig) → Buf (Elt Ideal) ℓ)

/-- The grid has 128 points. -/
theorem lt128 (t : Fin cfg0.N) : t.val < 128 := lt_of_lt_of_eq t.isLt N_0

/-- The sequence of a point. -/
def sq (t : Fin cfg0.N) : Fin 4 := ⟨t.val / 32, by have := lt128 t; omega⟩

/-- The head of a point. -/
def hd (t : Fin cfg0.N) : Fin 4 := ⟨t.val / 8 % 4, by omega⟩

/-! The block indices the windows take. -/

/-- The blocks of the three arguments used and of the states' array at a point. -/
theorem index1 : ∀ t : Fin cfg0.N,
    win0_1.index t 0 = 8 * (t.val / 32) + t.val % 8 ∧ win0_1.index t 1 = t.val / 8 % 4 := by
  decide +kernel
theorem index2 : ∀ t : Fin cfg0.N,
    win0_2.index t 0 = 8 * (t.val / 32) + t.val % 8 ∧ win0_2.index t 1 = t.val / 8 % 4 := by
  decide +kernel
theorem index3 : ∀ t : Fin cfg0.N,
    win0_3.index t 0 = 8 * (t.val / 32) + t.val % 8 ∧ win0_3.index t 1 = t.val / 8 % 4 := by
  decide +kernel
theorem index7 : ∀ t : Fin cfg0.N,
    win0_7.index t 0 = t.val / 32 ∧ win0_7.index t 1 = t.val / 8 % 4 ∧ win0_7.index t 2 = 0 ∧ win0_7.index t 3 = 0 := by
  decide +kernel

/-- Trip `n`'s chunk of point `t`'s block of argument 1. -/
theorem part1 (c : Dev nD) (t : Fin cfg0.N) (n : ℕ) (hn : n < 8) :
    Block.part (iblk m c 1 t) n = chunk (m ((c : Thread nD τ).loc main_arg1)) (sq t) (hd t) (8 * (t.val % 8) + n) := by
  funext s i
  have e : Block.part (iblk m c 1 t) n s i = V m c main_arg1 ((win0_1.rect t).emb (ix2 (Block.brow n s) i)) := rfl
  rw [e, V_main_arg1]
  unfold chunk
  refine congrArg (m ((c : Thread nD τ).loc main_arg1)) ?_
  have ht := lt128 t
  have hs := s.isLt
  refine Shape.idx_ext₂ ((win0_1.rect_emb_val t _ 0).trans ?_) ((win0_1.rect_emb_val t _ 1).trans ?_)
  · rw [(index1 t).1]
    show (8 * (t.val / 32) + t.val % 8) * 512 + (n * 64 + s.val) % 512
      = (t.val / 32 * 4096 + (8 * (t.val % 8) + n) * 64 + s.val) % 16896
    omega
  · rw [(index1 t).2]; show t.val / 8 % 4 * 128 + i.val = t.val / 8 % 4 * 128 + i.val; rfl

/-- Trip `n`'s chunk of point `t`'s block of argument 2. -/
theorem part2 (c : Dev nD) (t : Fin cfg0.N) (n : ℕ) (hn : n < 8) :
    Block.part (iblk m c 2 t) n = chunk (m ((c : Thread nD τ).loc main_arg2)) (sq t) (hd t) (8 * (t.val % 8) + n) := by
  funext s i
  have e : Block.part (iblk m c 2 t) n s i = V m c main_arg2 ((win0_2.rect t).emb (ix2 (Block.brow n s) i)) := rfl
  rw [e, V_main_arg2]
  unfold chunk
  refine congrArg (m ((c : Thread nD τ).loc main_arg2)) ?_
  have ht := lt128 t
  have hs := s.isLt
  refine Shape.idx_ext₂ ((win0_2.rect_emb_val t _ 0).trans ?_) ((win0_2.rect_emb_val t _ 1).trans ?_)
  · rw [(index2 t).1]
    show (8 * (t.val / 32) + t.val % 8) * 512 + (n * 64 + s.val) % 512
      = (t.val / 32 * 4096 + (8 * (t.val % 8) + n) * 64 + s.val) % 16896
    omega
  · rw [(index2 t).2]; show t.val / 8 % 4 * 128 + i.val = t.val / 8 % 4 * 128 + i.val; rfl

/-- Trip `n`'s chunk of point `t`'s block of argument 3. -/
theorem part3 (c : Dev nD) (t : Fin cfg0.N) (n : ℕ) (hn : n < 8) :
    Block.part (iblk m c 3 t) n = chunk (m ((c : Thread nD τ).loc main_arg3)) (sq t) (hd t) (8 * (t.val % 8) + n) := by
  funext s i
  have e : Block.part (iblk m c 3 t) n s i = V m c main_arg3 ((win0_3.rect t).emb (ix2 (Block.brow n s) i)) := rfl
  rw [e, V_main_arg3]
  unfold chunk
  refine congrArg (m ((c : Thread nD τ).loc main_arg3)) ?_
  have ht := lt128 t
  have hs := s.isLt
  refine Shape.idx_ext₂ ((win0_3.rect_emb_val t _ 0).trans ?_) ((win0_3.rect_emb_val t _ 1).trans ?_)
  · rw [(index3 t).1]
    show (8 * (t.val / 32) + t.val % 8) * 512 + (n * 64 + s.val) % 512
      = (t.val / 32 * 4096 + (8 * (t.val % 8) + n) * 64 + s.val) % 16896
    omega
  · rw [(index3 t).2]; show t.val / 8 % 4 * 128 + i.val = t.val / 8 % 4 * 128 + i.val; rfl

/-- The state of a point's sequence and head after `n` chunks. -/
abbrev st (c : Dev nD) (t : Fin cfg0.N) (n : ℕ) : Fin 128 → Fin 128 → EReal :=
  stateAt (m ((c : Thread nD τ).loc main_arg1)) (m ((c : Thread nD τ).loc main_arg2)) (m ((c : Thread nD τ).loc main_arg3))
    (sq t) (hd t) n

/-- A trip of a point takes the state to the next chunk's. -/
theorem st_next (c : Dev nD) (t : Fin cfg0.N) (n : ℕ) (hn : n < 8) :
    st m c t (8 * (t.val % 8) + (n + 1)) = next (Block.part (iblk m c 1 t) n) (Block.part (iblk m c 2 t) n)
      (Block.part (iblk m c 3 t) n) (st m c t (8 * (t.val % 8) + n)) := by
  rw [part1 m c t n hn, part2 m c t n hn, part3 m c t n hn]
  exact stateAt_succ _ _ _ _ _ _

/-- A stored state is the carried one. -/
theorem stored_apply (S : Vec Ideal S128x128 .f32) (d j : Fin 128) : k0_pay5 (F := Ideal) S (ix2 j d) = S (ix2 j d) := by
  pointwise [k0_pay5]

/-- The state stored before a sequence's first chunk is zero. -/
theorem zero_apply (d j : Fin 128) : k0_pay1 (F := Ideal) (ix2 j d) = 0 := by
  pointwise [k0_pay1]

/-- The result block is the carried state, transposed. -/
theorem result_apply (S : Vec Ideal S128x128 .f32) (d j : Fin 128) : k0_pay6 (F := Ideal) S (ix4 0 0 d j) = S (ix2 j d) := by
  pointwise [k0_pay6]

/-- Reading the scratch buffer, held at contents that read a state, reads that state. -/
theorem kept (h : (scM0_0 : Memref sig .tc .vmem S128x128 .f32).IsWhole) (S : Vec Ideal S128x128 .f32) (x : S128x128.Idx) :
    View.read (Elt Ideal) (View.whole cc0_scratch0) (h.unread S) x = S x :=
  congrFun (h.read_unread S) x

/-- A point has eight trips. -/
theorem eight : Scf.trips (0#32) (Scalar.addi 0#32 8#32) 1#32 = 8 := by decide +kernel

/-- What a point leaves in the scratch state: the state after its eight chunks. -/
theorem scratch (c : Dev nD) (n : ℕ) : ∀ (hn : n < cfg0.N) (d j : Fin 128),
    (outsAt0 m c n hn).2.2 (ix2 j d) = st m c ⟨n, hn⟩ (8 * (n % 8) + 8) d j := by
  induction n with
  | zero =>
    intro hn d j
    have e := outsAt0_A m c ⟨0, hn⟩ (Nat.zero_mod 8) (by show ¬ 0 % 8 = 7; omega)
    rw [show outsAt0 m c 0 hn = _ from e]
    frame_out
    refine (stored_apply _ d j).trans ?_
    rw [eight]
    exact Block.trips_apply c _ _ _ _ _ _ _ _ _ _ _ _ _ _ _ _ _ _ _ _ _ _ _ _ _ _
      (fun n => st m c ⟨0, hn⟩ (8 * (0 % 8) + n)) (fun d j => zero_apply d j) (fun n h => st_next m c ⟨0, hn⟩ n h) 8 le_rfl d j
  | succ n ih =>
    intro hn d j
    have hn' : n < cfg0.N := Nat.lt_of_succ_lt hn
    by_cases h0 : (n + 1) % 8 = 0
    · have h1 : ¬ (n + 1) % 8 = 7 := by omega
      have e := outsAt0_A m c ⟨n + 1, hn⟩ h0 h1
      rw [show outsAt0 m c (n + 1) hn = _ from e]
      frame_out
      refine (stored_apply _ d j).trans ?_
      rw [eight]
      refine Block.trips_apply c _ _ _ _ _ _ _ _ _ _ _ _ _ _ _ _ _ _ _ _ _ _ _ _ _ _
        (fun k => st m c ⟨n + 1, hn⟩ (8 * ((n + 1) % 8) + k)) (fun d j => ?_) (fun k h => st_next m c ⟨n + 1, hn⟩ k h) 8 le_rfl d j
      refine (zero_apply d j).trans ?_
      rw [h0]
      rfl
    · have prev : ∀ d j : Fin 128, (outsAt0 m c n hn').2.2 (ix2 j d) = st m c ⟨n + 1, hn⟩ (8 * ((n + 1) % 8) + 0) d j := by
        intro d j
        rw [ih hn' d j]
        have a : sq ⟨n, hn'⟩ = sq ⟨n + 1, hn⟩ := Fin.ext (by show n / 32 = (n + 1) / 32; omega)
        have b : hd ⟨n, hn'⟩ = hd ⟨n + 1, hn⟩ := Fin.ext (by show n / 8 % 4 = (n + 1) / 8 % 4; omega)
        have e : 8 * (n % 8) + 8 = 8 * ((n + 1) % 8) + 0 := by omega
        unfold st
        rw [a, b, e]
      by_cases h1 : (n + 1) % 8 = 7
      · have e := outsAt0_C m c ⟨n + 1, hn⟩ h0 h1
        rw [show outsAt0 m c (n + 1) hn = _ from e]
        frame_out
        refine (stored_apply _ d j).trans ?_
        rw [eight]
        exact Block.trips_apply c _ _ _ _ _ _ _ _ _ _ _ _ _ _ _ _ _ _ _ _ _ _ _ _ _ _
          (fun k => st m c ⟨n + 1, hn⟩ (8 * ((n + 1) % 8) + k)) (fun d j => (kept _ _ _).trans (prev d j)) (fun k h => st_next m c ⟨n + 1, hn⟩ k h) 8 le_rfl d j
      · have e := outsAt0_B m c ⟨n + 1, hn⟩ h0 h1
        rw [show outsAt0 m c (n + 1) hn = _ from e]
        frame_out
        refine (stored_apply _ d j).trans ?_
        rw [eight]
        exact Block.trips_apply c _ _ _ _ _ _ _ _ _ _ _ _ _ _ _ _ _ _ _ _ _ _ _ _ _ _
          (fun k => st m c ⟨n + 1, hn⟩ (8 * ((n + 1) % 8) + k)) (fun d j => (kept _ _ _).trans (prev d j)) (fun k h => st_next m c ⟨n + 1, hn⟩ k h) 8 le_rfl d j

/-- What the last point of a sequence and head leaves in the result block: the state after the 64 chunks. -/
theorem block7 (c : Dev nD) (t : Fin cfg0.N) (h1 : t.val % 8 = 7) (d j : Fin 128) :
    (outsAt0 m c t.val t.isLt).2.1 (ix4 0 0 d j) = st m c t 64 d j := by
  have h0 : ¬ t.val % 8 = 0 := by omega
  have e : (outsAt0 m c t.val t.isLt).2.1 (ix4 0 0 d j) = (outsAt0 m c t.val t.isLt).2.2 (ix2 j d) := by
    rw [outsAt0_C m c t h0 h1]
    frame_out
    exact (result_apply _ d j).trans (stored_apply _ d j).symm
  rw [e, scratch m c t.val t.isLt d j, h1]

/-- The result array: the state of every sequence and head after the 64 chunks. -/
def G7 (c : Dev nD) : Buf (Elt Ideal) ((c : Thread nD τ).loc main_v3_1) := fun (i : S4x4x128x128.Idx) =>
  stateAt (m ((c : Thread nD τ).loc main_arg1)) (m ((c : Thread nD τ).loc main_arg2)) (m ((c : Thread nD τ).loc main_arg3))
    (i 0) (i 1) 64 (i 2) (i 3)

/-- What a writing point writes back is its block of the result. -/
theorem flushed7 (c : Dev nD) (t : Fin cfg0.N) (hf : (cfg0.win 7).flush t = true) :
    (dats m 0 c).flushed 7 t = ((cfg0.win 7).blk t).view.read (Elt Ideal) (G7 m c) := by
  have h1 : t.val % 8 = 7 := (flush0_7 t).mp hf
  show (cfg0.win 7).cut (grid0.coords t) ((dats m 0 c).after 7 t) = _
  rw [after0_7]
  funext y
  obtain ⟨d, j, rfl⟩ : ∃ (d j : Fin 128), y = ix4 0 0 d j :=
    ⟨y 2, y 3, funext fun a => by
      match a with
      | ⟨0, _⟩ => exact Fin.ext (Nat.lt_one_iff.mp (y 0).isLt)
      | ⟨1, _⟩ => exact Fin.ext (Nat.lt_one_iff.mp (y 1).isLt)
      | ⟨2, _⟩ => rfl
      | ⟨3, _⟩ => rfl⟩
  refine (block7 m c t h1 d j).trans ?_
  have e : ((cfg0.win 7).blk t).view.read (Elt Ideal) (G7 m c) (ix4 0 0 d j) = G7 m c ((win0_7.rect t).emb (ix4 0 0 d j)) := rfl
  have e' : (win0_7.rect t).emb (ix4 0 0 d j) = ix4 (sq t) (hd t) d j := by
    obtain ⟨i0, i1, i2, i3⟩ := index7 t
    funext a
    refine Fin.ext ((win0_7.rect_emb_val t _ a).trans ?_)
    match a with
    | ⟨0, _⟩ => show win0_7.index t 0 * 1 + 0 = t.val / 32; rw [i0]; omega
    | ⟨1, _⟩ => show win0_7.index t 1 * 1 + 0 = t.val / 8 % 4; rw [i1]; omega
    | ⟨2, _⟩ => show win0_7.index t 2 * 128 + d.val = d.val; rw [i2]; omega
    | ⟨3, _⟩ => show win0_7.index t 3 * 128 + j.val = j.val; rw [i3]; omega
  rw [e, e']
  rfl

/-- An index of a point's sequence and head is in the point's block. -/
theorem mem_blk7 (t : Fin cfg0.N) (i : S4x4x128x128.Idx) (h : t.val / 32 = (i 0 : Nat)) (h' : t.val / 8 % 4 = (i 1 : Nat)) :
    i ∈ ((cfg0.win 7).blk t).view.set := by
  show i ∈ ((View.whole main_v3_1).slice (win0_7.rect t)).set
  rw [View.set_slice_whole, Rect.mem_set_unit]
  have h2 : (i 2 : Nat) < 128 := (i 2).isLt
  have h3 : (i 3 : Nat) < 128 := (i 3).isLt
  obtain ⟨i0, i1, i2, i3⟩ := index7 t
  intro a
  match a with
  | ⟨0, _⟩ =>
    show win0_7.index t 0 * 1 ≤ (i 0 : Nat) ∧ (i 0 : Nat) < win0_7.index t 0 * 1 + 1
    rw [i0]; omega
  | ⟨1, _⟩ =>
    show win0_7.index t 1 * 1 ≤ (i 1 : Nat) ∧ (i 1 : Nat) < win0_7.index t 1 * 1 + 1
    rw [i1]; omega
  | ⟨2, _⟩ =>
    show win0_7.index t 2 * 128 ≤ (i 2 : Nat) ∧ (i 2 : Nat) < win0_7.index t 2 * 128 + 128
    rw [i2]; omega
  | ⟨3, _⟩ =>
    show win0_7.index t 3 * 128 ≤ (i 3 : Nat) ∧ (i 3 : Nat) < win0_7.index t 3 * 128 + 128
    rw [i3]; omega

/-- Every index lies in the block of its sequence and head's last point. -/
theorem cover7 (i : S4x4x128x128.Idx) : ∃ t : Fin cfg0.N, (cfg0.win 7).flush t = true ∧ i ∈ ((cfg0.win 7).blk t).view.set := by
  have hN : cfg0.N = 128 := N_0
  have h0 : (i 0 : Nat) < 4 := (i 0).isLt
  have h1 : (i 1 : Nat) < 4 := (i 1).isLt
  exact ⟨⟨32 * (i 0 : Nat) + 8 * (i 1 : Nat) + 7, by omega⟩, (flush0_7 _).mpr (by dsimp only; omega),
    mem_blk7 _ i (by dsimp only; omega) (by dsimp only; omega)⟩

/-- The result array ends holding `G7`. -/
theorem final7 (c : Dev nD) : (dats m 0 c).arrAt 7 cfg0.N = G7 m c :=
  (dats m 0 c).arrAt_eq_of_cover 7 (G7 m c) (fun t hf => flushed7 m c t hf) cover7

/-- The whole run: the final states, and the arguments unchanged. -/
theorem run_states (ρ : Dev nD → PrngReg) :
    θ_run defs (onTc (τ := τ) (main (F := Ideal))) ⟨m, fun _ => 0, ρ⟩ (fun r => ∀ c : Dev nD,
      r.2.mem ((c : Thread nD τ).loc main_v3_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
    ⟨((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelPromptIdeal.Whole

end
-- ==== Proof.PromptReference.lean ====
/-
  The prompt recurrence's reference, read at an index: 64 trips over the chunks take the states from zero to `stateAt` of 64.
-/
module

public import proofs.«01_k».proof.Proof.PromptMath
public import proofs.«01_k».proof.Proof.Gen.ReferencePromptIdeal.StepRun
public import Idealize.ShloMosaic.Lib.DynamicIndex

@[expose] public section

set_option maxRecDepth 16384

noncomputable section

namespace Cert.ReferencePromptIdeal.Whole

open Idealize.ShloMosaic Idealize.ShloMosaic.TcCoe Idealize.SL.Sem
open Cert.ReferencePromptIdeal Cert.ReferencePromptIdeal.Gen Cert.ReferencePromptIdeal.Step Cert.ReferencePromptIdeal.StepRun
open Cert.PromptMath
open scoped BigOperators

/-- The shape of the running sum's window: the 64 rows of one sequence, head and entry. -/
abbrev Win : Shape := ⟨4, ![1, 64, 1, 1]⟩

/-- Position `n` of the window is its `n`-th row. -/
theorem win_at (n : Fin Win.numel) : (Win.rowMajor.symm n 0).val = 0 ∧ (Win.rowMajor.symm n 1).val = n.val
    ∧ (Win.rowMajor.symm n 2).val = 0 ∧ (Win.rowMajor.symm n 3).val = 0 := by
  revert n; decide +kernel

/-- What position `n` of the window at row `t` adds: nothing before the first row. -/
def part (x : S4x64x4x128.Idx → EReal) (b : Fin 4) (t : Fin 64) (g : Fin 4) (i : Fin 128) (n : Nat) : EReal :=
  if hn : 63 ≤ t.val + n ∧ t.val + n - 63 < 64 then x (ix4 b ⟨t.val + n - 63, hn.2⟩ g i) else 0

/-- The rows counted round from the one after `t`. -/
theorem turn_val : ∀ t n : Fin 64, ((t + 1) + n).val = (t.val + 1 + n.val) % 64 := by decide +kernel

/-- The 64 positions' parts are the entries up to row `t`. -/
theorem parts (x : S4x64x4x128.Idx → EReal) (b : Fin 4) (t : Fin 64) (g : Fin 4) (i : Fin 128) :
    (∑ n : Fin 64, part x b t g i n.val) = ∑ s : Fin 64, if s ≤ t then x (ix4 b s g i) else 0 := by
  refine Fintype.sum_equiv (Equiv.addLeft (t + 1)) _ _ fun n => ?_
  show part x b t g i n.val = if (t + 1) + n ≤ t then x (ix4 b ((t + 1) + n) g i) else 0
  have hv := turn_val t n
  have ht := t.isLt
  have hn := n.isLt
  unfold part
  by_cases h : 63 ≤ t.val + n.val
  · have e : (⟨t.val + n.val - 63, by omega⟩ : Fin 64) = (t + 1) + n := Fin.ext (by rw [hv]; show t.val + n.val - 63 = _; omega)
    rw [dif_pos ⟨h, by omega⟩, if_pos (by rw [Fin.le_def, hv]; omega), e]
  · rw [dif_neg (fun h' => h h'.1), if_neg (by rw [Fin.le_def, hv]; omega)]

/-- The running sum over the rows: entry `t` sums the entries up to `t`. -/
theorem running (x : S4x64x4x128.Idx → EReal) (v : S_.Idx → EReal)
    (h : S4x64x4x128.ReduceWindows ![1, 64, 1, 1] ![1, 1, 1, 1] ![0, 63, 0, 0] ![0, 0, 0, 0] S4x64x4x128) (hu : 0 < S_.numel)
    (hv : v (Shape.Idx.first hu) = 0) (b : Fin 4) (t : Fin 64) (g : Fin 4) (i : Fin 128) :
    Host.reduceWindow (· + ·) ![1, 64, 1, 1] ![1, 1, 1, 1] ![0, 63, 0, 0] ![0, 0, 0, 0] x v h hu (ix4 b t g i)
      = ∑ s : Fin 64, if s ≤ t then x (ix4 b s g i) else 0 := by
  refine Eq.trans ?_ (parts x b t g i)
  have step : (Host.reduceWindow (· + ·) ![1, 64, 1, 1] ![1, 1, 1, 1] ![0, 63, 0, 0] ![0, 0, 0, 0] x v h hu (ix4 b t g i))
      = (List.finRange Win.numel).foldl (fun (r : EReal) n => r + part x b t g i n.val) 0 := by
    unfold Host.reduceWindow
    dsimp only
    rw [hv]
    refine congrArg (fun f => List.foldl f (0 : EReal) (List.finRange Win.numel)) (funext fun r => funext fun n => ?_)
    obtain ⟨w0, w1, w2, w3⟩ := win_at n
    refine congrArg (fun z : EReal => r + z) ?_
    unfold part
    have hb := b.isLt
    have hg := g.isLt
    have hi := i.isLt
    split
    · next hin =>
      have h1 := hin 1
      change 63 ≤ t.val * 1 + (Win.rowMajor.symm n 1).val ∧ t.val * 1 + (Win.rowMajor.symm n 1).val - 63 < 64 at h1
      rw [w1, Nat.mul_one] at h1
      rw [dif_pos h1]
      refine congrArg x (funext fun a => Fin.ext ?_)
      match a with
      | ⟨0, _⟩ => show b.val * 1 + (Win.rowMajor.symm n 0).val - 0 = b.val; rw [w0]; omega
      | ⟨1, _⟩ => show t.val * 1 + (Win.rowMajor.symm n 1).val - 63 = t.val + n.val - 63; rw [w1]; omega
      | ⟨2, _⟩ => show g.val * 1 + (Win.rowMajor.symm n 2).val - 0 = g.val; rw [w2]; omega
      | ⟨3, _⟩ => show i.val * 1 + (Win.rowMajor.symm n 3).val - 0 = i.val; rw [w3]; omega
    · next hin =>
      rw [dif_neg fun h1 => hin fun a => ?_]
      match a with
      | ⟨0, _⟩ => show 0 ≤ b.val * 1 + (Win.rowMajor.symm n 0).val ∧ b.val * 1 + (Win.rowMajor.symm n 0).val - 0 < 4; rw [w0]; omega
      | ⟨1, _⟩ => show 63 ≤ t.val * 1 + (Win.rowMajor.symm n 1).val ∧ t.val * 1 + (Win.rowMajor.symm n 1).val - 63 < 64; rw [w1]; omega
      | ⟨2, _⟩ => show 0 ≤ g.val * 1 + (Win.rowMajor.symm n 2).val ∧ g.val * 1 + (Win.rowMajor.symm n 2).val - 0 < 4; rw [w2]; omega
      | ⟨3, _⟩ => show 0 ≤ i.val * 1 + (Win.rowMajor.symm n 3).val ∧ i.val * 1 + (Win.rowMajor.symm n 3).val - 0 < 128; rw [w3]; omega
  rw [step]
  show (List.finRange 64).foldl (fun (r : EReal) n => r + part x b t g i n.val) 0 = _
  rw [← List.foldl_map (f := fun n : Fin 64 => part x b t g i n.val) (g := fun (r z : EReal) => r + z),
    ← List.sum_eq_foldl, ← List.ofFn_eq_map, List.sum_ofFn]

/-- The slice a trip takes: chunk `n` of the chunks. -/
theorem slice_at (x : S64x4x64x4x128.Idx → EReal) (start : Fin 5 → Int) (fits : S64x4x64x4x128.Slices (fun _ => 0) S1x4x64x4x128)
    (n : Fin 64) (h0 : start 0 = (n.val : Int)) (h1 : start 1 = 0) (h2 : start 2 = 0) (h3 : start 3 = 0) (h4 : start 4 = 0)
    (b : Fin 4) (t : Fin 64) (h : Fin 4) (i : Fin 128) :
    Host.dynamicSlice S1x4x64x4x128 x start fits (ix5 0 b t h i) = x (ix5 n b t h i) := by
  have hn := n.isLt
  have hoff : S64x4x64x4x128.Slices ![n.val, 0, 0, 0, 0] S1x4x64x4x128 := ⟨rfl, fun a => by
    match a with
    | ⟨0, _⟩ => show n.val + 1 ≤ 64; omega
    | ⟨1, _⟩ => show 0 + 4 ≤ 4; omega
    | ⟨2, _⟩ => show 0 + 64 ≤ 64; omega
    | ⟨3, _⟩ => show 0 + 4 ≤ 4; omega
    | ⟨4, _⟩ => show 0 + 128 ≤ 128; omega⟩
  rw [Host.dynamicSlice_eq_extractStridedSlice S1x4x64x4x128 x start ![n.val, 0, 0, 0, 0] fits hoff (fun a => by
    match a with
    | ⟨0, _⟩ => exact h0
    | ⟨1, _⟩ => exact h1
    | ⟨2, _⟩ => exact h2
    | ⟨3, _⟩ => exact h3
    | ⟨4, _⟩ => exact h4)]
  pointwise

/-- A trip's number, read signed. -/
theorem number (n : Fin 64) : (BitVec.ofNat 32 n.val).toInt = (n.val : Int) := toInt_ofNat_of_lt (by have := n.isLt; omega)

variable (s : State Ideal)

/-- The chunk of keys a trip reads. -/
theorem b5_at (n : Fin 64) (b : Fin 4) (t : Fin 64) (h : Fin 4) (i : Fin 128) :
    b5 (F := Ideal) n.val s (ix4 b t h i) = s.main_v12_0 (ix5 n b t h i) := by
  have e : b5 (F := Ideal) n.val s (ix4 b t h i) = b4 (F := Ideal) n.val s (ix5 0 b t h i) := by
    unfold b5
    generalize b4 (F := Ideal) n.val s = y
    pointwise
  rw [e]
  exact slice_at _ _ _ n (number n) rfl rfl rfl rfl b t h i

/-- The chunk of log decays a trip reads. -/
theorem b11_at (n : Fin 64) (b : Fin 4) (t : Fin 64) (h : Fin 4) (i : Fin 128) :
    b11 (F := Ideal) n.val s (ix4 b t h i) = s.main_v12_1 (ix5 n b t h i) := by
  have e : b11 (F := Ideal) n.val s (ix4 b t h i) = b10 (F := Ideal) n.val s (ix5 0 b t h i) := by
    unfold b11
    generalize b10 (F := Ideal) n.val s = y
    pointwise
  rw [e]
  exact slice_at _ _ _ n (number n) rfl rfl rfl rfl b t h i

/-- The chunk of values a trip reads. -/
theorem b17_at (n : Fin 64) (b : Fin 4) (t : Fin 64) (h : Fin 4) (i : Fin 128) :
    b17 (F := Ideal) n.val s (ix4 b t h i) = s.main_v12_2 (ix5 n b t h i) := by
  have e : b17 (F := Ideal) n.val s (ix4 b t h i) = b16 (F := Ideal) n.val s (ix5 0 b t h i) := by
    unfold b17
    generalize b16 (F := Ideal) n.val s = y
    pointwise
  rw [e]
  exact slice_at _ _ _ n (number n) rfl rfl rfl rfl b t h i

/-- The running sums of a trip's log decays. -/
theorem b20_at (n : Fin 64) (b : Fin 4) (t : Fin 64) (h : Fin 4) (i : Fin 128) :
    b20 (F := Ideal) n.val s (ix4 b t h i) = run (fun t i => s.main_v12_1 (ix5 n b t h i)) t i := by
  have e := running (b11 (F := Ideal) n.val s) (b19 (F := Ideal) n.val s)
    reduceWindows_S4x64x4x128_S4x64x4x128_w1s1p0_0_w64s1p63_0_w1s1p0_0_w1s1p0_0 h_S_ (by
      show Ideal.ofBits .f32 0x00000000#32 = 0
      exact Ideal.ofBits_zero_f32) b t h i
  refine Eq.trans ?_ (e.trans ?_)
  · unfold b20; rfl
  · simp only [b11_at]; rfl

/-- The states after a trip. -/
theorem b33_at (n : Fin 64) (b h : Fin 4) (d j : Fin 128) :
    b33 (F := Ideal) n.val s (ix4 b h d j)
      = next (fun t i => s.main_v12_0 (ix5 n b t h i)) (fun t i => s.main_v12_2 (ix5 n b t h i))
          (fun t i => s.main_v12_1 (ix5 n b t h i)) (fun d j => s.main_v12_4 (ix4 b h d j)) d j := by
  have e : b33 (F := Ideal) n.val s (ix4 b h d j)
      = Ideal.exp (b20 (F := Ideal) n.val s (ix4 b 63 h d)) * s.main_v12_4 (ix4 b h d j)
        + ∑ t : Fin 64, b5 (F := Ideal) n.val s (ix4 b t h d)
            * Ideal.exp (b20 (F := Ideal) n.val s (ix4 b 63 h d) - b20 (F := Ideal) n.val s (ix4 b t h d))
            * b17 (F := Ideal) n.val s (ix4 b t h j) := by
    unfold b33 b32 b31 b30 b29 b28 b27 b26 b25 b24 b23 b22 b21
    generalize b20 (F := Ideal) n.val s = y0
    generalize b5 (F := Ideal) n.val s = y1
    generalize b17 (F := Ideal) n.val s = y2
    generalize s.main_v12_4 = y3
    pointwise
  rw [e]
  simp only [b5_at, b17_at, b20_at]
  rfl

variable (x1 x2 : (⟨S16896x512, .bf16⟩ : BufTy).Contents (Elt Ideal)) (x3 : (⟨S16896x512, .f32⟩ : BufTy).Contents (Elt Ideal))

/-- The row of a chunk of a sequence. -/
theorem prow_eq (b : Fin 4) (n t : Fin 64) : prow b n.val t = ⟨b.val * 4096 + n.val * 64 + t.val, by omega⟩ :=
  Fin.ext (by show (b.val * 4096 + n.val * 64 + t.val) % 16896 = b.val * 4096 + n.val * 64 + t.val; omega)

/-- The chunks of keys, values and log decays, cut out of the arguments. -/
theorem keys_at (n : Fin 64) (b : Fin 4) (t : Fin 64) (h : Fin 4) (i : Fin 128) :
    A_main_v3 (F := Ideal) x1 x2 x3 (ix5 n b t h i) = chunk x1 b h n.val t i := by
  unfold chunk
  rw [prow_eq]
  pointwise [A_main_v3, A_main_v2, A_main_v1, A_main_v0, pcol]

theorem values_at (n : Fin 64) (b : Fin 4) (t : Fin 64) (h : Fin 4) (i : Fin 128) :
    A_main_v7 (F := Ideal) x1 x2 x3 (ix5 n b t h i) = chunk x2 b h n.val t i := by
  unfold chunk
  rw [prow_eq]
  pointwise [A_main_v7, A_main_v6, A_main_v5, A_main_v4, pcol]

theorem decays_at (n : Fin 64) (b : Fin 4) (t : Fin 64) (h : Fin 4) (i : Fin 128) :
    A_main_v10 (F := Ideal) x1 x2 x3 (ix5 n b t h i) = chunk x3 b h n.val t i := by
  unfold chunk
  rw [prow_eq]
  pointwise [A_main_v10, A_main_v9, A_main_v8, pcol]

/-- The states after `n` trips. -/
def iter (s : State Ideal) : ℕ → State Ideal
  | 0 => s
  | n + 1 => step n (iter s n)

/-- After `n` trips the chunks are the arguments' and the states are those after `n` chunks. -/
theorem iter_at (n : ℕ) : n ≤ 64 →
    (iter (init (F := Ideal) x1 x2 x3) n).main_v12_0 = A_main_v3 x1 x2 x3
    ∧ (iter (init (F := Ideal) x1 x2 x3) n).main_v12_1 = A_main_v10 x1 x2 x3
    ∧ (iter (init (F := Ideal) x1 x2 x3) n).main_v12_2 = A_main_v7 x1 x2 x3
    ∧ ∀ (b h : Fin 4) (d j : Fin 128), (iter (init (F := Ideal) x1 x2 x3) n).main_v12_4 (ix4 b h d j) = stateAt x1 x2 x3 b h n d j := by
  induction n with
  | zero =>
    intro _
    refine ⟨rfl, rfl, rfl, fun b h d j => ?_⟩
    show K_main_v11 (F := Ideal) (ix4 b h d j) = 0
    pointwise [K_main_v11, K_main_cst]
  | succ n ih =>
    intro hn
    obtain ⟨e0, e1, e2, e4⟩ := ih (by omega)
    refine ⟨e0, e1, e2, fun b h d j => ?_⟩
    have e := b33_at (iter (init (F := Ideal) x1 x2 x3) n) ⟨n, by omega⟩ b h d j
    refine Eq.trans ?_ (e.trans ?_)
    · exact congrFun (step_main_v12_4 n (iter (init (F := Ideal) x1 x2 x3) n)) _
    · rw [e0, e1, e2, stateAt_succ]
      simp only [e4, keys_at, values_at, decays_at]

/-- The whole run: the final states, and the arguments unchanged. -/
theorem run_states (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12_4) = (iter (initState m c) 64).main_v12_4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run_iter (F := Ideal) m ρ (fun c => iter (initState m c)) (fun _ => rfl) (fun _ _ => rfl)

end Cert.ReferencePromptIdeal.Whole

end
-- ==== Proof.PromptClaim.lean ====
/-
  The prompt kernel's final states equal the reference's; the reference's arguments end unchanged.
-/
module

public import proofs.«01_k».proof.Defs
public import proofs.«01_k».proof.Proof.PromptValue
public import proofs.«01_k».proof.Proof.PromptReference
public import Idealize.ShloMosaic.Lib.Claim

@[expose] public section

noncomputable section

namespace Cert.Proof

open Idealize.ShloMosaic Idealize.ShloMosaic.TcCoe Idealize.SL.Sem

/-- The reference's arguments end unchanged; it has no semaphore. -/
theorem frame_reference_prompt : Cert.quiescent_ReferencePromptIdeal := fun m g _ =>
  (θ_run Cert.ReferencePromptIdeal.defs _ _).mono (fun r h => ⟨fun c => (h c).2, sem_eq_zero_of_no_sems (by decide) r.2⟩)
    (Cert.ReferencePromptIdeal.Whole.run_states m g)

/-- The reference's final states are the kernel's, for equal arguments. -/
theorem prompt_states_eq
    (m : (ℓ : Loc Cert.KernelPromptIdeal.nD Cert.KernelPromptIdeal.τ Cert.KernelPromptIdeal.sig) → Buf (Elt Ideal) ℓ)
    (c : Dev Cert.KernelPromptIdeal.nD)
    {k v : FVec Ideal ⟨2, ![16896, 512]⟩ .bf16} {lf : FVec Ideal ⟨2, ![16896, 512]⟩ .f32}
    (h1 : k = m (c.tc.loc Cert.KernelPromptIdeal.main_arg1))
    (h2 : v = m (c.tc.loc Cert.KernelPromptIdeal.main_arg2)) (h3 : lf = m (c.tc.loc Cert.KernelPromptIdeal.main_arg3)) :
    (Cert.ReferencePromptIdeal.Whole.iter (Cert.ReferencePromptIdeal.Step.init (F := Ideal) k v lf) 64).main_v12_4
      = Cert.KernelPromptIdeal.Whole.G7 m c := by
  funext i
  obtain ⟨b, n, p, j, rfl⟩ : ∃ (b n : Fin 4) (p j : Fin 128), i = ix4 b n p j :=
    ⟨i 0, i 1, i 2, i 3, funext fun a => by fin_cases a <;> rfl⟩
  refine ((Cert.ReferencePromptIdeal.Whole.iter_at k v lf 64 le_rfl).2.2.2 b n p j).trans ?_
  exact Cert.PromptMath.stateAt_congr h1 h2 h3 b n 64 p j

/-- The kernel's final states equal the reference's. -/
theorem algebraic_prompt : Cert.algebraic_KernelPromptIdeal_ReferencePromptIdeal := by
  intro m g m' g' _ hagree
  refine ⟨fun c => Cert.KernelPromptIdeal.Whole.G7 m c, Cert.KernelPromptIdeal.Whole.run_states m g, ?_⟩
  refine (θ_run Cert.ReferencePromptIdeal.defs _ _).mono (fun r h c => ?_) (Cert.ReferencePromptIdeal.Whole.run_states m' g')
  obtain ⟨_, h1, h2, h3, _, _⟩ := hagree c
  exact ⟨(h c).1.trans (prompt_states_eq m c h1 h2 h3), (h c).2⟩

end Cert.Proof

end
-- ==== Proof.lean ====
/-
  The proof of `Cert.Claim`: first the facts each program states, then for each program that its arguments end unchanged
  and its semaphores at zero (the prompt kernel's by its own frame modules, the other kernels' by the generated frames, the
  references' by their runs), then for each kernel that its ideal form stands for it, and the equalities of results (each in
  a module of its own).
-/
module

public import proofs.«01_k».proof.Defs
public import proofs.«01_k».proof.Proof.Gen.Kernel.Frame
public import proofs.«01_k».proof.Proof.Gen.KernelIdeal.Frame
public import proofs.«01_k».proof.Proof.HgrnFrame
public import proofs.«01_k».proof.Proof.HgrnClaim
public import proofs.«01_k».proof.Proof.Gen.KernelIn.Frame
public import proofs.«01_k».proof.Proof.Gen.KernelInIdeal.Frame
public import proofs.«01_k».proof.Proof.InFrame
public import proofs.«01_k».proof.Proof.InClaim
public import proofs.«01_k».proof.Proof.Gen.KernelFfn.Frame
public import proofs.«01_k».proof.Proof.Gen.KernelFfnIdeal.Frame
public import proofs.«01_k».proof.Proof.FfnClaim
public import proofs.«01_k».proof.Proof.PromptFrame
public import proofs.«01_k».proof.Proof.PromptClaim
public import Idealize.ShloMosaic.Adequacy
public import Idealize.ShloMosaic.Init

@[expose] public section

noncomputable section

namespace Cert.Proof

open Idealize.ShloMosaic Idealize.SL.Sem

/-- Every stated claim holds. -/
theorem claim : Cert.Claim :=
  ⟨Cert.Kernel.Gen.facts,
   Cert.KernelIdeal.Gen.facts,
   Cert.ReferenceIdeal.Gen.facts,
   Cert.KernelIn.Gen.facts,
   Cert.KernelInIdeal.Gen.facts,
   Cert.ReferenceInIdeal.Gen.facts,
   Cert.KernelFfn.Gen.facts,
   Cert.KernelFfnIdeal.Gen.facts,
   Cert.ReferenceFfnIdeal.Gen.facts,
   Cert.KernelPrompt.Gen.facts,
   Cert.KernelPromptIdeal.Gen.facts,
   Cert.ReferencePromptIdeal.Gen.facts,
   fun m ρ _ => Cert.Kernel.Gen.frame m ρ,
   fun m ρ _ => Cert.KernelIdeal.Gen.frame m ρ,
   frame_reference_hgrn,
   fun m ρ _ => Cert.KernelIn.Gen.frame m ρ,
   fun m ρ _ => Cert.KernelInIdeal.Gen.frame m ρ,
   frame_reference_in,
   fun m ρ _ => Cert.KernelFfn.Gen.frame m ρ,
   fun m ρ _ => Cert.KernelFfnIdeal.Gen.frame m ρ,
   frame_reference_ffn,
   fun m ρ _ => Cert.KernelPrompt.Body.frame m ρ,
   fun m ρ _ => Cert.KernelPromptIdeal.Body.frame m ρ,
   frame_reference_prompt,
   IdealRules.named_const.statement Cert.KernelIdeal.κ "big" .f32 0xF149F2CA#32 ⊥ rfl,
   algebraic_hgrn,
   trivial,
   algebraic_in,
   trivial,
   algebraic_ffn,
   trivial,
   algebraic_prompt⟩

end Cert.Proof

end
